-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)) (v8 : (c : Dev Cert.Kernel18Ideal.nD) → Buf (Elt Ideal) ((c.tc : Thread Cert.Kernel18Ideal.nD Cert.Kernel18Ideal.τ).loc Cert.Kernel18Ideal.main_v0_8)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_v0_8) = v8 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v47) = v1 c
          ∧ r.2.mem ((c.tc : Thread Cert.Reference18Ideal.nD Cert.Reference18Ideal.τ).loc Cert.Reference18Ideal.main_v71) = v2 c
          ∧ r.2.mem ((c.tc : Thread Cert.Reference18Ideal.nD Cert.Reference18Ideal.τ).loc Cert.Reference18Ideal.main_v4) = v3 c
          ∧ r.2.mem ((c.tc : Thread Cert.Reference18Ideal.nD Cert.Reference18Ideal.τ).loc Cert.Reference18Ideal.main_v28) = v4 c
          ∧ r.2.mem ((c.tc : Thread Cert.Reference18Ideal.nD Cert.Reference18Ideal.τ).loc Cert.Reference18Ideal.main_v52) = v5 c
          ∧ r.2.mem ((c.tc : Thread Cert.Reference18Ideal.nD Cert.Reference18Ideal.τ).loc Cert.Reference18Ideal.main_v10) = v6 c
          ∧ r.2.mem ((c.tc : Thread Cert.Reference18Ideal.nD Cert.Reference18Ideal.τ).loc Cert.Reference18Ideal.main_v34) = v7 c
          ∧ r.2.mem ((c.tc : Thread Cert.Reference18Ideal.nD Cert.Reference18Ideal.τ).loc Cert.Reference18Ideal.main_v58) = v8 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)) (v6 : (c : Dev Cert.Kernel19Ideal.nD) → Buf (Elt Ideal) ((c.tc : Thread Cert.Kernel19Ideal.nD Cert.Kernel19Ideal.τ).loc Cert.Kernel19Ideal.main_v0_6)) (v7 : (c : Dev Cert.Kernel19Ideal.nD) → Buf (Elt Ideal) ((c.tc : Thread Cert.Kernel19Ideal.nD Cert.Kernel19Ideal.τ).loc Cert.Kernel19Ideal.main_v0_7)) (v8 : (c : Dev Cert.Kernel19Ideal.nD) → Buf (Elt Ideal) ((c.tc : Thread Cert.Kernel19Ideal.nD Cert.Kernel19Ideal.τ).loc Cert.Kernel19Ideal.main_v0_8)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_v0_6) = v6 c
          ∧ r.2.mem ((c.tc : Thread Cert.Kernel19Ideal.nD Cert.Kernel19Ideal.τ).loc Cert.Kernel19Ideal.main_v0_7) = v7 c
          ∧ r.2.mem ((c.tc : Thread Cert.Kernel19Ideal.nD Cert.Kernel19Ideal.τ).loc Cert.Kernel19Ideal.main_v0_8) = v8 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v47) = v1 c
          ∧ r.2.mem ((c.tc : Thread Cert.Reference19Ideal.nD Cert.Reference19Ideal.τ).loc Cert.Reference19Ideal.main_v71) = v2 c
          ∧ r.2.mem ((c.tc : Thread Cert.Reference19Ideal.nD Cert.Reference19Ideal.τ).loc Cert.Reference19Ideal.main_v4) = v3 c
          ∧ r.2.mem ((c.tc : Thread Cert.Reference19Ideal.nD Cert.Reference19Ideal.τ).loc Cert.Reference19Ideal.main_v28) = v4 c
          ∧ r.2.mem ((c.tc : Thread Cert.Reference19Ideal.nD Cert.Reference19Ideal.τ).loc Cert.Reference19Ideal.main_v52) = v5 c
          ∧ r.2.mem ((c.tc : Thread Cert.Reference19Ideal.nD Cert.Reference19Ideal.τ).loc Cert.Reference19Ideal.main_v10) = v6 c
          ∧ r.2.mem ((c.tc : Thread Cert.Reference19Ideal.nD Cert.Reference19Ideal.τ).loc Cert.Reference19Ideal.main_v34) = v7 c
          ∧ r.2.mem ((c.tc : Thread Cert.Reference19Ideal.nD Cert.Reference19Ideal.τ).loc Cert.Reference19Ideal.main_v58) = v8 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)) (v5 : (c : Dev Cert.Kernel20Ideal.nD) → Buf (Elt Ideal) ((c.tc : Thread Cert.Kernel20Ideal.nD Cert.Kernel20Ideal.τ).loc Cert.Kernel20Ideal.main_v0_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_v0_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v47) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v28) = v3 c
          ∧ r.2.mem ((c.tc : Thread Cert.Reference20Ideal.nD Cert.Reference20Ideal.τ).loc Cert.Reference20Ideal.main_v10) = v4 c
          ∧ r.2.mem ((c.tc : Thread Cert.Reference20Ideal.nD Cert.Reference20Ideal.τ).loc Cert.Reference20Ideal.main_v34) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v71) = v0 c
          ∧ r.2.mem ((c.tc : Thread Cert.Reference23Ideal.nD Cert.Reference23Ideal.τ).loc Cert.Reference23Ideal.main_v50) = v1 c
          ∧ r.2.mem ((c.tc : Thread Cert.Reference23Ideal.nD Cert.Reference23Ideal.τ).loc Cert.Reference23Ideal.main_v54) = v2 c
          ∧ r.2.mem ((c.tc : Thread Cert.Reference23Ideal.nD Cert.Reference23Ideal.τ).loc Cert.Reference23Ideal.main_v33) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v49) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v51) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v20) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_1)) (v1 : (c : Dev Cert.Kernel29Ideal.nD) → Buf (Elt Ideal) ((c.tc : Thread Cert.Kernel29Ideal.nD Cert.Kernel29Ideal.τ).loc Cert.Kernel29Ideal.main_v0_0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_1) = v0 c
          ∧ r.2.mem ((c.tc : Thread Cert.Kernel29Ideal.nD Cert.Kernel29Ideal.τ).loc Cert.Kernel29Ideal.main_v0_0) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v7) = v0 c
          ∧ r.2.mem ((c.tc : Thread Cert.Reference29Ideal.nD Cert.Reference29Ideal.τ).loc Cert.Reference29Ideal.main_v22) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v66) = v0 c
          ∧ r.2.mem ((c.tc : Thread Cert.Reference30Ideal.nD Cert.Reference30Ideal.τ).loc Cert.Reference30Ideal.main_v68) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v25) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v36) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Kernel.lean ====
abbrev S2048x512 : Shape := ⟨2, ![2048, 512]⟩
abbrev S32x4x128x128 : Shape := ⟨4, ![32, 4, 128, 128]⟩
abbrev S512x512 : Shape := ⟨2, ![512, 512]⟩
abbrev S8x4x128x128 : Shape := ⟨4, ![8, 4, 128, 128]⟩
abbrev S4x128x128 : Shape := ⟨3, ![4, 128, 128]⟩
abbrev S1x4x128x128 : Shape := ⟨4, ![1, 4, 128, 128]⟩
abbrev S64x512 : Shape := ⟨2, ![64, 512]⟩
abbrev S64x128 : Shape := ⟨2, ![64, 128]⟩
abbrev S1x64x128 : Shape := ⟨3, ![1, 64, 128]⟩
abbrev S4x64x128 : Shape := ⟨3, ![4, 64, 128]⟩
abbrev S4x64x64 : Shape := ⟨3, ![4, 64, 64]⟩
abbrev S4x1x128 : Shape := ⟨3, ![4, 1, 128]⟩
abbrev S4x128x64 : Shape := ⟨3, ![4, 128, 64]⟩
abbrev S4x128 : Shape := ⟨2, ![4, 128]⟩
abbrev S4x63x128 : Shape := ⟨3, ![4, 63, 128]⟩
abbrev S1x64x64 : Shape := ⟨3, ![1, 64, 64]⟩
abbrev S64x64 : Shape := ⟨2, ![64, 64]⟩

abbrev nBuf : Space → Nat
  | .hbm => 15
  | .vmem => 46
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S32x4x128x128, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S8x4x128x128, .f32⟩
  | .local _ .vmem, ⟨15, _⟩ => ⟨S8x4x128x128, .f32⟩
  | .local _ .vmem, ⟨16, _⟩ => ⟨S4x128x128, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S8x4x128x128, .f32⟩
  | .local _ .vmem, ⟨30, _⟩ => ⟨S8x4x128x128, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S4x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_6 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S2048x512 : Shape := ⟨2, ![2048, 512]⟩
abbrev S32x64x4x128 : Shape := ⟨4, ![32, 64, 4, 128]⟩
abbrev S32x4x64x128 : Shape := ⟨4, ![32, 4, 64, 128]⟩
abbrev S32x4x64x64 : Shape := ⟨4, ![32, 4, 64, 64]⟩
abbrev S32x4x1x128 : Shape := ⟨4, ![32, 4, 1, 128]⟩
abbrev S32x4x128 : Shape := ⟨3, ![32, 4, 128]⟩
abbrev S_ : Shape := ⟨0, ![]⟩
abbrev S4x128x128 : Shape := ⟨3, ![4, 128, 128]⟩
abbrev S32x4x128x128 : Shape := ⟨4, ![32, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x128 : Shape := ⟨3, ![1, 4, 128]⟩
abbrev S4x128 : Shape := ⟨2, ![4, 128]⟩
abbrev S4x1x128 : Shape := ⟨3, ![4, 1, 128]⟩
abbrev S1x4x128x128 : Shape := ⟨4, ![1, 4, 128, 128]⟩
abbrev S1x4x1x128 : Shape := ⟨4, ![1, 4, 1, 128]⟩
abbrev S4x128x64 : Shape := ⟨3, ![4, 128, 64]⟩

abbrev nBuf : Space → Nat
  | .hbm => 264
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S2048x512, .f32⟩
  | 6 => ⟨S2048x512, .f32⟩
  | 7 => ⟨S32x64x4x128, .f32⟩
  | 8 => ⟨S32x4x64x128, .f32⟩
  | 9 => ⟨S32x64x4x128, .f32⟩
  | 10 => ⟨S32x4x64x128, .f32⟩
  | 11 => ⟨S32x64x4x128, .f32⟩
  | 12 => ⟨S32x4x64x128, .f32⟩
  | 13 => ⟨S32x64x4x128, .f32⟩
  | 14 => ⟨S32x4x64x128, .f32⟩
  | 15 => ⟨S32x64x4x128, .f32⟩
  | 16 => ⟨S32x4x64x128, .f32⟩
  | 17 => ⟨S32x4x64x64, .f32⟩
  | 18 => ⟨S32x64x4x128, .f32⟩
  | 19 => ⟨S32x4x64x128, .f32⟩
  | 20 => ⟨S32x4x1x128, .f32⟩
  | 21 => ⟨S32x4x128, .f32⟩
  | 22 => ⟨S_, .f32⟩
  | 23 => ⟨S4x128x128, .f32⟩
  | 24 => ⟨S_, .f32⟩
  | 25 => ⟨S32x4x64x128, .f32⟩
  | 26 => ⟨S_, .f32⟩
  | 27 => ⟨S32x4x128x128, .f32⟩
  | 28 => ⟨S_, .f32⟩
  | 29 => ⟨S32x4x64x128, .f32⟩
  | 30 => ⟨S_, .f32⟩
  | 31 => ⟨S32x4x1x128, .f32⟩
  | 32 => ⟨S_, .i32⟩
  | 33 => ⟨S32x4x64x128, .f32⟩
  | 34 => ⟨S32x4x64x128, .f32⟩
  | 35 => ⟨S32x4x64x128, .f32⟩
  | 36 => ⟨S32x4x64x128, .f32⟩
  | 37 => ⟨S32x4x64x64, .f32⟩
  | 38 => ⟨S32x4x128, .f32⟩
  | 39 => ⟨S_, .i32⟩
  | 40 => ⟨S4x128x128, .f32⟩
  | 41 => ⟨S32x4x64x128, .f32⟩
  | 42 => ⟨S32x4x128x128, .f32⟩
  | 43 => ⟨S32x4x64x128, .f32⟩
  | 44 => ⟨S32x4x1x128, .f32⟩
  | 45 => ⟨S_, .i32⟩
  | 46 => ⟨S_, .i1⟩
  | 47 => ⟨S_, .i32⟩
  | 48 => ⟨S_, .i32⟩
  | 49 => ⟨S_, .i32⟩
  | 50 => ⟨S1x4x64x128, .f32⟩
  | 51 => ⟨S4x64x128, .f32⟩
  | 52 => ⟨S_, .i32⟩
  | 53 => ⟨S_, .i32⟩
  | 54 => ⟨S_, .i32⟩
  | 55 => ⟨S1x4x64x128, .f32⟩
  | 56 => ⟨S4x64x128, .f32⟩
  | 57 => ⟨S_, .i32⟩
  | 58 => ⟨S_, .i32⟩
  | 59 => ⟨S_, .i32⟩
  | 60 => ⟨S1x4x64x128, .f32⟩
  | 61 => ⟨S4x64x128, .f32⟩
  | 62 => ⟨S_, .i32⟩
  | 63 => ⟨S_, .i32⟩
  | 64 => ⟨S_, .i32⟩
  | 65 => ⟨S1x4x64x128, .f32⟩
  | 66 => ⟨S4x64x128, .f32⟩
  | 67 => ⟨S_, .i32⟩
  | 68 => ⟨S_, .i32⟩
  | 69 => ⟨S_, .i32⟩
  | 70 => ⟨S1x4x64x64, .f32⟩
  | 71 => ⟨S4x64x64, .f32⟩
  | 72 => ⟨S_, .i32⟩
  | 73 => ⟨S_, .i32⟩
  | 74 => ⟨S1x4x128, .f32⟩
  | 75 => ⟨S4x128, .f32⟩
  | 76 => ⟨S4x64x128, .f32⟩
  | 77 => ⟨S4x64x128, .f32⟩
  | 78 => ⟨S4x64x128, .f32⟩
  | 79 => ⟨S4x64x128, .f32⟩
  | 80 => ⟨S4x64x128, .f32⟩
  | 81 => ⟨S4x1x128, .f32⟩
  | 82 => ⟨S4x128x128, .f32⟩
  | 83 => ⟨S4x128x128, .f32⟩
  | 84 => ⟨S4x128x128, .f32⟩
  | 85 => ⟨S4x128x128, .f32⟩
  | 86 => ⟨S1x4x64x128, .f32⟩
  | 87 => ⟨S_, .i32⟩
  | 88 => ⟨S_, .i32⟩
  | 89 => ⟨S_, .i32⟩
  | 90 => ⟨S32x4x64x128, .f32⟩
  | 91 => ⟨S1x4x128x128, .f32⟩
  | 92 => ⟨S_, .i32⟩
  | 93 => ⟨S_, .i32⟩
  | 94 => ⟨S_, .i32⟩
  | 95 => ⟨S32x4x128x128, .f32⟩
  | 96 => ⟨S1x4x64x128, .f32⟩
  | 97 => ⟨S_, .i32⟩
  | 98 => ⟨S_, .i32⟩
  | 99 => ⟨S_, .i32⟩
  | 100 => ⟨S32x4x64x128, .f32⟩
  | 101 => ⟨S1x4x1x128, .f32⟩
  | 102 => ⟨S_, .i32⟩
  | 103 => ⟨S_, .i32⟩
  | 104 => ⟨S_, .i32⟩
  | 105 => ⟨S32x4x1x128, .f32⟩
  | 106 => ⟨S_, .i32⟩
  | 107 => ⟨S_, .i32⟩
  | 108 => ⟨S32x64x4x128, .f32⟩
  | 109 => ⟨S2048x512, .f32⟩
  | 110 => ⟨S_, .f32⟩
  | 111 => ⟨S4x128x128, .f32⟩
  | 112 => ⟨S32x64x4x128, .f32⟩
  | 113 => ⟨S32x4x64x128, .f32⟩
  | 114 => ⟨S_, .f32⟩
  | 115 => ⟨S4x128x128, .f32⟩
  | 116 => ⟨S_, .f32⟩
  | 117 => ⟨S32x4x64x128, .f32⟩
  | 118 => ⟨S_, .f32⟩
  | 119 => ⟨S32x4x64x128, .f32⟩
  | 120 => ⟨S_, .f32⟩
  | 121 => ⟨S32x4x64x128, .f32⟩
  | 122 => ⟨S_, .f32⟩
  | 123 => ⟨S32x4x64x128, .f32⟩
  | 124 => ⟨S_, .f32⟩
  | 125 => ⟨S32x4x64x64, .f32⟩
  | 126 => ⟨S_, .f32⟩
  | 127 => ⟨S32x4x128, .f32⟩
  | _ => ⟨S2048x512, .f32⟩

abbrev hbmTy0_1 (i : Nat) : BufTy := match i % 128 with
  | 0 => ⟨S_, .i32⟩
  | 1 => ⟨S32x4x64x128, .f32⟩
  | 2 => ⟨S32x4x128x128, .f32⟩
  | 3 => ⟨S32x4x64x128, .f32⟩
  | 4 => ⟨S32x4x64x128, .f32⟩
  | 5 => ⟨S32x4x64x128, .f32⟩
  | 6 => ⟨S32x4x64x64, .f32⟩
  | 7 => ⟨S32x4x1x128, .f32⟩
  | 8 => ⟨S32x4x64x128, .f32⟩
  | 9 => ⟨S_, .i32⟩
  | 10 => ⟨S4x128x128, .f32⟩
  | 11 => ⟨S32x4x64x128, .f32⟩
  | 12 => ⟨S32x4x64x128, .f32⟩
  | 13 => ⟨S32x4x64x128, .f32⟩
  | 14 => ⟨S32x4x64x128, .f32⟩
  | 15 => ⟨S32x4x64x64, .f32⟩
  | 16 => ⟨S32x4x128, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x4x64x128, .f32⟩
  | 27 => ⟨S4x64x128, .f32⟩
  | 28 => ⟨S_, .i32⟩
  | 29 => ⟨S_, .i32⟩
  | 30 => ⟨S_, .i32⟩
  | 31 => ⟨S1x4x128x128, .f32⟩
  | 32 => ⟨S4x128x128, .f32⟩
  | 33 => ⟨S_, .i32⟩
  | 34 => ⟨S_, .i32⟩
  | 35 => ⟨S_, .i32⟩
  | 36 => ⟨S1x4x64x128, .f32⟩
  | 37 => ⟨S4x64x128, .f32⟩
  | 38 => ⟨S_, .i32⟩
  | 39 => ⟨S_, .i32⟩
  | 40 => ⟨S_, .i32⟩
  | 41 => ⟨S1x4x64x128, .f32⟩
  | 42 => ⟨S4x64x128, .f32⟩
  | 43 => ⟨S_, .i32⟩
  | 44 => ⟨S_, .i32⟩
  | 45 => ⟨S_, .i32⟩
  | 46 => ⟨S1x4x64x128, .f32⟩
  | 47 => ⟨S4x64x128, .f32⟩
  | 48 => ⟨S_, .i32⟩
  | 49 => ⟨S_, .i32⟩
  | 50 => ⟨S_, .i32⟩
  | 51 => ⟨S1x4x64x64, .f32⟩
  | 52 => ⟨S4x64x64, .f32⟩
  | 53 => ⟨S_, .i32⟩
  | 54 => ⟨S_, .i32⟩
  | 55 => ⟨S_, .i32⟩
  | 56 => ⟨S1x4x1x128, .f32⟩
  | 57 => ⟨S4x1x128, .f32⟩
  | 58 => ⟨S_, .i32⟩
  | 59 => ⟨S_, .i32⟩
  | 60 => ⟨S_, .i32⟩
  | 61 => ⟨S1x4x64x128, .f32⟩
  | 62 => ⟨S4x64x128, .f32⟩
  | 63 => ⟨S4x128x64, .f32⟩
  | 64 => ⟨S4x64x128, .f32⟩
  | 65 => ⟨S4x128x64, .f32⟩
  | 66 => ⟨S4x64x128, .f32⟩
  | 67 => ⟨S4x128x128, .f32⟩
  | 68 => ⟨S_, .f32⟩
  | 69 => ⟨S4x128, .f32⟩
  | 70 => ⟨S4x1x128, .f32⟩
  | 71 => ⟨S4x128x128, .f32⟩
  | 72 => ⟨S4x128x128, .f32⟩
  | 73 => ⟨S_, .f32⟩
  | 74 => ⟨S4x128, .f32⟩
  | 75 => ⟨S4x128x64, .f32⟩
  | 76 => ⟨S4x64x128, .f32⟩
  | 77 => ⟨S4x64x128, .f32⟩
  | 78 => ⟨S4x64x64, .f32⟩
  | 79 => ⟨S4x128x128, .f32⟩
  | 80 => ⟨S4x128x128, .f32⟩
  | 81 => ⟨S4x128x128, .f32⟩
  | 82 => ⟨S4x64x128, .f32⟩
  | 83 => ⟨S4x64x128, .f32⟩
  | 84 => ⟨S4x128x128, .f32⟩
  | 85 => ⟨S4x128x128, .f32⟩
  | 86 => ⟨S4x128x128, .f32⟩
  | 87 => ⟨S4x64x128, .f32⟩
  | 88 => ⟨S1x4x64x128, .f32⟩
  | 89 => ⟨S_, .i32⟩
  | 90 => ⟨S_, .i32⟩
  | 91 => ⟨S_, .i32⟩
  | 92 => ⟨S32x4x64x128, .f32⟩
  | 93 => ⟨S1x4x64x128, .f32⟩
  | 94 => ⟨S_, .i32⟩
  | 95 => ⟨S_, .i32⟩
  | 96 => ⟨S_, .i32⟩
  | 97 => ⟨S32x4x64x128, .f32⟩
  | 98 => ⟨S1x4x64x128, .f32⟩
  | 99 => ⟨S_, .i32⟩
  | 100 => ⟨S_, .i32⟩
  | 101 => ⟨S_, .i32⟩
  | 102 => ⟨S32x4x64x128, .f32⟩
  | 103 => ⟨S1x4x64x128, .f32⟩
  | 104 => ⟨S_, .i32⟩
  | 105 => ⟨S_, .i32⟩
  | 106 => ⟨S_, .i32⟩
  | 107 => ⟨S32x4x64x128, .f32⟩
  | 108 => ⟨S1x4x64x64, .f32⟩
  | 109 => ⟨S_, .i32⟩
  | 110 => ⟨S_, .i32⟩
  | 111 => ⟨S_, .i32⟩
  | 112 => ⟨S32x4x64x64, .f32⟩
  | 113 => ⟨S1x4x128, .f32⟩
  | 114 => ⟨S_, .i32⟩
  | 115 => ⟨S_, .i32⟩
  | 116 => ⟨S32x4x128, .f32⟩
  | 117 => ⟨S_, .i32⟩
  | 118 => ⟨S_, .i32⟩
  | 119 => ⟨S32x4x1x128, .f32⟩
  | 120 => ⟨S_, .f32⟩
  | 121 => ⟨S32x4x64x128, .f32⟩
  | 122 => ⟨S32x64x4x128, .f32⟩
  | 123 => ⟨S2048x512, .f32⟩
  | 124 => ⟨S_, .f32⟩
  | 125 => ⟨S32x4x64x128, .f32⟩
  | 126 => ⟨S32x64x4x128, .f32⟩
  | 127 => ⟨S2048x512, .f32⟩
  | _ => ⟨S2048x512, .f32⟩

abbrev hbmTy0_2 (i : Nat) : BufTy := match i % 128 with
  | 0 => ⟨S32x64x4x128, .f32⟩
  | 1 => ⟨S2048x512, .f32⟩
  | 2 => ⟨S32x64x4x128, .f32⟩
  | 3 => ⟨S2048x512, .f32⟩
  | 4 => ⟨S32x64x4x128, .f32⟩
  | 5 => ⟨S2048x512, .f32⟩
  | 6 => ⟨S32x64x4x128, .f32⟩
  | 7 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_c : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v20_7 : Ref sig .tc := ⟨.hbm, 40, rfl⟩
abbrev main_v20_8 : Ref sig .tc := ⟨.hbm, 41, rfl⟩
abbrev main_v20_9 : Ref sig .tc := ⟨.hbm, 42, rfl⟩
abbrev main_v20_10 : Ref sig .tc := ⟨.hbm, 43, rfl⟩
abbrev main_v20_11 : Ref sig .tc := ⟨.hbm, 44, rfl⟩
abbrev main_while0c_c_26 : Ref sig .tc := ⟨.hbm, 45, rfl⟩
abbrev main_while0c_v49 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_v0 : Ref sig .tc := ⟨.hbm, 50, rfl⟩
abbrev main_while0b_v49 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_v0 : Ref sig .tc := ⟨.hbm, 55, rfl⟩
abbrev main_while0b_v50 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_c_1 : Ref sig .tc := ⟨.hbm, 59, rfl⟩
abbrev main_while0b_call2_v0 : Ref sig .tc := ⟨.hbm, 60, rfl⟩
abbrev main_while0b_v51 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v52 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_v0 : Ref sig .tc := ⟨.hbm, 70, rfl⟩
abbrev main_while0b_v53 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_v0 : Ref sig .tc := ⟨.hbm, 74, rfl⟩
abbrev main_while0b_v54 : Ref sig .tc := ⟨.hbm, 75, rfl⟩
abbrev main_while0b_v55 : Ref sig .tc := ⟨.hbm, 76, rfl⟩
abbrev main_while0b_v56 : Ref sig .tc := ⟨.hbm, 77, rfl⟩
abbrev main_while0b_v57 : Ref sig .tc := ⟨.hbm, 78, rfl⟩
abbrev main_while0b_v58 : Ref sig .tc := ⟨.hbm, 79, rfl⟩
abbrev main_while0b_v59 : Ref sig .tc := ⟨.hbm, 80, rfl⟩
abbrev main_while0b_v60 : Ref sig .tc := ⟨.hbm, 81, rfl⟩
abbrev main_while0b_v61 : Ref sig .tc := ⟨.hbm, 82, rfl⟩
abbrev main_while0b_v62 : Ref sig .tc := ⟨.hbm, 83, rfl⟩
abbrev main_while0b_v63 : Ref sig .tc := ⟨.hbm, 84, rfl⟩
abbrev main_while0b_v64 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_v65 : Ref sig .tc := ⟨.hbm, 90, rfl⟩
abbrev main_while0b_call7_v0 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_v66 : Ref sig .tc := ⟨.hbm, 95, rfl⟩
abbrev main_while0b_call8_v0 : Ref sig .tc := ⟨.hbm, 96, rfl⟩
abbrev main_while0b_call8_c : Ref sig .tc := ⟨.hbm, 97, rfl⟩
abbrev main_while0b_call8_c_0 : Ref sig .tc := ⟨.hbm, 98, rfl⟩
abbrev main_while0b_call8_c_1 : Ref sig .tc := ⟨.hbm, 99, rfl⟩
abbrev main_while0b_v67 : Ref sig .tc := ⟨.hbm, 100, rfl⟩
abbrev main_while0b_call9_v0 : Ref sig .tc := ⟨.hbm, 101, rfl⟩
abbrev main_while0b_call9_c : Ref sig .tc := ⟨.hbm, 102, rfl⟩
abbrev main_while0b_call9_c_0 : Ref sig .tc := ⟨.hbm, 103, rfl⟩
abbrev main_while0b_call9_c_1 : Ref sig .tc := ⟨.hbm, 104, rfl⟩
abbrev main_while0b_v68 : Ref sig .tc := ⟨.hbm, 105, rfl⟩
abbrev main_while0b_c_26 : Ref sig .tc := ⟨.hbm, 106, rfl⟩
abbrev main_while0b_v69 : Ref sig .tc := ⟨.hbm, 107, rfl⟩
abbrev main_v21 : Ref sig .tc := ⟨.hbm, 108, rfl⟩
abbrev main_v22 : Ref sig .tc := ⟨.hbm, 109, rfl⟩
abbrev main_cst_4 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_cst_5 : Ref sig .tc := ⟨.hbm, 114, rfl⟩
abbrev main_v26 : Ref sig .tc := ⟨.hbm, 115, rfl⟩
abbrev main_cst_6 : Ref sig .tc := ⟨.hbm, 116, rfl⟩
abbrev main_v27 : Ref sig .tc := ⟨.hbm, 117, rfl⟩
abbrev main_cst_7 : Ref sig .tc := ⟨.hbm, 118, rfl⟩
abbrev main_v28 : Ref sig .tc := ⟨.hbm, 119, rfl⟩
abbrev main_cst_8 : Ref sig .tc := ⟨.hbm, 120, rfl⟩
abbrev main_v29 : Ref sig .tc := ⟨.hbm, 121, rfl⟩
abbrev main_cst_9 : Ref sig .tc := ⟨.hbm, 122, rfl⟩
abbrev main_v30 : Ref sig .tc := ⟨.hbm, 123, rfl⟩
abbrev main_cst_10 : Ref sig .tc := ⟨.hbm, 124, rfl⟩
abbrev main_v31 : Ref sig .tc := ⟨.hbm, 125, rfl⟩
abbrev main_cst_11 : Ref sig .tc := ⟨.hbm, 126, rfl⟩
abbrev main_v32 : Ref sig .tc := ⟨.hbm, 127, rfl⟩
abbrev main_c_12 : Ref sig .tc := ⟨.hbm, 128, rfl⟩
abbrev main_v33_0 : Ref sig .tc := ⟨.hbm, 129, rfl⟩
abbrev main_v33_1 : Ref sig .tc := ⟨.hbm, 130, rfl⟩
abbrev main_v33_2 : Ref sig .tc := ⟨.hbm, 131, rfl⟩
abbrev main_v33_3 : Ref sig .tc := ⟨.hbm, 132, rfl⟩
abbrev main_v33_4 : Ref sig .tc := ⟨.hbm, 133, rfl⟩
abbrev main_v33_5 : Ref sig .tc := ⟨.hbm, 134, rfl⟩
abbrev main_v33_6 : Ref sig .tc := ⟨.hbm, 135, rfl⟩
abbrev main_v33_7 : Ref sig .tc := ⟨.hbm, 136, rfl⟩
abbrev main_v33_8 : Ref sig .tc := ⟨.hbm, 137, rfl⟩
abbrev main_v33_9 : Ref sig .tc := ⟨.hbm, 138, rfl⟩
abbrev main_v33_10 : Ref sig .tc := ⟨.hbm, 139, rfl⟩
abbrev main_v33_11 : Ref sig .tc := ⟨.hbm, 140, rfl⟩
abbrev main_v33_12 : Ref sig .tc := ⟨.hbm, 141, rfl⟩
abbrev main_v33_13 : Ref sig .tc := ⟨.hbm, 142, rfl⟩
abbrev main_v33_14 : Ref sig .tc := ⟨.hbm, 143, rfl⟩
abbrev main_v33_15 : Ref sig .tc := ⟨.hbm, 144, rfl⟩
abbrev main_while1c_c_30 : Ref sig .tc := ⟨.hbm, 145, rfl⟩
abbrev main_while1c_v49 : Ref sig .tc := ⟨.hbm, 146, rfl⟩
abbrev main_while1b_c_30 : Ref sig .tc := ⟨.hbm, 147, rfl⟩
abbrev main_while1b_v49 : Ref sig .tc := ⟨.hbm, 148, rfl⟩
abbrev main_while1b_c_31 : Ref sig .tc := ⟨.hbm, 149, rfl⟩
abbrev main_while1b_v50 : Ref sig .tc := ⟨.hbm, 150, rfl⟩
abbrev main_while1b_call10_c : Ref sig .tc := ⟨.hbm, 151, rfl⟩
abbrev main_while1b_call10_c_0 : Ref sig .tc := ⟨.hbm, 152, rfl⟩
abbrev main_while1b_call10_c_1 : Ref sig .tc := ⟨.hbm, 153, rfl⟩
abbrev main_while1b_call10_v0 : Ref sig .tc := ⟨.hbm, 154, rfl⟩
abbrev main_while1b_v51 : Ref sig .tc := ⟨.hbm, 155, rfl⟩
abbrev main_while1b_call11_c : Ref sig .tc := ⟨.hbm, 156, rfl⟩
abbrev main_while1b_call11_c_0 : Ref sig .tc := ⟨.hbm, 157, rfl⟩
abbrev main_while1b_call11_c_1 : Ref sig .tc := ⟨.hbm, 158, rfl⟩
abbrev main_while1b_call11_v0 : Ref sig .tc := ⟨.hbm, 159, rfl⟩
abbrev main_while1b_v52 : Ref sig .tc := ⟨.hbm, 160, rfl⟩
abbrev main_while1b_call12_c : Ref sig .tc := ⟨.hbm, 161, rfl⟩
abbrev main_while1b_call12_c_0 : Ref sig .tc := ⟨.hbm, 162, rfl⟩
abbrev main_while1b_call12_c_1 : Ref sig .tc := ⟨.hbm, 163, rfl⟩
abbrev main_while1b_call12_v0 : Ref sig .tc := ⟨.hbm, 164, rfl⟩
abbrev main_while1b_v53 : Ref sig .tc := ⟨.hbm, 165, rfl⟩
abbrev main_while1b_call13_c : Ref sig .tc := ⟨.hbm, 166, rfl⟩
abbrev main_while1b_call13_c_0 : Ref sig .tc := ⟨.hbm, 167, rfl⟩
abbrev main_while1b_call13_c_1 : Ref sig .tc := ⟨.hbm, 168, rfl⟩
abbrev main_while1b_call13_v0 : Ref sig .tc := ⟨.hbm, 169, rfl⟩
abbrev main_while1b_v54 : Ref sig .tc := ⟨.hbm, 170, rfl⟩
abbrev main_while1b_call14_c : Ref sig .tc := ⟨.hbm, 171, rfl⟩
abbrev main_while1b_call14_c_0 : Ref sig .tc := ⟨.hbm, 172, rfl⟩
abbrev main_while1b_call14_c_1 : Ref sig .tc := ⟨.hbm, 173, rfl⟩
abbrev main_while1b_call14_v0 : Ref sig .tc := ⟨.hbm, 174, rfl⟩
abbrev main_while1b_v55 : Ref sig .tc := ⟨.hbm, 175, rfl⟩
abbrev main_while1b_call15_c : Ref sig .tc := ⟨.hbm, 176, rfl⟩
abbrev main_while1b_call15_c_0 : Ref sig .tc := ⟨.hbm, 177, rfl⟩
abbrev main_while1b_call15_c_1 : Ref sig .tc := ⟨.hbm, 178, rfl⟩
abbrev main_while1b_call15_v0 : Ref sig .tc := ⟨.hbm, 179, rfl⟩
abbrev main_while1b_v56 : Ref sig .tc := ⟨.hbm, 180, rfl⟩
abbrev main_while1b_call16_c : Ref sig .tc := ⟨.hbm, 181, rfl⟩
abbrev main_while1b_call16_c_0 : Ref sig .tc := ⟨.hbm, 182, rfl⟩
abbrev main_while1b_call16_c_1 : Ref sig .tc := ⟨.hbm, 183, rfl⟩
abbrev main_while1b_call16_v0 : Ref sig .tc := ⟨.hbm, 184, rfl⟩
abbrev main_while1b_v57 : Ref sig .tc := ⟨.hbm, 185, rfl⟩
abbrev main_while1b_call17_c : Ref sig .tc := ⟨.hbm, 186, rfl⟩
abbrev main_while1b_call17_c_0 : Ref sig .tc := ⟨.hbm, 187, rfl⟩
abbrev main_while1b_call17_c_1 : Ref sig .tc := ⟨.hbm, 188, rfl⟩
abbrev main_while1b_call17_v0 : Ref sig .tc := ⟨.hbm, 189, rfl⟩
abbrev main_while1b_v58 : Ref sig .tc := ⟨.hbm, 190, rfl⟩
abbrev main_while1b_v59 : Ref sig .tc := ⟨.hbm, 191, rfl⟩
abbrev main_while1b_v60 : Ref sig .tc := ⟨.hbm, 192, rfl⟩
abbrev main_while1b_v61 : Ref sig .tc := ⟨.hbm, 193, rfl⟩
abbrev main_while1b_v62 : Ref sig .tc := ⟨.hbm, 194, rfl⟩
abbrev main_while1b_v63 : Ref sig .tc := ⟨.hbm, 195, rfl⟩
abbrev main_while1b_cst_32 : Ref sig .tc := ⟨.hbm, 196, rfl⟩
abbrev main_while1b_v64 : Ref sig .tc := ⟨.hbm, 197, rfl⟩
abbrev main_while1b_v65 : Ref sig .tc := ⟨.hbm, 198, rfl⟩
abbrev main_while1b_v66 : Ref sig .tc := ⟨.hbm, 199, rfl⟩
abbrev main_while1b_v67 : Ref sig .tc := ⟨.hbm, 200, rfl⟩
abbrev main_while1b_cst_33 : Ref sig .tc := ⟨.hbm, 201, rfl⟩
abbrev main_while1b_v68 : Ref sig .tc := ⟨.hbm, 202, rfl⟩
abbrev main_while1b_v69 : Ref sig .tc := ⟨.hbm, 203, rfl⟩
abbrev main_while1b_v70 : Ref sig .tc := ⟨.hbm, 204, rfl⟩
abbrev main_while1b_v71 : Ref sig .tc := ⟨.hbm, 205, rfl⟩
abbrev main_while1b_v72 : Ref sig .tc := ⟨.hbm, 206, rfl⟩
abbrev main_while1b_v73 : Ref sig .tc := ⟨.hbm, 207, rfl⟩
abbrev main_while1b_v74 : Ref sig .tc := ⟨.hbm, 208, rfl⟩
abbrev main_while1b_v75 : Ref sig .tc := ⟨.hbm, 209, rfl⟩
abbrev main_while1b_v76 : Ref sig .tc := ⟨.hbm, 210, rfl⟩
abbrev main_while1b_v77 : Ref sig .tc := ⟨.hbm, 211, rfl⟩
abbrev main_while1b_v78 : Ref sig .tc := ⟨.hbm, 212, rfl⟩
abbrev main_while1b_v79 : Ref sig .tc := ⟨.hbm, 213, rfl⟩
abbrev main_while1b_v80 : Ref sig .tc := ⟨.hbm, 214, rfl⟩
abbrev main_while1b_v81 : Ref sig .tc := ⟨.hbm, 215, rfl⟩
abbrev main_while1b_call18_v0 : Ref sig .tc := ⟨.hbm, 216, rfl⟩
abbrev main_while1b_call18_c : Ref sig .tc := ⟨.hbm, 217, rfl⟩
abbrev main_while1b_call18_c_0 : Ref sig .tc := ⟨.hbm, 218, rfl⟩
abbrev main_while1b_call18_c_1 : Ref sig .tc := ⟨.hbm, 219, rfl⟩
abbrev main_while1b_v82 : Ref sig .tc := ⟨.hbm, 220, rfl⟩
abbrev main_while1b_call19_v0 : Ref sig .tc := ⟨.hbm, 221, rfl⟩
abbrev main_while1b_call19_c : Ref sig .tc := ⟨.hbm, 222, rfl⟩
abbrev main_while1b_call19_c_0 : Ref sig .tc := ⟨.hbm, 223, rfl⟩
abbrev main_while1b_call19_c_1 : Ref sig .tc := ⟨.hbm, 224, rfl⟩
abbrev main_while1b_v83 : Ref sig .tc := ⟨.hbm, 225, rfl⟩
abbrev main_while1b_call20_v0 : Ref sig .tc := ⟨.hbm, 226, rfl⟩
abbrev main_while1b_call20_c : Ref sig .tc := ⟨.hbm, 227, rfl⟩
abbrev main_while1b_call20_c_0 : Ref sig .tc := ⟨.hbm, 228, rfl⟩
abbrev main_while1b_call20_c_1 : Ref sig .tc := ⟨.hbm, 229, rfl⟩
abbrev main_while1b_v84 : Ref sig .tc := ⟨.hbm, 230, rfl⟩
abbrev main_while1b_call21_v0 : Ref sig .tc := ⟨.hbm, 231, rfl⟩
abbrev main_while1b_call21_c : Ref sig .tc := ⟨.hbm, 232, rfl⟩
abbrev main_while1b_call21_c_0 : Ref sig .tc := ⟨.hbm, 233, rfl⟩
abbrev main_while1b_call21_c_1 : Ref sig .tc := ⟨.hbm, 234, rfl⟩
abbrev main_while1b_v85 : Ref sig .tc := ⟨.hbm, 235, rfl⟩
abbrev main_while1b_call22_v0 : Ref sig .tc := ⟨.hbm, 236, rfl⟩
abbrev main_while1b_call22_c : Ref sig .tc := ⟨.hbm, 237, rfl⟩
abbrev main_while1b_call22_c_0 : Ref sig .tc := ⟨.hbm, 238, rfl⟩
abbrev main_while1b_call22_c_1 : Ref sig .tc := ⟨.hbm, 239, rfl⟩
abbrev main_while1b_v86 : Ref sig .tc := ⟨.hbm, 240, rfl⟩
abbrev main_while1b_call23_v0 : Ref sig .tc := ⟨.hbm, 241, rfl⟩
abbrev main_while1b_call23_c : Ref sig .tc := ⟨.hbm, 242, rfl⟩
abbrev main_while1b_call23_c_0 : Ref sig .tc := ⟨.hbm, 243, rfl⟩
abbrev main_while1b_v87 : Ref sig .tc := ⟨.hbm, 244, rfl⟩
abbrev main_while1b_c_34 : Ref sig .tc := ⟨.hbm, 245, rfl⟩
abbrev main_while1b_v88 : Ref sig .tc := ⟨.hbm, 246, rfl⟩
abbrev main_v34 : Ref sig .tc := ⟨.hbm, 247, rfl⟩
abbrev main_cst_13 : Ref sig .tc := ⟨.hbm, 248, rfl⟩
abbrev main_v35 : Ref sig .tc := ⟨.hbm, 249, rfl⟩
abbrev main_v36 : Ref sig .tc := ⟨.hbm, 250, rfl⟩
abbrev main_v37 : Ref sig .tc := ⟨.hbm, 251, rfl⟩
abbrev main_cst_14 : Ref sig .tc := ⟨.hbm, 252, rfl⟩
abbrev main_v38 : Ref sig .tc := ⟨.hbm, 253, rfl⟩
abbrev main_v39 : Ref sig .tc := ⟨.hbm, 254, rfl⟩
abbrev main_v40 : Ref sig .tc := ⟨.hbm, 255, rfl⟩
abbrev main_v41 : Ref sig .tc := ⟨.hbm, 256, rfl⟩
abbrev main_v42 : Ref sig .tc := ⟨.hbm, 257, rfl⟩
abbrev main_v43 : Ref sig .tc := ⟨.hbm, 258, rfl⟩
abbrev main_v44 : Ref sig .tc := ⟨.hbm, 259, rfl⟩
abbrev main_v45 : Ref sig .tc := ⟨.hbm, 260, rfl⟩
abbrev main_v46 : Ref sig .tc := ⟨.hbm, 261, rfl⟩
abbrev main_v47 : Ref sig .tc := ⟨.hbm, 262, rfl⟩
abbrev main_v48 : Ref sig .tc := ⟨.hbm, 263, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x1024 : Shape := ⟨2, ![2048, 1024]⟩
abbrev S1024x3840 : Shape := ⟨2, ![1024, 3840]⟩
abbrev S2048x3840 : Shape := ⟨2, ![2048, 3840]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x1024 : Shape := ⟨2, ![2048, 1024]⟩
abbrev S1024x3840 : Shape := ⟨2, ![1024, 3840]⟩
abbrev S2048x3840 : Shape := ⟨2, ![2048, 3840]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x1024, .f32⟩
  | .hbm, ⟨3, _⟩ => ⟨S1024x3840, .f32⟩
  | .hbm, ⟨4, _⟩ => ⟨S2048x3840, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S2048x1024 : Shape := ⟨2, ![2048, 1024]⟩
abbrev S1024x3840 : Shape := ⟨2, ![1024, 3840]⟩
abbrev S2048x3840 : Shape := ⟨2, ![2048, 3840]⟩
abbrev S512x3840 : Shape := ⟨2, ![512, 3840]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .bf16⟩
  | .hbm, ⟨3, _⟩ => ⟨S2048x1024, .f32⟩
  | .local _ .vmem, ⟨0, _⟩ => ⟨S1024x3840, .bf16⟩
  | .local _ .vmem, ⟨1, _⟩ => ⟨S1024x3840, .bf16⟩
  | .local _ .vmem, ⟨2, _⟩ => ⟨S512x3840, .bf16⟩
  | .local _ .vmem, ⟨3, _⟩ => ⟨S512x3840, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x1024 : Shape := ⟨2, ![2048, 1024]⟩
abbrev S1024x3840 : Shape := ⟨2, ![1024, 3840]⟩
abbrev S2048x3840 : Shape := ⟨2, ![2048, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .bf16⟩
  | .hbm, ⟨3, _⟩ => ⟨S2048x1024, .f32⟩
  | .hbm, ⟨4, _⟩ => ⟨S1024x3840, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x1024 : Shape := ⟨2, ![2048, 1024]⟩
abbrev S1024x3840 : Shape := ⟨2, ![1024, 3840]⟩
abbrev S2048x3840 : Shape := ⟨2, ![2048, 3840]⟩
abbrev S2048x768 : Shape := ⟨2, ![2048, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .bf16⟩
  | .hbm, ⟨3, _⟩ => ⟨S1024x3840, .f32⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1024x768, .f32⟩
  | .local _ .vmem, ⟨4, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S1024x3840 : Shape := ⟨2, ![1024, 3840]⟩
abbrev S2048x3840 : Shape := ⟨2, ![2048, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3840, .bf16⟩
  | .hbm, ⟨2, _⟩ => ⟨S2048x3840, .bf16⟩
  | .hbm, ⟨3, _⟩ => ⟨S2048x1024, .f32⟩
  | .hbm, ⟨4, _⟩ => ⟨S1024x3840, .f32⟩
  | .hbm, ⟨5, _⟩ => ⟨S2048x3840, .f32⟩
  | .hbm, ⟨6, _⟩ => ⟨S2048x3840, .f32⟩
  | .hbm, ⟨7, _⟩ => ⟨S3840x1024, .f32⟩
  | .hbm, ⟨8, _⟩ => ⟨S1024x3840, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S1024x1024, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x5632 : Shape := ⟨2, ![1024, 5632]⟩
abbrev S2048x5632 : Shape := ⟨2, ![2048, 5632]⟩
abbrev S512x5632 : Shape := ⟨2, ![512, 5632]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x5632 : Shape := ⟨2, ![1024, 5632]⟩
abbrev S2048x5632 : Shape := ⟨2, ![2048, 5632]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S4x1024x1408, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .f32⟩
  | .local _ .vmem, ⟨4, _⟩ => ⟨S1x1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S4x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel11.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2048x2816, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x2816 : Shape := ⟨2, ![2048, 2816]⟩
abbrev S2816x1024 : Shape := ⟨2, ![2816, 1024]⟩
abbrev S2048x1024 : Shape := ⟨2, ![2048, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2048x2816, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2x1024x898 : Shape := ⟨3, ![2, 1024, 898]⟩
abbrev S1x512x898 : Shape := ⟨3, ![1, 512, 898]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x898, .f32⟩
  | .hbm, ⟨1, _⟩ => ⟨S2x1024x898, .f32⟩
  | .hbm, ⟨2, _⟩ => ⟨S2x1024x898, .f32⟩
  | .hbm, ⟨3, _⟩ => ⟨S2x1024x898, .f32⟩
  | .hbm, ⟨4, _⟩ => ⟨S2x1024x898, .f32⟩
  | .hbm, ⟨5, _⟩ => ⟨S2x1024x898, .f32⟩
  | .hbm, ⟨6, _⟩ => ⟨S2x1024x898, .f32⟩
  | .local _ .vmem, ⟨0, _⟩ => ⟨S1x512x898, .f32⟩
  | .local _ .vmem, ⟨1, _⟩ => ⟨S1x512x898, .f32⟩
  | .local _ .vmem, ⟨2, _⟩ => ⟨S1x512x898, .f32⟩
  | .local _ .vmem, ⟨3, _⟩ => ⟨S1x512x898, .f32⟩
  | .local _ .vmem, ⟨4, _⟩ => ⟨S1x512x898, .f32⟩
  | .local _ .vmem, ⟨5, _⟩ => ⟨S1x512x898, .f32⟩
  | .local _ .vmem, ⟨6, _⟩ => ⟨S1x512x898, .f32⟩
  | .local _ .vmem, ⟨7, _⟩ => ⟨S1x512x898, .f32⟩
  | .local _ .vmem, ⟨8, _⟩ => ⟨S1x512x898, .f32⟩
  | .local _ .vmem, ⟨9, _⟩ => ⟨S1x512x898, .f32⟩
  | .local _ .vmem, ⟨10, _⟩ => ⟨S1x512x898, .f32⟩
  | .local _ .vmem, ⟨11, _⟩ => ⟨S1x512x898, .f32⟩
  | .local _ .vmem, ⟨12, _⟩ => ⟨S1x512x898, .f32⟩
  | .local _ .vmem, ⟨13, _⟩ => ⟨S1x512x898, .f32⟩
  | _, _ => ⟨S2x1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S2x1024x898 : Shape := ⟨3, ![2, 1024, 898]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x898, .f32⟩
  | .hbm, ⟨1, _⟩ => ⟨S2x1024x898, .f32⟩
  | .hbm, ⟨2, _⟩ => ⟨S2x1024x898, .f32⟩
  | .hbm, ⟨3, _⟩ => ⟨S2x1024x898, .f32⟩
  | .hbm, ⟨4, _⟩ => ⟨S_, .f32⟩
  | .hbm, ⟨5, _⟩ => ⟨S2x1024x898, .f32⟩
  | .hbm, ⟨6, _⟩ => ⟨S2x1024x898, .f32⟩
  | .hbm, ⟨7, _⟩ => ⟨S_, .f32⟩
  | .hbm, ⟨8, _⟩ => ⟨S2x1024x898, .f32⟩
  | .hbm, ⟨9, _⟩ => ⟨S2x1024x898, .f32⟩
  | .hbm, ⟨10, _⟩ => ⟨S2x1024x898, .f32⟩
  | .hbm, ⟨11, _⟩ => ⟨S_, .f32⟩
  | .hbm, ⟨12, _⟩ => ⟨S2x1024x898, .f32⟩
  | .hbm, ⟨13, _⟩ => ⟨S2x1024x898, .f32⟩
  | .hbm, ⟨14, _⟩ => ⟨S2x1024x898, .f32⟩
  | .hbm, ⟨15, _⟩ => ⟨S_, .f32⟩
  | .hbm, ⟨16, _⟩ => ⟨S2x1024x898, .f32⟩
  | .hbm, ⟨17, _⟩ => ⟨S2x1024x898, .f32⟩
  | .hbm, ⟨18, _⟩ => ⟨S2x1024x898, .f32⟩
  | .hbm, ⟨19, _⟩ => ⟨S_, .f32⟩
  | .hbm, ⟨20, _⟩ => ⟨S2x1024x898, .f32⟩
  | .hbm, ⟨21, _⟩ => ⟨S2x1024x898, .f32⟩
  | .hbm, ⟨22, _⟩ => ⟨S_, .f32⟩
  | .hbm, ⟨23, _⟩ => ⟨S2x1024x898, .f32⟩
  | .hbm, ⟨24, _⟩ => ⟨S2x1024x898, .f32⟩
  | .hbm, ⟨25, _⟩ => ⟨S2x1024x898, .f32⟩
  | .hbm, ⟨26, _⟩ => ⟨S_, .f32⟩
  | .hbm, ⟨27, _⟩ => ⟨S2x1024x898, .f32⟩
  | .hbm, ⟨28, _⟩ => ⟨S2x1024x898, .f32⟩
  | .hbm, ⟨29, _⟩ => ⟨S2x1024x898, .f32⟩
  | .hbm, ⟨30, _⟩ => ⟨S_, .f32⟩
  | .hbm, ⟨31, _⟩ => ⟨S2x1024x898, .f32⟩
  | .hbm, ⟨32, _⟩ => ⟨S2x1024x898, .f32⟩
  | .hbm, ⟨33, _⟩ => ⟨S2x1024x898, .f32⟩
  | .hbm, ⟨34, _⟩ => ⟨S_, .f32⟩
  | .hbm, ⟨35, _⟩ => ⟨S2x1024x898, .f32⟩
  | .hbm, ⟨36, _⟩ => ⟨S2x1024x898, .f32⟩
  | _, _ => ⟨S2x1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x1408 : Shape := ⟨3, ![2, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x4x384 : Shape := ⟨3, ![2, 4, 384]⟩
abbrev S2x4 : Shape := ⟨2, ![2, 4]⟩

abbrev nBuf : Space → Nat
  | .hbm => 21
  | .vmem => 21
  | .smem => 0
  | _ => 0

abbrev bufTy : (tb : Table) → Fin (tcTables nBuf tb) → BufTy
  | .hbm, ⟨0, _⟩ => ⟨S2x4x384, .f32⟩
  | .hbm, ⟨1, _⟩ => ⟨S2x4, .f32⟩
  | .hbm, ⟨2, _⟩ => ⟨S2x4, .f32⟩
  | .hbm, ⟨3, _⟩ => ⟨S2x4x384, .f32⟩
  | .hbm, ⟨4, _⟩ => ⟨S2x4, .f32⟩
  | .hbm, ⟨5, _⟩ => ⟨S2x4, .f32⟩
  | .hbm, ⟨6, _⟩ => ⟨S2x4x384, .f32⟩
  | .hbm, ⟨7, _⟩ => ⟨S2x4, .f32⟩
  | .hbm, ⟨8, _⟩ => ⟨S2x4, .f32⟩
  | .hbm, ⟨9, _⟩ => ⟨S2x4x384, .f32⟩
  | .hbm, ⟨10, _⟩ => ⟨S2x4, .f32⟩
  | .hbm, ⟨11, _⟩ => ⟨S2x4, .f32⟩
  | .hbm, ⟨12, _⟩ => ⟨S2x4x384, .f32⟩
  | .hbm, ⟨13, _⟩ => ⟨S2x4, .f32⟩
  | .hbm, ⟨14, _⟩ => ⟨S2x4, .f32⟩
  | .hbm, ⟨15, _⟩ => ⟨S2x4x384, .f32⟩
  | .hbm, ⟨16, _⟩ => ⟨S2x4, .f32⟩
  | .hbm, ⟨17, _⟩ => ⟨S2x4, .f32⟩
  | .hbm, ⟨18, _⟩ => ⟨S2x4x384, .f32⟩
  | .hbm, ⟨19, _⟩ => ⟨S2x4, .f32⟩
  | .hbm, ⟨20, _⟩ => ⟨S2x4, .f32⟩
  | .local _ .vmem, ⟨0, _⟩ => ⟨S2x4x384, .f32⟩
  | .local _ .vmem, ⟨1, _⟩ => ⟨S2x4, .f32⟩
  | .local _ .vmem, ⟨2, _⟩ => ⟨S2x4, .f32⟩
  | .local _ .vmem, ⟨3, _⟩ => ⟨S2x4x384, .f32⟩
  | .local _ .vmem, ⟨4, _⟩ => ⟨S2x4, .f32⟩
  | .local _ .vmem, ⟨5, _⟩ => ⟨S2x4, .f32⟩
  | .local _ .vmem, ⟨6, _⟩ => ⟨S2x4x384, .f32⟩
  | .local _ .vmem, ⟨7, _⟩ => ⟨S2x4, .f32⟩
  | .local _ .vmem, ⟨8, _⟩ => ⟨S2x4, .f32⟩
  | .local _ .vmem, ⟨9, _⟩ => ⟨S2x4x384, .f32⟩
  | .local _ .vmem, ⟨10, _⟩ => ⟨S2x4, .f32⟩
  | .local _ .vmem, ⟨11, _⟩ => ⟨S2x4, .f32⟩
  | .local _ .vmem, ⟨12, _⟩ => ⟨S2x4x384, .f32⟩
  | .local _ .vmem, ⟨13, _⟩ => ⟨S2x4, .f32⟩
  | .local _ .vmem, ⟨14, _⟩ => ⟨S2x4, .f32⟩
  | .local _ .vmem, ⟨15, _⟩ => ⟨S2x4x384, .f32⟩
  | .local _ .vmem, ⟨16, _⟩ => ⟨S2x4, .f32⟩
  | .local _ .vmem, ⟨17, _⟩ => ⟨S2x4, .f32⟩
  | .local _ .vmem, ⟨18, _⟩ => ⟨S2x4x384, .f32⟩
  | .local _ .vmem, ⟨19, _⟩ => ⟨S2x4, .f32⟩
  | .local _ .vmem, ⟨20, _⟩ => ⟨S2x4, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x4x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference18Ideal.lean ====
abbrev S2x4x384 : Shape := ⟨3, ![2, 4, 384]⟩
abbrev S2x4 : Shape := ⟨2, ![2, 4]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4, .f32⟩
  | .hbm, ⟨2, _⟩ => ⟨S2x4, .f32⟩
  | .hbm, ⟨3, _⟩ => ⟨S2x4x384, .f32⟩
  | .hbm, ⟨4, _⟩ => ⟨S2x4, .f32⟩
  | .hbm, ⟨5, _⟩ => ⟨S2x4, .f32⟩
  | .hbm, ⟨6, _⟩ => ⟨S2x4x384, .f32⟩
  | .hbm, ⟨7, _⟩ => ⟨S2x4, .f32⟩
  | .hbm, ⟨8, _⟩ => ⟨S2x4, .f32⟩
  | .hbm, ⟨9, _⟩ => ⟨S2x4x384, .f32⟩
  | .hbm, ⟨10, _⟩ => ⟨S2x4, .f32⟩
  | .hbm, ⟨11, _⟩ => ⟨S2x4, .f32⟩
  | .hbm, ⟨12, _⟩ => ⟨S_, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S2x4x384, .f32⟩
  | .hbm, ⟨23, _⟩ => ⟨S_, .f32⟩
  | .hbm, ⟨24, _⟩ => ⟨S2x4x384, .f32⟩
  | .hbm, ⟨25, _⟩ => ⟨S2x4x384, .f32⟩
  | .hbm, ⟨26, _⟩ => ⟨S2x4x384, .f32⟩
  | .hbm, ⟨27, _⟩ => ⟨S_, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S2x4x384, .f32⟩
  | .hbm, ⟨38, _⟩ => ⟨S_, .f32⟩
  | .hbm, ⟨39, _⟩ => ⟨S2x4x384, .f32⟩
  | .hbm, ⟨40, _⟩ => ⟨S2x4x384, .f32⟩
  | .hbm, ⟨41, _⟩ => ⟨S2x4x384, .f32⟩
  | .hbm, ⟨42, _⟩ => ⟨S_, .f32⟩
  | .hbm, ⟨43, _⟩ => ⟨S2x4x384, .f32⟩
  | .hbm, ⟨44, _⟩ => ⟨S2x4x384, .f32⟩
  | .hbm, ⟨45, _⟩ => ⟨S_, .f32⟩
  | .hbm, ⟨46, _⟩ => ⟨S2x4, .f32⟩
  | .hbm, ⟨47, _⟩ => ⟨S2x4, .f32⟩
  | .hbm, ⟨48, _⟩ => ⟨S_, .f32⟩
  | .hbm, ⟨49, _⟩ => ⟨S2x4, .f32⟩
  | .hbm, ⟨50, _⟩ => ⟨S2x4, .f32⟩
  | .hbm, ⟨51, _⟩ => ⟨S2x4, .f32⟩
  | .hbm, ⟨52, _⟩ => ⟨S_, .f32⟩
  | .hbm, ⟨53, _⟩ => ⟨S2x4, .f32⟩
  | .hbm, ⟨54, _⟩ => ⟨S2x4, .f32⟩
  | .hbm, ⟨55, _⟩ => ⟨S2x4, .f32⟩
  | .hbm, ⟨56, _⟩ => ⟨S_, .f32⟩
  | .hbm, ⟨57, _⟩ => ⟨S2x4, .f32⟩
  | .hbm, ⟨58, _⟩ => ⟨S2x4, .f32⟩
  | .hbm, ⟨59, _⟩ => ⟨S2x4, .f32⟩
  | .hbm, ⟨60, _⟩ => ⟨S_, .f32⟩
  | .hbm, ⟨61, _⟩ => ⟨S2x4, .f32⟩
  | .hbm, ⟨62, _⟩ => ⟨S2x4, .f32⟩
  | .hbm, ⟨63, _⟩ => ⟨S_, .f32⟩
  | .hbm, ⟨64, _⟩ => ⟨S2x4, .f32⟩
  | .hbm, ⟨65, _⟩ => ⟨S2x4, .f32⟩
  | .hbm, ⟨66, _⟩ => ⟨S2x4, .f32⟩
  | .hbm, ⟨67, _⟩ => ⟨S_, .f32⟩
  | .hbm, ⟨68, _⟩ => ⟨S2x4, .f32⟩
  | .hbm, ⟨69, _⟩ => ⟨S2x4, .f32⟩
  | .hbm, ⟨70, _⟩ => ⟨S2x4, .f32⟩
  | .hbm, ⟨71, _⟩ => ⟨S_, .f32⟩
  | .hbm, ⟨72, _⟩ => ⟨S2x4, .f32⟩
  | .hbm, ⟨73, _⟩ => ⟨S2x4, .f32⟩
  | .hbm, ⟨74, _⟩ => ⟨S2x4, .f32⟩
  | .hbm, ⟨75, _⟩ => ⟨S_, .f32⟩
  | .hbm, ⟨76, _⟩ => ⟨S2x4, .f32⟩
  | .hbm, ⟨77, _⟩ => ⟨S2x4, .f32⟩
  | .hbm, ⟨78, _⟩ => ⟨S_, .f32⟩
  | .hbm, ⟨79, _⟩ => ⟨S2x4, .f32⟩
  | .hbm, ⟨80, _⟩ => ⟨S2x4, .f32⟩
  | .hbm, ⟨81, _⟩ => ⟨S_, .f32⟩
  | .hbm, ⟨82, _⟩ => ⟨S2x4, .f32⟩
  | .hbm, ⟨83, _⟩ => ⟨S2x4, .f32⟩
  | .hbm, ⟨84, _⟩ => ⟨S2x4, .f32⟩
  | .hbm, ⟨85, _⟩ => ⟨S_, .f32⟩
  | .hbm, ⟨86, _⟩ => ⟨S2x4, .f32⟩
  | .hbm, ⟨87, _⟩ => ⟨S2x4, .f32⟩
  | .hbm, ⟨88, _⟩ => ⟨S2x4, .f32⟩
  | .hbm, ⟨89, _⟩ => ⟨S_, .f32⟩
  | .hbm, ⟨90, _⟩ => ⟨S2x4, .f32⟩
  | .hbm, ⟨91, _⟩ => ⟨S2x4, .f32⟩
  | .hbm, ⟨92, _⟩ => ⟨S2x4, .f32⟩
  | .hbm, ⟨93, _⟩ => ⟨S_, .f32⟩
  | .hbm, ⟨94, _⟩ => ⟨S2x4, .f32⟩
  | .hbm, ⟨95, _⟩ => ⟨S2x4, .f32⟩
  | .hbm, ⟨96, _⟩ => ⟨S_, .f32⟩
  | .hbm, ⟨97, _⟩ => ⟨S2x4, .f32⟩
  | .hbm, ⟨98, _⟩ => ⟨S2x4, .f32⟩
  | .hbm, ⟨99, _⟩ => ⟨S2x4, .f32⟩
  | .hbm, ⟨100, _⟩ => ⟨S_, .f32⟩
  | .hbm, ⟨101, _⟩ => ⟨S2x4, .f32⟩
  | .hbm, ⟨102, _⟩ => ⟨S2x4, .f32⟩
  | .hbm, ⟨103, _⟩ => ⟨S2x4, .f32⟩
  | .hbm, ⟨104, _⟩ => ⟨S_, .f32⟩
  | .hbm, ⟨105, _⟩ => ⟨S2x4, .f32⟩
  | .hbm, ⟨106, _⟩ => ⟨S2x4, .f32⟩
  | .hbm, ⟨107, _⟩ => ⟨S2x4, .f32⟩
  | .hbm, ⟨108, _⟩ => ⟨S_, .f32⟩
  | .hbm, ⟨109, _⟩ => ⟨S2x4, .f32⟩
  | .hbm, ⟨110, _⟩ => ⟨S2x4, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel19.lean ====
abbrev S2x128 : Shape := ⟨2, ![2, 128]⟩
abbrev S2x3x1408 : Shape := ⟨3, ![2, 3, 1408]⟩
abbrev S2x5632 : Shape := ⟨2, ![2, 5632]⟩

abbrev nBuf : Space → Nat
  | .hbm => 21
  | .vmem => 21
  | .smem => 0
  | _ => 0

abbrev bufTy : (tb : Table) → Fin (tcTables nBuf tb) → BufTy
  | .hbm, ⟨0, _⟩ => ⟨S2x128, .f32⟩
  | .hbm, ⟨1, _⟩ => ⟨S2x3x1408, .f32⟩
  | .hbm, ⟨2, _⟩ => ⟨S2x5632, .f32⟩
  | .hbm, ⟨3, _⟩ => ⟨S2x128, .f32⟩
  | .hbm, ⟨4, _⟩ => ⟨S2x3x1408, .f32⟩
  | .hbm, ⟨5, _⟩ => ⟨S2x5632, .f32⟩
  | .hbm, ⟨6, _⟩ => ⟨S2x128, .f32⟩
  | .hbm, ⟨7, _⟩ => ⟨S2x3x1408, .f32⟩
  | .hbm, ⟨8, _⟩ => ⟨S2x5632, .f32⟩
  | .hbm, ⟨9, _⟩ => ⟨S2x128, .f32⟩
  | .hbm, ⟨10, _⟩ => ⟨S2x3x1408, .f32⟩
  | .hbm, ⟨11, _⟩ => ⟨S2x5632, .f32⟩
  | .hbm, ⟨12, _⟩ => ⟨S2x128, .f32⟩
  | .hbm, ⟨13, _⟩ => ⟨S2x3x1408, .f32⟩
  | .hbm, ⟨14, _⟩ => ⟨S2x5632, .f32⟩
  | .hbm, ⟨15, _⟩ => ⟨S2x128, .f32⟩
  | .hbm, ⟨16, _⟩ => ⟨S2x3x1408, .f32⟩
  | .hbm, ⟨17, _⟩ => ⟨S2x5632, .f32⟩
  | .hbm, ⟨18, _⟩ => ⟨S2x128, .f32⟩
  | .hbm, ⟨19, _⟩ => ⟨S2x3x1408, .f32⟩
  | .hbm, ⟨20, _⟩ => ⟨S2x5632, .f32⟩
  | .local _ .vmem, ⟨0, _⟩ => ⟨S2x128, .f32⟩
  | .local _ .vmem, ⟨1, _⟩ => ⟨S2x3x1408, .f32⟩
  | .local _ .vmem, ⟨2, _⟩ => ⟨S2x5632, .f32⟩
  | .local _ .vmem, ⟨3, _⟩ => ⟨S2x128, .f32⟩
  | .local _ .vmem, ⟨4, _⟩ => ⟨S2x3x1408, .f32⟩
  | .local _ .vmem, ⟨5, _⟩ => ⟨S2x5632, .f32⟩
  | .local _ .vmem, ⟨6, _⟩ => ⟨S2x128, .f32⟩
  | .local _ .vmem, ⟨7, _⟩ => ⟨S2x3x1408, .f32⟩
  | .local _ .vmem, ⟨8, _⟩ => ⟨S2x5632, .f32⟩
  | .local _ .vmem, ⟨9, _⟩ => ⟨S2x128, .f32⟩
  | .local _ .vmem, ⟨10, _⟩ => ⟨S2x3x1408, .f32⟩
  | .local _ .vmem, ⟨11, _⟩ => ⟨S2x5632, .f32⟩
  | .local _ .vmem, ⟨12, _⟩ => ⟨S2x128, .f32⟩
  | .local _ .vmem, ⟨13, _⟩ => ⟨S2x3x1408, .f32⟩
  | .local _ .vmem, ⟨14, _⟩ => ⟨S2x5632, .f32⟩
  | .local _ .vmem, ⟨15, _⟩ => ⟨S2x128, .f32⟩
  | .local _ .vmem, ⟨16, _⟩ => ⟨S2x3x1408, .f32⟩
  | .local _ .vmem, ⟨17, _⟩ => ⟨S2x5632, .f32⟩
  | .local _ .vmem, ⟨18, _⟩ => ⟨S2x128, .f32⟩
  | .local _ .vmem, ⟨19, _⟩ => ⟨S2x3x1408, .f32⟩
  | .local _ .vmem, ⟨20, _⟩ => ⟨S2x5632, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x1408 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x1408 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3x1408 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x5632 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x3x1408 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x5632 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference19Ideal.lean ====
abbrev S2x128 : Shape := ⟨2, ![2, 128]⟩
abbrev S2x3x1408 : Shape := ⟨3, ![2, 3, 1408]⟩
abbrev S2x5632 : Shape := ⟨2, ![2, 5632]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x3x1408, .f32⟩
  | .hbm, ⟨2, _⟩ => ⟨S2x5632, .f32⟩
  | .hbm, ⟨3, _⟩ => ⟨S2x128, .f32⟩
  | .hbm, ⟨4, _⟩ => ⟨S2x3x1408, .f32⟩
  | .hbm, ⟨5, _⟩ => ⟨S2x5632, .f32⟩
  | .hbm, ⟨6, _⟩ => ⟨S2x128, .f32⟩
  | .hbm, ⟨7, _⟩ => ⟨S2x3x1408, .f32⟩
  | .hbm, ⟨8, _⟩ => ⟨S2x5632, .f32⟩
  | .hbm, ⟨9, _⟩ => ⟨S2x128, .f32⟩
  | .hbm, ⟨10, _⟩ => ⟨S2x3x1408, .f32⟩
  | .hbm, ⟨11, _⟩ => ⟨S2x5632, .f32⟩
  | .hbm, ⟨12, _⟩ => ⟨S_, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S2x128, .f32⟩
  | .hbm, ⟨23, _⟩ => ⟨S_, .f32⟩
  | .hbm, ⟨24, _⟩ => ⟨S2x128, .f32⟩
  | .hbm, ⟨25, _⟩ => ⟨S2x128, .f32⟩
  | .hbm, ⟨26, _⟩ => ⟨S2x128, .f32⟩
  | .hbm, ⟨27, _⟩ => ⟨S_, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S2x128, .f32⟩
  | .hbm, ⟨38, _⟩ => ⟨S_, .f32⟩
  | .hbm, ⟨39, _⟩ => ⟨S2x128, .f32⟩
  | .hbm, ⟨40, _⟩ => ⟨S2x128, .f32⟩
  | .hbm, ⟨41, _⟩ => ⟨S2x128, .f32⟩
  | .hbm, ⟨42, _⟩ => ⟨S_, .f32⟩
  | .hbm, ⟨43, _⟩ => ⟨S2x128, .f32⟩
  | .hbm, ⟨44, _⟩ => ⟨S2x128, .f32⟩
  | .hbm, ⟨45, _⟩ => ⟨S_, .f32⟩
  | .hbm, ⟨46, _⟩ => ⟨S2x3x1408, .f32⟩
  | .hbm, ⟨47, _⟩ => ⟨S2x3x1408, .f32⟩
  | .hbm, ⟨48, _⟩ => ⟨S_, .f32⟩
  | .hbm, ⟨49, _⟩ => ⟨S2x3x1408, .f32⟩
  | .hbm, ⟨50, _⟩ => ⟨S2x3x1408, .f32⟩
  | .hbm, ⟨51, _⟩ => ⟨S2x3x1408, .f32⟩
  | .hbm, ⟨52, _⟩ => ⟨S_, .f32⟩
  | .hbm, ⟨53, _⟩ => ⟨S2x3x1408, .f32⟩
  | .hbm, ⟨54, _⟩ => ⟨S2x3x1408, .f32⟩
  | .hbm, ⟨55, _⟩ => ⟨S2x3x1408, .f32⟩
  | .hbm, ⟨56, _⟩ => ⟨S_, .f32⟩
  | .hbm, ⟨57, _⟩ => ⟨S2x3x1408, .f32⟩
  | .hbm, ⟨58, _⟩ => ⟨S2x3x1408, .f32⟩
  | .hbm, ⟨59, _⟩ => ⟨S2x3x1408, .f32⟩
  | .hbm, ⟨60, _⟩ => ⟨S_, .f32⟩
  | .hbm, ⟨61, _⟩ => ⟨S2x3x1408, .f32⟩
  | .hbm, ⟨62, _⟩ => ⟨S2x3x1408, .f32⟩
  | .hbm, ⟨63, _⟩ => ⟨S_, .f32⟩
  | .hbm, ⟨64, _⟩ => ⟨S2x3x1408, .f32⟩
  | .hbm, ⟨65, _⟩ => ⟨S2x3x1408, .f32⟩
  | .hbm, ⟨66, _⟩ => ⟨S2x3x1408, .f32⟩
  | .hbm, ⟨67, _⟩ => ⟨S_, .f32⟩
  | .hbm, ⟨68, _⟩ => ⟨S2x3x1408, .f32⟩
  | .hbm, ⟨69, _⟩ => ⟨S2x3x1408, .f32⟩
  | .hbm, ⟨70, _⟩ => ⟨S2x3x1408, .f32⟩
  | .hbm, ⟨71, _⟩ => ⟨S_, .f32⟩
  | .hbm, ⟨72, _⟩ => ⟨S2x3x1408, .f32⟩
  | .hbm, ⟨73, _⟩ => ⟨S2x3x1408, .f32⟩
  | .hbm, ⟨74, _⟩ => ⟨S2x3x1408, .f32⟩
  | .hbm, ⟨75, _⟩ => ⟨S_, .f32⟩
  | .hbm, ⟨76, _⟩ => ⟨S2x3x1408, .f32⟩
  | .hbm, ⟨77, _⟩ => ⟨S2x3x1408, .f32⟩
  | .hbm, ⟨78, _⟩ => ⟨S_, .f32⟩
  | .hbm, ⟨79, _⟩ => ⟨S2x5632, .f32⟩
  | .hbm, ⟨80, _⟩ => ⟨S2x5632, .f32⟩
  | .hbm, ⟨81, _⟩ => ⟨S_, .f32⟩
  | .hbm, ⟨82, _⟩ => ⟨S2x5632, .f32⟩
  | .hbm, ⟨83, _⟩ => ⟨S2x5632, .f32⟩
  | .hbm, ⟨84, _⟩ => ⟨S2x5632, .f32⟩
  | .hbm, ⟨85, _⟩ => ⟨S_, .f32⟩
  | .hbm, ⟨86, _⟩ => ⟨S2x5632, .f32⟩
  | .hbm, ⟨87, _⟩ => ⟨S2x5632, .f32⟩
  | .hbm, ⟨88, _⟩ => ⟨S2x5632, .f32⟩
  | .hbm, ⟨89, _⟩ => ⟨S_, .f32⟩
  | .hbm, ⟨90, _⟩ => ⟨S2x5632, .f32⟩
  | .hbm, ⟨91, _⟩ => ⟨S2x5632, .f32⟩
  | .hbm, ⟨92, _⟩ => ⟨S2x5632, .f32⟩
  | .hbm, ⟨93, _⟩ => ⟨S_, .f32⟩
  | .hbm, ⟨94, _⟩ => ⟨S2x5632, .f32⟩
  | .hbm, ⟨95, _⟩ => ⟨S2x5632, .f32⟩
  | .hbm, ⟨96, _⟩ => ⟨S_, .f32⟩
  | .hbm, ⟨97, _⟩ => ⟨S2x5632, .f32⟩
  | .hbm, ⟨98, _⟩ => ⟨S2x5632, .f32⟩
  | .hbm, ⟨99, _⟩ => ⟨S2x5632, .f32⟩
  | .hbm, ⟨100, _⟩ => ⟨S_, .f32⟩
  | .hbm, ⟨101, _⟩ => ⟨S2x5632, .f32⟩
  | .hbm, ⟨102, _⟩ => ⟨S2x5632, .f32⟩
  | .hbm, ⟨103, _⟩ => ⟨S2x5632, .f32⟩
  | .hbm, ⟨104, _⟩ => ⟨S_, .f32⟩
  | .hbm, ⟨105, _⟩ => ⟨S2x5632, .f32⟩
  | .hbm, ⟨106, _⟩ => ⟨S2x5632, .f32⟩
  | .hbm, ⟨107, _⟩ => ⟨S2x5632, .f32⟩
  | .hbm, ⟨108, _⟩ => ⟨S_, .f32⟩
  | .hbm, ⟨109, _⟩ => ⟨S2x5632, .f32⟩
  | .hbm, ⟨110, _⟩ => ⟨S2x5632, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel20.lean ====
abbrev S2x1024 : Shape := ⟨2, ![2, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference20Ideal.lean ====
abbrev S2x1024 : Shape := ⟨2, ![2, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S_, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S2x1024, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel21.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference21Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel22.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference22Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel23.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference23Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel24.lean ====
abbrev S2048x512 : Shape := ⟨2, ![2048, 512]⟩
abbrev S2048x3840 : Shape := ⟨2, ![2048, 3840]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference24Ideal.lean ====
abbrev S2048x512 : Shape := ⟨2, ![2048, 512]⟩
abbrev S2048x3840 : Shape := ⟨2, ![2048, 3840]⟩
abbrev S1x128 : Shape := ⟨2, ![1, 128]⟩
abbrev S2048x1024 : Shape := ⟨2, ![2048, 1024]⟩
abbrev S4x128 : Shape := ⟨2, ![4, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S128 : Shape := ⟨1, ![128]⟩

abbrev nBuf : Space → Nat
  | .hbm => 81
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S4x128, .f32⟩
  | .hbm, ⟨6, _⟩ => ⟨S2048x4x128, .f32⟩
  | .hbm, ⟨7, _⟩ => ⟨S2048x4x128, .f32⟩
  | .hbm, ⟨8, _⟩ => ⟨S_, .f32⟩
  | .hbm, ⟨9, _⟩ => ⟨S2048x4, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S2048x4x1, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S2048x4x128, .f32⟩
  | .hbm, ⟨23, _⟩ => ⟨S2048x4x128, .f32⟩
  | .hbm, ⟨24, _⟩ => ⟨S1x4x128, .f32⟩
  | .hbm, ⟨25, _⟩ => ⟨S2048x4x128, .f32⟩
  | .hbm, ⟨26, _⟩ => ⟨S2048x4x128, .f32⟩
  | .hbm, ⟨27, _⟩ => ⟨S2048x4x128, .f32⟩
  | .hbm, ⟨28, _⟩ => ⟨S2048x4x128, .f32⟩
  | .hbm, ⟨29, _⟩ => ⟨S2048x4x128, .f32⟩
  | .hbm, ⟨30, _⟩ => ⟨S_, .f32⟩
  | .hbm, ⟨31, _⟩ => ⟨S2048x4x128, .f32⟩
  | .hbm, ⟨32, _⟩ => ⟨S2048x4x128, .f32⟩
  | .hbm, ⟨33, _⟩ => ⟨S_, .f32⟩
  | .hbm, ⟨34, _⟩ => ⟨S2048x4x128, .f32⟩
  | .hbm, ⟨35, _⟩ => ⟨S2048x4x128, .f32⟩
  | .hbm, ⟨36, _⟩ => ⟨S_, .f32⟩
  | .hbm, ⟨37, _⟩ => ⟨S2048x4x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S2048x4x128, .f32⟩
  | .hbm, ⟨42, _⟩ => ⟨S2048x512, .f32⟩
  | .hbm, ⟨43, _⟩ => ⟨S2048x512, .f32⟩
  | .hbm, ⟨44, _⟩ => ⟨S2048x4x128, .f32⟩
  | .hbm, ⟨45, _⟩ => ⟨S2048x4x128, .f32⟩
  | .hbm, ⟨46, _⟩ => ⟨S2048x4x128, .f32⟩
  | .hbm, ⟨47, _⟩ => ⟨S2048x4x128, .f32⟩
  | .hbm, ⟨48, _⟩ => ⟨S2048x4x128, .f32⟩
  | .hbm, ⟨49, _⟩ => ⟨S2048x4x128, .f32⟩
  | .hbm, ⟨50, _⟩ => ⟨S2048x4x128, .f32⟩
  | .hbm, ⟨51, _⟩ => ⟨S2048x512, .f32⟩
  | .hbm, ⟨52, _⟩ => ⟨S2048x4x128, .f32⟩
  | .hbm, ⟨53, _⟩ => ⟨S_, .f32⟩
  | .hbm, ⟨54, _⟩ => ⟨S4x128, .f32⟩
  | .hbm, ⟨55, _⟩ => ⟨S1x4x128, .f32⟩
  | .hbm, ⟨56, _⟩ => ⟨S2048x4x128, .f32⟩
  | .hbm, ⟨57, _⟩ => ⟨S2048x4x128, .f32⟩
  | .hbm, ⟨58, _⟩ => ⟨S_, .f32⟩
  | .hbm, ⟨59, _⟩ => ⟨S4x128, .f32⟩
  | .hbm, ⟨60, _⟩ => ⟨S2048x4x128, .f32⟩
  | .hbm, ⟨61, _⟩ => ⟨S_, .f32⟩
  | .hbm, ⟨62, _⟩ => ⟨S2048x4, .f32⟩
  | .hbm, ⟨63, _⟩ => ⟨S2048x4x1, .f32⟩
  | .hbm, ⟨64, _⟩ => ⟨S2048x4x128, .f32⟩
  | .hbm, ⟨65, _⟩ => ⟨S2048x4x128, .f32⟩
  | .hbm, ⟨66, _⟩ => ⟨S2048x4x1, .f32⟩
  | .hbm, ⟨67, _⟩ => ⟨S_, .f32⟩
  | .hbm, ⟨68, _⟩ => ⟨S2048x4x1, .f32⟩
  | .hbm, ⟨69, _⟩ => ⟨S2048x4x1, .f32⟩
  | .hbm, ⟨70, _⟩ => ⟨S_, .f32⟩
  | .hbm, ⟨71, _⟩ => ⟨S2048x4, .f32⟩
  | .hbm, ⟨72, _⟩ => ⟨S2048x4x128, .f32⟩
  | .hbm, ⟨73, _⟩ => ⟨S2048x4x128, .f32⟩
  | .hbm, ⟨74, _⟩ => ⟨S2048x4x128, .f32⟩
  | .hbm, ⟨75, _⟩ => ⟨S2048x4x128, .f32⟩
  | .hbm, ⟨76, _⟩ => ⟨S2048x4x128, .f32⟩
  | .hbm, ⟨77, _⟩ => ⟨S2048x512, .f32⟩
  | .hbm, ⟨78, _⟩ => ⟨S_, .f32⟩
  | .hbm, ⟨79, _⟩ => ⟨S128, .f32⟩
  | .hbm, ⟨80, _⟩ => ⟨S1x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel25.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference26Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel27.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference27Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel28.lean ====
abbrev S2048x512 : Shape := ⟨2, ![2048, 512]⟩
abbrev S2048x3840 : Shape := ⟨2, ![2048, 3840]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S1x128, .f32⟩
  | .hbm, ⟨3, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S2048x512 : Shape := ⟨2, ![2048, 512]⟩
abbrev S2048x3840 : Shape := ⟨2, ![2048, 3840]⟩
abbrev S1x128 : Shape := ⟨2, ![1, 128]⟩
abbrev S4x128 : Shape := ⟨2, ![4, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x3840, .f32⟩
  | .hbm, ⟨2, _⟩ => ⟨S1x128, .f32⟩
  | .hbm, ⟨3, _⟩ => ⟨S2048x512, .f32⟩
  | .hbm, ⟨4, _⟩ => ⟨S4x128, .f32⟩
  | .hbm, ⟨5, _⟩ => ⟨S2048x4x128, .f32⟩
  | .hbm, ⟨6, _⟩ => ⟨S2048x4x128, .f32⟩
  | .hbm, ⟨7, _⟩ => ⟨S_, .f32⟩
  | .hbm, ⟨8, _⟩ => ⟨S2048x4, .f32⟩
  | .hbm, ⟨9, _⟩ => ⟨S2048x4x1, .f32⟩
  | .hbm, ⟨10, _⟩ => ⟨S_, .f32⟩
  | .hbm, ⟨11, _⟩ => ⟨S2048x4x1, .f32⟩
  | .hbm, ⟨12, _⟩ => ⟨S2048x4x1, .f32⟩
  | .hbm, ⟨13, _⟩ => ⟨S_, .f32⟩
  | .hbm, ⟨14, _⟩ => ⟨S2048x4x1, .f32⟩
  | .hbm, ⟨15, _⟩ => ⟨S2048x4x1, .f32⟩
  | .hbm, ⟨16, _⟩ => ⟨S2048x4x1, .f32⟩
  | .hbm, ⟨17, _⟩ => ⟨S2048x4x128, .f32⟩
  | .hbm, ⟨18, _⟩ => ⟨S2048x4x128, .f32⟩
  | .hbm, ⟨19, _⟩ => ⟨S1x4x128, .f32⟩
  | .hbm, ⟨20, _⟩ => ⟨S2048x4x128, .f32⟩
  | .hbm, ⟨21, _⟩ => ⟨S2048x4x128, .f32⟩
  | .hbm, ⟨22, _⟩ => ⟨S2048x4x128, .f32⟩
  | .hbm, ⟨23, _⟩ => ⟨S2048x4x128, .f32⟩
  | .hbm, ⟨24, _⟩ => ⟨S2048x4x128, .f32⟩
  | .hbm, ⟨25, _⟩ => ⟨S_, .f32⟩
  | .hbm, ⟨26, _⟩ => ⟨S2048x4x128, .f32⟩
  | .hbm, ⟨27, _⟩ => ⟨S2048x4x128, .f32⟩
  | .hbm, ⟨28, _⟩ => ⟨S_, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x512, .f32⟩
  | .hbm, ⟨34, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel29.lean ====
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x128, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_cst_8 : Ref sig .tc := ⟨.hbm, 28, rfl⟩
abbrev main_cst_9 : Ref sig .tc := ⟨.hbm, 29, rfl⟩
abbrev main_v17 : Ref sig .tc := ⟨.hbm, 30, rfl⟩
abbrev main_v18 : Ref sig .tc := ⟨.hbm, 31, rfl⟩
abbrev main_cst_10 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kernel30.lean ====
abbrev S2048x3840 : Shape := ⟨2, ![2048, 3840]⟩
abbrev S4x1536 : Shape := ⟨2, ![4, 1536]⟩
abbrev S2048x1536 : Shape := ⟨2, ![2048, 1536]⟩
abbrev S2048x512 : Shape := ⟨2, ![2048, 512]⟩
abbrev S4x512 : Shape := ⟨2, ![4, 512]⟩
abbrev S1x512 : Shape := ⟨2, ![1, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S4x1536, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S4x512, .f32⟩
  | .local _ .vmem, ⟨9, _⟩ => ⟨S4x512, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S2048x3840 : Shape := ⟨2, ![2048, 3840]⟩
abbrev S4x1536 : Shape := ⟨2, ![4, 1536]⟩
abbrev S2048x1536 : Shape := ⟨2, ![2048, 1536]⟩
abbrev S1x1536 : Shape := ⟨2, ![1, 1536]⟩
abbrev S_ : Shape := ⟨0, ![]⟩
abbrev S2047x1536 : Shape := ⟨2, ![2047, 1536]⟩
abbrev S2x1536 : Shape := ⟨2, ![2, 1536]⟩
abbrev S2046x1536 : Shape := ⟨2, ![2046, 1536]⟩
abbrev S3x1536 : Shape := ⟨2, ![3, 1536]⟩
abbrev S2045x1536 : Shape := ⟨2, ![2045, 1536]⟩
abbrev S1536 : Shape := ⟨1, ![1536]⟩

abbrev nBuf : Space → Nat
  | .hbm => 104
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S1x1536, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S1x1536, .f32⟩
  | .hbm, ⟨9, _⟩ => ⟨S2047x1536, .f32⟩
  | .hbm, ⟨10, _⟩ => ⟨S2048x1536, .f32⟩
  | .hbm, ⟨11, _⟩ => ⟨S_, .f32⟩
  | .hbm, ⟨12, _⟩ => ⟨S1x1536, .f32⟩
  | .hbm, ⟨13, _⟩ => ⟨S1x1536, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2x1536, .f32⟩
  | .hbm, ⟨19, _⟩ => ⟨S2046x1536, .f32⟩
  | .hbm, ⟨20, _⟩ => ⟨S2048x1536, .f32⟩
  | .hbm, ⟨21, _⟩ => ⟨S_, .f32⟩
  | .hbm, ⟨22, _⟩ => ⟨S2x1536, .f32⟩
  | .hbm, ⟨23, _⟩ => ⟨S1x1536, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S3x1536, .f32⟩
  | .hbm, ⟨29, _⟩ => ⟨S2045x1536, .f32⟩
  | .hbm, ⟨30, _⟩ => ⟨S2048x1536, .f32⟩
  | .hbm, ⟨31, _⟩ => ⟨S_, .f32⟩
  | .hbm, ⟨32, _⟩ => ⟨S3x1536, .f32⟩
  | .hbm, ⟨33, _⟩ => ⟨S1x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | .hbm, ⟨42, _⟩ => ⟨S_, .f32⟩
  | .hbm, ⟨43, _⟩ => ⟨S2048x1536, .f32⟩
  | .hbm, ⟨44, _⟩ => ⟨S2048x1536, .f32⟩
  | .hbm, ⟨45, _⟩ => ⟨S_, .f32⟩
  | .hbm, ⟨46, _⟩ => ⟨S2048x1536, .f32⟩
  | .hbm, ⟨47, _⟩ => ⟨S2048x1536, .f32⟩
  | .hbm, ⟨48, _⟩ => ⟨S2048x1536, .f32⟩
  | .hbm, ⟨49, _⟩ => ⟨S2048x1536, .f32⟩
  | .hbm, ⟨50, _⟩ => ⟨S2048x1536, .f32⟩
  | .hbm, ⟨51, _⟩ => ⟨S2048x1536, .f32⟩
  | .hbm, ⟨52, _⟩ => ⟨S2048x1536, .f32⟩
  | .hbm, ⟨53, _⟩ => ⟨S2048x1536, .f32⟩
  | .hbm, ⟨54, _⟩ => ⟨S2048x1536, .f32⟩
  | .hbm, ⟨55, _⟩ => ⟨S_, .f32⟩
  | .hbm, ⟨56, _⟩ => ⟨S1536, .f32⟩
  | .hbm, ⟨57, _⟩ => ⟨S1x1536, .f32⟩
  | .hbm, ⟨58, _⟩ => ⟨S2048x1536, .f32⟩
  | .hbm, ⟨59, _⟩ => ⟨S2048x1536, .f32⟩
  | .hbm, ⟨60, _⟩ => ⟨S_, .f32⟩
  | .hbm, ⟨61, _⟩ => ⟨S4x1536, .f32⟩
  | .hbm, ⟨62, _⟩ => ⟨S3x1536, .f32⟩
  | .hbm, ⟨63, _⟩ => ⟨S2045x1536, .f32⟩
  | .hbm, ⟨64, _⟩ => ⟨S_, .f32⟩
  | .hbm, ⟨65, _⟩ => ⟨S2048x1536, .f32⟩
  | .hbm, ⟨66, _⟩ => ⟨S2048x1536, .f32⟩
  | .hbm, ⟨67, _⟩ => ⟨S_, .f32⟩
  | .hbm, ⟨68, _⟩ => ⟨S1536, .f32⟩
  | .hbm, ⟨69, _⟩ => ⟨S1x1536, .f32⟩
  | .hbm, ⟨70, _⟩ => ⟨S2048x1536, .f32⟩
  | .hbm, ⟨71, _⟩ => ⟨S2048x1536, .f32⟩
  | .hbm, ⟨72, _⟩ => ⟨S_, .f32⟩
  | .hbm, ⟨73, _⟩ => ⟨S4x1536, .f32⟩
  | .hbm, ⟨74, _⟩ => ⟨S4x1536, .f32⟩
  | .hbm, ⟨75, _⟩ => ⟨S2x1536, .f32⟩
  | .hbm, ⟨76, _⟩ => ⟨S2046x1536, .f32⟩
  | .hbm, ⟨77, _⟩ => ⟨S_, .f32⟩
  | .hbm, ⟨78, _⟩ => ⟨S2048x1536, .f32⟩
  | .hbm, ⟨79, _⟩ => ⟨S2048x1536, .f32⟩
  | .hbm, ⟨80, _⟩ => ⟨S2048x1536, .f32⟩
  | .hbm, ⟨81, _⟩ => ⟨S_, .f32⟩
  | .hbm, ⟨82, _⟩ => ⟨S1536, .f32⟩
  | .hbm, ⟨83, _⟩ => ⟨S1x1536, .f32⟩
  | .hbm, ⟨84, _⟩ => ⟨S2048x1536, .f32⟩
  | .hbm, ⟨85, _⟩ => ⟨S2048x1536, .f32⟩
  | .hbm, ⟨86, _⟩ => ⟨S_, .f32⟩
  | .hbm, ⟨87, _⟩ => ⟨S4x1536, .f32⟩
  | .hbm, ⟨88, _⟩ => ⟨S4x1536, .f32⟩
  | .hbm, ⟨89, _⟩ => ⟨S1x1536, .f32⟩
  | .hbm, ⟨90, _⟩ => ⟨S2047x1536, .f32⟩
  | .hbm, ⟨91, _⟩ => ⟨S_, .f32⟩
  | .hbm, ⟨92, _⟩ => ⟨S2048x1536, .f32⟩
  | .hbm, ⟨93, _⟩ => ⟨S2048x1536, .f32⟩
  | .hbm, ⟨94, _⟩ => ⟨S2048x1536, .f32⟩
  | .hbm, ⟨95, _⟩ => ⟨S_, .f32⟩
  | .hbm, ⟨96, _⟩ => ⟨S1536, .f32⟩
  | .hbm, ⟨97, _⟩ => ⟨S1x1536, .f32⟩
  | .hbm, ⟨98, _⟩ => ⟨S2048x1536, .f32⟩
  | .hbm, ⟨99, _⟩ => ⟨S2048x1536, .f32⟩
  | .hbm, ⟨100, _⟩ => ⟨S2048x1536, .f32⟩
  | .hbm, ⟨101, _⟩ => ⟨S_, .f32⟩
  | .hbm, ⟨102, _⟩ => ⟨S4x1536, .f32⟩
  | .hbm, ⟨103, _⟩ => ⟨S4x1536, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel31.lean ====
abbrev S2048x3840 : Shape := ⟨2, ![2048, 3840]⟩
abbrev S4x1536 : Shape := ⟨2, ![4, 1536]⟩
abbrev S2048x1536 : Shape := ⟨2, ![2048, 1536]⟩
abbrev S2048x512 : Shape := ⟨2, ![2048, 512]⟩
abbrev S4x512 : Shape := ⟨2, ![4, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S2048x512, .f32⟩
  | .local _ .vmem, ⟨5, _⟩ => ⟨S2048x512, .f32⟩
  | _, _ => ⟨S2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S2048x3840 : Shape := ⟨2, ![2048, 3840]⟩
abbrev S4x1536 : Shape := ⟨2, ![4, 1536]⟩
abbrev S2048x1536 : Shape := ⟨2, ![2048, 1536]⟩
abbrev S1x1536 : Shape := ⟨2, ![1, 1536]⟩
abbrev S_ : Shape := ⟨0, ![]⟩
abbrev S2047x1536 : Shape := ⟨2, ![2047, 1536]⟩
abbrev S2x1536 : Shape := ⟨2, ![2, 1536]⟩
abbrev S2046x1536 : Shape := ⟨2, ![2046, 1536]⟩
abbrev S3x1536 : Shape := ⟨2, ![3, 1536]⟩
abbrev S2045x1536 : Shape := ⟨2, ![2045, 1536]⟩

abbrev nBuf : Space → Nat
  | .hbm => 39
  | .vmem => 0
  | .smem => 0
  | _ => 0

abbrev bufTy : (tb : Table) → Fin (tcTables nBuf tb) → BufTy
  | .hbm, ⟨0, _⟩ => ⟨S2048x3840, .f32⟩
  | .hbm, ⟨1, _⟩ => ⟨S4x1536, .f32⟩
  | .hbm, ⟨2, _⟩ => ⟨S2048x1536, .f32⟩
  | .hbm, ⟨3, _⟩ => ⟨S1x1536, .f32⟩
  | .hbm, ⟨4, _⟩ => ⟨S2048x1536, .f32⟩
  | .hbm, ⟨5, _⟩ => ⟨S2048x1536, .f32⟩
  | .hbm, ⟨6, _⟩ => ⟨S_, .f32⟩
  | .hbm, ⟨7, _⟩ => ⟨S1x1536, .f32⟩
  | .hbm, ⟨8, _⟩ => ⟨S2047x1536, .f32⟩
  | .hbm, ⟨9, _⟩ => ⟨S2048x1536, .f32⟩
  | .hbm, ⟨10, _⟩ => ⟨S1x1536, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2x1536, .f32⟩
  | .hbm, ⟨16, _⟩ => ⟨S2046x1536, .f32⟩
  | .hbm, ⟨17, _⟩ => ⟨S2048x1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S3x1536, .f32⟩
  | .hbm, ⟨24, _⟩ => ⟨S2045x1536, .f32⟩
  | .hbm, ⟨25, _⟩ => ⟨S2048x1536, .f32⟩
  | .hbm, ⟨26, _⟩ => ⟨S1x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S2048x1536, .f32⟩
  | _, _ => ⟨S2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel32.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S1x5632, .f32⟩
  | .hbm, ⟨3, _⟩ => ⟨S2048x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩
abbrev S2047x5632 : Shape := ⟨2, ![2047, 5632]⟩
abbrev S2x5632 : Shape := ⟨2, ![2, 5632]⟩
abbrev S2046x5632 : Shape := ⟨2, ![2046, 5632]⟩
abbrev S2048x2816 : Shape := ⟨2, ![2048, 2816]⟩

abbrev nBuf : Space → Nat
  | .hbm => 46
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x5632, .f32⟩
  | .hbm, ⟨2, _⟩ => ⟨S1x5632, .f32⟩
  | .hbm, ⟨3, _⟩ => ⟨S2048x5632, .f32⟩
  | .hbm, ⟨4, _⟩ => ⟨S1x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S1x5632, .f32⟩
  | .hbm, ⟨9, _⟩ => ⟨S2047x5632, .f32⟩
  | .hbm, ⟨10, _⟩ => ⟨S2048x5632, .f32⟩
  | .hbm, ⟨11, _⟩ => ⟨S1x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2x5632, .f32⟩
  | .hbm, ⟨17, _⟩ => ⟨S2046x5632, .f32⟩
  | .hbm, ⟨18, _⟩ => ⟨S2048x5632, .f32⟩
  | .hbm, ⟨19, _⟩ => ⟨S1x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Fwd.Runs.lean ====
/- The forward recurrence (the first call): the windows' blocks, the branch condition and the staging memrefs the runs are stated over. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The body on any buffers, with what its run writes -/

/-- One staging buffer of output window 6, through which its contents are stated (`View.read_writes_of_cover`: the
    choice does not matter). -/
abbrev VO0_6 : View sig .tc .vmem S512x512 .f32 := (Memref.whole cc0_stg6_0 : Memref sig .tc .vmem S512x512 .f32).view
/-- One staging buffer of output window 7, through which its contents are stated (`View.read_writes_of_cover`: the
    choice does not matter). -/
abbrev VO0_7 : View sig .tc .vmem S8x4x128x128 .f32 := (Memref.whole cc0_stg7_0 : Memref sig .tc .vmem S8x4x128x128 .f32).view
/-- Each window's current staging memref at point `t`, spelled as the pipeline passes it (`bodyAt0`), and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x4x128x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4x128x128 .f32 := Memref.whole cc0_scratch0
/-- The scratch `arg9` the kernel carries between points, as a view: what it holds is stated through it. -/
abbrev VS0_0 : View sig .tc .vmem S4x128x128 .f32 := scM0_0.view

/-- What the region holds besides its windows: the carried scratch at some contents, and the scoped buffers of the other
    call with the core's generator register, which the body never touches. -/
def rest (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem scoped_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

theorem PhiA0_eq (c : Dev nD) :
    (Pipeline.ΦA spec0 c : sProp 𝕄) = iprop((∃ d, owns (c : Thread nD τ) scM0_0 fullShare d) ∗ rest (F := F) c) := by
  unfold Pipeline.ΦA rest
  rw [scoped_split, show ∀ P Q S : sProp 𝕄, iprop((P ∗ Q) ∗ S) = iprop(P ∗ Q ∗ S) from fun _ _ _ => equiv_iff.mp ⟨BI.sep_assoc, BI.sep_assoc'⟩]
  simp only [scM0_0, owns_whole]; try rfl

end Cert.KernelIdeal.Fwd

end
-- ==== Proof.Fwd.RunA.lean ====
/- The forward recurrence (the first call): the body's run at the first point, where the carried scratch is zeroed. -/
module

public import proofs.«01_k».proof.Proof.Fwd.Runs

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run has many steps, so its definition gets more time.
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S512x512 .f32) (x1 : Vec F S512x512 .f32) (x2 : Vec F S512x512 .f32) (x3 : Vec F S512x512 .f32) (x4 : Vec F S512x512 .f32) (x5 : Vec F S512x512 .f32) :
    Σ' (L6 : List (View.Piece (Elt F) S512x512 .f32)), Σ' (L7 : List (View.Piece (Elt F) S8x4x128x128 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.Fwd.RunB.lean ====
/- The forward recurrence (the first call): the body's run at a later point, where the carried scratch is what the point before left. -/
module

public import proofs.«01_k».proof.Proof.Fwd.RunA

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run has many steps, so its definition gets more time.
set_option maxHeartbeats 1000000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S512x512 .f32) (x1 : Vec F S512x512 .f32) (x2 : Vec F S512x512 .f32) (x3 : Vec F S512x512 .f32) (x4 : Vec F S512x512 .f32) (x5 : Vec F S512x512 .f32) (xs0 : Vec F S4x128x128 .f32) :
    Σ' (L6 : List (View.Piece (Elt F) S512x512 .f32)), Σ' (L7 : List (View.Piece (Elt F) S8x4x128x128 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.Fwd.Body.lean ====
/- The forward recurrence (the first call): what each output and the carried scratch hold after each point, and the body's obligation at every point. -/
module

public import proofs.«01_k».proof.Proof.Fwd.RunB

@[expose] public section

set_option maxRecDepth 16384

noncomputable section

namespace Cert.KernelIdeal.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section Pieces

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x4x128x128 .f32) (harg8 : arg8.IsWhole) (arg9 : Memref sig .tc .vmem S4x128x128 .f32) (harg9 : arg9.IsWhole)

section CaseA

variable (hc0 : cond0_0 i) (x0 : Vec F S512x512 .f32) (x1 : Vec F S512x512 .f32) (x2 : Vec F S512x512 .f32) (x3 : Vec F S512x512 .f32) (x4 : Vec F S512x512 .f32) (x5 : Vec F S512x512 .f32)

/-- Case A's pieces for output 6 tile its block. -/
theorem cover0_A_6 (y : S512x512.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (s := S512x512) _ S64x128.size (by sl_kernel_rfl) y

/-- What case A leaves in output 6's staging buffer: its pieces read back over junk. -/
def out0_A_6 : Vec F S512x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 tile its block. -/
theorem cover0_A_7 (y : S8x4x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (s := S8x4x128x128) _ S1x4x128x128.size (by sl_kernel_rfl) y

/-- What case A leaves in output 7's staging buffer: its pieces read back over junk. -/
def out0_A_7 : Vec F S8x4x128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for scratch `arg9`, which the kernel carries between points, cover it: 2 pieces of `S4x128x128` tiling it (Lib/Ring.lean `Piece.tiledL`). -/
theorem scover0_A_0 (y : S4x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (s := S4x128x128) _ S4x128x128.size (by sl_kernel_rfl) y

/-- What case A leaves in scratch `arg9`: its pieces read back over junk. -/
def sout0_A_0 : Vec F S4x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

end CaseA

section CaseB

variable (hc0 : ¬cond0_0 i) (x0 : Vec F S512x512 .f32) (x1 : Vec F S512x512 .f32) (x2 : Vec F S512x512 .f32) (x3 : Vec F S512x512 .f32) (x4 : Vec F S512x512 .f32) (x5 : Vec F S512x512 .f32)

/-- Case B's pieces for output 6 tile its block. -/
theorem cover0_B_6
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (s := S512x512) _ S64x128.size (by sl_kernel_rfl) y

/-- What case B leaves in output 6's staging buffer: its pieces read back over junk. -/
def out0_B_6
    (xs0 : Vec F S4x128x128 .f32) : Vec F S512x512 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- Case B's pieces for output 7 tile its block. -/
theorem cover0_B_7
    (xs0 : Vec F S4x128x128 .f32) (y : S8x4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (s := S8x4x128x128) _ S1x4x128x128.size (by sl_kernel_rfl) y

/-- What case B leaves in output 7's staging buffer: its pieces read back over junk. -/
def out0_B_7
    (xs0 : Vec F S4x128x128 .f32) : Vec F S8x4x128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- Case B's pieces for scratch `arg9`, which the kernel carries between points, cover it: 1 piece of `S4x128x128` tiling it (Lib/Ring.lean `Piece.tiledL`). -/
theorem scover0_B_0
    (xs0 : Vec F S4x128x128 .f32) (y : S4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (s := S4x128x128) _ S4x128x128.size (by sl_kernel_rfl) y

/-- What case B leaves in scratch `arg9`: its pieces read back over junk. -/
def sout0_B_0
    (xs0 : Vec F S4x128x128 .f32) : Vec F S4x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

/-! ## What the outputs hold after each point -/

end CaseB

end Pieces

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .f32 × Vec F S8x4x128x128 .f32 × Vec F S4x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

/-- `outsAt0` at a point of case A: that case's contents. -/
theorem outsAt0_A (c : Dev nD) (t : Fin cfg0.N) (h0 : t.val % 4 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(owns (c : Thread nD τ) scM0_0 fullShare ((outsAt0 V c n hn).2.2) ∗ rest (F := F) c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(owns (c : Thread nD τ) scM0_0 fullShare ((outsAt0 V c n hn).2.2) ∗ rest (F := F) c) := rfl

/-- Before a point that is not the first: the carried scratch at what the point before left. -/
theorem PhiS_pos (c : Dev nD) (n : ℕ) (h : n ≤ cfg0.N) (hz : n ≠ 0) :
    PhiS V c n h = iprop(owns (c : Thread nD τ) scM0_0 fullShare ((outsAt0 V c (n - 1) (by omega)).2.2) ∗ rest (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl,
    after0_0, after0_1, after0_2, after0_3, after0_4, after0_5, after0_6, after0_7]
  rw [show (dat V c).Φ t.succ = PhiS V c (t.val + 1) t.isLt from rfl, PhiS_succ]
  have hN : t.val < 4 := lt_of_lt_of_eq t.isLt (show cfg0.N = 4 from N_0)
  by_cases h0 : t.val % 4 = 0
  · by_cases hz : t.val = 0
    · rw [PhiS_castSucc V c t, PhiS_zero V c _ _ hz, PhiA0_eq]
      rw [outsAt0_A V c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc V c t, PhiS_pos V c _ _ hz]
      rw [outsAt0_B V c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 4 := N_0; omega)

end Cert.KernelIdeal.Fwd

end
-- ==== Proof.Bwd.Runs.lean ====
/- The backward recurrence (the second call): the windows' blocks, the branch condition and the staging memrefs the runs are stated over. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg1.N, cond0_0 (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [cond0_0, e0]
    word_cmp
   : ∀ t : Fin grid1.N, cond0_0 (grid1.coords t) ↔ t.val % 4 = 0)

/-! ## The body on any buffers, with what its run writes -/

/-- One staging buffer of output window 8, through which its contents are stated (`View.read_writes_of_cover`: the
    choice does not matter). -/
abbrev VO0_8 : View sig .tc .vmem S512x512 .f32 := (Memref.whole cc1_stg8_0 : Memref sig .tc .vmem S512x512 .f32).view
/-- One staging buffer of output window 9, through which its contents are stated (`View.read_writes_of_cover`: the
    choice does not matter). -/
abbrev VO0_9 : View sig .tc .vmem S512x512 .f32 := (Memref.whole cc1_stg9_0 : Memref sig .tc .vmem S512x512 .f32).view
/-- One staging buffer of output window 10, through which its contents are stated (`View.read_writes_of_cover`: the
    choice does not matter). -/
abbrev VO0_10 : View sig .tc .vmem S512x512 .f32 := (Memref.whole cc1_stg10_0 : Memref sig .tc .vmem S512x512 .f32).view
/-- One staging buffer of output window 11, through which its contents are stated (`View.read_writes_of_cover`: the
    choice does not matter). -/
abbrev VO0_11 : View sig .tc .vmem S512x512 .f32 := (Memref.whole cc1_stg11_0 : Memref sig .tc .vmem S512x512 .f32).view
/-- One staging buffer of output window 12, through which its contents are stated (`View.read_writes_of_cover`: the
    choice does not matter). -/
abbrev VO0_12 : View sig .tc .vmem S512x512 .f32 := (Memref.whole cc1_stg12_0 : Memref sig .tc .vmem S512x512 .f32).view
/-- One staging buffer of output window 13, through which its contents are stated (`View.read_writes_of_cover`: the
    choice does not matter). -/
abbrev VO0_13 : View sig .tc .vmem S512x512 .f32 := (Memref.whole cc1_stg13_0 : Memref sig .tc .vmem S512x512 .f32).view
/-- Each window's current staging memref at point `t`, spelled as the pipeline passes it (`bodyAt1`), and its wholeness. -/
abbrev ms0_0 (t : Fin cfg1.N) : Memref sig .tc .vmem S512x512 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x512 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S512x512 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S512x512 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S512x512 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S512x512 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S8x4x128x128 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S512x512 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S512x512 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S512x512 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S512x512 .f32 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S512x512 .f32 := win1_11.stage (cfg1.slots t 11)
abbrev hs0_11 (t : Fin cfg1.N) : (ms0_11 t).IsWhole := hstage1_11 ((cfg1.slots t 11).cast nbuf1_11)
abbrev ms0_12 (t : Fin cfg1.N) : Memref sig .tc .vmem S512x512 .f32 := win1_12.stage (cfg1.slots t 12)
abbrev hs0_12 (t : Fin cfg1.N) : (ms0_12 t).IsWhole := hstage1_12 ((cfg1.slots t 12).cast nbuf1_12)
abbrev ms0_13 (t : Fin cfg1.N) : Memref sig .tc .vmem S512x512 .f32 := win1_13.stage (cfg1.slots t 13)
abbrev hs0_13 (t : Fin cfg1.N) : (ms0_13 t).IsWhole := hstage1_13 ((cfg1.slots t 13).cast nbuf1_13)
/-- The scratch operands: whole scoped buffers of the kernel's own, passed beside the windows. -/
abbrev scM0_0 : Memref sig .tc .vmem S4x128x128 .f32 := Memref.whole cc1_scratch0
/-- The scratch `arg15` the kernel carries between points, as a view: what it holds is stated through it. -/
abbrev VS0_0 : View sig .tc .vmem S4x128x128 .f32 := scM0_0.view

/-- What the region holds besides its windows: the carried scratch at some contents, and the scoped buffers of the other
    call with the core's generator register, which the body never touches. -/
def rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiA0_eq (c : Dev nD) :
    (Pipeline.ΦA spec1 c : sProp 𝕄) = iprop((∃ d, owns (c : Thread nD τ) scM0_0 fullShare d) ∗ rest (F := F) c) := by
  unfold Pipeline.ΦA rest
  rw [scoped_split, show ∀ P Q S : sProp 𝕄, iprop((P ∗ Q) ∗ S) = iprop(P ∗ Q ∗ S) from fun _ _ _ => equiv_iff.mp ⟨BI.sep_assoc, BI.sep_assoc'⟩]
  simp only [scM0_0, owns_whole]; try rfl

end Cert.KernelIdeal.Bwd

end
-- ==== Proof.Bwd.RunA.lean ====
/- The backward recurrence (the second call): the body's run at the first point, where the carried scratch is zeroed. -/
module

public import proofs.«01_k».proof.Proof.Bwd.Runs

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run has many steps, so its definition gets more time.
set_option maxHeartbeats 2680000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x4x128x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S4x128x128 .f32) (harg15 : arg15.IsWhole) (hc0 : cond0_0 i)
    (x0 : Vec F S512x512 .f32) (x1 : Vec F S512x512 .f32) (x2 : Vec F S512x512 .f32) (x3 : Vec F S512x512 .f32) (x4 : Vec F S512x512 .f32) (x5 : Vec F S512x512 .f32) (x6 : Vec F S8x4x128x128 .f32) (x7 : Vec F S512x512 .f32) :
    Σ' (L8 : List (View.Piece (Elt F) S512x512 .f32)), Σ' (L9 : List (View.Piece (Elt F) S512x512 .f32)), Σ' (L10 : List (View.Piece (Elt F) S512x512 .f32)), Σ' (L11 : List (View.Piece (Elt F) S512x512 .f32)), Σ' (L12 : List (View.Piece (Elt F) S512x512 .f32)), Σ' (L13 : List (View.Piece (Elt F) S512x512 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_bwd_eq_skeleton]; unfold cc1_dn_scan_bwd_skel
    simp only [k1_part44_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.RunB.lean ====
/- The backward recurrence (the second call): the body's run at a later point, where the carried scratch is what the point before left. -/
module

public import proofs.«01_k».proof.Proof.Bwd.RunA

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The run has many steps, so its definition gets more time.
set_option maxHeartbeats 2668000 in
/-- What the body's stores leave in each output's staging memref, as pieces (last first) IN CASE B (`scf.if` 0 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x4x128x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S4x128x128 .f32) (harg15 : arg15.IsWhole) (hc0 : ¬cond0_0 i)
    (x0 : Vec F S512x512 .f32) (x1 : Vec F S512x512 .f32) (x2 : Vec F S512x512 .f32) (x3 : Vec F S512x512 .f32) (x4 : Vec F S512x512 .f32) (x5 : Vec F S512x512 .f32) (x6 : Vec F S8x4x128x128 .f32) (x7 : Vec F S512x512 .f32) (xs0 : Vec F S4x128x128 .f32) :
    Σ' (L8 : List (View.Piece (Elt F) S512x512 .f32)), Σ' (L9 : List (View.Piece (Elt F) S512x512 .f32)), Σ' (L10 : List (View.Piece (Elt F) S512x512 .f32)), Σ' (L11 : List (View.Piece (Elt F) S512x512 .f32)), Σ' (L12 : List (View.Piece (Elt F) S512x512 .f32)), Σ' (L13 : List (View.Piece (Elt F) S512x512 .f32)), { LS0 : List (View.Piece (Elt F) S4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_bwd_eq_skeleton]; unfold cc1_dn_scan_bwd_skel
    simp only [k1_part44_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.Body.lean ====
/- The backward recurrence (the second call): what each output and the carried scratch hold after each point, and the body's obligation at every point. -/
module

public import proofs.«01_k».proof.Proof.Bwd.RunB

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
section Pieces

variable (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x4x128x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S4x128x128 .f32) (harg15 : arg15.IsWhole)

section CaseA

variable (hc0 : cond0_0 i) (x0 : Vec F S512x512 .f32) (x1 : Vec F S512x512 .f32) (x2 : Vec F S512x512 .f32) (x3 : Vec F S512x512 .f32) (x4 : Vec F S512x512 .f32) (x5 : Vec F S512x512 .f32) (x6 : Vec F S8x4x128x128 .f32) (x7 : Vec F S512x512 .f32)

/-- Case A's pieces for output 8 tile its block. -/
theorem cover0_A_8 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (s := S512x512) _ S64x128.size (by sl_kernel_rfl) y

/-- What case A leaves in output 8's staging buffer: its pieces read back over junk. -/
def out0_A_8 : Vec F S512x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for output 9 tile its block. -/
theorem cover0_A_9 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (s := S512x512) _ S64x128.size (by sl_kernel_rfl) y

/-- What case A leaves in output 9's staging buffer: its pieces read back over junk. -/
def out0_A_9 : Vec F S512x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case A's pieces for output 10 tile its block. -/
theorem cover0_A_10 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (s := S512x512) _ S64x64.size (by sl_kernel_rfl) y

/-- What case A leaves in output 10's staging buffer: its pieces read back over junk. -/
def out0_A_10 : Vec F S512x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- Case A's pieces for output 11 tile its block. -/
theorem cover0_A_11 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (s := S512x512) _ S64x128.size (by sl_kernel_rfl) y

/-- What case A leaves in output 11's staging buffer: its pieces read back over junk. -/
def out0_A_11 : Vec F S512x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- Case A's pieces for output 12 tile its block. -/
theorem cover0_A_12 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (s := S512x512) _ S64x128.size (by sl_kernel_rfl) y

/-- What case A leaves in output 12's staging buffer: its pieces read back over junk. -/
def out0_A_12 : Vec F S512x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

/-- Case A's pieces for output 13 tile its block. -/
theorem cover0_A_13 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (s := S512x512) _ S64x128.size (by sl_kernel_rfl) y

/-- What case A leaves in output 13's staging buffer: its pieces read back over junk. -/
def out0_A_13 : Vec F S512x512 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- Case A's pieces for scratch `arg15`, which the kernel carries between points, cover it: 2 pieces of `S4x128x128` tiling it (Lib/Ring.lean `Piece.tiledL`). -/
theorem scover0_A_0 (y : S4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set :=
  View.cover_of_tiledL (s := S4x128x128) _ S4x128x128.size (by sl_kernel_rfl) y

/-- What case A leaves in scratch `arg15`: its pieces read back over junk. -/
def sout0_A_0 : Vec F S4x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)

end CaseA

section CaseB

variable (hc0 : ¬cond0_0 i) (x0 : Vec F S512x512 .f32) (x1 : Vec F S512x512 .f32) (x2 : Vec F S512x512 .f32) (x3 : Vec F S512x512 .f32) (x4 : Vec F S512x512 .f32) (x5 : Vec F S512x512 .f32) (x6 : Vec F S8x4x128x128 .f32) (x7 : Vec F S512x512 .f32)

/-- Case B's pieces for output 8 tile its block. -/
theorem cover0_B_8
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1, y ∈ pc.1.set :=
  View.cover_of_tiledL (s := S512x512) _ S64x128.size (by sl_kernel_rfl) y

/-- What case B leaves in output 8's staging buffer: its pieces read back over junk. -/
def out0_B_8
    (xs0 : Vec F S4x128x128 .f32) : Vec F S512x512 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1)

/-- Case B's pieces for output 9 tile its block. -/
theorem cover0_B_9
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1, y ∈ pc.1.set :=
  View.cover_of_tiledL (s := S512x512) _ S64x128.size (by sl_kernel_rfl) y

/-- What case B leaves in output 9's staging buffer: its pieces read back over junk. -/
def out0_B_9
    (xs0 : Vec F S4x128x128 .f32) : Vec F S512x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1)

/-- Case B's pieces for output 10 tile its block. -/
theorem cover0_B_10
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1, y ∈ pc.1.set :=
  View.cover_of_tiledL (s := S512x512) _ S64x64.size (by sl_kernel_rfl) y

/-- What case B leaves in output 10's staging buffer: its pieces read back over junk. -/
def out0_B_10
    (xs0 : Vec F S4x128x128 .f32) : Vec F S512x512 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1)

/-- Case B's pieces for output 11 tile its block. -/
theorem cover0_B_11
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1, y ∈ pc.1.set :=
  View.cover_of_tiledL (s := S512x512) _ S64x128.size (by sl_kernel_rfl) y

/-- What case B leaves in output 11's staging buffer: its pieces read back over junk. -/
def out0_B_11
    (xs0 : Vec F S4x128x128 .f32) : Vec F S512x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1)

/-- Case B's pieces for output 12 tile its block. -/
theorem cover0_B_12
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1, y ∈ pc.1.set :=
  View.cover_of_tiledL (s := S512x512) _ S64x128.size (by sl_kernel_rfl) y

/-- What case B leaves in output 12's staging buffer: its pieces read back over junk. -/
def out0_B_12
    (xs0 : Vec F S4x128x128 .f32) : Vec F S512x512 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1)

/-- Case B's pieces for output 13 tile its block. -/
theorem cover0_B_13
    (xs0 : Vec F S4x128x128 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1, y ∈ pc.1.set :=
  View.cover_of_tiledL (s := S512x512) _ S64x128.size (by sl_kernel_rfl) y

/-- What case B leaves in output 13's staging buffer: its pieces read back over junk. -/
def out0_B_13
    (xs0 : Vec F S4x128x128 .f32) : Vec F S512x512 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1)

/-- Case B's pieces for scratch `arg15`, which the kernel carries between points, cover it: 1 piece of `S4x128x128` tiling it (Lib/Ring.lean `Piece.tiledL`). -/
theorem scover0_B_0
    (xs0 : Vec F S4x128x128 .f32) (y : S4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1, y ∈ pc.1.set :=
  View.cover_of_tiledL (s := S4x128x128) _ S4x128x128.size (by sl_kernel_rfl) y

/-- What case B leaves in scratch `arg15`: its pieces read back over junk. -/
def sout0_B_0
    (xs0 : Vec F S4x128x128 .f32) : Vec F S4x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1)

/-! ## What the outputs hold after each point -/

end CaseB

end Pieces

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S512x512 .f32 × Vec F S512x512 .f32 × Vec F S512x512 .f32 × Vec F S512x512 .f32 × Vec F S512x512 .f32 × Vec F S512x512 .f32 × Vec F S4x128x128 .f32
  | 0, hn => (out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_11 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_12 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_13 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 4 = 0 then
      (out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_12 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_13 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_12 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_13 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2)

/-- `outsAt0` at a point of case A: that case's contents. -/
theorem outsAt0_A (c : Dev nD) (t : Fin cfg1.N) (h0 : t.val % 4 = 0) :
    outsAt0 V c t.val t.isLt = (out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 4 = 0) :
    outsAt0 V c t.val t.isLt = (out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(owns (c : Thread nD τ) scM0_0 fullShare ((outsAt0 V c n hn).2.2.2.2.2.2) ∗ rest (F := F) c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(owns (c : Thread nD τ) scM0_0 fullShare ((outsAt0 V c n hn).2.2.2.2.2.2) ∗ rest (F := F) c) := rfl

/-- Before a point that is not the first: the carried scratch at what the point before left. -/
theorem PhiS_pos (c : Dev nD) (n : ℕ) (h : n ≤ cfg1.N) (hz : n ≠ 0) :
    PhiS V c n h = iprop(owns (c : Thread nD τ) scM0_0 fullShare ((outsAt0 V c (n - 1) (by omega)).2.2.2.2.2.2) ∗ rest (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
    | ⟨11, _⟩ => (outsAt0 V c t.val t.isLt).2.2.2.1
    | ⟨12, _⟩ => (outsAt0 V c t.val t.isLt).2.2.2.2.1
    | ⟨13, _⟩ => (outsAt0 V c t.val t.isLt).2.2.2.2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = iblk V c 7 t := by dsimp only [dat]
theorem after0_8 (c : Dev nD) (t : Fin cfg1.N) : (dat V c).after 8 t = (outsAt0 V c t.val t.isLt).1 := by dsimp only [dat]
theorem after0_9 (c : Dev nD) (t : Fin cfg1.N) : (dat V c).after 9 t = (outsAt0 V c t.val t.isLt).2.1 := by dsimp only [dat]
theorem after0_10 (c : Dev nD) (t : Fin cfg1.N) : (dat V c).after 10 t = (outsAt0 V c t.val t.isLt).2.2.1 := by dsimp only [dat]
theorem after0_11 (c : Dev nD) (t : Fin cfg1.N) : (dat V c).after 11 t = (outsAt0 V c t.val t.isLt).2.2.2.1 := by dsimp only [dat]
theorem after0_12 (c : Dev nD) (t : Fin cfg1.N) : (dat V c).after 12 t = (outsAt0 V c t.val t.isLt).2.2.2.2.1 := by dsimp only [dat]
theorem after0_13 (c : Dev nD) (t : Fin cfg1.N) : (dat V c).after 13 t = (outsAt0 V c t.val t.isLt).2.2.2.2.2.1 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d
theorem before0_7 (c : Dev nD) (t : Fin cfg1.N) (d) : (dat V c).before 7 t d = iblk V c 7 t :=
  before0_7_of V (dat V c) (A_eq V c 7) (after0_7 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d))
    ∗ (∃ d, owns (c : Thread nD τ) (ms0_11 t) fullShare ((dat V c).before 11 t d))
    ∗ (∃ d, owns (c : Thread nD τ) (ms0_12 t) fullShare ((dat V c).before 12 t d))
    ∗ (∃ d, owns (c : Thread nD τ) (ms0_13 t) fullShare ((dat V c).before 13 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t)
    ∗ owns (c : Thread nD τ) (ms0_9 t) fullShare ((dat V c).after 9 t)
    ∗ owns (c : Thread nD τ) (ms0_10 t) fullShare ((dat V c).after 10 t)
    ∗ owns (c : Thread nD τ) (ms0_11 t) fullShare ((dat V c).after 11 t)
    ∗ owns (c : Thread nD τ) (ms0_12 t) fullShare ((dat V c).after 12 t)
    ∗ owns (c : Thread nD τ) (ms0_13 t) fullShare ((dat V c).after 13 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7]
  rw [show (dat V c).owesAt () t.succ = (dat V c).owesAt () t.castSucc from rfl,
    after0_0, after0_1, after0_2, after0_3, after0_4, after0_5, after0_6, after0_7, after0_8, after0_9, after0_10, after0_11, after0_12, after0_13]
  rw [show (dat V c).Φ t.succ = PhiS V c (t.val + 1) t.isLt from rfl, PhiS_succ]
  have hN : t.val < 4 := lt_of_lt_of_eq t.isLt (show cfg1.N = 4 from N_1)
  by_cases h0 : t.val % 4 = 0
  · by_cases hz : t.val = 0
    · rw [PhiS_castSucc V c t, PhiS_zero V c _ _ hz, PhiA0_eq]
      rw [outsAt0_A V c t h0]
      unfold out0_A_8 out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid1.coords t) _ _ _ _ _ _ _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _)
    · exfalso; have hN : t.val < 4 := lt_of_lt_of_eq t.isLt (show cfg1.N = 4 from N_1); omega
  · by_cases hz : t.val = 0
    · exfalso; have hN : t.val < 4 := lt_of_lt_of_eq t.isLt (show cfg1.N = 4 from N_1); omega
    · rw [PhiS_castSucc V c t, PhiS_pos V c _ _ hz]
      rw [outsAt0_B V c t h0]
      unfold out0_B_8 out0_B_9 out0_B_10 out0_B_11 out0_B_12 out0_B_13 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid1.coords t) _ _ _ _ _ _ _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 4 := N_1; omega)

end Cert.KernelIdeal.Bwd

end
-- ==== Proof.Run.lean ====
/- The run of the two calls: the forward recurrence from the launch contents, the backward recurrence from what it leaves.

   Between the calls a core holds every unscoped buffer whole, at contents named here: `W0` at the launch, `W1` after the
   forward call, `W2` after the backward one (an array of a call's windows holds what its write-backs left, any other buffer
   what it held). `run_main` reads the last of them off the final memory, for any values `F`. -/
module

public import proofs.«01_k».proof.Proof.Fwd.Body
public import proofs.«01_k».proof.Proof.Bwd.Body
public import proofs.«01_k».proof.Proof.Gen.KernelIdeal.Regions
public import Idealize.ShloMosaic.Lib.Pipeline.Regions
public import Idealize.ShloMosaic.Lib.Pipeline.RegionArraysS
public import Idealize.ShloMosaic.Lib.Pipeline.FrameTail

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the calls -/

/-- A core's buffers read by the core's own references. -/
abbrev at_ (W : Dev nD → Valuation τ sig (Elt F)) (c : Dev nD) (b : Ref sig .tc) : Buf (Elt F) ((c : Thread nD τ).loc b) := W c b

/-- At the launch. -/
abbrev W0 (c : Dev nD) : Valuation τ sig (Elt F) := fun b => m (c, b)
/-- After the forward call. -/
def W1 (c : Dev nD) : Valuation τ sig (Elt F) := Pipeline.afterRegion (Fwd.dat (at_ (W0 m)) c) (W0 m c)
/-- After the backward call. -/
def W2 (c : Dev nD) : Valuation τ sig (Elt F) := Pipeline.afterRegion (Bwd.dat (at_ (W1 m)) c) (W1 m c)

/-- A buffer that is no output of the forward call is unchanged by it. -/
theorem W1_keeps (c : Dev nD) (r : Ref sig .tc) (h : ∀ w, Pipeline.arrRef spec0 w = r → (cfg0.win w).isOut = false) :
    W1 m c r = W0 m c r :=
  Pipeline.afterRegion_keeps (Fwd.dat (at_ (W0 m)) c) (W0 m c) launch0.win.arr_inj (Fwd.A_eq (at_ (W0 m)) c) r h

/-- A window's array after the forward call. -/
theorem W1_arr (c : Dev nD) (w : Fin cfg0.W) : W1 m c (Pipeline.arrRef spec0 w) = (Fwd.dat (at_ (W0 m)) c).arrAt w cfg0.N :=
  Pipeline.afterRegion_arr (Fwd.dat (at_ (W0 m)) c) (W0 m c) launch0.win.arr_inj w

/-- A buffer that is no output of the backward call is unchanged by it. -/
theorem W2_keeps (c : Dev nD) (r : Ref sig .tc) (h : ∀ w, Pipeline.arrRef spec1 w = r → (cfg1.win w).isOut = false) :
    W2 m c r = W1 m c r :=
  Pipeline.afterRegion_keeps (Bwd.dat (at_ (W1 m)) c) (W1 m c) launch1.win.arr_inj (Bwd.A_eq (at_ (W1 m)) c) r h

/-- A window's array after the backward call. -/
theorem W2_arr (c : Dev nD) (w : Fin cfg1.W) : W2 m c (Pipeline.arrRef spec1 w) = (Bwd.dat (at_ (W1 m)) c).arrAt w cfg1.N :=
  Pipeline.afterRegion_arr (Bwd.dat (at_ (W1 m)) c) (W1 m c) launch1.win.arr_inj w

theorem W2_arg0 (c : Dev nD) : W2 m c main_arg0 = m ((c : Thread nD τ).loc main_arg0) := (W2_keeps m c main_arg0 (by decide)).trans (W1_keeps m c main_arg0 (by decide))
theorem W2_arg1 (c : Dev nD) : W2 m c main_arg1 = m ((c : Thread nD τ).loc main_arg1) := (W2_keeps m c main_arg1 (by decide)).trans (W1_keeps m c main_arg1 (by decide))
theorem W2_arg2 (c : Dev nD) : W2 m c main_arg2 = m ((c : Thread nD τ).loc main_arg2) := (W2_keeps m c main_arg2 (by decide)).trans (W1_keeps m c main_arg2 (by decide))
theorem W2_arg3 (c : Dev nD) : W2 m c main_arg3 = m ((c : Thread nD τ).loc main_arg3) := (W2_keeps m c main_arg3 (by decide)).trans (W1_keeps m c main_arg3 (by decide))
theorem W2_arg4 (c : Dev nD) : W2 m c main_arg4 = m ((c : Thread nD τ).loc main_arg4) := (W2_keeps m c main_arg4 (by decide)).trans (W1_keeps m c main_arg4 (by decide))
theorem W2_arg5 (c : Dev nD) : W2 m c main_arg5 = m ((c : Thread nD τ).loc main_arg5) := (W2_keeps m c main_arg5 (by decide)).trans (W1_keeps m c main_arg5 (by decide))
theorem W2_arg6 (c : Dev nD) : W2 m c main_arg6 = m ((c : Thread nD τ).loc main_arg6) := (W2_keeps m c main_arg6 (by decide)).trans (W1_keeps m c main_arg6 (by decide))

/-! ## The two regions as segments -/

/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => Fwd.dat (at_ (W0 m)) c
  | ⟨1, _⟩ => fun c => Bwd.dat (at_ (W1 m)) c

abbrev 𝒱₀ : Variants := Variants.none
/-- Every TensorCore semaphore is assigned the one index, at the one level; no core owes another anything. -/
abbrev L : GSem nD τ sig → Finset Unit := fun g => if g.1.2 = .tc then {()} else ∅
abbrev lv : GSem nD τ sig → Unit → ℕ := fun _ _ => 0

/-- What a region takes in beside its arrays: the core's generator register at some state. -/
abbrev X (c : Dev nD) : sProp 𝕄 := iprop(∃ r, prngReg c r)
/-- What rides beside the buffers: the core owing nothing, and its generator register. -/
abbrev E (c : Dev nD) : sProp 𝕄 := iprop((∃ W, owes (c : Thread nD τ) (0 : CellTallies nD τ sig Unit) W) ∗ X (F := F) c ∗ emp)

theorem cut (p : Fin 2) : Pipeline.LevelCut (pcfgs (F := F)) adm () L lv p (fun _ : Dev nD => (0 : CellTallies nD τ sig Unit)) (fun _ => 0) where
  hι _ _ _ := Finset.mem_singleton_self _
  hιb _ _ _ := Nat.le_refl 0
  hD _ _ _ h := absurd h (lt_irrefl _)

/-- The forward call's region. -/
def reg0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) X X (Pipeline.LaunchFacts.toP launch0) rfl
    (fun c => (Fwd.body_obligation (at_ (W0 m)) c).loose) (fun _ _ => rfl) (fun _ => rfl)
    (fun c => (pdats m 0 c).share_full fun _ => rfl) (fun c => Fwd.hin (at_ (W0 m)) c) (fun c => Fwd.hout (at_ (W0 m)) c)
    (fun _ => 0) (cut 0) (fun _ => iprop(emp)) (W0 m) (Fwd.A_eq (at_ (W0 m)))

/-- The backward call's region. -/
def reg1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) X X (Pipeline.LaunchFacts.toP launch1) rfl
    (fun c => (Bwd.body_obligation (at_ (W1 m)) c).loose) (fun _ _ => rfl) (fun _ => rfl)
    (fun c => (pdats m 1 c).share_full fun _ => rfl) (fun c => Bwd.hin (at_ (W1 m)) c) (fun c => Bwd.hout (at_ (W1 m)) c)
    (fun _ => 0) (cut 1) (fun _ => iprop(emp)) (W1 m) (Bwd.A_eq (at_ (W1 m)))

theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

theorem pre0 (c : Dev nD) : iprop(StableHlo.held (c : Thread nD τ) (Pipeline.ucRefs τ sig) (W0 m c) ∗ E (F := F) c) ⊢ (reg0 m).pre c :=
  by unfold reg0; exact RegionSeg.ofHeldIn_pre (pcs := pcfgs (F := F)) (a := adm) (pdats := pdats m) (p := 0) (D := fun _ => 0) (S := Pipeline.ucRefs τ sig) (X := X) (Y := X) (R := fun _ => iprop(emp)) (W := W0 m) arrs0 c
theorem post0 (c : Dev nD) : (reg0 m).post c ⊢ iprop(StableHlo.held (c : Thread nD τ) (Pipeline.ucRefs τ sig) (W1 m c) ∗ E (F := F) c) :=
  by unfold reg0 W1; exact RegionSeg.ofHeldIn_post (pcs := pcfgs (F := F)) (a := adm) (pdats := pdats m) (p := 0) (D := fun _ => 0) (S := Pipeline.ucRefs τ sig) (X := X) (Y := X) (R := fun _ => iprop(emp)) (W := W0 m) arrs0 c
theorem pre1 (c : Dev nD) : iprop(StableHlo.held (c : Thread nD τ) (Pipeline.ucRefs τ sig) (W1 m c) ∗ E (F := F) c) ⊢ (reg1 m).pre c :=
  by unfold reg1; exact RegionSeg.ofHeldIn_pre (pcs := pcfgs (F := F)) (a := adm) (pdats := pdats m) (p := 1) (D := fun _ => 0) (S := Pipeline.ucRefs τ sig) (X := X) (Y := X) (R := fun _ => iprop(emp)) (W := W1 m) arrs1 c
theorem post1 (c : Dev nD) : (reg1 m).post c ⊢ iprop(StableHlo.held (c : Thread nD τ) (Pipeline.ucRefs τ sig) (W2 m c) ∗ E (F := F) c) :=
  by unfold reg1 W2; exact RegionSeg.ofHeldIn_post (pcs := pcfgs (F := F)) (a := adm) (pdats := pdats m) (p := 1) (D := fun _ => 0) (S := Pipeline.ucRefs τ sig) (X := X) (Y := X) (R := fun _ => iprop(emp)) (W := W1 m) arrs1 c

/-! ## The launch -/

/-- The program's segments, in order. -/
abbrev segs : List (Pipeline.Seg (pcfgs (F := F)) adm (pdats m) () defs₀ 𝒱₀ L lv) := [.region (reg0 m), .region (reg1 m)]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion, which unfolds plain definitions in a type
set_option backward.isDefEq.respectTransparency.types false in
/-- From any memory with zero counters every weakly fair execution terminates, every unscoped buffer ending at `W2` and every
    semaphore counter at zero. -/
theorem run_main : θ_run defs (onTc (τ := τ) (main (F := F))) ⟨m, fun _ => 0, ρ⟩ (fun r =>
    (∀ c : Dev nD, ∀ b ∈ Pipeline.ucRefs τ sig, r.2.mem (((c : Thread nD τ)).1, b) = W2 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E (F := F) c))
    (Tₙ := fun c => iprop(StableHlo.held (c : Thread nD τ) (Pipeline.ucRefs τ sig) (W2 m c) ∗ X (F := F) c))
    (hch := ⟨fun c => pre0 m c, fun c => (post0 m c).trans (pre1 m c), fun c => (post1 m c).trans (by
      iintro ⟨Hh, HO, HX, -⟩
      isplitl [Hh HX]
      · isplitl [Hh]; · iexact Hh
        iexact HX
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (regions_no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W2_arg0 m c), (h.1 c _ (mem_uc main_arg1 (by decide))).trans (W2_arg1 m c),
     (h.1 c _ (mem_uc main_arg2 (by decide))).trans (W2_arg2 m c), (h.1 c _ (mem_uc main_arg3 (by decide))).trans (W2_arg3 m c),
     (h.1 c _ (mem_uc main_arg4 (by decide))).trans (W2_arg4 m c), (h.1 c _ (mem_uc main_arg5 (by decide))).trans (W2_arg5 m c),
     (h.1 c _ (mem_uc main_arg6 (by decide))).trans (W2_arg6 m c)⟩, h.2⟩) (run_main m ρ)

end Cert.KernelIdeal.Run

end
-- ==== Proof.Ref.Ops.lean ====
/- The reference's operations as lists: @main's stretches before, between and after its two loops, and each loop's body cut at the
   chunk reads and the chunk writes. Of every list: it touches TensorCore references only, allocates nothing, and writes only the
   references named beside it (`keep_…`: any other reference keeps its contents). -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-- The contents of an array of numbers. -/
abbrev Arr (F : FTy → Type) (s : Shape) := (⟨s, .f32⟩ : BufTy).Contents (Elt F)

variable {F : FTy → Type} [FloatOps F]

/-- @main before the first loop: every array cut into chunks, the zero carries, the carried buffers filled. -/
abbrev preOps : List (HloOp τ sig (Elt F)) :=
  ( StableHlo.reshape main_arg3 main_v0 rfl shapeCasts_S2048x512_S32x64x4x128
  :: StableHlo.unary main_v0 main_v1 ((transpose S32x4x64x128 [0, 2, 1, 3] · transposes_S32x64x4x128_S32x4x64x128_0_2_1_3) : Arr F S32x64x4x128 → Arr F S32x4x64x128)
  :: StableHlo.reshape main_arg4 main_v2 rfl shapeCasts_S2048x512_S32x64x4x128
  :: StableHlo.unary main_v2 main_v3 ((transpose S32x4x64x128 [0, 2, 1, 3] · transposes_S32x64x4x128_S32x4x64x128_0_2_1_3) : Arr F S32x64x4x128 → Arr F S32x4x64x128)
  :: StableHlo.reshape main_arg0 main_v4 rfl shapeCasts_S2048x512_S32x64x4x128
  :: StableHlo.unary main_v4 main_v5 ((transpose S32x4x64x128 [0, 2, 1, 3] · transposes_S32x64x4x128_S32x4x64x128_0_2_1_3) : Arr F S32x64x4x128 → Arr F S32x4x64x128)
  :: StableHlo.reshape main_arg1 main_v6 rfl shapeCasts_S2048x512_S32x64x4x128
  :: StableHlo.unary main_v6 main_v7 ((transpose S32x4x64x128 [0, 2, 1, 3] · transposes_S32x64x4x128_S32x4x64x128_0_2_1_3) : Arr F S32x64x4x128 → Arr F S32x4x64x128)
  :: StableHlo.reshape main_arg2 main_v8 rfl shapeCasts_S2048x512_S32x64x4x128
  :: StableHlo.unary main_v8 main_v9 ((transpose S32x4x64x128 [0, 2, 1, 3] · transposes_S32x64x4x128_S32x4x64x128_0_2_1_3) : Arr F S32x64x4x128 → Arr F S32x4x64x128)
  :: StableHlo.unary main_v9 main_v10 ((extractStridedSlice S32x4x64x64 ![0, 0, 0, 0] · slices_S32x4x64x128_S32x4x64x64_0_0_0_0) : Arr F S32x4x64x128 → Arr F S32x4x64x64)
  :: StableHlo.reshape main_arg5 main_v11 rfl shapeCasts_S2048x512_S32x64x4x128
  :: StableHlo.unary main_v11 main_v12 ((transpose S32x4x64x128 [0, 2, 1, 3] · transposes_S32x64x4x128_S32x4x64x128_0_2_1_3) : Arr F S32x64x4x128 → Arr F S32x4x64x128)
  :: StableHlo.unary main_v12 main_v13 ((extractStridedSlice S32x4x1x128 ![0, 0, 0, 0] · slices_S32x4x64x128_S32x4x1x128_0_0_0_0) : Arr F S32x4x64x128 → Arr F S32x4x1x128)
  :: StableHlo.reshape main_v13 main_v14 rfl shapeCasts_S32x4x1x128_S32x4x128
  :: StableHlo.nullary main_cst (constant S_ .f32 0x00000000#32)
  :: StableHlo.unary main_cst main_v15 (broadcastInDim S4x128x128 ![] bcast_S_S4x128x128 : Arr F S_ → Arr F S4x128x128)
  :: StableHlo.nullary main_cst_0 (constant S_ .f32 0x00000000#32)
  :: StableHlo.unary main_cst_0 main_v16 (broadcastInDim S32x4x64x128 ![] bcast_S_S32x4x64x128 : Arr F S_ → Arr F S32x4x64x128)
  :: StableHlo.nullary main_cst_1 (constant S_ .f32 0x00000000#32)
  :: StableHlo.unary main_cst_1 main_v17 (broadcastInDim S32x4x128x128 ![] bcast_S_S32x4x128x128 : Arr F S_ → Arr F S32x4x128x128)
  :: StableHlo.nullary main_cst_2 (constant S_ .f32 0x00000000#32)
  :: StableHlo.unary main_cst_2 main_v18 (broadcastInDim S32x4x64x128 ![] bcast_S_S32x4x64x128 : Arr F S_ → Arr F S32x4x64x128)
  :: StableHlo.nullary main_cst_3 (constant S_ .f32 0x00000000#32)
  :: StableHlo.unary main_cst_3 main_v19 (broadcastInDim S32x4x1x128 ![] bcast_S_S32x4x1x128 : Arr F S_ → Arr F S32x4x1x128)
  :: StableHlo.nullary main_c (constantI S_ 32 0#32)
  :: StableHlo.unary main_v1 main_v20_0 id
  :: StableHlo.unary main_v3 main_v20_1 id
  :: StableHlo.unary main_v5 main_v20_2 id
  :: StableHlo.unary main_v7 main_v20_3 id
  :: StableHlo.unary main_v10 main_v20_4 id
  :: StableHlo.unary main_v14 main_v20_5 id
  :: StableHlo.unary main_c main_v20_6 id
  :: StableHlo.unary main_v15 main_v20_7 id
  :: StableHlo.unary main_v16 main_v20_8 id
  :: StableHlo.unary main_v17 main_v20_9 id
  :: StableHlo.unary main_v18 main_v20_10 id
  :: StableHlo.unary main_v19 main_v20_11 id
  :: [] )

theorem preOps_sub : (preOps : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem preOps_fresh : (preOps : List (HloOp τ sig (Elt F))).Forall fun op => op.fresh = ∅ :=
  StableHlo.forall_fresh_of_map rfl

/-- What `preOps` writes. -/
abbrev preOps_W : List (Ref sig .tc) := [main_v0, main_v1, main_v2, main_v3, main_v4, main_v5, main_v6, main_v7, main_v8, main_v9, main_v10, main_v11, main_v12, main_v13, main_v14, main_cst, main_v15, main_cst_0, main_v16, main_cst_1, main_v17, main_cst_2, main_v18, main_cst_3, main_v19, main_c, main_v20_0, main_v20_1, main_v20_2, main_v20_3, main_v20_4, main_v20_5, main_v20_6, main_v20_7, main_v20_8, main_v20_9, main_v20_10, main_v20_11]

theorem keep_preOps (V : Valuation τ sig (Elt F)) (r : Ref sig .tc) (h : r ∉ preOps_W) : after preOps V (Proc.devRef .tc r) = V (Proc.devRef .tc r) :=
  after_of_writes_sub preOps V (StableHlo.forall_writes_sub_of_map rfl : (preOps : List (HloOp τ sig (Elt F))).Forall fun op => op.writes ⊆ (preOps_W.map (Proc.devRef (τ := τ) .tc)).toFinset) h

/-- @main between the loops, first part: the cotangent cut into chunks, zeros, the start of the second loop's carries. -/
abbrev midOps0 : List (HloOp τ sig (Elt F)) :=
  [ StableHlo.unary main_v20_8 main_v21 ((transpose S32x64x4x128 [0, 2, 1, 3] · transposes_S32x4x64x128_S32x64x4x128_0_2_1_3) : Arr F S32x4x64x128 → Arr F S32x64x4x128),
    StableHlo.reshape main_v21 main_v22 rfl shapeCasts_S32x64x4x128_S2048x512,
    StableHlo.nullary main_cst_4 (constant S_ .f32 0x00000000#32),
    StableHlo.unary main_cst_4 main_v23 (broadcastInDim S4x128x128 ![] bcast_S_S4x128x128 : Arr F S_ → Arr F S4x128x128),
    StableHlo.reshape main_arg6 main_v24 rfl shapeCasts_S2048x512_S32x64x4x128,
    StableHlo.unary main_v24 main_v25 ((transpose S32x4x64x128 [0, 2, 1, 3] · transposes_S32x64x4x128_S32x4x64x128_0_2_1_3) : Arr F S32x64x4x128 → Arr F S32x4x64x128),
    StableHlo.nullary main_cst_5 (constant S_ .f32 0x00000000#32),
    StableHlo.unary main_cst_5 main_v26 (broadcastInDim S4x128x128 ![] bcast_S_S4x128x128 : Arr F S_ → Arr F S4x128x128),
    StableHlo.nullary main_cst_6 (constant S_ .f32 0x00000000#32),
    StableHlo.unary main_cst_6 main_v27 (broadcastInDim S32x4x64x128 ![] bcast_S_S32x4x64x128 : Arr F S_ → Arr F S32x4x64x128),
    StableHlo.nullary main_cst_7 (constant S_ .f32 0x00000000#32),
    StableHlo.unary main_cst_7 main_v28 (broadcastInDim S32x4x64x128 ![] bcast_S_S32x4x64x128 : Arr F S_ → Arr F S32x4x64x128),
    StableHlo.nullary main_cst_8 (constant S_ .f32 0x00000000#32),
    StableHlo.unary main_cst_8 main_v29 (broadcastInDim S32x4x64x128 ![] bcast_S_S32x4x64x128 : Arr F S_ → Arr F S32x4x64x128),
    StableHlo.nullary main_cst_9 (constant S_ .f32 0x00000000#32),
    StableHlo.unary main_cst_9 main_v30 (broadcastInDim S32x4x64x128 ![] bcast_S_S32x4x64x128 : Arr F S_ → Arr F S32x4x64x128),
    StableHlo.nullary main_cst_10 (constant S_ .f32 0x00000000#32),
    StableHlo.unary main_cst_10 main_v31 (broadcastInDim S32x4x64x64 ![] bcast_S_S32x4x64x64 : Arr F S_ → Arr F S32x4x64x64),
    StableHlo.nullary main_cst_11 (constant S_ .f32 0x00000000#32),
    StableHlo.unary main_cst_11 main_v32 (broadcastInDim S32x4x128 ![] bcast_S_S32x4x128 : Arr F S_ → Arr F S32x4x128),
    StableHlo.nullary main_c_12 (constantI S_ 32 0#32) ]

theorem midOps0_sub : (midOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub ..⟩

theorem midOps0_fresh : (midOps0 : List (HloOp τ sig (Elt F))).Forall fun op => op.fresh = ∅ :=
  StableHlo.forall_fresh_of_map rfl

/-- What `midOps0` writes. -/
abbrev midOps0_W : List (Ref sig .tc) := [main_v21, main_v22, main_cst_4, main_v23, main_v24, main_v25, main_cst_5, main_v26, main_cst_6, main_v27, main_cst_7, main_v28, main_cst_8, main_v29, main_cst_9, main_v30, main_cst_10, main_v31, main_cst_11, main_v32, main_c_12]

theorem keep_midOps0 (V : Valuation τ sig (Elt F)) (r : Ref sig .tc) (h : r ∉ midOps0_W) : after midOps0 V (Proc.devRef .tc r) = V (Proc.devRef .tc r) :=
  after_of_writes_sub midOps0 V (StableHlo.forall_writes_sub_of_map rfl : (midOps0 : List (HloOp τ sig (Elt F))).Forall fun op => op.writes ⊆ (midOps0_W.map (Proc.devRef (τ := τ) .tc)).toFinset) h

/-- @main between the loops, second part: the second loop's carried buffers filled. -/
abbrev midOps1 : List (HloOp τ sig (Elt F)) :=
  [ StableHlo.unary main_v25 main_v33_0 id,
    StableHlo.unary main_v20_9 main_v33_1 id,
    StableHlo.unary main_v7 main_v33_2 id,
    StableHlo.unary main_v1 main_v33_3 id,
    StableHlo.unary main_v20_10 main_v33_4 id,
    StableHlo.unary main_v10 main_v33_5 id,
    StableHlo.unary main_v20_11 main_v33_6 id,
    StableHlo.unary main_v3 main_v33_7 id,
    StableHlo.unary main_c_12 main_v33_8 id,
    StableHlo.unary main_v26 main_v33_9 id,
    StableHlo.unary main_v27 main_v33_10 id,
    StableHlo.unary main_v28 main_v33_11 id,
    StableHlo.unary main_v29 main_v33_12 id,
    StableHlo.unary main_v30 main_v33_13 id,
    StableHlo.unary main_v31 main_v33_14 id,
    StableHlo.unary main_v32 main_v33_15 id ]

theorem midOps1_sub : (midOps1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem midOps1_fresh : (midOps1 : List (HloOp τ sig (Elt F))).Forall fun op => op.fresh = ∅ :=
  StableHlo.forall_fresh_of_map rfl

/-- What `midOps1` writes. -/
abbrev midOps1_W : List (Ref sig .tc) := [main_v33_0, main_v33_1, main_v33_2, main_v33_3, main_v33_4, main_v33_5, main_v33_6, main_v33_7, main_v33_8, main_v33_9, main_v33_10, main_v33_11, main_v33_12, main_v33_13, main_v33_14, main_v33_15]

theorem keep_midOps1 (V : Valuation τ sig (Elt F)) (r : Ref sig .tc) (h : r ∉ midOps1_W) : after midOps1 V (Proc.devRef .tc r) = V (Proc.devRef .tc r) :=
  after_of_writes_sub midOps1 V (StableHlo.forall_writes_sub_of_map rfl : (midOps1 : List (HloOp τ sig (Elt F))).Forall fun op => op.writes ⊆ (midOps1_W.map (Proc.devRef (τ := τ) .tc)).toFinset) h

/-- @main after the second loop: the results laid out as the arguments are. -/
abbrev postOps : List (HloOp τ sig (Elt F)) :=
  [ StableHlo.unary main_v33_15 main_v34 (broadcastInDim S32x4x1x128 ![0, 1, 3] bcast_S32x4x128_S32x4x1x128_0_1_3 : Arr F S32x4x128 → Arr F S32x4x1x128),
    StableHlo.nullary main_cst_13 (constant S_ .f32 0x00000000#32),
    StableHlo.binary main_v34 main_cst_13 main_v35 ((fun x v => pad S32x4x64x128 ![0, 0, 0, 0] ![0, 0, 63, 0] ![0, 0, 0, 0] x v pads_S32x4x1x128_S32x4x64x128_000_000_0630_000 h_S_) : Arr F S32x4x1x128 → Arr F S_ → Arr F S32x4x64x128),
    StableHlo.unary main_v35 main_v36 ((transpose S32x64x4x128 [0, 2, 1, 3] · transposes_S32x4x64x128_S32x64x4x128_0_2_1_3) : Arr F S32x4x64x128 → Arr F S32x64x4x128),
    StableHlo.reshape main_v36 main_v37 rfl shapeCasts_S32x64x4x128_S2048x512,
    StableHlo.nullary main_cst_14 (constant S_ .f32 0x00000000#32),
    StableHlo.binary main_v33_14 main_cst_14 main_v38 ((fun x v => pad S32x4x64x128 ![0, 0, 0, 0] ![0, 0, 0, 64] ![0, 0, 0, 0] x v pads_S32x4x64x64_S32x4x64x128_000_000_000_0640 h_S_) : Arr F S32x4x64x64 → Arr F S_ → Arr F S32x4x64x128),
    StableHlo.unary main_v38 main_v39 ((transpose S32x64x4x128 [0, 2, 1, 3] · transposes_S32x4x64x128_S32x64x4x128_0_2_1_3) : Arr F S32x4x64x128 → Arr F S32x64x4x128),
    StableHlo.reshape main_v39 main_v40 rfl shapeCasts_S32x64x4x128_S2048x512,
    StableHlo.unary main_v33_13 main_v41 ((transpose S32x64x4x128 [0, 2, 1, 3] · transposes_S32x4x64x128_S32x64x4x128_0_2_1_3) : Arr F S32x4x64x128 → Arr F S32x64x4x128),
    StableHlo.reshape main_v41 main_v42 rfl shapeCasts_S32x64x4x128_S2048x512,
    StableHlo.unary main_v33_12 main_v43 ((transpose S32x64x4x128 [0, 2, 1, 3] · transposes_S32x4x64x128_S32x64x4x128_0_2_1_3) : Arr F S32x4x64x128 → Arr F S32x64x4x128),
    StableHlo.reshape main_v43 main_v44 rfl shapeCasts_S32x64x4x128_S2048x512,
    StableHlo.unary main_v33_11 main_v45 ((transpose S32x64x4x128 [0, 2, 1, 3] · transposes_S32x4x64x128_S32x64x4x128_0_2_1_3) : Arr F S32x4x64x128 → Arr F S32x64x4x128),
    StableHlo.reshape main_v45 main_v46 rfl shapeCasts_S32x64x4x128_S2048x512,
    StableHlo.unary main_v33_10 main_v47 ((transpose S32x64x4x128 [0, 2, 1, 3] · transposes_S32x4x64x128_S32x64x4x128_0_2_1_3) : Arr F S32x4x64x128 → Arr F S32x64x4x128),
    StableHlo.reshape main_v47 main_v48 rfl shapeCasts_S32x64x4x128_S2048x512 ]

theorem postOps_sub : (postOps : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.reshape_bufs_sub .., StableHlo.nullary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

theorem postOps_fresh : (postOps : List (HloOp τ sig (Elt F))).Forall fun op => op.fresh = ∅ :=
  StableHlo.forall_fresh_of_map rfl

/-- What `postOps` writes. -/
abbrev postOps_W : List (Ref sig .tc) := [main_v34, main_cst_13, main_v35, main_v36, main_v37, main_cst_14, main_v38, main_v39, main_v40, main_v41, main_v42, main_v43, main_v44, main_v45, main_v46, main_v47, main_v48]

theorem keep_postOps (V : Valuation τ sig (Elt F)) (r : Ref sig .tc) (h : r ∉ postOps_W) : after postOps V (Proc.devRef .tc r) = V (Proc.devRef .tc r) :=
  after_of_writes_sub postOps V (StableHlo.forall_writes_sub_of_map rfl : (postOps : List (HloOp τ sig (Elt F))).Forall fun op => op.writes ⊆ (postOps_W.map (Proc.devRef (τ := τ) .tc)).toFinset) h

/-- The forward loop's body, piece 0. -/
abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v20_0 : StableHlo.TRef sig ⟨S32x4x64x128, .f32⟩) ![(.of main_v20_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call0_v0 : StableHlo.TRef sig ⟨S1x4x64x128, .f32⟩) (.of main_while0b_v49 : StableHlo.TRef sig ⟨S4x64x128, .f32⟩) rfl shapeCasts_S1x4x64x128_S4x64x128 ]

theorem fwd0_sub : (fwd0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwd0_fresh : (fwd0 : List (HloOp τ sig (Elt F))).Forall fun op => op.fresh = ∅ :=
  StableHlo.forall_fresh_of_map rfl

/-- What `fwd0` writes. -/
abbrev fwd0_W : List (Ref sig .tc) := [main_while0b_call0_c, main_while0b_call0_c_0, main_while0b_call0_c_1, main_while0b_call0_v0, main_while0b_v49]

theorem keep_fwd0 (V : Valuation τ sig (Elt F)) (r : Ref sig .tc) (h : r ∉ fwd0_W) : after fwd0 V (Proc.devRef .tc r) = V (Proc.devRef .tc r) :=
  after_of_writes_sub fwd0 V (StableHlo.forall_writes_sub_of_map rfl : (fwd0 : List (HloOp τ sig (Elt F))).Forall fun op => op.writes ⊆ (fwd0_W.map (Proc.devRef (τ := τ) .tc)).toFinset) h

/-- The forward loop's body, piece 1. -/
abbrev fwd1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v20_1 : StableHlo.TRef sig ⟨S32x4x64x128, .f32⟩) ![(.of main_v20_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call1_v0 : StableHlo.TRef sig ⟨S1x4x64x128, .f32⟩) (.of main_while0b_v50 : StableHlo.TRef sig ⟨S4x64x128, .f32⟩) rfl shapeCasts_S1x4x64x128_S4x64x128 ]

theorem fwd1_sub : (fwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwd1_fresh : (fwd1 : List (HloOp τ sig (Elt F))).Forall fun op => op.fresh = ∅ :=
  StableHlo.forall_fresh_of_map rfl

/-- What `fwd1` writes. -/
abbrev fwd1_W : List (Ref sig .tc) := [main_while0b_call1_c, main_while0b_call1_c_0, main_while0b_call1_c_1, main_while0b_call1_v0, main_while0b_v50]

theorem keep_fwd1 (V : Valuation τ sig (Elt F)) (r : Ref sig .tc) (h : r ∉ fwd1_W) : after fwd1 V (Proc.devRef .tc r) = V (Proc.devRef .tc r) :=
  after_of_writes_sub fwd1 V (StableHlo.forall_writes_sub_of_map rfl : (fwd1 : List (HloOp τ sig (Elt F))).Forall fun op => op.writes ⊆ (fwd1_W.map (Proc.devRef (τ := τ) .tc)).toFinset) h

/-- The forward loop's body, piece 2. -/
abbrev fwd2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v20_2 : StableHlo.TRef sig ⟨S32x4x64x128, .f32⟩) ![(.of main_v20_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call2_v0 : StableHlo.TRef sig ⟨S1x4x64x128, .f32⟩) (.of main_while0b_v51 : StableHlo.TRef sig ⟨S4x64x128, .f32⟩) rfl shapeCasts_S1x4x64x128_S4x64x128 ]

theorem fwd2_sub : (fwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwd2_fresh : (fwd2 : List (HloOp τ sig (Elt F))).Forall fun op => op.fresh = ∅ :=
  StableHlo.forall_fresh_of_map rfl

/-- What `fwd2` writes. -/
abbrev fwd2_W : List (Ref sig .tc) := [main_while0b_call2_c, main_while0b_call2_c_0, main_while0b_call2_c_1, main_while0b_call2_v0, main_while0b_v51]

theorem keep_fwd2 (V : Valuation τ sig (Elt F)) (r : Ref sig .tc) (h : r ∉ fwd2_W) : after fwd2 V (Proc.devRef .tc r) = V (Proc.devRef .tc r) :=
  after_of_writes_sub fwd2 V (StableHlo.forall_writes_sub_of_map rfl : (fwd2 : List (HloOp τ sig (Elt F))).Forall fun op => op.writes ⊆ (fwd2_W.map (Proc.devRef (τ := τ) .tc)).toFinset) h

/-- The forward loop's body, piece 3. -/
abbrev fwd3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v20_3 : StableHlo.TRef sig ⟨S32x4x64x128, .f32⟩) ![(.of main_v20_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while0b_call3_v0 : StableHlo.TRef sig ⟨S1x4x64x128, .f32⟩) (.of main_while0b_v52 : StableHlo.TRef sig ⟨S4x64x128, .f32⟩) rfl shapeCasts_S1x4x64x128_S4x64x128 ]

theorem fwd3_sub : (fwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwd3_fresh : (fwd3 : List (HloOp τ sig (Elt F))).Forall fun op => op.fresh = ∅ :=
  StableHlo.forall_fresh_of_map rfl

/-- What `fwd3` writes. -/
abbrev fwd3_W : List (Ref sig .tc) := [main_while0b_call3_c, main_while0b_call3_c_0, main_while0b_call3_c_1, main_while0b_call3_v0, main_while0b_v52]

theorem keep_fwd3 (V : Valuation τ sig (Elt F)) (r : Ref sig .tc) (h : r ∉ fwd3_W) : after fwd3 V (Proc.devRef .tc r) = V (Proc.devRef .tc r) :=
  after_of_writes_sub fwd3 V (StableHlo.forall_writes_sub_of_map rfl : (fwd3 : List (HloOp τ sig (Elt F))).Forall fun op => op.writes ⊆ (fwd3_W.map (Proc.devRef (τ := τ) .tc)).toFinset) h

/-- The forward loop's body, piece 4. -/
abbrev fwd4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v20_4 : StableHlo.TRef sig ⟨S32x4x64x64, .f32⟩) ![(.of main_v20_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x4x64x64, .f32⟩) (fun x i => Host.dynamicSlice S1x4x64x64 x (fun k => (i k (Shape.Idx.first h_S_)).toInt) sliceFits_S32x4x64x64_S1x4x64x64),
    StableHlo.TRef.reshape (.of main_while0b_call4_v0 : StableHlo.TRef sig ⟨S1x4x64x64, .f32⟩) (.of main_while0b_v53 : StableHlo.TRef sig ⟨S4x64x64, .f32⟩) rfl shapeCasts_S1x4x64x64_S4x64x64 ]

theorem fwd4_sub : (fwd4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem fwd4_fresh : (fwd4 : List (HloOp τ sig (Elt F))).Forall fun op => op.fresh = ∅ :=
  StableHlo.forall_fresh_of_map rfl

/-- What `fwd4` writes. -/
abbrev fwd4_W : List (Ref sig .tc) := [main_while0b_call4_c, main_while0b_call4_c_0, main_while0b_call4_c_1, main_while0b_call4_v0, main_while0b_v53]

theorem keep_fwd4 (V : Valuation τ sig (Elt F)) (r : Ref sig .tc) (h : r ∉ fwd4_W) : after fwd4 V (Proc.devRef .tc r) = V (Proc.devRef .tc r) :=
  after_of_writes_sub fwd4 V (StableHlo.forall_writes_sub_of_map rfl : (fwd4 : List (HloOp τ sig (Elt F))).Forall fun op => op.writes ⊆ (fwd4_W.map (Proc.devRef (τ := τ) .tc)).toFinset) h

/-- The forward loop's body, piece 5. -/
abbrev fwd5 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.unaryIndexed (.of main_v20_5 : StableHlo.TRef sig ⟨S32x4x128, .f32⟩) ![(.of main_v20_6 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x4x128, .f32⟩) (fun x i => Host.dynamicSlice S1x4x128 x (fun k => (i k (Shape.Idx.first h_S_)).toInt) sliceFits_S32x4x128_S1x4x128),
    StableHlo.TRef.reshape (.of main_while0b_call5_v0 : StableHlo.TRef sig ⟨S1x4x128, .f32⟩) (.of main_while0b_v54 : StableHlo.TRef sig ⟨S4x128, .f32⟩) rfl shapeCasts_S1x4x128_S4x128 ]

theorem fwd5_sub : (fwd5 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem fwd5_fresh : (fwd5 : List (HloOp τ sig (Elt F))).Forall fun op => op.fresh = ∅ :=
  StableHlo.forall_fresh_of_map rfl

/-- What `fwd5` writes. -/
abbrev fwd5_W : List (Ref sig .tc) := [main_while0b_call5_c, main_while0b_call5_c_0, main_while0b_call5_v0, main_while0b_v54]

theorem keep_fwd5 (V : Valuation τ sig (Elt F)) (r : Ref sig .tc) (h : r ∉ fwd5_W) : after fwd5 V (Proc.devRef .tc r) = V (Proc.devRef .tc r) :=
  after_of_writes_sub fwd5 V (StableHlo.forall_writes_sub_of_map rfl : (fwd5 : List (HloOp τ sig (Elt F))).Forall fun op => op.writes ⊆ (fwd5_W.map (Proc.devRef (τ := τ) .tc)).toFinset) h

/-- The forward loop's body, piece 6. -/
abbrev fwd6 : List (HloOp τ sig (Elt F)) :=
  [ StableHlo.binary main_while0b_v52 main_v20_7 main_while0b_v55 ((fun l r => Host.dotGeneral dot_S4x64x128_S4x128x128_S4x64x128_2_1_1_2_0_0 none l r) : Arr F S4x64x128 → Arr F S4x128x128 → Arr F S4x64x128),
    StableHlo.binary main_while0b_v51 main_while0b_v55 main_while0b_v56 (subf : Arr F S4x64x128 → Arr F S4x64x128 → Arr F S4x64x128),
    StableHlo.binary main_while0b_v49 main_v20_7 main_while0b_v57 ((fun l r => Host.dotGeneral dot_S4x64x128_S4x128x128_S4x64x128_2_1_1_2_0_0 none l r) : Arr F S4x64x128 → Arr F S4x128x128 → Arr F S4x64x128),
    StableHlo.binary main_while0b_v53 main_while0b_v56 main_while0b_v58 ((fun l r => Host.dotGeneral dot_S4x64x64_S4x64x128_S4x64x128_2_1_1_2_0_0 none l r) : Arr F S4x64x64 → Arr F S4x64x128 → Arr F S4x64x128),
    StableHlo.binary main_while0b_v57 main_while0b_v58 main_while0b_v59 (addf : Arr F S4x64x128 → Arr F S4x64x128 → Arr F S4x64x128),
    StableHlo.unary main_while0b_v54 main_while0b_v60 (broadcastInDim S4x1x128 ![0, 2] bcast_S4x128_S4x1x128_0_2 : Arr F S4x128 → Arr F S4x1x128),
    StableHlo.unary main_while0b_v60 main_while0b_v61 (broadcastInDim S4x128x128 ![0, 1, 2] bcast_S4x1x128_S4x128x128_0_1_2 : Arr F S4x1x128 → Arr F S4x128x128),
    StableHlo.binary main_v20_7 main_while0b_v61 main_while0b_v62 (mulf : Arr F S4x128x128 → Arr F S4x128x128 → Arr F S4x128x128),
    StableHlo.binary main_while0b_v50 main_while0b_v56 main_while0b_v63 ((fun l r => Host.dotGeneral dot_S4x64x128_S4x64x128_S4x128x128_1_1_2_2_0_0 none l r) : Arr F S4x64x128 → Arr F S4x64x128 → Arr F S4x128x128),
    StableHlo.binary main_while0b_v62 main_while0b_v63 main_while0b_v64 (addf : Arr F S4x128x128 → Arr F S4x128x128 → Arr F S4x128x128) ]

theorem fwd6_sub : (fwd6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

theorem fwd6_fresh : (fwd6 : List (HloOp τ sig (Elt F))).Forall fun op => op.fresh = ∅ :=
  StableHlo.forall_fresh_of_map rfl

/-- What `fwd6` writes. -/
abbrev fwd6_W : List (Ref sig .tc) := [main_while0b_v55, main_while0b_v56, main_while0b_v57, main_while0b_v58, main_while0b_v59, main_while0b_v60, main_while0b_v61, main_while0b_v62, main_while0b_v63, main_while0b_v64]

theorem keep_fwd6 (V : Valuation τ sig (Elt F)) (r : Ref sig .tc) (h : r ∉ fwd6_W) : after fwd6 V (Proc.devRef .tc r) = V (Proc.devRef .tc r) :=
  after_of_writes_sub fwd6 V (StableHlo.forall_writes_sub_of_map rfl : (fwd6 : List (HloOp τ sig (Elt F))).Forall fun op => op.writes ⊆ (fwd6_W.map (Proc.devRef (τ := τ) .tc)).toFinset) h

/-- The forward loop's body, piece 7. -/
abbrev fwd7 : List (HloOp τ sig (Elt F)) :=
  [ StableHlo.TRef.unary (.of main_while0b_v59 : StableHlo.TRef sig ⟨S4x64x128, .f32⟩) (.of main_while0b_call6_v0 : StableHlo.TRef sig ⟨S1x4x64x128, .f32⟩) (broadcastInDim S1x4x64x128 ![1, 2, 3] bcast_S4x64x128_S1x4x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v20_8 : StableHlo.TRef sig ⟨S32x4x64x128, .f32⟩) (.of main_while0b_call6_v0 : StableHlo.TRef sig ⟨S1x4x64x128, .f32⟩) ![(.of main_v20_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v65 : StableHlo.TRef sig ⟨S32x4x64x128, .f32⟩) (fun x u i => Host.dynamicUpdateSlice x u (fun k => (i k (Shape.Idx.first h_S_)).toInt) updateFits_S32x4x64x128_S1x4x64x128) ]

theorem fwd7_sub : (fwd7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwd7_fresh : (fwd7 : List (HloOp τ sig (Elt F))).Forall fun op => op.fresh = ∅ :=
  StableHlo.forall_fresh_of_map rfl

/-- What `fwd7` writes. -/
abbrev fwd7_W : List (Ref sig .tc) := [main_while0b_call6_v0, main_while0b_call6_c, main_while0b_call6_c_0, main_while0b_call6_c_1, main_while0b_v65]

theorem keep_fwd7 (V : Valuation τ sig (Elt F)) (r : Ref sig .tc) (h : r ∉ fwd7_W) : after fwd7 V (Proc.devRef .tc r) = V (Proc.devRef .tc r) :=
  after_of_writes_sub fwd7 V (StableHlo.forall_writes_sub_of_map rfl : (fwd7 : List (HloOp τ sig (Elt F))).Forall fun op => op.writes ⊆ (fwd7_W.map (Proc.devRef (τ := τ) .tc)).toFinset) h

/-- The forward loop's body, piece 8. -/
abbrev fwd8 : List (HloOp τ sig (Elt F)) :=
  [ StableHlo.TRef.unary (.of main_v20_7 : StableHlo.TRef sig ⟨S4x128x128, .f32⟩) (.of main_while0b_call7_v0 : StableHlo.TRef sig ⟨S1x4x128x128, .f32⟩) (broadcastInDim S1x4x128x128 ![1, 2, 3] bcast_S4x128x128_S1x4x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v20_9 : StableHlo.TRef sig ⟨S32x4x128x128, .f32⟩) (.of main_while0b_call7_v0 : StableHlo.TRef sig ⟨S1x4x128x128, .f32⟩) ![(.of main_v20_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v66 : StableHlo.TRef sig ⟨S32x4x128x128, .f32⟩) (fun x u i => Host.dynamicUpdateSlice x u (fun k => (i k (Shape.Idx.first h_S_)).toInt) updateFits_S32x4x128x128_S1x4x128x128) ]

theorem fwd8_sub : (fwd8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwd8_fresh : (fwd8 : List (HloOp τ sig (Elt F))).Forall fun op => op.fresh = ∅ :=
  StableHlo.forall_fresh_of_map rfl

/-- What `fwd8` writes. -/
abbrev fwd8_W : List (Ref sig .tc) := [main_while0b_call7_v0, main_while0b_call7_c, main_while0b_call7_c_0, main_while0b_call7_c_1, main_while0b_v66]

theorem keep_fwd8 (V : Valuation τ sig (Elt F)) (r : Ref sig .tc) (h : r ∉ fwd8_W) : after fwd8 V (Proc.devRef .tc r) = V (Proc.devRef .tc r) :=
  after_of_writes_sub fwd8 V (StableHlo.forall_writes_sub_of_map rfl : (fwd8 : List (HloOp τ sig (Elt F))).Forall fun op => op.writes ⊆ (fwd8_W.map (Proc.devRef (τ := τ) .tc)).toFinset) h

/-- The forward loop's body, piece 9. -/
abbrev fwd9 : List (HloOp τ sig (Elt F)) :=
  [ StableHlo.TRef.unary (.of main_while0b_v56 : StableHlo.TRef sig ⟨S4x64x128, .f32⟩) (.of main_while0b_call8_v0 : StableHlo.TRef sig ⟨S1x4x64x128, .f32⟩) (broadcastInDim S1x4x64x128 ![1, 2, 3] bcast_S4x64x128_S1x4x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v20_10 : StableHlo.TRef sig ⟨S32x4x64x128, .f32⟩) (.of main_while0b_call8_v0 : StableHlo.TRef sig ⟨S1x4x64x128, .f32⟩) ![(.of main_v20_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v67 : StableHlo.TRef sig ⟨S32x4x64x128, .f32⟩) (fun x u i => Host.dynamicUpdateSlice x u (fun k => (i k (Shape.Idx.first h_S_)).toInt) updateFits_S32x4x64x128_S1x4x64x128) ]

theorem fwd9_sub : (fwd9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwd9_fresh : (fwd9 : List (HloOp τ sig (Elt F))).Forall fun op => op.fresh = ∅ :=
  StableHlo.forall_fresh_of_map rfl

/-- What `fwd9` writes. -/
abbrev fwd9_W : List (Ref sig .tc) := [main_while0b_call8_v0, main_while0b_call8_c, main_while0b_call8_c_0, main_while0b_call8_c_1, main_while0b_v67]

theorem keep_fwd9 (V : Valuation τ sig (Elt F)) (r : Ref sig .tc) (h : r ∉ fwd9_W) : after fwd9 V (Proc.devRef .tc r) = V (Proc.devRef .tc r) :=
  after_of_writes_sub fwd9 V (StableHlo.forall_writes_sub_of_map rfl : (fwd9 : List (HloOp τ sig (Elt F))).Forall fun op => op.writes ⊆ (fwd9_W.map (Proc.devRef (τ := τ) .tc)).toFinset) h

/-- The forward loop's body, piece 10. -/
abbrev fwd10 : List (HloOp τ sig (Elt F)) :=
  [ StableHlo.TRef.unary (.of main_while0b_v60 : StableHlo.TRef sig ⟨S4x1x128, .f32⟩) (.of main_while0b_call9_v0 : StableHlo.TRef sig ⟨S1x4x1x128, .f32⟩) (broadcastInDim S1x4x1x128 ![1, 2, 3] bcast_S4x1x128_S1x4x1x128_1_2_3),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.binaryIndexed (.of main_v20_11 : StableHlo.TRef sig ⟨S32x4x1x128, .f32⟩) (.of main_while0b_call9_v0 : StableHlo.TRef sig ⟨S1x4x1x128, .f32⟩) ![(.of main_v20_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v68 : StableHlo.TRef sig ⟨S32x4x1x128, .f32⟩) (fun x u i => Host.dynamicUpdateSlice x u (fun k => (i k (Shape.Idx.first h_S_)).toInt) updateFits_S32x4x1x128_S1x4x1x128) ]

theorem fwd10_sub : (fwd10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem fwd10_fresh : (fwd10 : List (HloOp τ sig (Elt F))).Forall fun op => op.fresh = ∅ :=
  StableHlo.forall_fresh_of_map rfl

/-- What `fwd10` writes. -/
abbrev fwd10_W : List (Ref sig .tc) := [main_while0b_call9_v0, main_while0b_call9_c, main_while0b_call9_c_0, main_while0b_call9_c_1, main_while0b_v68]

theorem keep_fwd10 (V : Valuation τ sig (Elt F)) (r : Ref sig .tc) (h : r ∉ fwd10_W) : after fwd10 V (Proc.devRef .tc r) = V (Proc.devRef .tc r) :=
  after_of_writes_sub fwd10 V (StableHlo.forall_writes_sub_of_map rfl : (fwd10 : List (HloOp τ sig (Elt F))).Forall fun op => op.writes ⊆ (fwd10_W.map (Proc.devRef (τ := τ) .tc)).toFinset) h

/-- The forward loop's body, piece 11. -/
abbrev fwd11 : List (HloOp τ sig (Elt F)) :=
  [ StableHlo.nullary main_while0b_c_26 (constantI S_ 32 1#32),
    StableHlo.binary main_v20_6 main_while0b_c_26 main_while0b_v69 (addi : (⟨S_, .i32⟩ : BufTy).Contents (Elt F) → (⟨S_, .i32⟩ : BufTy).Contents (Elt F) → (⟨S_, .i32⟩ : BufTy).Contents (Elt F)),
    StableHlo.unary main_while0b_v69 main_v20_6 id,
    StableHlo.unary main_while0b_v64 main_v20_7 id,
    StableHlo.unary main_while0b_v65 main_v20_8 id,
    StableHlo.unary main_while0b_v66 main_v20_9 id,
    StableHlo.unary main_while0b_v67 main_v20_10 id,
    StableHlo.unary main_while0b_v68 main_v20_11 id ]

theorem fwd11_sub : (fwd11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

theorem fwd11_fresh : (fwd11 : List (HloOp τ sig (Elt F))).Forall fun op => op.fresh = ∅ :=
  StableHlo.forall_fresh_of_map rfl

/-- What `fwd11` writes. -/
abbrev fwd11_W : List (Ref sig .tc) := [main_while0b_c_26, main_while0b_v69, main_v20_6, main_v20_7, main_v20_8, main_v20_9, main_v20_10, main_v20_11]

theorem keep_fwd11 (V : Valuation τ sig (Elt F)) (r : Ref sig .tc) (h : r ∉ fwd11_W) : after fwd11 V (Proc.devRef .tc r) = V (Proc.devRef .tc r) :=
  after_of_writes_sub fwd11 V (StableHlo.forall_writes_sub_of_map rfl : (fwd11 : List (HloOp τ sig (Elt F))).Forall fun op => op.writes ⊆ (fwd11_W.map (Proc.devRef (τ := τ) .tc)).toFinset) h

/-- The backward loop's body, piece 0. -/
abbrev bwd0 : List (HloOp τ sig (Elt F)) :=
  [ StableHlo.nullary main_while1b_c_30 (constantI S_ 32 32#32),
    StableHlo.binary main_while1b_c_30 main_v33_8 main_while1b_v49 (subi : (⟨S_, .i32⟩ : BufTy).Contents (Elt F) → (⟨S_, .i32⟩ : BufTy).Contents (Elt F) → (⟨S_, .i32⟩ : BufTy).Contents (Elt F)),
    StableHlo.nullary main_while1b_c_31 (constantI S_ 32 1#32),
    StableHlo.binary main_while1b_v49 main_while1b_c_31 main_while1b_v50 (subi : (⟨S_, .i32⟩ : BufTy).Contents (Elt F) → (⟨S_, .i32⟩ : BufTy).Contents (Elt F) → (⟨S_, .i32⟩ : BufTy).Contents (Elt F)) ]

theorem bwd0_sub : (bwd0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem bwd0_fresh : (bwd0 : List (HloOp τ sig (Elt F))).Forall fun op => op.fresh = ∅ :=
  StableHlo.forall_fresh_of_map rfl

/-- What `bwd0` writes. -/
abbrev bwd0_W : List (Ref sig .tc) := [main_while1b_c_30, main_while1b_v49, main_while1b_c_31, main_while1b_v50]

theorem keep_bwd0 (V : Valuation τ sig (Elt F)) (r : Ref sig .tc) (h : r ∉ bwd0_W) : after bwd0 V (Proc.devRef .tc r) = V (Proc.devRef .tc r) :=
  after_of_writes_sub bwd0 V (StableHlo.forall_writes_sub_of_map rfl : (bwd0 : List (HloOp τ sig (Elt F))).Forall fun op => op.writes ⊆ (bwd0_W.map (Proc.devRef (τ := τ) .tc)).toFinset) h

/-- The backward loop's body, piece 1. -/
abbrev bwd1 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v33_0 : StableHlo.TRef sig ⟨S32x4x64x128, .f32⟩) ![(.of main_while1b_v50 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call10_v0 : StableHlo.TRef sig ⟨S1x4x64x128, .f32⟩) (.of main_while1b_v51 : StableHlo.TRef sig ⟨S4x64x128, .f32⟩) rfl shapeCasts_S1x4x64x128_S4x64x128 ]

theorem bwd1_sub : (bwd1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd1_fresh : (bwd1 : List (HloOp τ sig (Elt F))).Forall fun op => op.fresh = ∅ :=
  StableHlo.forall_fresh_of_map rfl

/-- What `bwd1` writes. -/
abbrev bwd1_W : List (Ref sig .tc) := [main_while1b_call10_c, main_while1b_call10_c_0, main_while1b_call10_c_1, main_while1b_call10_v0, main_while1b_v51]

theorem keep_bwd1 (V : Valuation τ sig (Elt F)) (r : Ref sig .tc) (h : r ∉ bwd1_W) : after bwd1 V (Proc.devRef .tc r) = V (Proc.devRef .tc r) :=
  after_of_writes_sub bwd1 V (StableHlo.forall_writes_sub_of_map rfl : (bwd1 : List (HloOp τ sig (Elt F))).Forall fun op => op.writes ⊆ (bwd1_W.map (Proc.devRef (τ := τ) .tc)).toFinset) h

/-- The backward loop's body, piece 2. -/
abbrev bwd2 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v33_1 : StableHlo.TRef sig ⟨S32x4x128x128, .f32⟩) ![(.of main_while1b_v50 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x4x128x128, .f32⟩) (fun x i => Host.dynamicSlice S1x4x128x128 x (fun k => (i k (Shape.Idx.first h_S_)).toInt) sliceFits_S32x4x128x128_S1x4x128x128),
    StableHlo.TRef.reshape (.of main_while1b_call11_v0 : StableHlo.TRef sig ⟨S1x4x128x128, .f32⟩) (.of main_while1b_v52 : StableHlo.TRef sig ⟨S4x128x128, .f32⟩) rfl shapeCasts_S1x4x128x128_S4x128x128 ]

theorem bwd2_sub : (bwd2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd2_fresh : (bwd2 : List (HloOp τ sig (Elt F))).Forall fun op => op.fresh = ∅ :=
  StableHlo.forall_fresh_of_map rfl

/-- What `bwd2` writes. -/
abbrev bwd2_W : List (Ref sig .tc) := [main_while1b_call11_c, main_while1b_call11_c_0, main_while1b_call11_c_1, main_while1b_call11_v0, main_while1b_v52]

theorem keep_bwd2 (V : Valuation τ sig (Elt F)) (r : Ref sig .tc) (h : r ∉ bwd2_W) : after bwd2 V (Proc.devRef .tc r) = V (Proc.devRef .tc r) :=
  after_of_writes_sub bwd2 V (StableHlo.forall_writes_sub_of_map rfl : (bwd2 : List (HloOp τ sig (Elt F))).Forall fun op => op.writes ⊆ (bwd2_W.map (Proc.devRef (τ := τ) .tc)).toFinset) h

/-- The backward loop's body, piece 3. -/
abbrev bwd3 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v33_2 : StableHlo.TRef sig ⟨S32x4x64x128, .f32⟩) ![(.of main_while1b_v50 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call12_v0 : StableHlo.TRef sig ⟨S1x4x64x128, .f32⟩) (.of main_while1b_v53 : StableHlo.TRef sig ⟨S4x64x128, .f32⟩) rfl shapeCasts_S1x4x64x128_S4x64x128 ]

theorem bwd3_sub : (bwd3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd3_fresh : (bwd3 : List (HloOp τ sig (Elt F))).Forall fun op => op.fresh = ∅ :=
  StableHlo.forall_fresh_of_map rfl

/-- What `bwd3` writes. -/
abbrev bwd3_W : List (Ref sig .tc) := [main_while1b_call12_c, main_while1b_call12_c_0, main_while1b_call12_c_1, main_while1b_call12_v0, main_while1b_v53]

theorem keep_bwd3 (V : Valuation τ sig (Elt F)) (r : Ref sig .tc) (h : r ∉ bwd3_W) : after bwd3 V (Proc.devRef .tc r) = V (Proc.devRef .tc r) :=
  after_of_writes_sub bwd3 V (StableHlo.forall_writes_sub_of_map rfl : (bwd3 : List (HloOp τ sig (Elt F))).Forall fun op => op.writes ⊆ (bwd3_W.map (Proc.devRef (τ := τ) .tc)).toFinset) h

/-- The backward loop's body, piece 4. -/
abbrev bwd4 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v33_3 : StableHlo.TRef sig ⟨S32x4x64x128, .f32⟩) ![(.of main_while1b_v50 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call13_v0 : StableHlo.TRef sig ⟨S1x4x64x128, .f32⟩) (.of main_while1b_v54 : StableHlo.TRef sig ⟨S4x64x128, .f32⟩) rfl shapeCasts_S1x4x64x128_S4x64x128 ]

theorem bwd4_sub : (bwd4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd4_fresh : (bwd4 : List (HloOp τ sig (Elt F))).Forall fun op => op.fresh = ∅ :=
  StableHlo.forall_fresh_of_map rfl

/-- What `bwd4` writes. -/
abbrev bwd4_W : List (Ref sig .tc) := [main_while1b_call13_c, main_while1b_call13_c_0, main_while1b_call13_c_1, main_while1b_call13_v0, main_while1b_v54]

theorem keep_bwd4 (V : Valuation τ sig (Elt F)) (r : Ref sig .tc) (h : r ∉ bwd4_W) : after bwd4 V (Proc.devRef .tc r) = V (Proc.devRef .tc r) :=
  after_of_writes_sub bwd4 V (StableHlo.forall_writes_sub_of_map rfl : (bwd4 : List (HloOp τ sig (Elt F))).Forall fun op => op.writes ⊆ (bwd4_W.map (Proc.devRef (τ := τ) .tc)).toFinset) h

/-- The backward loop's body, piece 5. -/
abbrev bwd5 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v33_4 : StableHlo.TRef sig ⟨S32x4x64x128, .f32⟩) ![(.of main_while1b_v50 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call14_v0 : StableHlo.TRef sig ⟨S1x4x64x128, .f32⟩) (.of main_while1b_v55 : StableHlo.TRef sig ⟨S4x64x128, .f32⟩) rfl shapeCasts_S1x4x64x128_S4x64x128 ]

theorem bwd5_sub : (bwd5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd5_fresh : (bwd5 : List (HloOp τ sig (Elt F))).Forall fun op => op.fresh = ∅ :=
  StableHlo.forall_fresh_of_map rfl

/-- What `bwd5` writes. -/
abbrev bwd5_W : List (Ref sig .tc) := [main_while1b_call14_c, main_while1b_call14_c_0, main_while1b_call14_c_1, main_while1b_call14_v0, main_while1b_v55]

theorem keep_bwd5 (V : Valuation τ sig (Elt F)) (r : Ref sig .tc) (h : r ∉ bwd5_W) : after bwd5 V (Proc.devRef .tc r) = V (Proc.devRef .tc r) :=
  after_of_writes_sub bwd5 V (StableHlo.forall_writes_sub_of_map rfl : (bwd5 : List (HloOp τ sig (Elt F))).Forall fun op => op.writes ⊆ (bwd5_W.map (Proc.devRef (τ := τ) .tc)).toFinset) h

/-- The backward loop's body, piece 6. -/
abbrev bwd6 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v33_5 : StableHlo.TRef sig ⟨S32x4x64x64, .f32⟩) ![(.of main_while1b_v50 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x4x64x64, .f32⟩) (fun x i => Host.dynamicSlice S1x4x64x64 x (fun k => (i k (Shape.Idx.first h_S_)).toInt) sliceFits_S32x4x64x64_S1x4x64x64),
    StableHlo.TRef.reshape (.of main_while1b_call15_v0 : StableHlo.TRef sig ⟨S1x4x64x64, .f32⟩) (.of main_while1b_v56 : StableHlo.TRef sig ⟨S4x64x64, .f32⟩) rfl shapeCasts_S1x4x64x64_S4x64x64 ]

theorem bwd6_sub : (bwd6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd6_fresh : (bwd6 : List (HloOp τ sig (Elt F))).Forall fun op => op.fresh = ∅ :=
  StableHlo.forall_fresh_of_map rfl

/-- What `bwd6` writes. -/
abbrev bwd6_W : List (Ref sig .tc) := [main_while1b_call15_c, main_while1b_call15_c_0, main_while1b_call15_c_1, main_while1b_call15_v0, main_while1b_v56]

theorem keep_bwd6 (V : Valuation τ sig (Elt F)) (r : Ref sig .tc) (h : r ∉ bwd6_W) : after bwd6 V (Proc.devRef .tc r) = V (Proc.devRef .tc r) :=
  after_of_writes_sub bwd6 V (StableHlo.forall_writes_sub_of_map rfl : (bwd6 : List (HloOp τ sig (Elt F))).Forall fun op => op.writes ⊆ (bwd6_W.map (Proc.devRef (τ := τ) .tc)).toFinset) h

/-- The backward loop's body, piece 7. -/
abbrev bwd7 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v33_6 : StableHlo.TRef sig ⟨S32x4x1x128, .f32⟩) ![(.of main_while1b_v50 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x4x1x128, .f32⟩) (fun x i => Host.dynamicSlice S1x4x1x128 x (fun k => (i k (Shape.Idx.first h_S_)).toInt) sliceFits_S32x4x1x128_S1x4x1x128),
    StableHlo.TRef.reshape (.of main_while1b_call16_v0 : StableHlo.TRef sig ⟨S1x4x1x128, .f32⟩) (.of main_while1b_v57 : StableHlo.TRef sig ⟨S4x1x128, .f32⟩) rfl shapeCasts_S1x4x1x128_S4x1x128 ]

theorem bwd7_sub : (bwd7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd7_fresh : (bwd7 : List (HloOp τ sig (Elt F))).Forall fun op => op.fresh = ∅ :=
  StableHlo.forall_fresh_of_map rfl

/-- What `bwd7` writes. -/
abbrev bwd7_W : List (Ref sig .tc) := [main_while1b_call16_c, main_while1b_call16_c_0, main_while1b_call16_c_1, main_while1b_call16_v0, main_while1b_v57]

theorem keep_bwd7 (V : Valuation τ sig (Elt F)) (r : Ref sig .tc) (h : r ∉ bwd7_W) : after bwd7 V (Proc.devRef .tc r) = V (Proc.devRef .tc r) :=
  after_of_writes_sub bwd7 V (StableHlo.forall_writes_sub_of_map rfl : (bwd7 : List (HloOp τ sig (Elt F))).Forall fun op => op.writes ⊆ (bwd7_W.map (Proc.devRef (τ := τ) .tc)).toFinset) h

/-- The backward loop's body, piece 8. -/
abbrev bwd8 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.unaryIndexed (.of main_v33_7 : StableHlo.TRef sig ⟨S32x4x64x128, .f32⟩) ![(.of main_while1b_v50 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x4x64x128, .f32⟩) (fun x i => Host.dynamicSlice S1x4x64x128 x (fun k => (i k (Shape.Idx.first h_S_)).toInt) sliceFits_S32x4x64x128_S1x4x64x128),
    StableHlo.TRef.reshape (.of main_while1b_call17_v0 : StableHlo.TRef sig ⟨S1x4x64x128, .f32⟩) (.of main_while1b_v58 : StableHlo.TRef sig ⟨S4x64x128, .f32⟩) rfl shapeCasts_S1x4x64x128_S4x64x128 ]

theorem bwd8_sub : (bwd8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bwd8_fresh : (bwd8 : List (HloOp τ sig (Elt F))).Forall fun op => op.fresh = ∅ :=
  StableHlo.forall_fresh_of_map rfl

/-- What `bwd8` writes. -/
abbrev bwd8_W : List (Ref sig .tc) := [main_while1b_call17_c, main_while1b_call17_c_0, main_while1b_call17_c_1, main_while1b_call17_v0, main_while1b_v58]

theorem keep_bwd8 (V : Valuation τ sig (Elt F)) (r : Ref sig .tc) (h : r ∉ bwd8_W) : after bwd8 V (Proc.devRef .tc r) = V (Proc.devRef .tc r) :=
  after_of_writes_sub bwd8 V (StableHlo.forall_writes_sub_of_map rfl : (bwd8 : List (HloOp τ sig (Elt F))).Forall fun op => op.writes ⊆ (bwd8_W.map (Proc.devRef (τ := τ) .tc)).toFinset) h

/-- The backward loop's body, piece 9. -/
abbrev bwd9 : List (HloOp τ sig (Elt F)) :=
  [ StableHlo.binary main_v33_9 main_while1b_v58 main_while1b_v59 ((fun l r => Host.dotGeneral dot_S4x128x128_S4x64x128_S4x128x64_1_2_2_1_0_0 none l r) : Arr F S4x128x128 → Arr F S4x64x128 → Arr F S4x128x64),
    StableHlo.unary main_while1b_v59 main_while1b_v60 ((transpose S4x64x128 [0, 2, 1] · transposes_S4x128x64_S4x64x128_0_2_1) : Arr F S4x128x64 → Arr F S4x64x128),
    StableHlo.binary main_v33_9 main_while1b_v55 main_while1b_v61 ((fun l r => Host.dotGeneral dot_S4x128x128_S4x64x128_S4x128x64_2_2_1_1_0_0 none l r) : Arr F S4x128x128 → Arr F S4x64x128 → Arr F S4x128x64),
    StableHlo.unary main_while1b_v61 main_while1b_v62 ((transpose S4x64x128 [0, 2, 1] · transposes_S4x128x64_S4x64x128_0_2_1) : Arr F S4x128x64 → Arr F S4x64x128),
    StableHlo.binary main_while1b_v52 main_v33_9 main_while1b_v63 (mulf : Arr F S4x128x128 → Arr F S4x128x128 → Arr F S4x128x128),
    StableHlo.nullary main_while1b_cst_32 (constant S_ .f32 0x00000000#32),
    StableHlo.binary main_while1b_v63 main_while1b_cst_32 main_while1b_v64 ((fun x v => Host.reduceAdd x v reducesTo_S4x128x128_S4x128_d1 h_S_) : Arr F S4x128x128 → Arr F S_ → Arr F S4x128),
    StableHlo.reshape main_while1b_v64 main_while1b_v65 rfl shapeCasts_S4x128_S4x1x128,
    StableHlo.unary main_while1b_v57 main_while1b_v66 (broadcastInDim S4x128x128 ![0, 1, 2] bcast_S4x1x128_S4x128x128_0_1_2 : Arr F S4x1x128 → Arr F S4x128x128),
    StableHlo.binary main_v33_9 main_while1b_v66 main_while1b_v67 (mulf : Arr F S4x128x128 → Arr F S4x128x128 → Arr F S4x128x128),
    StableHlo.nullary main_while1b_cst_33 (constant S_ .f32 0x00000000#32),
    StableHlo.binary main_while1b_v65 main_while1b_cst_33 main_while1b_v68 ((fun x v => Host.reduceAdd x v reducesTo_S4x1x128_S4x128_d1 h_S_) : Arr F S4x1x128 → Arr F S_ → Arr F S4x128),
    StableHlo.binary main_while1b_v51 main_while1b_v56 main_while1b_v69 ((fun l r => Host.dotGeneral dot_S4x64x128_S4x64x64_S4x128x64_1_1_2_2_0_0 none l r) : Arr F S4x64x128 → Arr F S4x64x64 → Arr F S4x128x64),
    StableHlo.unary main_while1b_v69 main_while1b_v70 ((transpose S4x64x128 [0, 2, 1] · transposes_S4x128x64_S4x64x128_0_2_1) : Arr F S4x128x64 → Arr F S4x64x128),
    StableHlo.binary main_while1b_v60 main_while1b_v70 main_while1b_v71 (addf : Arr F S4x64x128 → Arr F S4x64x128 → Arr F S4x64x128),
    StableHlo.binary main_while1b_v51 main_while1b_v55 main_while1b_v72 ((fun l r => Host.dotGeneral dot_S4x64x128_S4x64x128_S4x64x64_2_2_1_1_0_0 none l r) : Arr F S4x64x128 → Arr F S4x64x128 → Arr F S4x64x64),
    StableHlo.binary main_while1b_v51 main_while1b_v54 main_while1b_v73 ((fun l r => Host.dotGeneral dot_S4x64x128_S4x64x128_S4x128x128_1_1_2_2_0_0 none l r) : Arr F S4x64x128 → Arr F S4x64x128 → Arr F S4x128x128),
    StableHlo.unary main_while1b_v73 main_while1b_v74 ((transpose S4x128x128 [0, 2, 1] · transposes_S4x128x128_S4x128x128_0_2_1) : Arr F S4x128x128 → Arr F S4x128x128),
    StableHlo.binary main_while1b_v67 main_while1b_v74 main_while1b_v75 (addf : Arr F S4x128x128 → Arr F S4x128x128 → Arr F S4x128x128),
    StableHlo.binary main_while1b_v51 main_while1b_v52 main_while1b_v76 ((fun l r => Host.dotGeneral dot_S4x64x128_S4x128x128_S4x64x128_2_2_1_1_0_0 none l r) : Arr F S4x64x128 → Arr F S4x128x128 → Arr F S4x64x128),
    StableHlo.unary main_while1b_v71 main_while1b_v77 (Host.negf : Arr F S4x64x128 → Arr F S4x64x128),
    StableHlo.binary main_while1b_v77 main_while1b_v53 main_while1b_v78 ((fun l r => Host.dotGeneral dot_S4x64x128_S4x64x128_S4x128x128_1_1_2_2_0_0 none l r) : Arr F S4x64x128 → Arr F S4x64x128 → Arr F S4x128x128),
    StableHlo.unary main_while1b_v78 main_while1b_v79 ((transpose S4x128x128 [0, 2, 1] · transposes_S4x128x128_S4x128x128_0_2_1) : Arr F S4x128x128 → Arr F S4x128x128),
    StableHlo.binary main_while1b_v75 main_while1b_v79 main_while1b_v80 (addf : Arr F S4x128x128 → Arr F S4x128x128 → Arr F S4x128x128),
    StableHlo.binary main_while1b_v77 main_while1b_v52 main_while1b_v81 ((fun l r => Host.dotGeneral dot_S4x64x128_S4x128x128_S4x64x128_2_2_1_1_0_0 none l r) : Arr F S4x64x128 → Arr F S4x128x128 → Arr F S4x64x128) ]

theorem bwd9_sub : (bwd9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩

theorem bwd9_fresh : (bwd9 : List (HloOp τ sig (Elt F))).Forall fun op => op.fresh = ∅ :=
  StableHlo.forall_fresh_of_map rfl

/-- What `bwd9` writes. -/
abbrev bwd9_W : List (Ref sig .tc) := [main_while1b_v59, main_while1b_v60, main_while1b_v61, main_while1b_v62, main_while1b_v63, main_while1b_cst_32, main_while1b_v64, main_while1b_v65, main_while1b_v66, main_while1b_v67, main_while1b_cst_33, main_while1b_v68, main_while1b_v69, main_while1b_v70, main_while1b_v71, main_while1b_v72, main_while1b_v73, main_while1b_v74, main_while1b_v75, main_while1b_v76, main_while1b_v77, main_while1b_v78, main_while1b_v79, main_while1b_v80, main_while1b_v81]

theorem keep_bwd9 (V : Valuation τ sig (Elt F)) (r : Ref sig .tc) (h : r ∉ bwd9_W) : after bwd9 V (Proc.devRef .tc r) = V (Proc.devRef .tc r) :=
  after_of_writes_sub bwd9 V (StableHlo.forall_writes_sub_of_map rfl : (bwd9 : List (HloOp τ sig (Elt F))).Forall fun op => op.writes ⊆ (bwd9_W.map (Proc.devRef (τ := τ) .tc)).toFinset) h

/-- The backward loop's body, piece 10. -/
abbrev bwd10 : List (HloOp τ sig (Elt F)) :=
  [ StableHlo.TRef.unary (.of main_while1b_v76 : StableHlo.TRef sig ⟨S4x64x128, .f32⟩) (.of main_while1b_call18_v0 : StableHlo.TRef sig ⟨S1x4x64x128, .f32⟩) (broadcastInDim S1x4x64x128 ![1, 2, 3] bcast_S4x64x128_S1x4x64x128_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v33_10 : StableHlo.TRef sig ⟨S32x4x64x128, .f32⟩) (.of main_while1b_call18_v0 : StableHlo.TRef sig ⟨S1x4x64x128, .f32⟩) ![(.of main_while1b_v50 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v82 : StableHlo.TRef sig ⟨S32x4x64x128, .f32⟩) (fun x u i => Host.dynamicUpdateSlice x u (fun k => (i k (Shape.Idx.first h_S_)).toInt) updateFits_S32x4x64x128_S1x4x64x128) ]

theorem bwd10_sub : (bwd10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwd10_fresh : (bwd10 : List (HloOp τ sig (Elt F))).Forall fun op => op.fresh = ∅ :=
  StableHlo.forall_fresh_of_map rfl

/-- What `bwd10` writes. -/
abbrev bwd10_W : List (Ref sig .tc) := [main_while1b_call18_v0, main_while1b_call18_c, main_while1b_call18_c_0, main_while1b_call18_c_1, main_while1b_v82]

theorem keep_bwd10 (V : Valuation τ sig (Elt F)) (r : Ref sig .tc) (h : r ∉ bwd10_W) : after bwd10 V (Proc.devRef .tc r) = V (Proc.devRef .tc r) :=
  after_of_writes_sub bwd10 V (StableHlo.forall_writes_sub_of_map rfl : (bwd10 : List (HloOp τ sig (Elt F))).Forall fun op => op.writes ⊆ (bwd10_W.map (Proc.devRef (τ := τ) .tc)).toFinset) h

/-- The backward loop's body, piece 11. -/
abbrev bwd11 : List (HloOp τ sig (Elt F)) :=
  [ StableHlo.TRef.unary (.of main_while1b_v62 : StableHlo.TRef sig ⟨S4x64x128, .f32⟩) (.of main_while1b_call19_v0 : StableHlo.TRef sig ⟨S1x4x64x128, .f32⟩) (broadcastInDim S1x4x64x128 ![1, 2, 3] bcast_S4x64x128_S1x4x64x128_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v33_11 : StableHlo.TRef sig ⟨S32x4x64x128, .f32⟩) (.of main_while1b_call19_v0 : StableHlo.TRef sig ⟨S1x4x64x128, .f32⟩) ![(.of main_while1b_v50 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v83 : StableHlo.TRef sig ⟨S32x4x64x128, .f32⟩) (fun x u i => Host.dynamicUpdateSlice x u (fun k => (i k (Shape.Idx.first h_S_)).toInt) updateFits_S32x4x64x128_S1x4x64x128) ]

theorem bwd11_sub : (bwd11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwd11_fresh : (bwd11 : List (HloOp τ sig (Elt F))).Forall fun op => op.fresh = ∅ :=
  StableHlo.forall_fresh_of_map rfl

/-- What `bwd11` writes. -/
abbrev bwd11_W : List (Ref sig .tc) := [main_while1b_call19_v0, main_while1b_call19_c, main_while1b_call19_c_0, main_while1b_call19_c_1, main_while1b_v83]

theorem keep_bwd11 (V : Valuation τ sig (Elt F)) (r : Ref sig .tc) (h : r ∉ bwd11_W) : after bwd11 V (Proc.devRef .tc r) = V (Proc.devRef .tc r) :=
  after_of_writes_sub bwd11 V (StableHlo.forall_writes_sub_of_map rfl : (bwd11 : List (HloOp τ sig (Elt F))).Forall fun op => op.writes ⊆ (bwd11_W.map (Proc.devRef (τ := τ) .tc)).toFinset) h

/-- The backward loop's body, piece 12. -/
abbrev bwd12 : List (HloOp τ sig (Elt F)) :=
  [ StableHlo.TRef.unary (.of main_while1b_v71 : StableHlo.TRef sig ⟨S4x64x128, .f32⟩) (.of main_while1b_call20_v0 : StableHlo.TRef sig ⟨S1x4x64x128, .f32⟩) (broadcastInDim S1x4x64x128 ![1, 2, 3] bcast_S4x64x128_S1x4x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v33_12 : StableHlo.TRef sig ⟨S32x4x64x128, .f32⟩) (.of main_while1b_call20_v0 : StableHlo.TRef sig ⟨S1x4x64x128, .f32⟩) ![(.of main_while1b_v50 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v84 : StableHlo.TRef sig ⟨S32x4x64x128, .f32⟩) (fun x u i => Host.dynamicUpdateSlice x u (fun k => (i k (Shape.Idx.first h_S_)).toInt) updateFits_S32x4x64x128_S1x4x64x128) ]

theorem bwd12_sub : (bwd12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwd12_fresh : (bwd12 : List (HloOp τ sig (Elt F))).Forall fun op => op.fresh = ∅ :=
  StableHlo.forall_fresh_of_map rfl

/-- What `bwd12` writes. -/
abbrev bwd12_W : List (Ref sig .tc) := [main_while1b_call20_v0, main_while1b_call20_c, main_while1b_call20_c_0, main_while1b_call20_c_1, main_while1b_v84]

theorem keep_bwd12 (V : Valuation τ sig (Elt F)) (r : Ref sig .tc) (h : r ∉ bwd12_W) : after bwd12 V (Proc.devRef .tc r) = V (Proc.devRef .tc r) :=
  after_of_writes_sub bwd12 V (StableHlo.forall_writes_sub_of_map rfl : (bwd12 : List (HloOp τ sig (Elt F))).Forall fun op => op.writes ⊆ (bwd12_W.map (Proc.devRef (τ := τ) .tc)).toFinset) h

/-- The backward loop's body, piece 13. -/
abbrev bwd13 : List (HloOp τ sig (Elt F)) :=
  [ StableHlo.TRef.unary (.of main_while1b_v81 : StableHlo.TRef sig ⟨S4x64x128, .f32⟩) (.of main_while1b_call21_v0 : StableHlo.TRef sig ⟨S1x4x64x128, .f32⟩) (broadcastInDim S1x4x64x128 ![1, 2, 3] bcast_S4x64x128_S1x4x64x128_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v33_13 : StableHlo.TRef sig ⟨S32x4x64x128, .f32⟩) (.of main_while1b_call21_v0 : StableHlo.TRef sig ⟨S1x4x64x128, .f32⟩) ![(.of main_while1b_v50 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v85 : StableHlo.TRef sig ⟨S32x4x64x128, .f32⟩) (fun x u i => Host.dynamicUpdateSlice x u (fun k => (i k (Shape.Idx.first h_S_)).toInt) updateFits_S32x4x64x128_S1x4x64x128) ]

theorem bwd13_sub : (bwd13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwd13_fresh : (bwd13 : List (HloOp τ sig (Elt F))).Forall fun op => op.fresh = ∅ :=
  StableHlo.forall_fresh_of_map rfl

/-- What `bwd13` writes. -/
abbrev bwd13_W : List (Ref sig .tc) := [main_while1b_call21_v0, main_while1b_call21_c, main_while1b_call21_c_0, main_while1b_call21_c_1, main_while1b_v85]

theorem keep_bwd13 (V : Valuation τ sig (Elt F)) (r : Ref sig .tc) (h : r ∉ bwd13_W) : after bwd13 V (Proc.devRef .tc r) = V (Proc.devRef .tc r) :=
  after_of_writes_sub bwd13 V (StableHlo.forall_writes_sub_of_map rfl : (bwd13 : List (HloOp τ sig (Elt F))).Forall fun op => op.writes ⊆ (bwd13_W.map (Proc.devRef (τ := τ) .tc)).toFinset) h

/-- The backward loop's body, piece 14. -/
abbrev bwd14 : List (HloOp τ sig (Elt F)) :=
  [ StableHlo.TRef.unary (.of main_while1b_v72 : StableHlo.TRef sig ⟨S4x64x64, .f32⟩) (.of main_while1b_call22_v0 : StableHlo.TRef sig ⟨S1x4x64x64, .f32⟩) (broadcastInDim S1x4x64x64 ![1, 2, 3] bcast_S4x64x64_S1x4x64x64_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v33_14 : StableHlo.TRef sig ⟨S32x4x64x64, .f32⟩) (.of main_while1b_call22_v0 : StableHlo.TRef sig ⟨S1x4x64x64, .f32⟩) ![(.of main_while1b_v50 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v86 : StableHlo.TRef sig ⟨S32x4x64x64, .f32⟩) (fun x u i => Host.dynamicUpdateSlice x u (fun k => (i k (Shape.Idx.first h_S_)).toInt) updateFits_S32x4x64x64_S1x4x64x64) ]

theorem bwd14_sub : (bwd14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bwd14_fresh : (bwd14 : List (HloOp τ sig (Elt F))).Forall fun op => op.fresh = ∅ :=
  StableHlo.forall_fresh_of_map rfl

/-- What `bwd14` writes. -/
abbrev bwd14_W : List (Ref sig .tc) := [main_while1b_call22_v0, main_while1b_call22_c, main_while1b_call22_c_0, main_while1b_call22_c_1, main_while1b_v86]

theorem keep_bwd14 (V : Valuation τ sig (Elt F)) (r : Ref sig .tc) (h : r ∉ bwd14_W) : after bwd14 V (Proc.devRef .tc r) = V (Proc.devRef .tc r) :=
  after_of_writes_sub bwd14 V (StableHlo.forall_writes_sub_of_map rfl : (bwd14 : List (HloOp τ sig (Elt F))).Forall fun op => op.writes ⊆ (bwd14_W.map (Proc.devRef (τ := τ) .tc)).toFinset) h

/-- The backward loop's body, piece 15. -/
abbrev bwd15 : List (HloOp τ sig (Elt F)) :=
  [ StableHlo.TRef.unary (.of main_while1b_v68 : StableHlo.TRef sig ⟨S4x128, .f32⟩) (.of main_while1b_call23_v0 : StableHlo.TRef sig ⟨S1x4x128, .f32⟩) (broadcastInDim S1x4x128 ![1, 2] bcast_S4x128_S1x4x128_1_2),
    StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.binaryIndexed (.of main_v33_15 : StableHlo.TRef sig ⟨S32x4x128, .f32⟩) (.of main_while1b_call23_v0 : StableHlo.TRef sig ⟨S1x4x128, .f32⟩) ![(.of main_while1b_v50 : StableHlo.TRef sig ⟨S_, .i32⟩), (.of main_while1b_call23_c : StableHlo.TRef sig ⟨S_, .i32⟩), (.of main_while1b_call23_c_0 : StableHlo.TRef sig ⟨S_, .i32⟩)] (.of main_while1b_v87 : StableHlo.TRef sig ⟨S32x4x128, .f32⟩) (fun x u i => Host.dynamicUpdateSlice x u (fun k => (i k (Shape.Idx.first h_S_)).toInt) updateFits_S32x4x128_S1x4x128) ]

theorem bwd15_sub : (bwd15 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem bwd15_fresh : (bwd15 : List (HloOp τ sig (Elt F))).Forall fun op => op.fresh = ∅ :=
  StableHlo.forall_fresh_of_map rfl

/-- What `bwd15` writes. -/
abbrev bwd15_W : List (Ref sig .tc) := [main_while1b_call23_v0, main_while1b_call23_c, main_while1b_call23_c_0, main_while1b_v87]

theorem keep_bwd15 (V : Valuation τ sig (Elt F)) (r : Ref sig .tc) (h : r ∉ bwd15_W) : after bwd15 V (Proc.devRef .tc r) = V (Proc.devRef .tc r) :=
  after_of_writes_sub bwd15 V (StableHlo.forall_writes_sub_of_map rfl : (bwd15 : List (HloOp τ sig (Elt F))).Forall fun op => op.writes ⊆ (bwd15_W.map (Proc.devRef (τ := τ) .tc)).toFinset) h

/-- The backward loop's body, piece 16. -/
abbrev bwd16 : List (HloOp τ sig (Elt F)) :=
  [ StableHlo.nullary main_while1b_c_34 (constantI S_ 32 1#32),
    StableHlo.binary main_v33_8 main_while1b_c_34 main_while1b_v88 (addi : (⟨S_, .i32⟩ : BufTy).Contents (Elt F) → (⟨S_, .i32⟩ : BufTy).Contents (Elt F) → (⟨S_, .i32⟩ : BufTy).Contents (Elt F)),
    StableHlo.unary main_while1b_v88 main_v33_8 id,
    StableHlo.unary main_while1b_v80 main_v33_9 id,
    StableHlo.unary main_while1b_v82 main_v33_10 id,
    StableHlo.unary main_while1b_v83 main_v33_11 id,
    StableHlo.unary main_while1b_v84 main_v33_12 id,
    StableHlo.unary main_while1b_v85 main_v33_13 id,
    StableHlo.unary main_while1b_v86 main_v33_14 id,
    StableHlo.unary main_while1b_v87 main_v33_15 id ]

theorem bwd16_sub : (bwd16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem bwd16_fresh : (bwd16 : List (HloOp τ sig (Elt F))).Forall fun op => op.fresh = ∅ :=
  StableHlo.forall_fresh_of_map rfl

/-- What `bwd16` writes. -/
abbrev bwd16_W : List (Ref sig .tc) := [main_while1b_c_34, main_while1b_v88, main_v33_8, main_v33_9, main_v33_10, main_v33_11, main_v33_12, main_v33_13, main_v33_14, main_v33_15]

theorem keep_bwd16 (V : Valuation τ sig (Elt F)) (r : Ref sig .tc) (h : r ∉ bwd16_W) : after bwd16 V (Proc.devRef .tc r) = V (Proc.devRef .tc r) :=
  after_of_writes_sub bwd16 V (StableHlo.forall_writes_sub_of_map rfl : (bwd16 : List (HloOp τ sig (Elt F))).Forall fun op => op.writes ⊆ (bwd16_W.map (Proc.devRef (τ := τ) .tc)).toFinset) h

theorem main_part0_chain (c : Dev nD) : main_part0 (F := F) c = (Pipeline.chainK
  [ StableHlo.seq preOps,
    HostLoop.enter 0 ]
  (StableHlo.seq midOps0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part1_chain (c : Dev nD) : main_part1 (F := F) c = (Pipeline.chain
  [ StableHlo.seq midOps1,
    HostLoop.enter 1,
    StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq preOps,
    HostLoop.enter 0,
    StableHlo.seq midOps0,
    StableHlo.seq midOps1,
    HostLoop.enter 1,
    StableHlo.seq postOps ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

theorem while0_body_chain : main_while0_body (F := F) = (Pipeline.chain
  [ StableHlo.seq fwd0,
    StableHlo.seq fwd1,
    StableHlo.seq fwd2,
    StableHlo.seq fwd3,
    StableHlo.seq fwd4,
    StableHlo.seq fwd5,
    StableHlo.seq fwd6,
    StableHlo.seq fwd7,
    StableHlo.seq fwd8,
    StableHlo.seq fwd9,
    StableHlo.seq fwd10,
    StableHlo.seq fwd11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem while1_body_chain : main_while1_body (F := F) = (Pipeline.chain
  [ StableHlo.seq bwd0,
    StableHlo.seq bwd1,
    StableHlo.seq bwd2,
    StableHlo.seq bwd3,
    StableHlo.seq bwd4,
    StableHlo.seq bwd5,
    StableHlo.seq bwd6,
    StableHlo.seq bwd7,
    StableHlo.seq bwd8,
    StableHlo.seq bwd9,
    StableHlo.seq bwd10,
    StableHlo.seq bwd11,
    StableHlo.seq bwd12,
    StableHlo.seq bwd13,
    StableHlo.seq bwd14,
    StableHlo.seq bwd15,
    StableHlo.seq bwd16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

/-- The stretches before, between and after the loops, and the two bodies. -/
abbrev preI : List (List (HloOp τ sig (Elt F))) := [preOps]
abbrev midI : List (List (HloOp τ sig (Elt F))) := [midOps0, midOps1]
abbrev postI : List (List (HloOp τ sig (Elt F))) := [postOps]
abbrev fwdI : List (List (HloOp τ sig (Elt F))) := [fwd0, fwd1, fwd2, fwd3, fwd4, fwd5, fwd6, fwd7, fwd8, fwd9, fwd10, fwd11]
abbrev bwdI : List (List (HloOp τ sig (Elt F))) := [bwd0, bwd1, bwd2, bwd3, bwd4, bwd5, bwd6, bwd7, bwd8, bwd9, bwd10, bwd11, bwd12, bwd13, bwd14, bwd15, bwd16]

theorem preI_plain : Plain (preI (F := F)) := .cons preOps_sub (hf := List.forall_iff_forall_mem.mp preOps_fresh) (.nil)

theorem midI_plain : Plain (midI (F := F)) := .cons midOps0_sub (hf := List.forall_iff_forall_mem.mp midOps0_fresh) (.cons midOps1_sub (hf := List.forall_iff_forall_mem.mp midOps1_fresh) (.nil))

theorem postI_plain : Plain (postI (F := F)) := .cons postOps_sub (hf := List.forall_iff_forall_mem.mp postOps_fresh) (.nil)

theorem fwdI_plain : Plain (fwdI (F := F)) := .cons fwd0_sub (hf := List.forall_iff_forall_mem.mp fwd0_fresh) (.cons fwd1_sub (hf := List.forall_iff_forall_mem.mp fwd1_fresh) (.cons fwd2_sub (hf := List.forall_iff_forall_mem.mp fwd2_fresh) (.cons fwd3_sub (hf := List.forall_iff_forall_mem.mp fwd3_fresh) (.cons fwd4_sub (hf := List.forall_iff_forall_mem.mp fwd4_fresh) (.cons fwd5_sub (hf := List.forall_iff_forall_mem.mp fwd5_fresh) (.cons fwd6_sub (hf := List.forall_iff_forall_mem.mp fwd6_fresh) (.cons fwd7_sub (hf := List.forall_iff_forall_mem.mp fwd7_fresh) (.cons fwd8_sub (hf := List.forall_iff_forall_mem.mp fwd8_fresh) (.cons fwd9_sub (hf := List.forall_iff_forall_mem.mp fwd9_fresh) (.cons fwd10_sub (hf := List.forall_iff_forall_mem.mp fwd10_fresh) (.cons fwd11_sub (hf := List.forall_iff_forall_mem.mp fwd11_fresh) (.nil))))))))))))

theorem bwdI_plain : Plain (bwdI (F := F)) := .cons bwd0_sub (hf := List.forall_iff_forall_mem.mp bwd0_fresh) (.cons bwd1_sub (hf := List.forall_iff_forall_mem.mp bwd1_fresh) (.cons bwd2_sub (hf := List.forall_iff_forall_mem.mp bwd2_fresh) (.cons bwd3_sub (hf := List.forall_iff_forall_mem.mp bwd3_fresh) (.cons bwd4_sub (hf := List.forall_iff_forall_mem.mp bwd4_fresh) (.cons bwd5_sub (hf := List.forall_iff_forall_mem.mp bwd5_fresh) (.cons bwd6_sub (hf := List.forall_iff_forall_mem.mp bwd6_fresh) (.cons bwd7_sub (hf := List.forall_iff_forall_mem.mp bwd7_fresh) (.cons bwd8_sub (hf := List.forall_iff_forall_mem.mp bwd8_fresh) (.cons bwd9_sub (hf := List.forall_iff_forall_mem.mp bwd9_fresh) (.cons bwd10_sub (hf := List.forall_iff_forall_mem.mp bwd10_fresh) (.cons bwd11_sub (hf := List.forall_iff_forall_mem.mp bwd11_fresh) (.cons bwd12_sub (hf := List.forall_iff_forall_mem.mp bwd12_fresh) (.cons bwd13_sub (hf := List.forall_iff_forall_mem.mp bwd13_fresh) (.cons bwd14_sub (hf := List.forall_iff_forall_mem.mp bwd14_fresh) (.cons bwd15_sub (hf := List.forall_iff_forall_mem.mp bwd15_fresh) (.cons bwd16_sub (hf := List.forall_iff_forall_mem.mp bwd16_fresh) (.nil)))))))))))))))))

/-- Each loop's test: the bound, and the counter compared with it. -/
abbrev cond0 : List (HloOp τ sig (Elt F)) :=
  [ StableHlo.nullary main_while0c_c_26 (constantI S_ 32 32#32),
    StableHlo.binary main_v20_6 main_while0c_c_26 main_while0c_v49 (cmpi .slt) ]
abbrev cond1 : List (HloOp τ sig (Elt F)) :=
  [ StableHlo.nullary main_while1c_c_30 (constantI S_ 32 32#32),
    StableHlo.binary main_v33_8 main_while1c_c_30 main_while1c_v49 (cmpi .slt) ]
theorem keep_cond0 (V : Valuation τ sig (Elt F)) (r : Ref sig .tc) (h : r ∉ [main_while0c_c_26, main_while0c_v49]) :
    after cond0 V (Proc.devRef .tc r) = V (Proc.devRef .tc r) :=
  after_of_writes_sub cond0 V (StableHlo.forall_writes_sub_of_map rfl : (cond0 : List (HloOp τ sig (Elt F))).Forall fun op => op.writes ⊆ ([main_while0c_c_26, main_while0c_v49].map (Proc.devRef (τ := τ) .tc)).toFinset) h
theorem keep_cond1 (V : Valuation τ sig (Elt F)) (r : Ref sig .tc) (h : r ∉ [main_while1c_c_30, main_while1c_v49]) :
    after cond1 V (Proc.devRef .tc r) = V (Proc.devRef .tc r) :=
  after_of_writes_sub cond1 V (StableHlo.forall_writes_sub_of_map rfl : (cond1 : List (HloOp τ sig (Elt F))).Forall fun op => op.writes ⊆ ([main_while1c_c_30, main_while1c_v49].map (Proc.devRef (τ := τ) .tc)).toFinset) h

end Cert.ReferenceIdeal.Ref
-- ==== Proof.Ref.Run.lean ====
/- The reference's run: its two counted loops of 32 trips, and @main's stretches around them, as segments in order.

   `In0` is every buffer at the first loop's entry, `fwdAt k` before its trip `k`, `In1` at the second loop's entry, `bwdAt k` before
   its trip `k`, and `End` at @main's end. `run_main` reads the last off the final memory. -/
module

public import proofs.«01_k».proof.Proof.Ref.Ops
public import Idealize.ShloMosaic.Lib.Pipeline.RegionsLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

local notation "𝕄" => MT nD τ sig Unit (Elt F) ℕ (Option PUnit) ℕ

/-! ## The contents -/

abbrev In0 (c : Dev nD) : Valuation τ sig (Elt F) := afterL preI (launchContents m c)
abbrev fwdAt (k : ℕ) (c : Dev nD) : Valuation τ sig (Elt F) := atTrip cond0 fwdI (In0 m) k c
abbrev In1 (c : Dev nD) : Valuation τ sig (Elt F) := afterL midI (after cond0 (fwdAt m 32 c))
abbrev bwdAt (k : ℕ) (c : Dev nD) : Valuation τ sig (Elt F) := atTrip cond1 bwdI (In1 m) k c
abbrev End (c : Dev nD) : Valuation τ sig (Elt F) := afterL postI (after cond1 (bwdAt m 32 c))

/-! ## What the launch needs of a program without kernels -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) adm)) := fun k => k.1.elim0
/-- A core owes nothing. -/
abbrev Rw (c : Dev nD) : sProp 𝕄 := iprop(∃ W, owes (c : Thread nD τ) (0 : CellTallies nD τ sig Unit) W)

/-! ## The two loops' tests -/

/-- Loop 0's last piece leaves the counter one step on. -/
theorem step0 (V : Valuation τ sig (Elt F)) : after fwd11 V (Proc.devRef .tc main_v20_6) = addi (V (Proc.devRef .tc main_v20_6)) (constantI S_ 32 1#32) := by
  after_results
  rfl

/-- The counter enters the loop at zero. -/
theorem In0_ctr (c : Dev nD) : In0 m c (Proc.devRef .tc main_v20_6) = fun _ => (0#32 : BitVec 32) := by
  simp only [In0, afterL_cons, afterL_nil]
  after_reads_simp
  rfl

/-- Before trip `k` the counter is `k`. -/
theorem fwdAt_ctr (c : Dev nD) : ∀ k, fwdAt m k c (Proc.devRef .tc main_v20_6) = fun _ => Scf.iv 0#32 1#32 k
  | 0 => by rw [show fwdAt m 0 c = In0 m c from rfl, In0_ctr, Scf.iv_zero]
  | k + 1 => by
    rw [show fwdAt m (k + 1) c = afterL fwdI (after cond0 (fwdAt m k c)) from rfl]
    simp only [afterL_cons, afterL_nil]
    rw [step0, keep_fwd10 _ main_v20_6 (by decide), keep_fwd9 _ main_v20_6 (by decide), keep_fwd8 _ main_v20_6 (by decide), keep_fwd7 _ main_v20_6 (by decide), keep_fwd6 _ main_v20_6 (by decide), keep_fwd5 _ main_v20_6 (by decide), keep_fwd4 _ main_v20_6 (by decide), keep_fwd3 _ main_v20_6 (by decide), keep_fwd2 _ main_v20_6 (by decide), keep_fwd1 _ main_v20_6 (by decide), keep_fwd0 _ main_v20_6 (by decide), keep_cond0 _ main_v20_6 (by decide), fwdAt_ctr c k, Scf.iv_succ]
    rfl

-- `iapply` of a rule stated for any thread at the TensorCore thread unifies only when unification may unfold
-- plain definitions in a metavariable's type
set_option backward.isDefEq.respectTransparency.types false in
/-- The test's specification: true exactly before the first 32 trips. -/
theorem fwd_cond : LoopCond (pcfgs (F := F)) defs₀ Variants.none loops Rw (main_while0_cond (F := F)) cond0 fwdI (In0 m) 32 := by
  intro k hk c bd
  have hctr := fwdAt_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v20_6 HostLoop.idx0)
        (HloOp.result _ (fwdAt m k c) main_while0c_c_26 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-- Loop 1's last piece leaves the counter one step on. -/
theorem step1 (V : Valuation τ sig (Elt F)) : after bwd16 V (Proc.devRef .tc main_v33_8) = addi (V (Proc.devRef .tc main_v33_8)) (constantI S_ 32 1#32) := by
  after_results
  rfl

/-- The counter enters the loop at zero. -/
theorem In1_ctr (c : Dev nD) : In1 m c (Proc.devRef .tc main_v33_8) = fun _ => (0#32 : BitVec 32) := by
  simp only [In1, afterL_cons, afterL_nil]
  generalize after cond0 (fwdAt m 32 c) = X
  after_reads_simp
  rfl

/-- Before trip `k` the counter is `k`. -/
theorem bwdAt_ctr (c : Dev nD) : ∀ k, bwdAt m k c (Proc.devRef .tc main_v33_8) = fun _ => Scf.iv 0#32 1#32 k
  | 0 => by rw [show bwdAt m 0 c = In1 m c from rfl, In1_ctr, Scf.iv_zero]
  | k + 1 => by
    rw [show bwdAt m (k + 1) c = afterL bwdI (after cond1 (bwdAt m k c)) from rfl]
    simp only [afterL_cons, afterL_nil]
    rw [step1, keep_bwd15 _ main_v33_8 (by decide), keep_bwd14 _ main_v33_8 (by decide), keep_bwd13 _ main_v33_8 (by decide), keep_bwd12 _ main_v33_8 (by decide), keep_bwd11 _ main_v33_8 (by decide), keep_bwd10 _ main_v33_8 (by decide), keep_bwd9 _ main_v33_8 (by decide), keep_bwd8 _ main_v33_8 (by decide), keep_bwd7 _ main_v33_8 (by decide), keep_bwd6 _ main_v33_8 (by decide), keep_bwd5 _ main_v33_8 (by decide), keep_bwd4 _ main_v33_8 (by decide), keep_bwd3 _ main_v33_8 (by decide), keep_bwd2 _ main_v33_8 (by decide), keep_bwd1 _ main_v33_8 (by decide), keep_bwd0 _ main_v33_8 (by decide), keep_cond1 _ main_v33_8 (by decide), bwdAt_ctr c k, Scf.iv_succ]
    rfl

-- `iapply` of a rule stated for any thread at the TensorCore thread unifies only when unification may unfold
-- plain definitions in a metavariable's type
set_option backward.isDefEq.respectTransparency.types false in
/-- The test's specification: true exactly before the first 32 trips. -/
theorem bwd_cond : LoopCond (pcfgs (F := F)) defs₀ Variants.none loops Rw (main_while1_cond (F := F)) cond1 bwdI (In1 m) 32 := by
  intro k hk c bd
  have hctr := bwdAt_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v33_8 HostLoop.idx0)
        (HloOp.result _ (bwdAt m k c) main_while1c_c_30 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-! ## What no stretch writes keeps its contents -/

theorem keep_fwdI (V : Valuation τ sig (Elt F)) (r : Ref sig .tc) (h : r ∉ fwd0_W ++ fwd1_W ++ fwd2_W ++ fwd3_W ++ fwd4_W ++ fwd5_W ++ fwd6_W ++ fwd7_W ++ fwd8_W ++ fwd9_W ++ fwd10_W ++ fwd11_W) : afterL fwdI V (Proc.devRef .tc r) = V (Proc.devRef .tc r) := by
  simp only [List.mem_append, not_or] at h
  simp only [afterL_cons, afterL_nil]
  rw [keep_fwd11 _ _ h.2, keep_fwd10 _ _ h.1.2, keep_fwd9 _ _ h.1.1.2, keep_fwd8 _ _ h.1.1.1.2, keep_fwd7 _ _ h.1.1.1.1.2, keep_fwd6 _ _ h.1.1.1.1.1.2, keep_fwd5 _ _ h.1.1.1.1.1.1.2, keep_fwd4 _ _ h.1.1.1.1.1.1.1.2, keep_fwd3 _ _ h.1.1.1.1.1.1.1.1.2, keep_fwd2 _ _ h.1.1.1.1.1.1.1.1.1.2, keep_fwd1 _ _ h.1.1.1.1.1.1.1.1.1.1.2, keep_fwd0 _ _ h.1.1.1.1.1.1.1.1.1.1.1]

theorem keep_bwdI (V : Valuation τ sig (Elt F)) (r : Ref sig .tc) (h : r ∉ bwd0_W ++ bwd1_W ++ bwd2_W ++ bwd3_W ++ bwd4_W ++ bwd5_W ++ bwd6_W ++ bwd7_W ++ bwd8_W ++ bwd9_W ++ bwd10_W ++ bwd11_W ++ bwd12_W ++ bwd13_W ++ bwd14_W ++ bwd15_W ++ bwd16_W) : afterL bwdI V (Proc.devRef .tc r) = V (Proc.devRef .tc r) := by
  simp only [List.mem_append, not_or] at h
  simp only [afterL_cons, afterL_nil]
  rw [keep_bwd16 _ _ h.2, keep_bwd15 _ _ h.1.2, keep_bwd14 _ _ h.1.1.2, keep_bwd13 _ _ h.1.1.1.2, keep_bwd12 _ _ h.1.1.1.1.2, keep_bwd11 _ _ h.1.1.1.1.1.2, keep_bwd10 _ _ h.1.1.1.1.1.1.2, keep_bwd9 _ _ h.1.1.1.1.1.1.1.2, keep_bwd8 _ _ h.1.1.1.1.1.1.1.1.2, keep_bwd7 _ _ h.1.1.1.1.1.1.1.1.1.2, keep_bwd6 _ _ h.1.1.1.1.1.1.1.1.1.1.2, keep_bwd5 _ _ h.1.1.1.1.1.1.1.1.1.1.1.2, keep_bwd4 _ _ h.1.1.1.1.1.1.1.1.1.1.1.1.2, keep_bwd3 _ _ h.1.1.1.1.1.1.1.1.1.1.1.1.1.2, keep_bwd2 _ _ h.1.1.1.1.1.1.1.1.1.1.1.1.1.1.2, keep_bwd1 _ _ h.1.1.1.1.1.1.1.1.1.1.1.1.1.1.1.2, keep_bwd0 _ _ h.1.1.1.1.1.1.1.1.1.1.1.1.1.1.1.1]

theorem keep_midI (V : Valuation τ sig (Elt F)) (r : Ref sig .tc) (h : r ∉ midOps0_W ++ midOps1_W) : afterL midI V (Proc.devRef .tc r) = V (Proc.devRef .tc r) := by
  simp only [List.mem_append, not_or] at h
  simp only [afterL_cons, afterL_nil]
  rw [keep_midOps1 _ _ h.2, keep_midOps0 _ _ h.1]

/-- A buffer the first loop does not write holds at every trip what it held at the entry; the second loop likewise. -/
theorem fwdAt_keep (c : Dev nD) (r : Ref sig .tc) (h : r ∉ fwd0_W ++ fwd1_W ++ fwd2_W ++ fwd3_W ++ fwd4_W ++ fwd5_W ++ fwd6_W ++ fwd7_W ++ fwd8_W ++ fwd9_W ++ fwd10_W ++ fwd11_W) (h' : r ∉ [main_while0c_c_26, main_while0c_v49]) :
    ∀ k, fwdAt m k c (Proc.devRef .tc r) = In0 m c (Proc.devRef .tc r)
  | 0 => rfl
  | k + 1 => by
    rw [show fwdAt m (k + 1) c = afterL fwdI (after cond0 (fwdAt m k c)) from rfl, keep_fwdI _ _ h, keep_cond0 _ _ h', fwdAt_keep c r h h' k]
theorem bwdAt_keep (c : Dev nD) (r : Ref sig .tc) (h : r ∉ bwd0_W ++ bwd1_W ++ bwd2_W ++ bwd3_W ++ bwd4_W ++ bwd5_W ++ bwd6_W ++ bwd7_W ++ bwd8_W ++ bwd9_W ++ bwd10_W ++ bwd11_W ++ bwd12_W ++ bwd13_W ++ bwd14_W ++ bwd15_W ++ bwd16_W) (h' : r ∉ [main_while1c_c_30, main_while1c_v49]) :
    ∀ k, bwdAt m k c (Proc.devRef .tc r) = In1 m c (Proc.devRef .tc r)
  | 0 => rfl
  | k + 1 => by
    rw [show bwdAt m (k + 1) c = afterL bwdI (after cond1 (bwdAt m k c)) from rfl, keep_bwdI _ _ h, keep_cond1 _ _ h', bwdAt_keep c r h h' k]

/-- A buffer nothing writes ends as launched. -/
theorem End_keep (c : Dev nD) (r : Ref sig .tc) (h0 : r ∉ preOps_W) (h1 : r ∉ fwd0_W ++ fwd1_W ++ fwd2_W ++ fwd3_W ++ fwd4_W ++ fwd5_W ++ fwd6_W ++ fwd7_W ++ fwd8_W ++ fwd9_W ++ fwd10_W ++ fwd11_W) (h1' : r ∉ [main_while0c_c_26, main_while0c_v49])
    (h2 : r ∉ midOps0_W ++ midOps1_W) (h3 : r ∉ bwd0_W ++ bwd1_W ++ bwd2_W ++ bwd3_W ++ bwd4_W ++ bwd5_W ++ bwd6_W ++ bwd7_W ++ bwd8_W ++ bwd9_W ++ bwd10_W ++ bwd11_W ++ bwd12_W ++ bwd13_W ++ bwd14_W ++ bwd15_W ++ bwd16_W) (h3' : r ∉ [main_while1c_c_30, main_while1c_v49]) (h4 : r ∉ postOps_W) :
    End m c (Proc.devRef .tc r) = launchContents m c (Proc.devRef .tc r) := by
  rw [show End m c = after postOps (after cond1 (bwdAt m 32 c)) from rfl, keep_postOps _ _ h4, keep_cond1 _ _ h3', bwdAt_keep m c r h3 h3' 32,
    show In1 m c = afterL midI (after cond0 (fwdAt m 32 c)) from rfl, keep_midI _ _ h2, keep_cond0 _ _ h1', fwdAt_keep m c r h1 h1' 32,
    show In0 m c = after preOps (launchContents m c) from rfl, keep_preOps _ _ h0]

theorem mem_uc (b : Ref sig .tc) (h : (Proc.devRef .tc b : DevRef τ sig).isScoped = false) :
    (Proc.devRef .tc b : DevRef τ sig) ∈ ucRefs τ sig := devRef_mem_ucRefs b h
theorem no_unscoped : ∀ sm : SemLoc sig, sm.isScoped .tc = true := by decide

/-! ## The run -/

/-- @main's segments. -/
def segs : List (Pipeline.CSeg (pcfgs (F := F)) adm defs₀ Variants.none L lv loops tk) :=
  segsOf _ _ _ _ _ _ _ _ Rw preI preI_plain (launchContents m)
    ++ loopSeg _ _ _ _ _ _ _ _ 0 main_while0_cond main_while0_body rfl cond0 fwdI fwdI_plain (by rw [while0_body_chain]; rfl) 32 (In0 m) Rw (fwd_cond m)
      :: (segsOf _ _ _ _ _ _ _ _ Rw midI midI_plain (fun c => after cond0 (fwdAt m 32 c))
        ++ loopSeg _ _ _ _ _ _ _ _ 1 main_while1_cond main_while1_body rfl cond1 bwdI bwdI_plain (by rw [while1_body_chain]; rfl) 32 (In1 m) Rw (bwd_cond m)
          :: segsOf _ _ _ _ _ _ _ _ Rw postI postI_plain (fun c => after cond1 (bwdAt m 32 c)))

theorem segs_prog : (segs m).map Pipeline.CSeg.prog
    = (preI.map fun ops => (seq ops : Prog _ PUnit)) ++ HostLoop.enter 0
      :: ((midI.map fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

theorem segs_chains : Pipeline.CSeg.Chains (fun c => iprop(held (c : Thread nD τ) (ucRefs τ sig) (launchContents m c) ∗ Rw c)) (segs m)
    (fun c => iprop(iprop(held (c : Thread nD τ) (ucRefs τ sig) (End m c)) ∗ ∃ W, owes (c : Thread nD τ) (0 : CellTallies nD τ sig Unit) W)) := by
  unfold segs
  exact Pipeline.CSeg.Chains.append (segsOf_chains _ _ _ _ _ _ _ _ Rw preI preI_plain _)
    ⟨fun _ => .rfl, Pipeline.CSeg.Chains.append (segsOf_chains _ _ _ _ _ _ _ _ Rw midI midI_plain _)
      ⟨fun _ => .rfl, segsOf_chains _ _ _ _ _ _ _ _ Rw postI postI_plain _⟩⟩

theorem main_eq (c : Dev nD) : main (F := F) c = Pipeline.chain ((preI.map fun ops => (seq ops : Prog _ PUnit)) ++ HostLoop.enter 0
      :: ((midI.map fun ops => (seq ops : Prog _ PUnit)) ++ HostLoop.enter 1 :: postI.map fun ops => (seq ops : Prog _ PUnit))) := by
  rw [main_chain_windows]; rfl

set_option backward.isDefEq.respectTransparency.types false in
/-- From any memory with zero counters every weakly fair execution terminates, every unscoped buffer ending at `End` and every
    semaphore counter at zero. -/
theorem run_main : θ_run (defs (F := F)) (onTc (τ := τ) (main (F := F))) ⟨m, fun _ => 0, ρ⟩ (fun r =>
    (∀ c : Dev nD, ∀ b ∈ ucRefs τ sig, r.2.mem (((c : Thread nD τ)).1, b) = End m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (segs m)
    (fun c Q => by
      rw [main_eq c]
      show wp _ _ _ (Pipeline.chain ((segs m).map Pipeline.CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (End m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = End m c b)
    (hfin := fun c s' => by
      unfold held
      iintro ⟨Hh, HSI⟩
      ihave Hr := (pointsTo_read_all (ucRefs τ sig) (fun b => ((c : Dev nD), b)) (End m c) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-- The frame: the arguments end as launched, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have K : ∀ (c : Dev nD) (r : Ref sig .tc), r ∈ [main_arg0, main_arg1, main_arg2, main_arg3, main_arg4, main_arg5, main_arg6] →
      End m c (Proc.devRef .tc r) = launchContents m c (Proc.devRef .tc r) := fun c r hr => by
    refine End_keep m c r ?_ ?_ ?_ ?_ ?_ ?_ ?_ <;> revert r <;> decide +kernel
  (θ_run defs _ _).mono (fun _ h => ⟨fun c =>
    ⟨(h.1 c _ (mem_uc main_arg0 (by decide))).trans (K c main_arg0 (by decide)),
     (h.1 c _ (mem_uc main_arg1 (by decide))).trans (K c main_arg1 (by decide)),
     (h.1 c _ (mem_uc main_arg2 (by decide))).trans (K c main_arg2 (by decide)),
     (h.1 c _ (mem_uc main_arg3 (by decide))).trans (K c main_arg3 (by decide)),
     (h.1 c _ (mem_uc main_arg4 (by decide))).trans (K c main_arg4 (by decide)),
     (h.1 c _ (mem_uc main_arg5 (by decide))).trans (K c main_arg5 (by decide)),
     (h.1 c _ (mem_uc main_arg6 (by decide))).trans (K c main_arg6 (by decide))⟩, h.2⟩) (run_main m ρ)

end Cert.ReferenceIdeal.Ref
-- ==== Proof.Val.Spec.lean ====
/- The recurrence between chunks on extended reals, forward and backward, chunk by chunk: what both programs are shown to compute.
   The products are sums over the contracted axis, with no order and no rounding. -/
module

public import proofs.«01_k».proof.Proof.Gen.KernelIdeal
public import Idealize.ShloMosaic.Lib.Pointwise

@[expose] public section

noncomputable section

namespace Cert.Spec

open Cert.KernelIdeal Idealize.ShloMosaic

open Cert.KernelIdeal.Gen

/-- A chunk's rows, head by head; the state; a chunk's rows against its rows. -/
abbrev Rows := S4x64x128.Idx → EReal
abbrev State := S4x128x128.Idx → EReal
abbrev Pairs := S4x64x64.Idx → EReal

/-- A product of two stacks, the sum over the contracted axis. -/
def mm {sl sr so : Shape} (d : DotDims sl sr so) (a : sl.Idx → EReal) (b : sr.Idx → EReal) : so.Idx → EReal :=
  fun j => ∑ k : d.contr.Idx, a (d.lhsIdx j k) * b (d.rhsIdx j k)

/-- A stack of rows from its transpose, and the state's transpose. -/
def tr (a : S4x128x64.Idx → EReal) : Rows := fun j => a (ix3 (j 0) (j 2) (j 1))
def trS (a : State) : State := fun j => a (ix3 (j 0) (j 2) (j 1))

/-- Chunk `n` of an array, and its first 64 lanes. -/
def chunk (x : S2048x512.Idx → EReal) (n : ℕ) : Rows := fun j =>
  x (ix2 ⟨(64 * n + (j 1).val) % 2048, Nat.mod_lt _ (by decide)⟩
    ⟨128 * (j 0).val + (j 2).val, by have h0 : (j 0).val < 4 := (j 0).isLt; have h2 : (j 2).val < 128 := (j 2).isLt; omega⟩)
def half (x : Rows) : Pairs := fun j => x (ix3 (j 0) (j 1) ⟨(j 2).val, by have h2 : (j 2).val < 64 := (j 2).isLt; omega⟩)

/-- The chunk's decay over the state: its first row, for every key. -/
def decay (eg : Rows) : State := fun j => eg (ix3 (j 0) 0 (j 2))

/-- The values a chunk adds: its own less what the state answers to its keys. -/
def vnew (u w : Rows) (S : State) : Rows := fun j => u j - mm dot_S4x64x128_S4x128x128_S4x64x128_2_1_1_2_0_0 w S j

/-- A chunk's outputs. -/
def out (u w : Rows) (qk : Pairs) (qd : Rows) (S : State) : Rows := fun j =>
  mm dot_S4x64x128_S4x128x128_S4x64x128_2_1_1_2_0_0 qd S j + mm dot_S4x64x64_S4x64x128_S4x64x128_2_1_1_2_0_0 qk (vnew u w S) j

/-- The state after a chunk. -/
def step (u w kd eg : Rows) (S : State) : State := fun j =>
  S j * decay eg j + mm dot_S4x64x128_S4x64x128_S4x128x128_1_1_2_2_0_0 kd (vnew u w S) j

/-- The gradients of a chunk, from the gradient `dS` of the state after it and the gradient `d` of its outputs. -/
def dU (qk : Pairs) (kd d : Rows) (dS : State) : Rows := fun j =>
  tr (mm dot_S4x128x128_S4x64x128_S4x128x64_1_2_2_1_0_0 dS kd) j + tr (mm dot_S4x64x128_S4x64x64_S4x128x64_1_1_2_2_0_0 d qk) j
def dKd (u w : Rows) (S dS : State) : Rows := tr (mm dot_S4x128x128_S4x64x128_S4x128x64_2_2_1_1_0_0 dS (vnew u w S))
def dQk (u w d : Rows) (S : State) : Pairs := mm dot_S4x64x128_S4x64x128_S4x64x64_2_2_1_1_0_0 d (vnew u w S)
def dQd (d : Rows) (S : State) : Rows := mm dot_S4x64x128_S4x128x128_S4x64x128_2_2_1_1_0_0 d S
def negU (qk : Pairs) (kd d : Rows) (dS : State) : Rows := fun j => -dU qk kd d dS j
def dW (qk : Pairs) (kd d : Rows) (S dS : State) : Rows := mm dot_S4x64x128_S4x128x128_S4x64x128_2_2_1_1_0_0 (negU qk kd d dS) S
def dEg (S dS : State) : S4x128.Idx → EReal := fun j => ∑ k : Fin 128, S (ix3 (j 0) k (j 1)) * dS (ix3 (j 0) k (j 1))
def back (w : Rows) (qk : Pairs) (qd kd eg d : Rows) (dS : State) : State := fun j =>
  dS j * decay eg j + trS (mm dot_S4x64x128_S4x64x128_S4x128x128_1_1_2_2_0_0 d qd) j
    + trS (mm dot_S4x64x128_S4x64x128_S4x128x128_1_1_2_2_0_0 (negU qk kd d dS) w) j

section Sequences

variable (u w qk qd kd eg d : S2048x512.Idx → EReal)

/-- The state before chunk `n`. -/
def states : ℕ → State
  | 0 => fun _ => 0
  | n + 1 => step (chunk u n) (chunk w n) (chunk kd n) (chunk eg n) (states n)

/-- The gradient of the state after the last `i` chunks are taken back: the one before chunk `32 - i`. -/
def backs : ℕ → State
  | 0 => fun _ => 0
  | i + 1 => back (chunk w (31 - i)) (half (chunk qk (31 - i))) (chunk qd (31 - i)) (chunk kd (31 - i)) (chunk eg (31 - i)) (chunk d (31 - i)) (backs i)

end Sequences

end Cert.Spec

end
-- ==== Proof.Val.RefPure.lean ====
/- The reference's reads of one chunk of a stack, its writes of one chunk, and its products, at an index. -/
module

public import proofs.«01_k».proof.Proof.Gen.ReferenceIdeal
public import proofs.«01_k».proof.Proof.Val.Spec
public import Idealize.ShloMosaic.Lib.Pointwise
public import Idealize.ShloMosaic.Lib.DynamicIndex
public import Idealize.ShloMosaic.Lib.WordCmp
public import Idealize.ShloMosaic.Lib.Scf.Counter

@[expose] public section

set_option maxRecDepth 16384

noncomputable section

namespace Cert.ReferenceIdeal.Val

open Cert.ReferenceIdeal Cert.ReferenceIdeal.Gen
open Idealize.ShloMosaic Idealize.ShloMosaic.TcCoe

variable {α : Type}

/-! ### Rows -/

theorem slicesRows : ∀ n : Fin 32, S32x4x64x128.Slices ![n.val, 0, 0, 0] S1x4x64x128 := by decide

theorem takeRows (x : S32x4x64x128.Idx → α) (start : Fin 4 → Int) (n : Fin 32) (h0 : start 0 = (n.val : Int)) (h1 : start 1 = 0) (h2 : start 2 = 0) (h3 : start 3 = 0) :
    shapeCast S4x64x128 (Host.dynamicSlice S1x4x64x128 x start sliceFits_S32x4x64x128_S1x4x64x128) shapeCasts_S1x4x64x128_S4x64x128 = fun j => x (ix4 n (j 0) (j 1) (j 2)) := by
  rw [Host.dynamicSlice_eq_extractStridedSlice S1x4x64x128 x start ![n.val, 0, 0, 0] _ (slicesRows n) (fun a => by
    match a with
    | ⟨0, _⟩ => exact h0
    | ⟨1, _⟩ => exact h1
    | ⟨2, _⟩ => exact h2
    | ⟨3, _⟩ => exact h3)]
  funext j
  idx_vars j
  pointwise

theorem putRows (x : S32x4x64x128.Idx → α) (v : S4x64x128.Idx → α) (start : Fin 4 → Int) (n : Fin 32) (h0 : start 0 = (n.val : Int)) (h1 : start 1 = 0) (h2 : start 2 = 0) (h3 : start 3 = 0) :
    Host.dynamicUpdateSlice x (broadcastInDim S1x4x64x128 ![1, 2, 3] bcast_S4x64x128_S1x4x64x128_1_2_3 v) start updateFits_S32x4x64x128_S1x4x64x128
      = fun y => if (y 0).val = n.val then v (ix3 (y 1) (y 2) (y 3)) else x y := by
  rw [WordCmp.dynamicUpdateSlice_eq_update x _ start _ ![n.val, 0, 0, 0] (slicesRows n) (fun a => by
    match a with
    | ⟨0, _⟩ => exact h0
    | ⟨1, _⟩ => exact h1
    | ⟨2, _⟩ => exact h2
    | ⟨3, _⟩ => exact h3)]
  funext y
  idx_vars y
  pointwise
  by_cases h : y0.val = n.val
  · exact (dif_pos (by omega)).trans (if_pos h).symm
  · exact (dif_neg (by omega)).trans (if_neg h).symm

/-! ### Pairs -/

theorem slicesPairs : ∀ n : Fin 32, S32x4x64x64.Slices ![n.val, 0, 0, 0] S1x4x64x64 := by decide

theorem takePairs (x : S32x4x64x64.Idx → α) (start : Fin 4 → Int) (n : Fin 32) (h0 : start 0 = (n.val : Int)) (h1 : start 1 = 0) (h2 : start 2 = 0) (h3 : start 3 = 0) :
    shapeCast S4x64x64 (Host.dynamicSlice S1x4x64x64 x start sliceFits_S32x4x64x64_S1x4x64x64) shapeCasts_S1x4x64x64_S4x64x64 = fun j => x (ix4 n (j 0) (j 1) (j 2)) := by
  rw [Host.dynamicSlice_eq_extractStridedSlice S1x4x64x64 x start ![n.val, 0, 0, 0] _ (slicesPairs n) (fun a => by
    match a with
    | ⟨0, _⟩ => exact h0
    | ⟨1, _⟩ => exact h1
    | ⟨2, _⟩ => exact h2
    | ⟨3, _⟩ => exact h3)]
  funext j
  idx_vars j
  pointwise

theorem putPairs (x : S32x4x64x64.Idx → α) (v : S4x64x64.Idx → α) (start : Fin 4 → Int) (n : Fin 32) (h0 : start 0 = (n.val : Int)) (h1 : start 1 = 0) (h2 : start 2 = 0) (h3 : start 3 = 0) :
    Host.dynamicUpdateSlice x (broadcastInDim S1x4x64x64 ![1, 2, 3] bcast_S4x64x64_S1x4x64x64_1_2_3 v) start updateFits_S32x4x64x64_S1x4x64x64
      = fun y => if (y 0).val = n.val then v (ix3 (y 1) (y 2) (y 3)) else x y := by
  rw [WordCmp.dynamicUpdateSlice_eq_update x _ start _ ![n.val, 0, 0, 0] (slicesPairs n) (fun a => by
    match a with
    | ⟨0, _⟩ => exact h0
    | ⟨1, _⟩ => exact h1
    | ⟨2, _⟩ => exact h2
    | ⟨3, _⟩ => exact h3)]
  funext y
  idx_vars y
  pointwise
  by_cases h : y0.val = n.val
  · exact (dif_pos (by omega)).trans (if_pos h).symm
  · exact (dif_neg (by omega)).trans (if_neg h).symm

/-! ### State -/

theorem slicesState : ∀ n : Fin 32, S32x4x128x128.Slices ![n.val, 0, 0, 0] S1x4x128x128 := by decide

theorem takeState (x : S32x4x128x128.Idx → α) (start : Fin 4 → Int) (n : Fin 32) (h0 : start 0 = (n.val : Int)) (h1 : start 1 = 0) (h2 : start 2 = 0) (h3 : start 3 = 0) :
    shapeCast S4x128x128 (Host.dynamicSlice S1x4x128x128 x start sliceFits_S32x4x128x128_S1x4x128x128) shapeCasts_S1x4x128x128_S4x128x128 = fun j => x (ix4 n (j 0) (j 1) (j 2)) := by
  rw [Host.dynamicSlice_eq_extractStridedSlice S1x4x128x128 x start ![n.val, 0, 0, 0] _ (slicesState n) (fun a => by
    match a with
    | ⟨0, _⟩ => exact h0
    | ⟨1, _⟩ => exact h1
    | ⟨2, _⟩ => exact h2
    | ⟨3, _⟩ => exact h3)]
  funext j
  idx_vars j
  pointwise

theorem putState (x : S32x4x128x128.Idx → α) (v : S4x128x128.Idx → α) (start : Fin 4 → Int) (n : Fin 32) (h0 : start 0 = (n.val : Int)) (h1 : start 1 = 0) (h2 : start 2 = 0) (h3 : start 3 = 0) :
    Host.dynamicUpdateSlice x (broadcastInDim S1x4x128x128 ![1, 2, 3] bcast_S4x128x128_S1x4x128x128_1_2_3 v) start updateFits_S32x4x128x128_S1x4x128x128
      = fun y => if (y 0).val = n.val then v (ix3 (y 1) (y 2) (y 3)) else x y := by
  rw [WordCmp.dynamicUpdateSlice_eq_update x _ start _ ![n.val, 0, 0, 0] (slicesState n) (fun a => by
    match a with
    | ⟨0, _⟩ => exact h0
    | ⟨1, _⟩ => exact h1
    | ⟨2, _⟩ => exact h2
    | ⟨3, _⟩ => exact h3)]
  funext y
  idx_vars y
  pointwise
  by_cases h : y0.val = n.val
  · exact (dif_pos (by omega)).trans (if_pos h).symm
  · exact (dif_neg (by omega)).trans (if_neg h).symm

/-! ### Row -/

theorem slicesRow : ∀ n : Fin 32, S32x4x1x128.Slices ![n.val, 0, 0, 0] S1x4x1x128 := by decide

theorem takeRow (x : S32x4x1x128.Idx → α) (start : Fin 4 → Int) (n : Fin 32) (h0 : start 0 = (n.val : Int)) (h1 : start 1 = 0) (h2 : start 2 = 0) (h3 : start 3 = 0) :
    shapeCast S4x1x128 (Host.dynamicSlice S1x4x1x128 x start sliceFits_S32x4x1x128_S1x4x1x128) shapeCasts_S1x4x1x128_S4x1x128 = fun j => x (ix4 n (j 0) 0 (j 2)) := by
  rw [Host.dynamicSlice_eq_extractStridedSlice S1x4x1x128 x start ![n.val, 0, 0, 0] _ (slicesRow n) (fun a => by
    match a with
    | ⟨0, _⟩ => exact h0
    | ⟨1, _⟩ => exact h1
    | ⟨2, _⟩ => exact h2
    | ⟨3, _⟩ => exact h3)]
  funext j
  idx_vars j
  pointwise

theorem putRow (x : S32x4x1x128.Idx → α) (v : S4x1x128.Idx → α) (start : Fin 4 → Int) (n : Fin 32) (h0 : start 0 = (n.val : Int)) (h1 : start 1 = 0) (h2 : start 2 = 0) (h3 : start 3 = 0) :
    Host.dynamicUpdateSlice x (broadcastInDim S1x4x1x128 ![1, 2, 3] bcast_S4x1x128_S1x4x1x128_1_2_3 v) start updateFits_S32x4x1x128_S1x4x1x128
      = fun y => if (y 0).val = n.val then v (ix3 (y 1) 0 (y 3)) else x y := by
  rw [WordCmp.dynamicUpdateSlice_eq_update x _ start _ ![n.val, 0, 0, 0] (slicesRow n) (fun a => by
    match a with
    | ⟨0, _⟩ => exact h0
    | ⟨1, _⟩ => exact h1
    | ⟨2, _⟩ => exact h2
    | ⟨3, _⟩ => exact h3)]
  funext y
  idx_vars y
  pointwise
  by_cases h : y0.val = n.val
  · exact (dif_pos (by omega)).trans (if_pos h).symm
  · exact (dif_neg (by omega)).trans (if_neg h).symm

/-! ### Flat -/

theorem slicesFlat : ∀ n : Fin 32, S32x4x128.Slices ![n.val, 0, 0] S1x4x128 := by decide

theorem takeFlat (x : S32x4x128.Idx → α) (start : Fin 3 → Int) (n : Fin 32) (h0 : start 0 = (n.val : Int)) (h1 : start 1 = 0) (h2 : start 2 = 0) :
    shapeCast S4x128 (Host.dynamicSlice S1x4x128 x start sliceFits_S32x4x128_S1x4x128) shapeCasts_S1x4x128_S4x128 = fun j => x (ix3 n (j 0) (j 1)) := by
  rw [Host.dynamicSlice_eq_extractStridedSlice S1x4x128 x start ![n.val, 0, 0] _ (slicesFlat n) (fun a => by
    match a with
    | ⟨0, _⟩ => exact h0
    | ⟨1, _⟩ => exact h1
    | ⟨2, _⟩ => exact h2)]
  funext j
  idx_vars j
  pointwise

theorem putFlat (x : S32x4x128.Idx → α) (v : S4x128.Idx → α) (start : Fin 3 → Int) (n : Fin 32) (h0 : start 0 = (n.val : Int)) (h1 : start 1 = 0) (h2 : start 2 = 0) :
    Host.dynamicUpdateSlice x (broadcastInDim S1x4x128 ![1, 2] bcast_S4x128_S1x4x128_1_2 v) start updateFits_S32x4x128_S1x4x128
      = fun y => if (y 0).val = n.val then v (ix2 (y 1) (y 2)) else x y := by
  rw [WordCmp.dynamicUpdateSlice_eq_update x _ start _ ![n.val, 0, 0] (slicesFlat n) (fun a => by
    match a with
    | ⟨0, _⟩ => exact h0
    | ⟨1, _⟩ => exact h1
    | ⟨2, _⟩ => exact h2)]
  funext y
  idx_vars y
  pointwise
  by_cases h : y0.val = n.val
  · exact (dif_pos (by omega)).trans (if_pos h).symm
  · exact (dif_neg (by omega)).trans (if_neg h).symm

theorem dot_eq {sl sr so : Shape} (d : DotDims sl sr so) (a : FVec Ideal sl .f32) (b : FVec Ideal sr .f32) :
    (Host.dotGeneral d none a b : FVec Ideal so .f32) = Spec.mm d a b := by
  funext j
  simp only [Host.dotGeneral]
  exact Ideal.dotGeneral_apply d none _ a b j

theorem iv_eq : ∀ k : ℕ, Scf.iv 0#32 1#32 k = BitVec.ofNat 32 k := by
  intro k
  induction k with
  | zero => rfl
  | succ k ih => rw [Scf.iv_succ, ih]; exact (BitVec.ofNat_add ..).symm

end Cert.ReferenceIdeal.Val

end
-- ==== Proof.Val.RefFwd.lean ====
/- The reference's first loop: before trip `k` the carried state is the recurrence's before chunk `k`, and the stacks hold the chunks before. -/
module

public import proofs.«01_k».proof.Proof.Ref.Run
public import proofs.«01_k».proof.Proof.Val.RefPure

@[expose] public section

set_option maxRecDepth 16384

noncomputable section

namespace Cert.ReferenceIdeal.Val

open Cert.ReferenceIdeal Cert.ReferenceIdeal.Gen Cert.ReferenceIdeal.Ref
open Idealize.ShloMosaic Idealize.ShloMosaic.TcCoe Idealize.ShloMosaic.Tactic
open Idealize.ShloMosaic.StableHlo

theorem start_eq (V : IVec S_ 32) (n : Fin 32) (h : V = fun _ => BitVec.ofNat 32 n.val) (i : S_.Idx) : (V i).toInt = (n.val : Int) := by
  rw [h]; exact toInt_ofNat_of_lt (by have := n.isLt; omega)

/-! ## One trip's reads, products and writes -/

theorem read_fwd1 (V : Valuation τ sig (Elt Ideal)) (n : Fin 32) (hn : (V (Proc.devRef .tc main_v20_6) : IVec S_ 32) = fun _ => BitVec.ofNat 32 n.val) :
    (after fwd1 V (Proc.devRef .tc main_while0b_v50) : S4x64x128.Idx → EReal) = fun j => (V (Proc.devRef .tc main_v20_1) : S32x4x64x128.Idx → EReal) (ix4 n (j 0) (j 1) (j 2)) := by
  after_results
  exact takeRows _ _ n (start_eq _ n hn _) rfl rfl rfl

theorem read_fwd2 (V : Valuation τ sig (Elt Ideal)) (n : Fin 32) (hn : (V (Proc.devRef .tc main_v20_6) : IVec S_ 32) = fun _ => BitVec.ofNat 32 n.val) :
    (after fwd2 V (Proc.devRef .tc main_while0b_v51) : S4x64x128.Idx → EReal) = fun j => (V (Proc.devRef .tc main_v20_2) : S32x4x64x128.Idx → EReal) (ix4 n (j 0) (j 1) (j 2)) := by
  after_results
  exact takeRows _ _ n (start_eq _ n hn _) rfl rfl rfl

theorem read_fwd3 (V : Valuation τ sig (Elt Ideal)) (n : Fin 32) (hn : (V (Proc.devRef .tc main_v20_6) : IVec S_ 32) = fun _ => BitVec.ofNat 32 n.val) :
    (after fwd3 V (Proc.devRef .tc main_while0b_v52) : S4x64x128.Idx → EReal) = fun j => (V (Proc.devRef .tc main_v20_3) : S32x4x64x128.Idx → EReal) (ix4 n (j 0) (j 1) (j 2)) := by
  after_results
  exact takeRows _ _ n (start_eq _ n hn _) rfl rfl rfl

theorem read_fwd5 (V : Valuation τ sig (Elt Ideal)) (n : Fin 32) (hn : (V (Proc.devRef .tc main_v20_6) : IVec S_ 32) = fun _ => BitVec.ofNat 32 n.val) :
    (after fwd5 V (Proc.devRef .tc main_while0b_v54) : S4x128.Idx → EReal) = fun j => (V (Proc.devRef .tc main_v20_5) : S32x4x128.Idx → EReal) (ix3 n (j 0) (j 1)) := by
  after_results
  exact takeFlat _ _ n (start_eq _ n hn _) rfl rfl

theorem write_fwd8 (V : Valuation τ sig (Elt Ideal)) (n : Fin 32) (hn : (V (Proc.devRef .tc main_v20_6) : IVec S_ 32) = fun _ => BitVec.ofNat 32 n.val) :
    (after fwd8 V (Proc.devRef .tc main_while0b_v66) : S32x4x128x128.Idx → EReal) = fun y => if (y 0).val = n.val then
      (V (Proc.devRef .tc main_v20_7) : S4x128x128.Idx → EReal) (ix3 (y 1) (y 2) (y 3)) else (V (Proc.devRef .tc main_v20_9) : S32x4x128x128.Idx → EReal) y := by
  after_results
  exact putState _ _ _ n (start_eq _ n hn _) rfl rfl rfl

theorem write_fwd9 (V : Valuation τ sig (Elt Ideal)) (n : Fin 32) (hn : (V (Proc.devRef .tc main_v20_6) : IVec S_ 32) = fun _ => BitVec.ofNat 32 n.val) :
    (after fwd9 V (Proc.devRef .tc main_while0b_v67) : S32x4x64x128.Idx → EReal) = fun y => if (y 0).val = n.val then
      (V (Proc.devRef .tc main_while0b_v56) : S4x64x128.Idx → EReal) (ix3 (y 1) (y 2) (y 3)) else (V (Proc.devRef .tc main_v20_10) : S32x4x64x128.Idx → EReal) y := by
  after_results
  exact putRows _ _ _ n (start_eq _ n hn _) rfl rfl rfl

theorem write_fwd10 (V : Valuation τ sig (Elt Ideal)) (n : Fin 32) (hn : (V (Proc.devRef .tc main_v20_6) : IVec S_ 32) = fun _ => BitVec.ofNat 32 n.val) :
    (after fwd10 V (Proc.devRef .tc main_while0b_v68) : S32x4x1x128.Idx → EReal) = fun y => if (y 0).val = n.val then
      (V (Proc.devRef .tc main_while0b_v60) : S4x1x128.Idx → EReal) (ix3 (y 1) 0 (y 3)) else (V (Proc.devRef .tc main_v20_11) : S32x4x1x128.Idx → EReal) y := by
  after_results
  exact putRow _ _ _ n (start_eq _ n hn _) rfl rfl rfl

theorem vnew_fwd6 (V : Valuation τ sig (Elt Ideal)) (u w : Spec.Rows) (S : Spec.State)
    (hu : (V (Proc.devRef .tc main_while0b_v51) : S4x64x128.Idx → EReal) = u) (hw : (V (Proc.devRef .tc main_while0b_v52) : S4x64x128.Idx → EReal) = w)
    (hS : (V (Proc.devRef .tc main_v20_7) : S4x128x128.Idx → EReal) = S) :
    (after fwd6 V (Proc.devRef .tc main_while0b_v56) : S4x64x128.Idx → EReal) = Spec.vnew u w S := by
  after_results
  rw [hu, hw, hS, dot_eq]
  rfl

theorem gl_fwd6 (V : Valuation τ sig (Elt Ideal)) (eg : Spec.Rows) (hg : (V (Proc.devRef .tc main_while0b_v54) : S4x128.Idx → EReal) = fun j => eg (ix3 (j 0) 0 (j 1))) :
    (after fwd6 V (Proc.devRef .tc main_while0b_v60) : S4x1x128.Idx → EReal) = fun j => eg (ix3 (j 0) 0 (j 2)) := by
  after_results
  rw [hg]
  funext j
  idx_vars j
  pointwise

theorem step_fwd6 (V : Valuation τ sig (Elt Ideal)) (u w kd eg : Spec.Rows) (S : Spec.State)
    (hu : (V (Proc.devRef .tc main_while0b_v51) : S4x64x128.Idx → EReal) = u) (hw : (V (Proc.devRef .tc main_while0b_v52) : S4x64x128.Idx → EReal) = w)
    (hS : (V (Proc.devRef .tc main_v20_7) : S4x128x128.Idx → EReal) = S)
    (hkd : (V (Proc.devRef .tc main_while0b_v50) : S4x64x128.Idx → EReal) = kd)
    (hg : (V (Proc.devRef .tc main_while0b_v54) : S4x128.Idx → EReal) = fun j => eg (ix3 (j 0) 0 (j 1))) :
    (after fwd6 V (Proc.devRef .tc main_while0b_v64) : S4x128x128.Idx → EReal) = Spec.step u w kd eg S := by
  after_results
  rw [hu, hw, hkd, hg, hS, dot_eq, dot_eq]
  have e : broadcastInDim S4x128x128 ![0, 1, 2] bcast_S4x1x128_S4x128x128_0_1_2 (broadcastInDim S4x1x128 ![0, 2] bcast_S4x128_S4x1x128_0_2 (fun j : S4x128.Idx => eg (ix3 (j 0) 0 (j 1)))) = Spec.decay eg := by
    funext j
    idx_vars j
    unfold Spec.decay
    pointwise
  unfold Spec.step
  rw [← e]
  rfl

theorem copy_fwd11 (V : Valuation τ sig (Elt Ideal)) :
    (after fwd11 V (Proc.devRef .tc main_v20_7) : S4x128x128.Idx → EReal) = (V (Proc.devRef .tc main_while0b_v64) : S4x128x128.Idx → EReal)
    ∧ (after fwd11 V (Proc.devRef .tc main_v20_9) : S32x4x128x128.Idx → EReal) = (V (Proc.devRef .tc main_while0b_v66) : S32x4x128x128.Idx → EReal)
    ∧ (after fwd11 V (Proc.devRef .tc main_v20_10) : S32x4x64x128.Idx → EReal) = (V (Proc.devRef .tc main_while0b_v67) : S32x4x64x128.Idx → EReal)
    ∧ (after fwd11 V (Proc.devRef .tc main_v20_11) : S32x4x1x128.Idx → EReal) = (V (Proc.devRef .tc main_while0b_v68) : S32x4x1x128.Idx → EReal) := by
  refine ⟨?_, ?_, ?_, ?_⟩ <;> (after_results; rfl)

/-! ## The buffers when the products start -/

/-- The test and the six reads. -/
abbrev pre6 (V : Valuation τ sig (Elt Ideal)) : Valuation τ sig (Elt Ideal) :=
  after fwd5 (after fwd4 (after fwd3 (after fwd2 (after fwd1 (after fwd0 (after cond0 V))))))

theorem keep_pre6 (V : Valuation τ sig (Elt Ideal)) (r : Ref sig .tc) (h : r ∉ fwd5_W ++ fwd4_W ++ fwd3_W ++ fwd2_W ++ fwd1_W ++ fwd0_W ++ [main_while0c_c_26, main_while0c_v49]) : pre6 V (Proc.devRef .tc r) = V (Proc.devRef .tc r) := by
  simp only [List.mem_append, not_or] at h
  obtain ⟨⟨⟨⟨⟨⟨h5, h4⟩, h3⟩, h2⟩, h1⟩, h0⟩, hc⟩ := h
  rw [pre6, keep_fwd5 _ _ h5, keep_fwd4 _ _ h4, keep_fwd3 _ _ h3, keep_fwd2 _ _ h2, keep_fwd1 _ _ h1, keep_fwd0 _ _ h0, keep_cond0 _ _ hc]

theorem pre6_v50 (V : Valuation τ sig (Elt Ideal)) (n : Fin 32) (hn : (V (Proc.devRef .tc main_v20_6) : IVec S_ 32) = fun _ => BitVec.ofNat 32 n.val) :
    (pre6 V (Proc.devRef .tc main_while0b_v50) : S4x64x128.Idx → EReal) = fun j => (V (Proc.devRef .tc main_v20_1) : S32x4x64x128.Idx → EReal) (ix4 n (j 0) (j 1) (j 2)) := by
  show (after fwd5 (after fwd4 (after fwd3 (after fwd2 (after fwd1 (after fwd0 (after cond0 V)))))) (Proc.devRef .tc main_while0b_v50) : S4x64x128.Idx → EReal) = _
  rw [keep_fwd5 _ main_while0b_v50 (by decide), keep_fwd4 _ main_while0b_v50 (by decide), keep_fwd3 _ main_while0b_v50 (by decide), keep_fwd2 _ main_while0b_v50 (by decide), read_fwd1 _ n (by rw [keep_fwd0 _ main_v20_6 (by decide), keep_cond0 _ main_v20_6 (by decide)]; exact hn), keep_fwd0 _ main_v20_1 (by decide), keep_cond0 _ main_v20_1 (by decide)]

theorem pre6_v51 (V : Valuation τ sig (Elt Ideal)) (n : Fin 32) (hn : (V (Proc.devRef .tc main_v20_6) : IVec S_ 32) = fun _ => BitVec.ofNat 32 n.val) :
    (pre6 V (Proc.devRef .tc main_while0b_v51) : S4x64x128.Idx → EReal) = fun j => (V (Proc.devRef .tc main_v20_2) : S32x4x64x128.Idx → EReal) (ix4 n (j 0) (j 1) (j 2)) := by
  show (after fwd5 (after fwd4 (after fwd3 (after fwd2 (after fwd1 (after fwd0 (after cond0 V)))))) (Proc.devRef .tc main_while0b_v51) : S4x64x128.Idx → EReal) = _
  rw [keep_fwd5 _ main_while0b_v51 (by decide), keep_fwd4 _ main_while0b_v51 (by decide), keep_fwd3 _ main_while0b_v51 (by decide), read_fwd2 _ n (by rw [keep_fwd1 _ main_v20_6 (by decide), keep_fwd0 _ main_v20_6 (by decide), keep_cond0 _ main_v20_6 (by decide)]; exact hn), keep_fwd1 _ main_v20_2 (by decide), keep_fwd0 _ main_v20_2 (by decide), keep_cond0 _ main_v20_2 (by decide)]

theorem pre6_v52 (V : Valuation τ sig (Elt Ideal)) (n : Fin 32) (hn : (V (Proc.devRef .tc main_v20_6) : IVec S_ 32) = fun _ => BitVec.ofNat 32 n.val) :
    (pre6 V (Proc.devRef .tc main_while0b_v52) : S4x64x128.Idx → EReal) = fun j => (V (Proc.devRef .tc main_v20_3) : S32x4x64x128.Idx → EReal) (ix4 n (j 0) (j 1) (j 2)) := by
  show (after fwd5 (after fwd4 (after fwd3 (after fwd2 (after fwd1 (after fwd0 (after cond0 V)))))) (Proc.devRef .tc main_while0b_v52) : S4x64x128.Idx → EReal) = _
  rw [keep_fwd5 _ main_while0b_v52 (by decide), keep_fwd4 _ main_while0b_v52 (by decide), read_fwd3 _ n (by rw [keep_fwd2 _ main_v20_6 (by decide), keep_fwd1 _ main_v20_6 (by decide), keep_fwd0 _ main_v20_6 (by decide), keep_cond0 _ main_v20_6 (by decide)]; exact hn), keep_fwd2 _ main_v20_3 (by decide), keep_fwd1 _ main_v20_3 (by decide), keep_fwd0 _ main_v20_3 (by decide), keep_cond0 _ main_v20_3 (by decide)]

theorem pre6_v54 (V : Valuation τ sig (Elt Ideal)) (n : Fin 32) (hn : (V (Proc.devRef .tc main_v20_6) : IVec S_ 32) = fun _ => BitVec.ofNat 32 n.val) :
    (pre6 V (Proc.devRef .tc main_while0b_v54) : S4x128.Idx → EReal) = fun j => (V (Proc.devRef .tc main_v20_5) : S32x4x128.Idx → EReal) (ix3 n (j 0) (j 1)) := by
  show (after fwd5 (after fwd4 (after fwd3 (after fwd2 (after fwd1 (after fwd0 (after cond0 V)))))) (Proc.devRef .tc main_while0b_v54) : S4x128.Idx → EReal) = _
  rw [read_fwd5 _ n (by rw [keep_fwd4 _ main_v20_6 (by decide), keep_fwd3 _ main_v20_6 (by decide), keep_fwd2 _ main_v20_6 (by decide), keep_fwd1 _ main_v20_6 (by decide), keep_fwd0 _ main_v20_6 (by decide), keep_cond0 _ main_v20_6 (by decide)]; exact hn), keep_fwd4 _ main_v20_5 (by decide), keep_fwd3 _ main_v20_5 (by decide), keep_fwd2 _ main_v20_5 (by decide), keep_fwd1 _ main_v20_5 (by decide), keep_fwd0 _ main_v20_5 (by decide), keep_cond0 _ main_v20_5 (by decide)]

/-! ## The loop -/

section

variable (u w kd eg : S2048x512.Idx → EReal)

/-- What holds before trip `k`. -/
structure FwdInv (V : Valuation τ sig (Elt Ideal)) (k : ℕ) : Prop where
  ctr : (V (Proc.devRef .tc main_v20_6) : IVec S_ 32) = fun _ => BitVec.ofNat 32 k
  a_kd : (V (Proc.devRef .tc main_v20_1) : S32x4x64x128.Idx → EReal) = fun y => Spec.chunk kd (y 0).val (ix3 (y 1) (y 2) (y 3))
  a_u : (V (Proc.devRef .tc main_v20_2) : S32x4x64x128.Idx → EReal) = fun y => Spec.chunk u (y 0).val (ix3 (y 1) (y 2) (y 3))
  a_w : (V (Proc.devRef .tc main_v20_3) : S32x4x64x128.Idx → EReal) = fun y => Spec.chunk w (y 0).val (ix3 (y 1) (y 2) (y 3))
  a_gl : (V (Proc.devRef .tc main_v20_5) : S32x4x128.Idx → EReal) = fun y => Spec.chunk eg (y 0).val (ix3 (y 1) 0 (y 2))
  state : (V (Proc.devRef .tc main_v20_7) : S4x128x128.Idx → EReal) = Spec.states u w kd eg k
  states : ∀ y, (y 0).val < k → (V (Proc.devRef .tc main_v20_9) : S32x4x128x128.Idx → EReal) y = Spec.states u w kd eg (y 0).val (ix3 (y 1) (y 2) (y 3))
  vnews : ∀ y, (y 0).val < k → (V (Proc.devRef .tc main_v20_10) : S32x4x64x128.Idx → EReal) y = Spec.vnew (Spec.chunk u (y 0).val) (Spec.chunk w (y 0).val) (Spec.states u w kd eg (y 0).val) (ix3 (y 1) (y 2) (y 3))
  gls : ∀ y, (y 0).val < k → (V (Proc.devRef .tc main_v20_11) : S32x4x1x128.Idx → EReal) y = Spec.chunk eg (y 0).val (ix3 (y 1) 0 (y 3))

theorem ix3_eta {a b c : ℕ} (j : (⟨3, ![a, b, c]⟩ : Shape).Idx) : (ix3 (j 0) (j 1) (j 2) : (⟨3, ![a, b, c]⟩ : Shape).Idx) = j := by
  funext x
  match x with
  | ⟨0, _⟩ => rfl
  | ⟨1, _⟩ => rfl
  | ⟨2, _⟩ => rfl

theorem fwd_trip (V : Valuation τ sig (Elt Ideal)) (k : ℕ) (hk : k < 32) (h : FwdInv u w kd eg V k) : FwdInv u w kd eg (afterL fwdI (after cond0 V)) (k + 1) := by
  have e : afterL fwdI (after cond0 V) = after fwd11 (after fwd10 (after fwd9 (after fwd8 (after fwd7 (after fwd6 (pre6 V)))))) := rfl
  have hc := h.ctr
  let n : Fin 32 := ⟨k, hk⟩
  have hn : (V (Proc.devRef .tc main_v20_6) : IVec S_ 32) = fun _ => BitVec.ofNat 32 n.val := hc
  have g50 : (pre6 V (Proc.devRef .tc main_while0b_v50) : S4x64x128.Idx → EReal) = Spec.chunk kd k := by
    rw [pre6_v50 V n hn, h.a_kd]; funext j; exact congrArg (Spec.chunk kd k) (ix3_eta j)
  have g51 : (pre6 V (Proc.devRef .tc main_while0b_v51) : S4x64x128.Idx → EReal) = Spec.chunk u k := by
    rw [pre6_v51 V n hn, h.a_u]; funext j; exact congrArg (Spec.chunk u k) (ix3_eta j)
  have g52 : (pre6 V (Proc.devRef .tc main_while0b_v52) : S4x64x128.Idx → EReal) = Spec.chunk w k := by
    rw [pre6_v52 V n hn, h.a_w]; funext j; exact congrArg (Spec.chunk w k) (ix3_eta j)
  have g54 : (pre6 V (Proc.devRef .tc main_while0b_v54) : S4x128.Idx → EReal) = fun j => Spec.chunk eg k (ix3 (j 0) 0 (j 1)) := by
    rw [pre6_v54 V n hn, h.a_gl]; rfl
  have g7 : (pre6 V (Proc.devRef .tc main_v20_7) : S4x128x128.Idx → EReal) = Spec.states u w kd eg k := by
    rw [keep_pre6 _ main_v20_7 (by decide)]; exact h.state
  exact {
    ctr := by
      rw [e, step0, keep_fwd10 _ main_v20_6 (by decide), keep_fwd9 _ main_v20_6 (by decide), keep_fwd8 _ main_v20_6 (by decide), keep_fwd7 _ main_v20_6 (by decide), keep_fwd6 _ main_v20_6 (by decide), keep_pre6 _ main_v20_6 (by decide), hc]
      funext _
      exact (BitVec.ofNat_add ..).symm
    a_kd := by rw [e, keep_fwd11 _ main_v20_1 (by decide), keep_fwd10 _ main_v20_1 (by decide), keep_fwd9 _ main_v20_1 (by decide), keep_fwd8 _ main_v20_1 (by decide), keep_fwd7 _ main_v20_1 (by decide), keep_fwd6 _ main_v20_1 (by decide), keep_pre6 _ main_v20_1 (by decide)]; exact h.a_kd
    a_u := by rw [e, keep_fwd11 _ main_v20_2 (by decide), keep_fwd10 _ main_v20_2 (by decide), keep_fwd9 _ main_v20_2 (by decide), keep_fwd8 _ main_v20_2 (by decide), keep_fwd7 _ main_v20_2 (by decide), keep_fwd6 _ main_v20_2 (by decide), keep_pre6 _ main_v20_2 (by decide)]; exact h.a_u
    a_w := by rw [e, keep_fwd11 _ main_v20_3 (by decide), keep_fwd10 _ main_v20_3 (by decide), keep_fwd9 _ main_v20_3 (by decide), keep_fwd8 _ main_v20_3 (by decide), keep_fwd7 _ main_v20_3 (by decide), keep_fwd6 _ main_v20_3 (by decide), keep_pre6 _ main_v20_3 (by decide)]; exact h.a_w
    a_gl := by rw [e, keep_fwd11 _ main_v20_5 (by decide), keep_fwd10 _ main_v20_5 (by decide), keep_fwd9 _ main_v20_5 (by decide), keep_fwd8 _ main_v20_5 (by decide), keep_fwd7 _ main_v20_5 (by decide), keep_fwd6 _ main_v20_5 (by decide), keep_pre6 _ main_v20_5 (by decide)]; exact h.a_gl
    state := by
      rw [e, (copy_fwd11 _).1, keep_fwd10 _ main_while0b_v64 (by decide), keep_fwd9 _ main_while0b_v64 (by decide), keep_fwd8 _ main_while0b_v64 (by decide), keep_fwd7 _ main_while0b_v64 (by decide), step_fwd6 _ _ _ _ _ _ g51 g52 g7 g50 g54]
      rfl
    states := fun y hy => by
      rw [e, (copy_fwd11 _).2.1, keep_fwd10 _ main_while0b_v66 (by decide), keep_fwd9 _ main_while0b_v66 (by decide), write_fwd8 _ n (by rw [keep_fwd7 _ main_v20_6 (by decide), keep_fwd6 _ main_v20_6 (by decide), keep_pre6 _ main_v20_6 (by decide)]; exact hn)]
      dsimp only
      split_ifs with hyk
      · rw [keep_fwd7 _ main_v20_7 (by decide), keep_fwd6 _ main_v20_7 (by decide), g7, show (y 0).val = k from hyk]
      · rw [keep_fwd7 _ main_v20_9 (by decide), keep_fwd6 _ main_v20_9 (by decide), keep_pre6 _ main_v20_9 (by decide)]
        exact h.states y (by have : ¬(y 0).val = k := hyk; omega)
    vnews := fun y hy => by
      rw [e, (copy_fwd11 _).2.2.1, keep_fwd10 _ main_while0b_v67 (by decide), write_fwd9 _ n (by rw [keep_fwd8 _ main_v20_6 (by decide), keep_fwd7 _ main_v20_6 (by decide), keep_fwd6 _ main_v20_6 (by decide), keep_pre6 _ main_v20_6 (by decide)]; exact hn)]
      dsimp only
      split_ifs with hyk
      · rw [keep_fwd8 _ main_while0b_v56 (by decide), keep_fwd7 _ main_while0b_v56 (by decide), vnew_fwd6 _ _ _ _ g51 g52 g7, show (y 0).val = k from hyk]
      · rw [keep_fwd8 _ main_v20_10 (by decide), keep_fwd7 _ main_v20_10 (by decide), keep_fwd6 _ main_v20_10 (by decide), keep_pre6 _ main_v20_10 (by decide)]
        exact h.vnews y (by have : ¬(y 0).val = k := hyk; omega)
    gls := fun y hy => by
      rw [e, (copy_fwd11 _).2.2.2, write_fwd10 _ n (by rw [keep_fwd9 _ main_v20_6 (by decide), keep_fwd8 _ main_v20_6 (by decide), keep_fwd7 _ main_v20_6 (by decide), keep_fwd6 _ main_v20_6 (by decide), keep_pre6 _ main_v20_6 (by decide)]; exact hn)]
      dsimp only
      split_ifs with hyk
      · rw [keep_fwd9 _ main_while0b_v60 (by decide), keep_fwd8 _ main_while0b_v60 (by decide), keep_fwd7 _ main_while0b_v60 (by decide), gl_fwd6 _ _ g54, show (y 0).val = k from hyk]
        rfl
      · rw [keep_fwd9 _ main_v20_11 (by decide), keep_fwd8 _ main_v20_11 (by decide), keep_fwd7 _ main_v20_11 (by decide), keep_fwd6 _ main_v20_11 (by decide), keep_pre6 _ main_v20_11 (by decide)]
        exact h.gls y (by have : ¬(y 0).val = k := hyk; omega)
  }

end

/-! ## The entry -/

variable (m : (ℓ : Loc nD τ sig) → Buf (Elt Ideal) ℓ) (c : Dev nD)

/-- An array the launch finds. -/
abbrev arg (r : Ref sig .tc) : Buf (Elt Ideal) ((c.tc : Thread nD τ).loc r) := launchContents m c (Proc.devRef .tc r)

theorem cutRows (x : S2048x512.Idx → EReal) : transpose S32x4x64x128 [0, 2, 1, 3] (shapeCast S32x64x4x128 x shapeCasts_S2048x512_S32x64x4x128) transposes_S32x64x4x128_S32x4x64x128_0_2_1_3 = fun y => Spec.chunk x (y 0).val (ix3 (y 1) (y 2) (y 3)) := by
  funext y
  idx_vars y
  unfold Spec.chunk
  pointwise
  exact congrArg x (congrArg₂ ix2 (Fin.ext (by have h0 := y0.isLt; have h2 := y2.isLt; dsimp only; omega)) (Fin.ext (by dsimp only; omega)))

theorem cutPairs (x : S2048x512.Idx → EReal) : extractStridedSlice S32x4x64x64 ![0, 0, 0, 0] (transpose S32x4x64x128 [0, 2, 1, 3] (shapeCast S32x64x4x128 x shapeCasts_S2048x512_S32x64x4x128) transposes_S32x64x4x128_S32x4x64x128_0_2_1_3) slices_S32x4x64x128_S32x4x64x64_0_0_0_0 = fun y => Spec.half (Spec.chunk x (y 0).val) (ix3 (y 1) (y 2) (y 3)) := by
  funext y
  idx_vars y
  unfold Spec.half Spec.chunk
  pointwise
  exact congrArg x (congrArg₂ ix2 (Fin.ext (by have h0 := y0.isLt; have h2 := y2.isLt; dsimp only; omega)) (Fin.ext (by dsimp only; omega)))

theorem cutFlat (x : S2048x512.Idx → EReal) : shapeCast S32x4x128 (extractStridedSlice S32x4x1x128 ![0, 0, 0, 0] (transpose S32x4x64x128 [0, 2, 1, 3] (shapeCast S32x64x4x128 x shapeCasts_S2048x512_S32x64x4x128) transposes_S32x64x4x128_S32x4x64x128_0_2_1_3) slices_S32x4x64x128_S32x4x1x128_0_0_0_0) shapeCasts_S32x4x1x128_S32x4x128 = fun y => Spec.chunk x (y 0).val (ix3 (y 1) 0 (y 2)) := by
  funext y
  idx_vars y
  unfold Spec.chunk
  pointwise
  exact congrArg x (congrArg₂ ix2 (Fin.ext (by have h0 := y0.isLt; have h2 := y2.isLt; dsimp only; omega)) (Fin.ext (by dsimp only; omega)))

theorem fwd_entry : FwdInv (arg m c main_arg0) (arg m c main_arg1) (arg m c main_arg4) (arg m c main_arg5) (In0 m c) 0 where
  ctr := In0_ctr m c
  a_kd := by
    simp only [In0, afterL_cons, afterL_nil]
    after_reads_simp
    exact cutRows _
  a_u := by
    simp only [In0, afterL_cons, afterL_nil]
    after_reads_simp
    exact cutRows _
  a_w := by
    simp only [In0, afterL_cons, afterL_nil]
    after_reads_simp
    exact cutRows _
  a_gl := by
    simp only [In0, afterL_cons, afterL_nil]
    after_reads_simp
    exact cutFlat _
  state := by
    simp only [In0, afterL_cons, afterL_nil]
    after_reads_simp
    funext y
    exact Ideal.ofBits_zero_f32
  states := fun _ h => absurd h (Nat.not_lt_zero _)
  vnews := fun _ h => absurd h (Nat.not_lt_zero _)
  gls := fun _ h => absurd h (Nat.not_lt_zero _)

theorem fwd_all : ∀ k ≤ 32, FwdInv (arg m c main_arg0) (arg m c main_arg1) (arg m c main_arg4) (arg m c main_arg5) (fwdAt m k c) k := by
  intro k hk
  induction k with
  | zero => exact fwd_entry m c
  | succ k ih => exact fwd_trip _ _ _ _ (fwdAt m k c) k (by omega) (ih (by omega))

end Cert.ReferenceIdeal.Val

end
-- ==== Proof.Val.RefBack.lean ====
/- One trip of the reference's second loop: its reads, its products and its writes. -/
module

public import proofs.«01_k».proof.Proof.Ref.Run
public import proofs.«01_k».proof.Proof.Val.RefPure
public import proofs.«01_k».proof.Proof.Val.RefFwd

@[expose] public section

set_option maxRecDepth 16384

noncomputable section

namespace Cert.ReferenceIdeal.Val

open Cert.ReferenceIdeal Cert.ReferenceIdeal.Gen Cert.ReferenceIdeal.Ref
open Idealize.ShloMosaic Idealize.ShloMosaic.TcCoe Idealize.ShloMosaic.Tactic
open Idealize.ShloMosaic.StableHlo

theorem read_bwd1 (V : Valuation τ sig (Elt Ideal)) (n : Fin 32) (hn : (V (Proc.devRef .tc main_while1b_v50) : IVec S_ 32) = fun _ => BitVec.ofNat 32 n.val) :
    (after bwd1 V (Proc.devRef .tc main_while1b_v51) : S4x64x128.Idx → EReal) = fun j => (V (Proc.devRef .tc main_v33_0) : S32x4x64x128.Idx → EReal) (ix4 n (j 0) (j 1) (j 2)) := by
  after_results
  exact takeRows _ _ n (start_eq _ n hn _) rfl rfl rfl

theorem read_bwd2 (V : Valuation τ sig (Elt Ideal)) (n : Fin 32) (hn : (V (Proc.devRef .tc main_while1b_v50) : IVec S_ 32) = fun _ => BitVec.ofNat 32 n.val) :
    (after bwd2 V (Proc.devRef .tc main_while1b_v52) : S4x128x128.Idx → EReal) = fun j => (V (Proc.devRef .tc main_v33_1) : S32x4x128x128.Idx → EReal) (ix4 n (j 0) (j 1) (j 2)) := by
  after_results
  exact takeState _ _ n (start_eq _ n hn _) rfl rfl rfl

theorem read_bwd3 (V : Valuation τ sig (Elt Ideal)) (n : Fin 32) (hn : (V (Proc.devRef .tc main_while1b_v50) : IVec S_ 32) = fun _ => BitVec.ofNat 32 n.val) :
    (after bwd3 V (Proc.devRef .tc main_while1b_v53) : S4x64x128.Idx → EReal) = fun j => (V (Proc.devRef .tc main_v33_2) : S32x4x64x128.Idx → EReal) (ix4 n (j 0) (j 1) (j 2)) := by
  after_results
  exact takeRows _ _ n (start_eq _ n hn _) rfl rfl rfl

theorem read_bwd4 (V : Valuation τ sig (Elt Ideal)) (n : Fin 32) (hn : (V (Proc.devRef .tc main_while1b_v50) : IVec S_ 32) = fun _ => BitVec.ofNat 32 n.val) :
    (after bwd4 V (Proc.devRef .tc main_while1b_v54) : S4x64x128.Idx → EReal) = fun j => (V (Proc.devRef .tc main_v33_3) : S32x4x64x128.Idx → EReal) (ix4 n (j 0) (j 1) (j 2)) := by
  after_results
  exact takeRows _ _ n (start_eq _ n hn _) rfl rfl rfl

theorem read_bwd5 (V : Valuation τ sig (Elt Ideal)) (n : Fin 32) (hn : (V (Proc.devRef .tc main_while1b_v50) : IVec S_ 32) = fun _ => BitVec.ofNat 32 n.val) :
    (after bwd5 V (Proc.devRef .tc main_while1b_v55) : S4x64x128.Idx → EReal) = fun j => (V (Proc.devRef .tc main_v33_4) : S32x4x64x128.Idx → EReal) (ix4 n (j 0) (j 1) (j 2)) := by
  after_results
  exact takeRows _ _ n (start_eq _ n hn _) rfl rfl rfl

theorem read_bwd6 (V : Valuation τ sig (Elt Ideal)) (n : Fin 32) (hn : (V (Proc.devRef .tc main_while1b_v50) : IVec S_ 32) = fun _ => BitVec.ofNat 32 n.val) :
    (after bwd6 V (Proc.devRef .tc main_while1b_v56) : S4x64x64.Idx → EReal) = fun j => (V (Proc.devRef .tc main_v33_5) : S32x4x64x64.Idx → EReal) (ix4 n (j 0) (j 1) (j 2)) := by
  after_results
  exact takePairs _ _ n (start_eq _ n hn _) rfl rfl rfl

theorem read_bwd7 (V : Valuation τ sig (Elt Ideal)) (n : Fin 32) (hn : (V (Proc.devRef .tc main_while1b_v50) : IVec S_ 32) = fun _ => BitVec.ofNat 32 n.val) :
    (after bwd7 V (Proc.devRef .tc main_while1b_v57) : S4x1x128.Idx → EReal) = fun j => (V (Proc.devRef .tc main_v33_6) : S32x4x1x128.Idx → EReal) (ix4 n (j 0) 0 (j 2)) := by
  after_results
  exact takeRow _ _ n (start_eq _ n hn _) rfl rfl rfl

theorem read_bwd8 (V : Valuation τ sig (Elt Ideal)) (n : Fin 32) (hn : (V (Proc.devRef .tc main_while1b_v50) : IVec S_ 32) = fun _ => BitVec.ofNat 32 n.val) :
    (after bwd8 V (Proc.devRef .tc main_while1b_v58) : S4x64x128.Idx → EReal) = fun j => (V (Proc.devRef .tc main_v33_7) : S32x4x64x128.Idx → EReal) (ix4 n (j 0) (j 1) (j 2)) := by
  after_results
  exact takeRows _ _ n (start_eq _ n hn _) rfl rfl rfl

theorem write_bwd10 (V : Valuation τ sig (Elt Ideal)) (n : Fin 32) (hn : (V (Proc.devRef .tc main_while1b_v50) : IVec S_ 32) = fun _ => BitVec.ofNat 32 n.val) :
    (after bwd10 V (Proc.devRef .tc main_while1b_v82) : S32x4x64x128.Idx → EReal) = fun y => if (y 0).val = n.val then
      (V (Proc.devRef .tc main_while1b_v76) : S4x64x128.Idx → EReal) (ix3 (y 1) (y 2) (y 3)) else (V (Proc.devRef .tc main_v33_10) : S32x4x64x128.Idx → EReal) y := by
  after_results
  exact putRows _ _ _ n (start_eq _ n hn _) rfl rfl rfl

theorem write_bwd11 (V : Valuation τ sig (Elt Ideal)) (n : Fin 32) (hn : (V (Proc.devRef .tc main_while1b_v50) : IVec S_ 32) = fun _ => BitVec.ofNat 32 n.val) :
    (after bwd11 V (Proc.devRef .tc main_while1b_v83) : S32x4x64x128.Idx → EReal) = fun y => if (y 0).val = n.val then
      (V (Proc.devRef .tc main_while1b_v62) : S4x64x128.Idx → EReal) (ix3 (y 1) (y 2) (y 3)) else (V (Proc.devRef .tc main_v33_11) : S32x4x64x128.Idx → EReal) y := by
  after_results
  exact putRows _ _ _ n (start_eq _ n hn _) rfl rfl rfl

theorem write_bwd12 (V : Valuation τ sig (Elt Ideal)) (n : Fin 32) (hn : (V (Proc.devRef .tc main_while1b_v50) : IVec S_ 32) = fun _ => BitVec.ofNat 32 n.val) :
    (after bwd12 V (Proc.devRef .tc main_while1b_v84) : S32x4x64x128.Idx → EReal) = fun y => if (y 0).val = n.val then
      (V (Proc.devRef .tc main_while1b_v71) : S4x64x128.Idx → EReal) (ix3 (y 1) (y 2) (y 3)) else (V (Proc.devRef .tc main_v33_12) : S32x4x64x128.Idx → EReal) y := by
  after_results
  exact putRows _ _ _ n (start_eq _ n hn _) rfl rfl rfl

theorem write_bwd13 (V : Valuation τ sig (Elt Ideal)) (n : Fin 32) (hn : (V (Proc.devRef .tc main_while1b_v50) : IVec S_ 32) = fun _ => BitVec.ofNat 32 n.val) :
    (after bwd13 V (Proc.devRef .tc main_while1b_v85) : S32x4x64x128.Idx → EReal) = fun y => if (y 0).val = n.val then
      (V (Proc.devRef .tc main_while1b_v81) : S4x64x128.Idx → EReal) (ix3 (y 1) (y 2) (y 3)) else (V (Proc.devRef .tc main_v33_13) : S32x4x64x128.Idx → EReal) y := by
  after_results
  exact putRows _ _ _ n (start_eq _ n hn _) rfl rfl rfl

theorem write_bwd14 (V : Valuation τ sig (Elt Ideal)) (n : Fin 32) (hn : (V (Proc.devRef .tc main_while1b_v50) : IVec S_ 32) = fun _ => BitVec.ofNat 32 n.val) :
    (after bwd14 V (Proc.devRef .tc main_while1b_v86) : S32x4x64x64.Idx → EReal) = fun y => if (y 0).val = n.val then
      (V (Proc.devRef .tc main_while1b_v72) : S4x64x64.Idx → EReal) (ix3 (y 1) (y 2) (y 3)) else (V (Proc.devRef .tc main_v33_14) : S32x4x64x64.Idx → EReal) y := by
  after_results
  exact putPairs _ _ _ n (start_eq _ n hn _) rfl rfl rfl

theorem write_bwd15 (V : Valuation τ sig (Elt Ideal)) (n : Fin 32) (hn : (V (Proc.devRef .tc main_while1b_v50) : IVec S_ 32) = fun _ => BitVec.ofNat 32 n.val) :
    (after bwd15 V (Proc.devRef .tc main_while1b_v87) : S32x4x128.Idx → EReal) = fun y => if (y 0).val = n.val then
      (V (Proc.devRef .tc main_while1b_v68) : S4x128.Idx → EReal) (ix2 (y 1) (y 2)) else (V (Proc.devRef .tc main_v33_15) : S32x4x128.Idx → EReal) y := by
  after_results
  exact putFlat _ _ _ n (start_eq _ n hn _) rfl rfl

theorem tr_eq (a : S4x128x64.Idx → EReal) : transpose S4x64x128 [0, 2, 1] a transposes_S4x128x64_S4x64x128_0_2_1 = Spec.tr a := by
  funext j
  idx_vars j
  unfold Spec.tr
  pointwise

theorem trS_eq (a : S4x128x128.Idx → EReal) : transpose S4x128x128 [0, 2, 1] a transposes_S4x128x128_S4x128x128_0_2_1 = Spec.trS a := by
  funext j
  idx_vars j
  unfold Spec.trS
  pointwise

/-- What the products find. -/
structure BwdIn (V : Valuation τ sig (Elt Ideal)) (u w : Spec.Rows) (qk : Spec.Pairs) (qd kd eg d : Spec.Rows) (S dS : Spec.State) : Prop where
  a_d : (V (Proc.devRef .tc main_while1b_v51) : S4x64x128.Idx → EReal) = d
  a_S : (V (Proc.devRef .tc main_while1b_v52) : S4x128x128.Idx → EReal) = S
  a_w : (V (Proc.devRef .tc main_while1b_v53) : S4x64x128.Idx → EReal) = w
  a_qd : (V (Proc.devRef .tc main_while1b_v54) : S4x64x128.Idx → EReal) = qd
  a_vn : (V (Proc.devRef .tc main_while1b_v55) : S4x64x128.Idx → EReal) = Spec.vnew u w S
  a_qk : (V (Proc.devRef .tc main_while1b_v56) : S4x64x64.Idx → EReal) = qk
  a_gl : (V (Proc.devRef .tc main_while1b_v57) : S4x1x128.Idx → EReal) = fun j => eg (ix3 (j 0) 0 (j 2))
  a_kd : (V (Proc.devRef .tc main_while1b_v58) : S4x64x128.Idx → EReal) = kd
  a_dS : (V (Proc.devRef .tc main_v33_9) : S4x128x128.Idx → EReal) = dS

section

variable (V : Valuation τ sig (Elt Ideal)) (u w : Spec.Rows) (qk : Spec.Pairs) (qd kd eg d : Spec.Rows) (S dS : Spec.State) (h : BwdIn V u w qk qd kd eg d S dS)

include h

theorem du_bwd9 : (after bwd9 V (Proc.devRef .tc main_while1b_v71) : S4x64x128.Idx → EReal) = Spec.dU qk kd d dS := by
  after_results
  rw [h.a_dS, h.a_kd, h.a_d, h.a_qk, dot_eq, dot_eq, tr_eq, tr_eq]
  rfl

theorem dkd_bwd9 : (after bwd9 V (Proc.devRef .tc main_while1b_v62) : S4x64x128.Idx → EReal) = Spec.dKd u w S dS := by
  after_results
  rw [h.a_dS, h.a_vn, dot_eq, tr_eq]
  rfl

theorem dqk_bwd9 : (after bwd9 V (Proc.devRef .tc main_while1b_v72) : S4x64x64.Idx → EReal) = Spec.dQk u w d S := by
  after_results
  rw [h.a_d, h.a_vn, dot_eq]
  rfl

theorem dqd_bwd9 : (after bwd9 V (Proc.devRef .tc main_while1b_v76) : S4x64x128.Idx → EReal) = Spec.dQd d S := by
  after_results
  rw [h.a_d, h.a_S, dot_eq]
  rfl

theorem dw_bwd9 : (after bwd9 V (Proc.devRef .tc main_while1b_v81) : S4x64x128.Idx → EReal) = Spec.dW qk kd d S dS := by
  after_results
  rw [h.a_dS, h.a_kd, h.a_d, h.a_qk, h.a_S, dot_eq, dot_eq, dot_eq, tr_eq, tr_eq]
  rfl

theorem deg_bwd9 : (after bwd9 V (Proc.devRef .tc main_while1b_v68) : S4x128.Idx → EReal) = Spec.dEg S dS := by
  after_results
  rw [h.a_S, h.a_dS]
  funext j
  idx_vars j
  unfold Spec.dEg
  pointwise
  exact Fin.sum_univ_one _

theorem back_bwd9 : (after bwd9 V (Proc.devRef .tc main_while1b_v80) : S4x128x128.Idx → EReal) = Spec.back w qk qd kd eg d dS := by
  after_results
  rw [h.a_dS, h.a_kd, h.a_d, h.a_qk, h.a_qd, h.a_w, h.a_gl, dot_eq, dot_eq, dot_eq, dot_eq, tr_eq, tr_eq, trS_eq, trS_eq]
  have e : broadcastInDim S4x128x128 ![0, 1, 2] bcast_S4x1x128_S4x128x128_0_1_2 (fun j : S4x1x128.Idx => eg (ix3 (j 0) 0 (j 2))) = Spec.decay eg := by
    funext j
    idx_vars j
    unfold Spec.decay
    pointwise
  unfold Spec.back
  rw [← e]
  rfl

end

theorem copy_bwd16 (V : Valuation τ sig (Elt Ideal)) :
    (after bwd16 V (Proc.devRef .tc main_v33_9) : S4x128x128.Idx → EReal) = (V (Proc.devRef .tc main_while1b_v80) : S4x128x128.Idx → EReal)
    ∧ (after bwd16 V (Proc.devRef .tc main_v33_10) : S32x4x64x128.Idx → EReal) = (V (Proc.devRef .tc main_while1b_v82) : S32x4x64x128.Idx → EReal)
    ∧ (after bwd16 V (Proc.devRef .tc main_v33_11) : S32x4x64x128.Idx → EReal) = (V (Proc.devRef .tc main_while1b_v83) : S32x4x64x128.Idx → EReal)
    ∧ (after bwd16 V (Proc.devRef .tc main_v33_12) : S32x4x64x128.Idx → EReal) = (V (Proc.devRef .tc main_while1b_v84) : S32x4x64x128.Idx → EReal)
    ∧ (after bwd16 V (Proc.devRef .tc main_v33_13) : S32x4x64x128.Idx → EReal) = (V (Proc.devRef .tc main_while1b_v85) : S32x4x64x128.Idx → EReal)
    ∧ (after bwd16 V (Proc.devRef .tc main_v33_14) : S32x4x64x64.Idx → EReal) = (V (Proc.devRef .tc main_while1b_v86) : S32x4x64x64.Idx → EReal)
    ∧ (after bwd16 V (Proc.devRef .tc main_v33_15) : S32x4x128.Idx → EReal) = (V (Proc.devRef .tc main_while1b_v87) : S32x4x128.Idx → EReal) := by
  refine ⟨?_, ?_, ?_, ?_, ?_, ?_, ?_⟩ <;> (after_results; rfl)

theorem index_bwd0 (V : Valuation τ sig (Elt Ideal)) (k : ℕ) (hk : k < 32) (h : (V (Proc.devRef .tc main_v33_8) : IVec S_ 32) = fun _ => BitVec.ofNat 32 k) :
    (after bwd0 V (Proc.devRef .tc main_while1b_v50) : IVec S_ 32) = fun _ => BitVec.ofNat 32 (31 - k) := by
  after_results
  rw [h]
  funext _
  have e : ∀ k : Fin 32, (32#32 - BitVec.ofNat 32 k.val) - 1#32 = BitVec.ofNat 32 (31 - k.val) := by decide
  exact e ⟨k, hk⟩

/-! ## The buffers when the products start -/

/-- The test, the chunk's number and the eight reads. -/
abbrev pre9 (V : Valuation τ sig (Elt Ideal)) : Valuation τ sig (Elt Ideal) :=
  after bwd8 (after bwd7 (after bwd6 (after bwd5 (after bwd4 (after bwd3 (after bwd2 (after bwd1 (after bwd0 (after cond1 V)))))))))

theorem keep_pre9 (V : Valuation τ sig (Elt Ideal)) (r : Ref sig .tc) (h : r ∉ bwd8_W ++ bwd7_W ++ bwd6_W ++ bwd5_W ++ bwd4_W ++ bwd3_W ++ bwd2_W ++ bwd1_W ++ bwd0_W ++ [main_while1c_c_30, main_while1c_v49]) : pre9 V (Proc.devRef .tc r) = V (Proc.devRef .tc r) := by
  simp only [List.mem_append, not_or] at h
  obtain ⟨⟨⟨⟨⟨⟨⟨⟨⟨h8, h7⟩, h6⟩, h5⟩, h4⟩, h3⟩, h2⟩, h1⟩, h0⟩, hc⟩ := h
  rw [pre9, keep_bwd8 _ _ h8, keep_bwd7 _ _ h7, keep_bwd6 _ _ h6, keep_bwd5 _ _ h5, keep_bwd4 _ _ h4, keep_bwd3 _ _ h3, keep_bwd2 _ _ h2, keep_bwd1 _ _ h1, keep_bwd0 _ _ h0, keep_cond1 _ _ hc]

theorem pre9_index (V : Valuation τ sig (Elt Ideal)) (k : ℕ) (hk : k < 32) (h : (V (Proc.devRef .tc main_v33_8) : IVec S_ 32) = fun _ => BitVec.ofNat 32 k) :
    (pre9 V (Proc.devRef .tc main_while1b_v50) : IVec S_ 32) = fun _ => BitVec.ofNat 32 (31 - k) := by
  show (after bwd8 (after bwd7 (after bwd6 (after bwd5 (after bwd4 (after bwd3 (after bwd2 (after bwd1 (after bwd0 (after cond1 V))))))))) (Proc.devRef .tc main_while1b_v50) : IVec S_ 32) = _
  rw [keep_bwd8 _ main_while1b_v50 (by decide), keep_bwd7 _ main_while1b_v50 (by decide), keep_bwd6 _ main_while1b_v50 (by decide), keep_bwd5 _ main_while1b_v50 (by decide), keep_bwd4 _ main_while1b_v50 (by decide), keep_bwd3 _ main_while1b_v50 (by decide), keep_bwd2 _ main_while1b_v50 (by decide), keep_bwd1 _ main_while1b_v50 (by decide), index_bwd0 _ k hk (by rw [keep_cond1 _ main_v33_8 (by decide)]; exact h)]

theorem pre9_v51 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v51) : S4x64x128.Idx → EReal) = fun j => (V (Proc.devRef .tc main_v33_0) : S32x4x64x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v51) : S4x64x128.Idx → EReal) = _
  rw [keep_bwd8 _ main_while1b_v51 (by decide), keep_bwd7 _ main_while1b_v51 (by decide), keep_bwd6 _ main_while1b_v51 (by decide), keep_bwd5 _ main_while1b_v51 (by decide), keep_bwd4 _ main_while1b_v51 (by decide), keep_bwd3 _ main_while1b_v51 (by decide), keep_bwd2 _ main_while1b_v51 (by decide), read_bwd1 _ n (by rw [index_bwd0 _ k hk (by rw [keep_cond1 _ main_v33_8 (by decide)]; exact h), hnk]), keep_bwd0 _ main_v33_0 (by decide), keep_cond1 _ main_v33_0 (by decide)]

theorem pre9_v52 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v52) : S4x128x128.Idx → EReal) = fun j => (V (Proc.devRef .tc main_v33_1) : S32x4x128x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v52) : S4x128x128.Idx → EReal) = _
  rw [keep_bwd8 _ main_while1b_v52 (by decide), keep_bwd7 _ main_while1b_v52 (by decide), keep_bwd6 _ main_while1b_v52 (by decide), keep_bwd5 _ main_while1b_v52 (by decide), keep_bwd4 _ main_while1b_v52 (by decide), keep_bwd3 _ main_while1b_v52 (by decide), read_bwd2 _ n (by rw [keep_bwd1 _ main_while1b_v50 (by decide), index_bwd0 _ k hk (by rw [keep_cond1 _ main_v33_8 (by decide)]; exact h), hnk]), keep_bwd1 _ main_v33_1 (by decide), keep_bwd0 _ main_v33_1 (by decide), keep_cond1 _ main_v33_1 (by decide)]

theorem pre9_v53 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v53) : S4x64x128.Idx → EReal) = fun j => (V (Proc.devRef .tc main_v33_2) : S32x4x64x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v53) : S4x64x128.Idx → EReal) = _
  rw [keep_bwd8 _ main_while1b_v53 (by decide), keep_bwd7 _ main_while1b_v53 (by decide), keep_bwd6 _ main_while1b_v53 (by decide), keep_bwd5 _ main_while1b_v53 (by decide), keep_bwd4 _ main_while1b_v53 (by decide), read_bwd3 _ n (by rw [keep_bwd2 _ main_while1b_v50 (by decide), keep_bwd1 _ main_while1b_v50 (by decide), index_bwd0 _ k hk (by rw [keep_cond1 _ main_v33_8 (by decide)]; exact h), hnk]), keep_bwd2 _ main_v33_2 (by decide), keep_bwd1 _ main_v33_2 (by decide), keep_bwd0 _ main_v33_2 (by decide), keep_cond1 _ main_v33_2 (by decide)]

theorem pre9_v54 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v54) : S4x64x128.Idx → EReal) = fun j => (V (Proc.devRef .tc main_v33_3) : S32x4x64x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v54) : S4x64x128.Idx → EReal) = _
  rw [keep_bwd8 _ main_while1b_v54 (by decide), keep_bwd7 _ main_while1b_v54 (by decide), keep_bwd6 _ main_while1b_v54 (by decide), keep_bwd5 _ main_while1b_v54 (by decide), read_bwd4 _ n (by rw [keep_bwd3 _ main_while1b_v50 (by decide), keep_bwd2 _ main_while1b_v50 (by decide), keep_bwd1 _ main_while1b_v50 (by decide), index_bwd0 _ k hk (by rw [keep_cond1 _ main_v33_8 (by decide)]; exact h), hnk]), keep_bwd3 _ main_v33_3 (by decide), keep_bwd2 _ main_v33_3 (by decide), keep_bwd1 _ main_v33_3 (by decide), keep_bwd0 _ main_v33_3 (by decide), keep_cond1 _ main_v33_3 (by decide)]

theorem pre9_v55 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v55) : S4x64x128.Idx → EReal) = fun j => (V (Proc.devRef .tc main_v33_4) : S32x4x64x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v55) : S4x64x128.Idx → EReal) = _
  rw [keep_bwd8 _ main_while1b_v55 (by decide), keep_bwd7 _ main_while1b_v55 (by decide), keep_bwd6 _ main_while1b_v55 (by decide), read_bwd5 _ n (by rw [keep_bwd4 _ main_while1b_v50 (by decide), keep_bwd3 _ main_while1b_v50 (by decide), keep_bwd2 _ main_while1b_v50 (by decide), keep_bwd1 _ main_while1b_v50 (by decide), index_bwd0 _ k hk (by rw [keep_cond1 _ main_v33_8 (by decide)]; exact h), hnk]), keep_bwd4 _ main_v33_4 (by decide), keep_bwd3 _ main_v33_4 (by decide), keep_bwd2 _ main_v33_4 (by decide), keep_bwd1 _ main_v33_4 (by decide), keep_bwd0 _ main_v33_4 (by decide), keep_cond1 _ main_v33_4 (by decide)]

theorem pre9_v56 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v56) : S4x64x64.Idx → EReal) = fun j => (V (Proc.devRef .tc main_v33_5) : S32x4x64x64.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v56) : S4x64x64.Idx → EReal) = _
  rw [keep_bwd8 _ main_while1b_v56 (by decide), keep_bwd7 _ main_while1b_v56 (by decide), read_bwd6 _ n (by rw [keep_bwd5 _ main_while1b_v50 (by decide), keep_bwd4 _ main_while1b_v50 (by decide), keep_bwd3 _ main_while1b_v50 (by decide), keep_bwd2 _ main_while1b_v50 (by decide), keep_bwd1 _ main_while1b_v50 (by decide), index_bwd0 _ k hk (by rw [keep_cond1 _ main_v33_8 (by decide)]; exact h), hnk]), keep_bwd5 _ main_v33_5 (by decide), keep_bwd4 _ main_v33_5 (by decide), keep_bwd3 _ main_v33_5 (by decide), keep_bwd2 _ main_v33_5 (by decide), keep_bwd1 _ main_v33_5 (by decide), keep_bwd0 _ main_v33_5 (by decide), keep_cond1 _ main_v33_5 (by decide)]

theorem pre9_v57 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v57) : S4x1x128.Idx → EReal) = fun j => (V (Proc.devRef .tc main_v33_6) : S32x4x1x128.Idx → EReal) (ix4 n (j 0) 0 (j 2)) := by
  show (after bwd8 (after bwd7 (after bwd6 (after bwd5 (after bwd4 (after bwd3 (after bwd2 (after bwd1 (after bwd0 (after cond1 V))))))))) (Proc.devRef .tc main_while1b_v57) : S4x1x128.Idx → EReal) = _
  rw [keep_bwd8 _ main_while1b_v57 (by decide), read_bwd7 _ n (by rw [keep_bwd6 _ main_while1b_v50 (by decide), keep_bwd5 _ main_while1b_v50 (by decide), keep_bwd4 _ main_while1b_v50 (by decide), keep_bwd3 _ main_while1b_v50 (by decide), keep_bwd2 _ main_while1b_v50 (by decide), keep_bwd1 _ main_while1b_v50 (by decide), index_bwd0 _ k hk (by rw [keep_cond1 _ main_v33_8 (by decide)]; exact h), hnk]), keep_bwd6 _ main_v33_6 (by decide), keep_bwd5 _ main_v33_6 (by decide), keep_bwd4 _ main_v33_6 (by decide), keep_bwd3 _ main_v33_6 (by decide), keep_bwd2 _ main_v33_6 (by decide), keep_bwd1 _ main_v33_6 (by decide), keep_bwd0 _ main_v33_6 (by decide), keep_cond1 _ main_v33_6 (by decide)]

theorem pre9_v58 (V : Valuation τ sig (Elt Ideal)) (k : ℕ) (hk : k < 32) (n : Fin 32) (hnk : n.val = 31 - k) (h : (V (Proc.devRef .tc main_v33_8) : IVec S_ 32) = fun _ => BitVec.ofNat 32 k) :
    (pre9 V (Proc.devRef .tc main_while1b_v58) : S4x64x128.Idx → EReal) = fun j => (V (Proc.devRef .tc main_v33_7) : S32x4x64x128.Idx → EReal) (ix4 n (j 0) (j 1) (j 2)) := by
  show (after bwd8 (after bwd7 (after bwd6 (after bwd5 (after bwd4 (after bwd3 (after bwd2 (after bwd1 (after bwd0 (after cond1 V))))))))) (Proc.devRef .tc main_while1b_v58) : S4x64x128.Idx → EReal) = _
  rw [read_bwd8 _ n (by rw [keep_bwd7 _ main_while1b_v50 (by decide), keep_bwd6 _ main_while1b_v50 (by decide), keep_bwd5 _ main_while1b_v50 (by decide), keep_bwd4 _ main_while1b_v50 (by decide), keep_bwd3 _ main_while1b_v50 (by decide), keep_bwd2 _ main_while1b_v50 (by decide), keep_bwd1 _ main_while1b_v50 (by decide), index_bwd0 _ k hk (by rw [keep_cond1 _ main_v33_8 (by decide)]; exact h), hnk]), keep_bwd7 _ main_v33_7 (by decide), keep_bwd6 _ main_v33_7 (by decide), keep_bwd5 _ main_v33_7 (by decide), keep_bwd4 _ main_v33_7 (by decide), keep_bwd3 _ main_v33_7 (by decide), keep_bwd2 _ main_v33_7 (by decide), keep_bwd1 _ main_v33_7 (by decide), keep_bwd0 _ main_v33_7 (by decide), keep_cond1 _ main_v33_7 (by decide)]

end Cert.ReferenceIdeal.Val

end
-- ==== Proof.Val.RefBwd.lean ====
/- The reference's second loop: after `k` trips the carried gradient is the recurrence's, and the stacks hold the gradients of the last `k` chunks. -/
module

public import proofs.«01_k».proof.Proof.Ref.Run
public import proofs.«01_k».proof.Proof.Val.RefPure
public import proofs.«01_k».proof.Proof.Val.RefBack

@[expose] public section

set_option maxRecDepth 16384

noncomputable section

namespace Cert.ReferenceIdeal.Val

open Cert.ReferenceIdeal Cert.ReferenceIdeal.Gen Cert.ReferenceIdeal.Ref
open Idealize.ShloMosaic Idealize.ShloMosaic.TcCoe Idealize.ShloMosaic.Tactic
open Idealize.ShloMosaic.StableHlo

section

variable (u w qk qd kd eg d : S2048x512.Idx → EReal)

/-- What holds after `k` trips. -/
structure BwdInv (V : Valuation τ sig (Elt Ideal)) (k : ℕ) : Prop where
  ctr : (V (Proc.devRef .tc main_v33_8) : IVec S_ 32) = fun _ => BitVec.ofNat 32 k
  a_d : (V (Proc.devRef .tc main_v33_0) : S32x4x64x128.Idx → EReal) = fun y => Spec.chunk d (y 0).val (ix3 (y 1) (y 2) (y 3))
  a_S : (V (Proc.devRef .tc main_v33_1) : S32x4x128x128.Idx → EReal) = fun y => Spec.states u w kd eg (y 0).val (ix3 (y 1) (y 2) (y 3))
  a_w : (V (Proc.devRef .tc main_v33_2) : S32x4x64x128.Idx → EReal) = fun y => Spec.chunk w (y 0).val (ix3 (y 1) (y 2) (y 3))
  a_qd : (V (Proc.devRef .tc main_v33_3) : S32x4x64x128.Idx → EReal) = fun y => Spec.chunk qd (y 0).val (ix3 (y 1) (y 2) (y 3))
  a_vn : (V (Proc.devRef .tc main_v33_4) : S32x4x64x128.Idx → EReal) = fun y => Spec.vnew (Spec.chunk u (y 0).val) (Spec.chunk w (y 0).val) (Spec.states u w kd eg (y 0).val) (ix3 (y 1) (y 2) (y 3))
  a_qk : (V (Proc.devRef .tc main_v33_5) : S32x4x64x64.Idx → EReal) = fun y => Spec.half (Spec.chunk qk (y 0).val) (ix3 (y 1) (y 2) (y 3))
  a_gl : (V (Proc.devRef .tc main_v33_6) : S32x4x1x128.Idx → EReal) = fun y => Spec.chunk eg (y 0).val (ix3 (y 1) 0 (y 3))
  a_kd : (V (Proc.devRef .tc main_v33_7) : S32x4x64x128.Idx → EReal) = fun y => Spec.chunk kd (y 0).val (ix3 (y 1) (y 2) (y 3))
  carried : (V (Proc.devRef .tc main_v33_9) : S4x128x128.Idx → EReal) = Spec.backs w qk qd kd eg d k
  dqd : ∀ y, 32 ≤ (y 0).val + k → (V (Proc.devRef .tc main_v33_10) : S32x4x64x128.Idx → EReal) y = Spec.dQd (Spec.chunk d (y 0).val) (Spec.states u w kd eg (y 0).val) (ix3 (y 1) (y 2) (y 3))
  dkd : ∀ y, 32 ≤ (y 0).val + k → (V (Proc.devRef .tc main_v33_11) : S32x4x64x128.Idx → EReal) y = Spec.dKd (Spec.chunk u (y 0).val) (Spec.chunk w (y 0).val) (Spec.states u w kd eg (y 0).val) (Spec.backs w qk qd kd eg d (31 - (y 0).val)) (ix3 (y 1) (y 2) (y 3))
  du : ∀ y, 32 ≤ (y 0).val + k → (V (Proc.devRef .tc main_v33_12) : S32x4x64x128.Idx → EReal) y = Spec.dU (Spec.half (Spec.chunk qk (y 0).val)) (Spec.chunk kd (y 0).val) (Spec.chunk d (y 0).val) (Spec.backs w qk qd kd eg d (31 - (y 0).val)) (ix3 (y 1) (y 2) (y 3))
  dw : ∀ y, 32 ≤ (y 0).val + k → (V (Proc.devRef .tc main_v33_13) : S32x4x64x128.Idx → EReal) y = Spec.dW (Spec.half (Spec.chunk qk (y 0).val)) (Spec.chunk kd (y 0).val) (Spec.chunk d (y 0).val) (Spec.states u w kd eg (y 0).val) (Spec.backs w qk qd kd eg d (31 - (y 0).val)) (ix3 (y 1) (y 2) (y 3))
  dqk : ∀ y, 32 ≤ (y 0).val + k → (V (Proc.devRef .tc main_v33_14) : S32x4x64x64.Idx → EReal) y = Spec.dQk (Spec.chunk u (y 0).val) (Spec.chunk w (y 0).val) (Spec.chunk d (y 0).val) (Spec.states u w kd eg (y 0).val) (ix3 (y 1) (y 2) (y 3))
  deg : ∀ y, 32 ≤ (y 0).val + k → (V (Proc.devRef .tc main_v33_15) : S32x4x128.Idx → EReal) y = Spec.dEg (Spec.states u w kd eg (y 0).val) (Spec.backs w qk qd kd eg d (31 - (y 0).val)) (ix2 (y 1) (y 2))

theorem bwd_in (V : Valuation τ sig (Elt Ideal)) (k : ℕ) (hk : k < 32) (n : ℕ) (hn : n = 31 - k) (h : BwdInv u w qk qd kd eg d V k) :
    BwdIn (pre9 V) (Spec.chunk u n) (Spec.chunk w n) (Spec.half (Spec.chunk qk n)) (Spec.chunk qd n) (Spec.chunk kd n) (Spec.chunk eg n) (Spec.chunk d n) (Spec.states u w kd eg n) (Spec.backs w qk qd kd eg d k) where
  a_d := by rw [pre9_v51 V k hk ⟨n, by omega⟩ hn h.ctr, h.a_d]; funext j; exact congrArg (Spec.chunk d n) (ix3_eta j)
  a_S := by rw [pre9_v52 V k hk ⟨n, by omega⟩ hn h.ctr, h.a_S]; funext j; exact congrArg (Spec.states u w kd eg n) (ix3_eta j)
  a_w := by rw [pre9_v53 V k hk ⟨n, by omega⟩ hn h.ctr, h.a_w]; funext j; exact congrArg (Spec.chunk w n) (ix3_eta j)
  a_qd := by rw [pre9_v54 V k hk ⟨n, by omega⟩ hn h.ctr, h.a_qd]; funext j; exact congrArg (Spec.chunk qd n) (ix3_eta j)
  a_vn := by rw [pre9_v55 V k hk ⟨n, by omega⟩ hn h.ctr, h.a_vn]; funext j; exact congrArg (Spec.vnew (Spec.chunk u n) (Spec.chunk w n) (Spec.states u w kd eg n)) (ix3_eta j)
  a_qk := by rw [pre9_v56 V k hk ⟨n, by omega⟩ hn h.ctr, h.a_qk]; funext j; exact congrArg (Spec.half (Spec.chunk qk n)) (ix3_eta j)
  a_gl := by rw [pre9_v57 V k hk ⟨n, by omega⟩ hn h.ctr, h.a_gl]; rfl
  a_kd := by rw [pre9_v58 V k hk ⟨n, by omega⟩ hn h.ctr, h.a_kd]; funext j; exact congrArg (Spec.chunk kd n) (ix3_eta j)
  a_dS := by rw [keep_pre9 _ main_v33_9 (by decide)]; exact h.carried

theorem bwd_trip (V : Valuation τ sig (Elt Ideal)) (k : ℕ) (hk : k < 32) (h : BwdInv u w qk qd kd eg d V k) : BwdInv u w qk qd kd eg d (afterL bwdI (after cond1 V)) (k + 1) := by
  have e : afterL bwdI (after cond1 V) = after bwd16 (after bwd15 (after bwd14 (after bwd13 (after bwd12 (after bwd11 (after bwd10 (after bwd9 (pre9 V)))))))) := rfl
  have hin := bwd_in u w qk qd kd eg d V k hk (31 - k) rfl h
  have hx := pre9_index V k hk h.ctr
  let n : Fin 32 := ⟨31 - k, by omega⟩
  have hn : (pre9 V (Proc.devRef .tc main_while1b_v50) : IVec S_ 32) = fun _ => BitVec.ofNat 32 n.val := hx
  have hback : 31 - (31 - k) = k := by omega
  exact {
    ctr := by
      rw [e, step1, keep_bwd15 _ main_v33_8 (by decide), keep_bwd14 _ main_v33_8 (by decide), keep_bwd13 _ main_v33_8 (by decide), keep_bwd12 _ main_v33_8 (by decide), keep_bwd11 _ main_v33_8 (by decide), keep_bwd10 _ main_v33_8 (by decide), keep_bwd9 _ main_v33_8 (by decide), keep_pre9 _ main_v33_8 (by decide), h.ctr]
      funext _
      exact (BitVec.ofNat_add ..).symm
    a_d := by rw [e, keep_bwd16 _ main_v33_0 (by decide), keep_bwd15 _ main_v33_0 (by decide), keep_bwd14 _ main_v33_0 (by decide), keep_bwd13 _ main_v33_0 (by decide), keep_bwd12 _ main_v33_0 (by decide), keep_bwd11 _ main_v33_0 (by decide), keep_bwd10 _ main_v33_0 (by decide), keep_bwd9 _ main_v33_0 (by decide), keep_pre9 _ main_v33_0 (by decide)]; exact h.a_d
    a_S := by rw [e, keep_bwd16 _ main_v33_1 (by decide), keep_bwd15 _ main_v33_1 (by decide), keep_bwd14 _ main_v33_1 (by decide), keep_bwd13 _ main_v33_1 (by decide), keep_bwd12 _ main_v33_1 (by decide), keep_bwd11 _ main_v33_1 (by decide), keep_bwd10 _ main_v33_1 (by decide), keep_bwd9 _ main_v33_1 (by decide), keep_pre9 _ main_v33_1 (by decide)]; exact h.a_S
    a_w := by rw [e, keep_bwd16 _ main_v33_2 (by decide), keep_bwd15 _ main_v33_2 (by decide), keep_bwd14 _ main_v33_2 (by decide), keep_bwd13 _ main_v33_2 (by decide), keep_bwd12 _ main_v33_2 (by decide), keep_bwd11 _ main_v33_2 (by decide), keep_bwd10 _ main_v33_2 (by decide), keep_bwd9 _ main_v33_2 (by decide), keep_pre9 _ main_v33_2 (by decide)]; exact h.a_w
    a_qd := by rw [e, keep_bwd16 _ main_v33_3 (by decide), keep_bwd15 _ main_v33_3 (by decide), keep_bwd14 _ main_v33_3 (by decide), keep_bwd13 _ main_v33_3 (by decide), keep_bwd12 _ main_v33_3 (by decide), keep_bwd11 _ main_v33_3 (by decide), keep_bwd10 _ main_v33_3 (by decide), keep_bwd9 _ main_v33_3 (by decide), keep_pre9 _ main_v33_3 (by decide)]; exact h.a_qd
    a_vn := by rw [e, keep_bwd16 _ main_v33_4 (by decide), keep_bwd15 _ main_v33_4 (by decide), keep_bwd14 _ main_v33_4 (by decide), keep_bwd13 _ main_v33_4 (by decide), keep_bwd12 _ main_v33_4 (by decide), keep_bwd11 _ main_v33_4 (by decide), keep_bwd10 _ main_v33_4 (by decide), keep_bwd9 _ main_v33_4 (by decide), keep_pre9 _ main_v33_4 (by decide)]; exact h.a_vn
    a_qk := by rw [e, keep_bwd16 _ main_v33_5 (by decide), keep_bwd15 _ main_v33_5 (by decide), keep_bwd14 _ main_v33_5 (by decide), keep_bwd13 _ main_v33_5 (by decide), keep_bwd12 _ main_v33_5 (by decide), keep_bwd11 _ main_v33_5 (by decide), keep_bwd10 _ main_v33_5 (by decide), keep_bwd9 _ main_v33_5 (by decide), keep_pre9 _ main_v33_5 (by decide)]; exact h.a_qk
    a_gl := by rw [e, keep_bwd16 _ main_v33_6 (by decide), keep_bwd15 _ main_v33_6 (by decide), keep_bwd14 _ main_v33_6 (by decide), keep_bwd13 _ main_v33_6 (by decide), keep_bwd12 _ main_v33_6 (by decide), keep_bwd11 _ main_v33_6 (by decide), keep_bwd10 _ main_v33_6 (by decide), keep_bwd9 _ main_v33_6 (by decide), keep_pre9 _ main_v33_6 (by decide)]; exact h.a_gl
    a_kd := by rw [e, keep_bwd16 _ main_v33_7 (by decide), keep_bwd15 _ main_v33_7 (by decide), keep_bwd14 _ main_v33_7 (by decide), keep_bwd13 _ main_v33_7 (by decide), keep_bwd12 _ main_v33_7 (by decide), keep_bwd11 _ main_v33_7 (by decide), keep_bwd10 _ main_v33_7 (by decide), keep_bwd9 _ main_v33_7 (by decide), keep_pre9 _ main_v33_7 (by decide)]; exact h.a_kd
    carried := by
      rw [e, (copy_bwd16 _).1, keep_bwd15 _ main_while1b_v80 (by decide), keep_bwd14 _ main_while1b_v80 (by decide), keep_bwd13 _ main_while1b_v80 (by decide), keep_bwd12 _ main_while1b_v80 (by decide), keep_bwd11 _ main_while1b_v80 (by decide), keep_bwd10 _ main_while1b_v80 (by decide), back_bwd9 _ _ _ _ _ _ _ _ _ _ hin]
      rfl
    dqd := fun y hy => by
      rw [e, (copy_bwd16 _).2.1, keep_bwd15 _ main_while1b_v82 (by decide), keep_bwd14 _ main_while1b_v82 (by decide), keep_bwd13 _ main_while1b_v82 (by decide), keep_bwd12 _ main_while1b_v82 (by decide), keep_bwd11 _ main_while1b_v82 (by decide), write_bwd10 _ n (by rw [keep_bwd9 _ main_while1b_v50 (by decide)]; exact hn)]
      dsimp only
      split_ifs with hyk
      · rw [dqd_bwd9 _ _ _ _ _ _ _ _ _ _ hin, show (y 0).val = 31 - k from hyk]
      · rw [keep_bwd9 _ main_v33_10 (by decide), keep_pre9 _ main_v33_10 (by decide)]
        exact h.dqd y (by have : ¬(y 0).val = 31 - k := hyk; omega)
    dkd := fun y hy => by
      rw [e, (copy_bwd16 _).2.2.1, keep_bwd15 _ main_while1b_v83 (by decide), keep_bwd14 _ main_while1b_v83 (by decide), keep_bwd13 _ main_while1b_v83 (by decide), keep_bwd12 _ main_while1b_v83 (by decide), write_bwd11 _ n (by rw [keep_bwd10 _ main_while1b_v50 (by decide), keep_bwd9 _ main_while1b_v50 (by decide)]; exact hn)]
      dsimp only
      split_ifs with hyk
      · rw [keep_bwd10 _ main_while1b_v62 (by decide), dkd_bwd9 _ _ _ _ _ _ _ _ _ _ hin, show (y 0).val = 31 - k from hyk, hback]
      · rw [keep_bwd10 _ main_v33_11 (by decide), keep_bwd9 _ main_v33_11 (by decide), keep_pre9 _ main_v33_11 (by decide)]
        exact h.dkd y (by have : ¬(y 0).val = 31 - k := hyk; omega)
    du := fun y hy => by
      rw [e, (copy_bwd16 _).2.2.2.1, keep_bwd15 _ main_while1b_v84 (by decide), keep_bwd14 _ main_while1b_v84 (by decide), keep_bwd13 _ main_while1b_v84 (by decide), write_bwd12 _ n (by rw [keep_bwd11 _ main_while1b_v50 (by decide), keep_bwd10 _ main_while1b_v50 (by decide), keep_bwd9 _ main_while1b_v50 (by decide)]; exact hn)]
      dsimp only
      split_ifs with hyk
      · rw [keep_bwd11 _ main_while1b_v71 (by decide), keep_bwd10 _ main_while1b_v71 (by decide), du_bwd9 _ _ _ _ _ _ _ _ _ _ hin, show (y 0).val = 31 - k from hyk, hback]
      · rw [keep_bwd11 _ main_v33_12 (by decide), keep_bwd10 _ main_v33_12 (by decide), keep_bwd9 _ main_v33_12 (by decide), keep_pre9 _ main_v33_12 (by decide)]
        exact h.du y (by have : ¬(y 0).val = 31 - k := hyk; omega)
    dw := fun y hy => by
      rw [e, (copy_bwd16 _).2.2.2.2.1, keep_bwd15 _ main_while1b_v85 (by decide), keep_bwd14 _ main_while1b_v85 (by decide), write_bwd13 _ n (by rw [keep_bwd12 _ main_while1b_v50 (by decide), keep_bwd11 _ main_while1b_v50 (by decide), keep_bwd10 _ main_while1b_v50 (by decide), keep_bwd9 _ main_while1b_v50 (by decide)]; exact hn)]
      dsimp only
      split_ifs with hyk
      · rw [keep_bwd12 _ main_while1b_v81 (by decide), keep_bwd11 _ main_while1b_v81 (by decide), keep_bwd10 _ main_while1b_v81 (by decide), dw_bwd9 _ _ _ _ _ _ _ _ _ _ hin, show (y 0).val = 31 - k from hyk, hback]
      · rw [keep_bwd12 _ main_v33_13 (by decide), keep_bwd11 _ main_v33_13 (by decide), keep_bwd10 _ main_v33_13 (by decide), keep_bwd9 _ main_v33_13 (by decide), keep_pre9 _ main_v33_13 (by decide)]
        exact h.dw y (by have : ¬(y 0).val = 31 - k := hyk; omega)
    dqk := fun y hy => by
      rw [e, (copy_bwd16 _).2.2.2.2.2.1, keep_bwd15 _ main_while1b_v86 (by decide), write_bwd14 _ n (by rw [keep_bwd13 _ main_while1b_v50 (by decide), keep_bwd12 _ main_while1b_v50 (by decide), keep_bwd11 _ main_while1b_v50 (by decide), keep_bwd10 _ main_while1b_v50 (by decide), keep_bwd9 _ main_while1b_v50 (by decide)]; exact hn)]
      dsimp only
      split_ifs with hyk
      · rw [keep_bwd13 _ main_while1b_v72 (by decide), keep_bwd12 _ main_while1b_v72 (by decide), keep_bwd11 _ main_while1b_v72 (by decide), keep_bwd10 _ main_while1b_v72 (by decide), dqk_bwd9 _ _ _ _ _ _ _ _ _ _ hin, show (y 0).val = 31 - k from hyk]
      · rw [keep_bwd13 _ main_v33_14 (by decide), keep_bwd12 _ main_v33_14 (by decide), keep_bwd11 _ main_v33_14 (by decide), keep_bwd10 _ main_v33_14 (by decide), keep_bwd9 _ main_v33_14 (by decide), keep_pre9 _ main_v33_14 (by decide)]
        exact h.dqk y (by have : ¬(y 0).val = 31 - k := hyk; omega)
    deg := fun y hy => by
      rw [e, (copy_bwd16 _).2.2.2.2.2.2, write_bwd15 _ n (by rw [keep_bwd14 _ main_while1b_v50 (by decide), keep_bwd13 _ main_while1b_v50 (by decide), keep_bwd12 _ main_while1b_v50 (by decide), keep_bwd11 _ main_while1b_v50 (by decide), keep_bwd10 _ main_while1b_v50 (by decide), keep_bwd9 _ main_while1b_v50 (by decide)]; exact hn)]
      dsimp only
      split_ifs with hyk
      · rw [keep_bwd14 _ main_while1b_v68 (by decide), keep_bwd13 _ main_while1b_v68 (by decide), keep_bwd12 _ main_while1b_v68 (by decide), keep_bwd11 _ main_while1b_v68 (by decide), keep_bwd10 _ main_while1b_v68 (by decide), deg_bwd9 _ _ _ _ _ _ _ _ _ _ hin, show (y 0).val = 31 - k from hyk, hback]
      · rw [keep_bwd14 _ main_v33_15 (by decide), keep_bwd13 _ main_v33_15 (by decide), keep_bwd12 _ main_v33_15 (by decide), keep_bwd11 _ main_v33_15 (by decide), keep_bwd10 _ main_v33_15 (by decide), keep_bwd9 _ main_v33_15 (by decide), keep_pre9 _ main_v33_15 (by decide)]
        exact h.deg y (by have : ¬(y 0).val = 31 - k := hyk; omega)
  }

end

/-! ## The entry and every trip -/

variable (m : (ℓ : Loc nD τ sig) → Buf (Elt Ideal) ℓ) (c : Dev nD)

theorem bwd_entry : BwdInv (arg m c main_arg0) (arg m c main_arg1) (arg m c main_arg2) (arg m c main_arg3) (arg m c main_arg4) (arg m c main_arg5) (arg m c main_arg6) (In1 m c) 0 where
  ctr := In1_ctr m c
  a_d := by
    simp only [In1, afterL_cons, afterL_nil]
    have hF := fwd_all m c 32 le_rfl
    have hk := (keep_cond0 (fwdAt m 32 c) main_arg6 (by decide)).trans (fwdAt_keep m c main_arg6 (by decide) (by decide) 32)
    generalize after cond0 (fwdAt m 32 c) = X at hk ⊢
    after_reads_simp
    rw [hk]
    simp only [In0, afterL_cons, afterL_nil]
    rw [keep_preOps _ main_arg6 (by decide)]
    exact cutRows _
  a_S := by
    simp only [In1, afterL_cons, afterL_nil]
    have hF := fwd_all m c 32 le_rfl
    have hk := keep_cond0 (fwdAt m 32 c) main_v20_9 (by decide)
    generalize after cond0 (fwdAt m 32 c) = X at hk ⊢
    after_reads_simp
    rw [hk]
    funext y
    exact hF.states y (y 0).isLt
  a_w := by
    simp only [In1, afterL_cons, afterL_nil]
    have hF := fwd_all m c 32 le_rfl
    have hk := (keep_cond0 (fwdAt m 32 c) main_v7 (by decide)).trans (fwdAt_keep m c main_v7 (by decide) (by decide) 32)
    generalize after cond0 (fwdAt m 32 c) = X at hk ⊢
    after_reads_simp
    rw [hk]
    simp only [In0, afterL_cons, afterL_nil]
    after_reads_simp
    exact cutRows _
  a_qd := by
    simp only [In1, afterL_cons, afterL_nil]
    have hF := fwd_all m c 32 le_rfl
    have hk := (keep_cond0 (fwdAt m 32 c) main_v1 (by decide)).trans (fwdAt_keep m c main_v1 (by decide) (by decide) 32)
    generalize after cond0 (fwdAt m 32 c) = X at hk ⊢
    after_reads_simp
    rw [hk]
    simp only [In0, afterL_cons, afterL_nil]
    after_reads_simp
    exact cutRows _
  a_vn := by
    simp only [In1, afterL_cons, afterL_nil]
    have hF := fwd_all m c 32 le_rfl
    have hk := keep_cond0 (fwdAt m 32 c) main_v20_10 (by decide)
    generalize after cond0 (fwdAt m 32 c) = X at hk ⊢
    after_reads_simp
    rw [hk]
    funext y
    exact hF.vnews y (y 0).isLt
  a_qk := by
    simp only [In1, afterL_cons, afterL_nil]
    have hF := fwd_all m c 32 le_rfl
    have hk := (keep_cond0 (fwdAt m 32 c) main_v10 (by decide)).trans (fwdAt_keep m c main_v10 (by decide) (by decide) 32)
    generalize after cond0 (fwdAt m 32 c) = X at hk ⊢
    after_reads_simp
    rw [hk]
    simp only [In0, afterL_cons, afterL_nil]
    after_reads_simp
    exact cutPairs _
  a_gl := by
    simp only [In1, afterL_cons, afterL_nil]
    have hF := fwd_all m c 32 le_rfl
    have hk := keep_cond0 (fwdAt m 32 c) main_v20_11 (by decide)
    generalize after cond0 (fwdAt m 32 c) = X at hk ⊢
    after_reads_simp
    rw [hk]
    funext y
    exact hF.gls y (y 0).isLt
  a_kd := by
    simp only [In1, afterL_cons, afterL_nil]
    have hF := fwd_all m c 32 le_rfl
    have hk := (keep_cond0 (fwdAt m 32 c) main_v3 (by decide)).trans (fwdAt_keep m c main_v3 (by decide) (by decide) 32)
    generalize after cond0 (fwdAt m 32 c) = X at hk ⊢
    after_reads_simp
    rw [hk]
    simp only [In0, afterL_cons, afterL_nil]
    after_reads_simp
    exact cutRows _
  carried := by
    simp only [In1, afterL_cons, afterL_nil]
    generalize after cond0 (fwdAt m 32 c) = X
    after_reads_simp
    funext y
    exact Ideal.ofBits_zero_f32
  dqd := fun y h => absurd h (by have : (y 0).val < 32 := (y 0).isLt; omega)
  dkd := fun y h => absurd h (by have : (y 0).val < 32 := (y 0).isLt; omega)
  du := fun y h => absurd h (by have : (y 0).val < 32 := (y 0).isLt; omega)
  dw := fun y h => absurd h (by have : (y 0).val < 32 := (y 0).isLt; omega)
  dqk := fun y h => absurd h (by have : (y 0).val < 32 := (y 0).isLt; omega)
  deg := fun y h => absurd h (by have : (y 0).val < 32 := (y 0).isLt; omega)

theorem bwd_all : ∀ k ≤ 32, BwdInv (arg m c main_arg0) (arg m c main_arg1) (arg m c main_arg2) (arg m c main_arg3) (arg m c main_arg4) (arg m c main_arg5) (arg m c main_arg6) (bwdAt m k c) k := by
  intro k hk
  induction k with
  | zero => exact bwd_entry m c
  | succ k ih => exact bwd_trip _ _ _ _ _ _ _ (bwdAt m k c) k (by omega) (ih (by omega))

end Cert.ReferenceIdeal.Val

end
-- ==== Proof.Val.RefEnd.lean ====
/- The reference's six results, entrywise: row `y` lies in chunk `y / 64`, and holds what the recurrence gives there. -/
module

public import proofs.«01_k».proof.Proof.Ref.Run
public import proofs.«01_k».proof.Proof.Val.RefPure
public import proofs.«01_k».proof.Proof.Val.RefBwd

@[expose] public section

set_option maxRecDepth 16384

noncomputable section

namespace Cert.ReferenceIdeal.Val

open Cert.ReferenceIdeal Cert.ReferenceIdeal.Gen Cert.ReferenceIdeal.Ref
open Idealize.ShloMosaic Idealize.ShloMosaic.TcCoe Idealize.ShloMosaic.Tactic
open Idealize.ShloMosaic.StableHlo

/-- An entry's head, row of its chunk and lane. -/
def cell (y : S2048x512.Idx) : S4x64x128.Idx :=
  ix3 ⟨(y 1).val / 128, by have h : (y 1).val < 512 := (y 1).isLt; omega⟩ ⟨(y 0).val % 64, Nat.mod_lt _ (by decide)⟩ ⟨(y 1).val % 128, Nat.mod_lt _ (by decide)⟩

/-- An entry's chunk. -/
def chunkNo (y : S2048x512.Idx) : Fin 32 := ⟨(y 0).val / 64, by have h : (y 0).val < 2048 := (y 0).isLt; omega⟩

/-- An array in the heads' layout, read as the rows. -/
theorem join (x : S32x4x64x128.Idx → EReal) :
    shapeCast S2048x512 (transpose S32x64x4x128 [0, 2, 1, 3] x transposes_S32x4x64x128_S32x64x4x128_0_2_1_3) shapeCasts_S32x64x4x128_S2048x512
      = fun y => x (ix4 (chunkNo y) (cell y 0) (cell y 1) (cell y 2)) := by
  funext y
  idx_vars y
  unfold cell chunkNo
  pointwise

/-- Lanes filled up to 128 with zeros. -/
theorem fillLanes (x : S32x4x64x64.Idx → EReal) (y : S32x4x64x128.Idx) :
    pad S32x4x64x128 ![0, 0, 0, 0] ![0, 0, 0, 64] ![0, 0, 0, 0] x (constant (F := Ideal) S_ .f32 0x00000000#32) pads_S32x4x64x64_S32x4x64x128_000_000_000_0640 h_S_ y
      = if h : (y 3).val < 64 then x (ix4 (y 0) (y 1) (y 2) ⟨(y 3).val, h⟩) else 0 := by
  idx_vars y
  pointwise

/-- Rows filled up to 64 with zeros. -/
theorem fillRows (x : S32x4x128.Idx → EReal) (y : S32x4x64x128.Idx) :
    pad S32x4x64x128 ![0, 0, 0, 0] ![0, 0, 63, 0] ![0, 0, 0, 0] (broadcastInDim S32x4x1x128 ![0, 1, 3] bcast_S32x4x128_S32x4x1x128_0_1_3 x) (constant (F := Ideal) S_ .f32 0x00000000#32) pads_S32x4x1x128_S32x4x64x128_000_000_0630_000 h_S_ y
      = if (y 2).val = 0 then x (ix3 (y 0) (y 1) (y 3)) else 0 := by
  idx_vars y
  pointwise
  by_cases h : y2.val = 0
  · exact (dif_pos (by omega)).trans (if_pos h).symm
  · exact (dif_neg (by omega)).trans (if_neg h).symm

variable (m : (ℓ : Loc nD τ sig) → Buf (Elt Ideal) ℓ) (c : Dev nD)

theorem end_dqd (y : S2048x512.Idx) : (End m c (Proc.devRef .tc main_v48) : S2048x512.Idx → EReal) y
    = Spec.dQd (Spec.chunk (arg m c main_arg6) ((y 0).val / 64)) (Spec.states (arg m c main_arg0) (arg m c main_arg1) (arg m c main_arg4) (arg m c main_arg5) ((y 0).val / 64)) (cell y) := by
  have hI := fun x => (bwd_all m c 32 le_rfl).dqd x (Nat.le_add_left 32 _)
  unfold End
  have hk := keep_cond1 (bwdAt m 32 c) main_v33_10 (by decide)
  simp only [afterL_cons, afterL_nil]
  generalize after cond1 (bwdAt m 32 c) = X at hk ⊢
  after_reads_simp
  rw [hk]
  refine (congrFun (join _) y).trans ?_
  refine (hI _).trans ?_
  exact congrArg _ (ix3_eta (cell y))

theorem end_dkd (y : S2048x512.Idx) : (End m c (Proc.devRef .tc main_v46) : S2048x512.Idx → EReal) y
    = Spec.dKd (Spec.chunk (arg m c main_arg0) ((y 0).val / 64)) (Spec.chunk (arg m c main_arg1) ((y 0).val / 64)) (Spec.states (arg m c main_arg0) (arg m c main_arg1) (arg m c main_arg4) (arg m c main_arg5) ((y 0).val / 64)) (Spec.backs (arg m c main_arg1) (arg m c main_arg2) (arg m c main_arg3) (arg m c main_arg4) (arg m c main_arg5) (arg m c main_arg6) (31 - ((y 0).val / 64))) (cell y) := by
  have hI := fun x => (bwd_all m c 32 le_rfl).dkd x (Nat.le_add_left 32 _)
  unfold End
  have hk := keep_cond1 (bwdAt m 32 c) main_v33_11 (by decide)
  simp only [afterL_cons, afterL_nil]
  generalize after cond1 (bwdAt m 32 c) = X at hk ⊢
  after_reads_simp
  rw [hk]
  refine (congrFun (join _) y).trans ?_
  refine (hI _).trans ?_
  exact congrArg _ (ix3_eta (cell y))

theorem end_du (y : S2048x512.Idx) : (End m c (Proc.devRef .tc main_v44) : S2048x512.Idx → EReal) y
    = Spec.dU (Spec.half (Spec.chunk (arg m c main_arg2) ((y 0).val / 64))) (Spec.chunk (arg m c main_arg4) ((y 0).val / 64)) (Spec.chunk (arg m c main_arg6) ((y 0).val / 64)) (Spec.backs (arg m c main_arg1) (arg m c main_arg2) (arg m c main_arg3) (arg m c main_arg4) (arg m c main_arg5) (arg m c main_arg6) (31 - ((y 0).val / 64))) (cell y) := by
  have hI := fun x => (bwd_all m c 32 le_rfl).du x (Nat.le_add_left 32 _)
  unfold End
  have hk := keep_cond1 (bwdAt m 32 c) main_v33_12 (by decide)
  simp only [afterL_cons, afterL_nil]
  generalize after cond1 (bwdAt m 32 c) = X at hk ⊢
  after_reads_simp
  rw [hk]
  refine (congrFun (join _) y).trans ?_
  refine (hI _).trans ?_
  exact congrArg _ (ix3_eta (cell y))

theorem end_dw (y : S2048x512.Idx) : (End m c (Proc.devRef .tc main_v42) : S2048x512.Idx → EReal) y
    = Spec.dW (Spec.half (Spec.chunk (arg m c main_arg2) ((y 0).val / 64))) (Spec.chunk (arg m c main_arg4) ((y 0).val / 64)) (Spec.chunk (arg m c main_arg6) ((y 0).val / 64)) (Spec.states (arg m c main_arg0) (arg m c main_arg1) (arg m c main_arg4) (arg m c main_arg5) ((y 0).val / 64)) (Spec.backs (arg m c main_arg1) (arg m c main_arg2) (arg m c main_arg3) (arg m c main_arg4) (arg m c main_arg5) (arg m c main_arg6) (31 - ((y 0).val / 64))) (cell y) := by
  have hI := fun x => (bwd_all m c 32 le_rfl).dw x (Nat.le_add_left 32 _)
  unfold End
  have hk := keep_cond1 (bwdAt m 32 c) main_v33_13 (by decide)
  simp only [afterL_cons, afterL_nil]
  generalize after cond1 (bwdAt m 32 c) = X at hk ⊢
  after_reads_simp
  rw [hk]
  refine (congrFun (join _) y).trans ?_
  refine (hI _).trans ?_
  exact congrArg _ (ix3_eta (cell y))

theorem end_dqk (y : S2048x512.Idx) : (End m c (Proc.devRef .tc main_v40) : S2048x512.Idx → EReal) y
    = if h : (cell y 2).val < 64 then Spec.dQk (Spec.chunk (arg m c main_arg0) ((y 0).val / 64)) (Spec.chunk (arg m c main_arg1) ((y 0).val / 64)) (Spec.chunk (arg m c main_arg6) ((y 0).val / 64)) (Spec.states (arg m c main_arg0) (arg m c main_arg1) (arg m c main_arg4) (arg m c main_arg5) ((y 0).val / 64)) (ix3 (cell y 0) (cell y 1) ⟨(cell y 2).val, h⟩) else 0 := by
  have hI := fun x => (bwd_all m c 32 le_rfl).dqk x (Nat.le_add_left 32 _)
  unfold End
  have hk := keep_cond1 (bwdAt m 32 c) main_v33_14 (by decide)
  simp only [afterL_cons, afterL_nil]
  generalize after cond1 (bwdAt m 32 c) = X at hk ⊢
  after_reads_simp
  rw [hk]
  refine (congrFun (join _) y).trans ?_
  refine (fillLanes _ _).trans ?_
  split_ifs with h1 h2 h2
  · exact hI _
  · exact absurd h1 h2
  · exact absurd h2 h1
  · rfl

theorem end_deg (y : S2048x512.Idx) : (End m c (Proc.devRef .tc main_v37) : S2048x512.Idx → EReal) y
    = if (cell y 1).val = 0 then Spec.dEg (Spec.states (arg m c main_arg0) (arg m c main_arg1) (arg m c main_arg4) (arg m c main_arg5) ((y 0).val / 64)) (Spec.backs (arg m c main_arg1) (arg m c main_arg2) (arg m c main_arg3) (arg m c main_arg4) (arg m c main_arg5) (arg m c main_arg6) (31 - ((y 0).val / 64))) (ix2 (cell y 0) (cell y 2)) else 0 := by
  have hI := fun x => (bwd_all m c 32 le_rfl).deg x (Nat.le_add_left 32 _)
  unfold End
  have hk := keep_cond1 (bwdAt m 32 c) main_v33_15 (by decide)
  simp only [afterL_cons, afterL_nil]
  generalize after cond1 (bwdAt m 32 c) = X at hk ⊢
  after_reads_simp
  rw [hk]
  refine (congrFun (join _) y).trans ?_
  refine (fillRows _ _).trans ?_
  split_ifs with h1 h2 h2
  · exact hI _
  · exact absurd h1 h2
  · exact absurd h2 h1
  · rfl

end Cert.ReferenceIdeal.Val

end
-- ==== Proof.Val.ChunkF.lean ====
/- One chunk of the forward recurrence in the kernel's own operations, and the eight chunks of a grid point one after the other. -/
module

public import proofs.«01_k».proof.Proof.Gen.KernelIdeal.Skeleton
public import Idealize.ShloMosaic.Lib.Pipeline.Frame

@[expose] public section

set_option maxRecDepth 16384

noncomputable section

namespace Cert.KernelIdeal.Val

open Cert.KernelIdeal Cert.KernelIdeal.Gen
open Idealize.ShloMosaic Idealize.ShloMosaic.TcCoe

variable {F : FTy → Type} [FloatOps F]

/-- The four heads' lanes of 64 rows, stacked. -/
def heads (v : Vec F S64x512 .f32) : FVec F S4x64x128 .f32 :=
  concatenate S4x64x128 0
    [⟨S1x64x128, shapeCast S1x64x128 (extractStridedSlice S64x128 ![0, 0] v slices_S64x512_o0_0_S64x128) shapeCasts_S64x128_S1x64x128⟩,
     ⟨S1x64x128, shapeCast S1x64x128 (extractStridedSlice S64x128 ![0, 128] v slices_S64x512_o0_128_S64x128) shapeCasts_S64x128_S1x64x128⟩,
     ⟨S1x64x128, shapeCast S1x64x128 (extractStridedSlice S64x128 ![0, 256] v slices_S64x512_o0_256_S64x128) shapeCasts_S64x128_S1x64x128⟩,
     ⟨S1x64x128, shapeCast S1x64x128 (extractStridedSlice S64x128 ![0, 384] v slices_S64x512_o0_384_S64x128) shapeCasts_S64x128_S1x64x128⟩]
    concatenates_S1x64x128_S1x64x128_S1x64x128_S1x64x128_S4x64x128_d0

/-- The first 64 lanes of each head. -/
def half (v : FVec F S4x64x128 .f32) : FVec F S4x64x64 .f32 := extractStridedSlice S4x64x64 ![0, 0, 0] v slices_S4x64x128_o0_0_0_S4x64x64

def b16 {s : Shape} (v : FVec F s .f32) : FVec F s .bf16 := truncf .bf16 v bitsLt_bf16_f32

/-- The values a chunk adds, after the state's part is taken off. -/
def vnewM (u w : FVec F S4x64x128 .f32) (S : FVec F S4x128x128 .f32) : FVec F S4x64x128 .f32 :=
  subf u (matmul dot_S4x64x128_S4x128x128_S4x64x128_2_1_1_2_0_0 none (b16 w) (b16 S) (constant S4x64x128 .f32 0x00000000#32))

/-- A chunk's outputs. -/
def outM (u w : FVec F S4x64x128 .f32) (qk : FVec F S4x64x64 .f32) (qd : FVec F S4x64x128 .f32) (S : FVec F S4x128x128 .f32) : FVec F S4x64x128 .f32 :=
  addf (matmul dot_S4x64x128_S4x128x128_S4x64x128_2_1_1_2_0_0 none (b16 qd) (b16 S) (constant S4x64x128 .f32 0x00000000#32))
    (matmul dot_S4x64x64_S4x64x128_S4x64x128_2_1_1_2_0_0 none (b16 qk) (b16 (vnewM u w S)) (constant S4x64x128 .f32 0x00000000#32))

/-- A chunk's decay, over the state. -/
def decayM (eg : FVec F S4x64x128 .f32) : FVec F S4x128x128 .f32 :=
  broadcastTo S4x128x128 (extractStridedSlice S4x1x128 ![0, 0, 0] eg slices_S4x64x128_o0_0_0_S4x1x128) broadcasts_S4x1x128_S4x128x128

/-- The state after a chunk. -/
def stepM (u w kd eg : FVec F S4x64x128 .f32) (S : FVec F S4x128x128 .f32) : FVec F S4x128x128 .f32 :=
  addf (mulf S (decayM eg))
    (matmul dot_S4x64x128_S4x64x128_S4x128x128_1_1_2_2_0_0 none (b16 kd) (b16 (vnewM u w S)) (constant S4x128x128 .f32 0x00000000#32))

/-- The state before chunk `k` of the point whose rows of chunk `k` are `u k`, `w k`, `kd k`, `eg k`. -/
def stateM (u w kd eg : Fin 8 → Vec F S64x512 .f32) (S : FVec F S4x128x128 .f32) : ℕ → FVec F S4x128x128 .f32
  | 0 => S
  | k + 1 => stepM (heads (u (Fin.ofNat 8 k))) (heads (w (Fin.ofNat 8 k))) (heads (kd (Fin.ofNat 8 k))) (heads (eg (Fin.ofNat 8 k))) (stateM u w kd eg S k)

theorem inb_rows (k : Fin 8) : ∀ a, (![64 * k.val, 0] : Fin 2 → ℕ) a + S64x512.size a ≤ S512x512.size a := by
  intro a; have := k.isLt; fin_cases a <;> simp [S64x512, S512x512] <;> omega

theorem inb_head (k : Fin 8) (h : Fin 4) : ∀ a, (![64 * k.val, 128 * h.val] : Fin 2 → ℕ) a + S64x128.size a ≤ S512x512.size a := by
  intro a; have := k.isLt; have := h.isLt; fin_cases a <;> simp [S64x128, S512x512] <;> omega

theorem inb_state (k : Fin 8) : ∀ a, (![k.val, 0, 0, 0] : Fin 4 → ℕ) a + S1x4x128x128.size a ≤ S8x4x128x128.size a := by
  intro a; have := k.isLt; fin_cases a <;> simp [S1x4x128x128, S8x4x128x128] <;> omega

theorem slice_head : ∀ h : Fin 4, S4x64x128.Slices ![h.val, 0, 0] S1x64x128 := by decide

/-- One head of a stack. -/
def headM (h : Fin 4) (v : FVec F S4x64x128 .f32) : FVec F S64x128 .f32 :=
  shapeCast S64x128 (extractStridedSlice S1x64x128 ![h.val, 0, 0] v (slice_head h)) shapeCasts_S1x64x128_S64x128

/-- Chunk `k`'s rows of a staged block. -/
def rows (a : Memref sig .tc .vmem S512x512 .f32) (ha : a.IsWhole) (x : Vec F S512x512 .f32) (k : Fin 8) : Vec F S64x512 .f32 :=
  View.readAt (Elt F) a.view (Rect.unit (s := S512x512) ![64 * k.val, 0] S64x512.size (inb_rows k)).toLoadRect (ha.unread x)

/-- The pieces of a block stored chunk by chunk and head by head, last first: head `h` of chunk `k` from the stack `g k`. -/
def headPieces (g : Fin 8 → FVec F S4x64x128 .f32) : List (View.Piece (Elt F) S512x512 .f32) :=
  ([7, 6, 5, 4, 3, 2, 1, 0] : List (Fin 8)).flatMap fun k => ([3, 2, 1, 0] : List (Fin 4)).map fun h =>
    ⟨Rect.unit (s := S512x512) ![64 * k.val, 128 * h.val] S64x128.size (inb_head k h), headM h (g k)⟩

/-- The pieces of a block of states stored chunk by chunk, last first. -/
def statePieces (g : Fin 8 → FVec F S4x128x128 .f32) : List (View.Piece (Elt F) S8x4x128x128 .f32) :=
  ([7, 6, 5, 4, 3, 2, 1, 0] : List (Fin 8)).map fun k =>
    ⟨Rect.unit (s := S8x4x128x128) ![k.val, 0, 0, 0] S1x4x128x128.size (inb_state k), shapeCast S1x4x128x128 (g k) shapeCasts_S4x128x128_S1x4x128x128⟩

end Cert.KernelIdeal.Val

end
-- ==== Proof.Val.FwdPieces.lean ====
/- What the forward call's body stores at a grid point, as the eight chunks one after the other. -/
module

public import proofs.«01_k».proof.Proof.Fwd.Body
public import proofs.«01_k».proof.Proof.Val.ChunkF

@[expose] public section

set_option maxRecDepth 16384

noncomputable section

namespace Cert.KernelIdeal.Val

open Cert.KernelIdeal Cert.KernelIdeal.Gen Cert.KernelIdeal.Fwd
open Idealize.ShloMosaic Idealize.ShloMosaic.TcCoe

variable {F : FTy → Type} [FloatOps F]

variable (c : Dev nD) (i : grid0.Coords) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S512x512 .f32) (h7 : a7.IsWhole) (a8 : Memref sig .tc .vmem S8x4x128x128 .f32) (h8 : a8.IsWhole) (a9 : Memref sig .tc .vmem S4x128x128 .f32) (h9 : a9.IsWhole)
  (x0 x1 x2 x3 x4 x5 : Vec F S512x512 .f32) (xs : Vec F S4x128x128 .f32)

/-- The state before chunk `k` at a later point. -/
def fstB (k : ℕ) : FVec F S4x128x128 .f32 :=
  stateM (rows a1 h1 x0) (rows a2 h2 x1) (rows a5 h5 x4) (rows a6 h6 x5)
    (View.readAt (Elt F) a9.view (Rect.unit (s := S4x128x128) ![0, 0, 0] S4x128x128.size inb_S4x128x128_S4x128x128_0_0_0).toLoadRect (h9.unread xs)) k

theorem fwdB_out (hc : ¬cond0_0 i) :
    (kernelRun0_B c i a1 h1 a2 h2 a3 h3 a4 h4 a5 h5 a6 h6 a7 h7 a8 h8 a9 h9 hc x0 x1 x2 x3 x4 x5 xs).1
      = headPieces (fun k => outM (heads (rows a1 h1 x0 k)) (heads (rows a2 h2 x1 k)) (half (heads (rows a3 h3 x2 k))) (heads (rows a4 h4 x3 k))
          (fstB a1 h1 a2 h2 a5 h5 a6 h6 a9 h9 x0 x1 x4 x5 xs k.val)) := by
  chain_rfl

theorem fwdB_states (hc : ¬cond0_0 i) :
    (kernelRun0_B c i a1 h1 a2 h2 a3 h3 a4 h4 a5 h5 a6 h6 a7 h7 a8 h8 a9 h9 hc x0 x1 x2 x3 x4 x5 xs).2.1
      = statePieces (fun k => fstB a1 h1 a2 h2 a5 h5 a6 h6 a9 h9 x0 x1 x4 x5 xs k.val) := by
  chain_rfl

/-- The piece of the carried state, the state after the eight chunks. -/
def carried (S : FVec F S4x128x128 .f32) : List (View.Piece (Elt F) S4x128x128 .f32) :=
  [⟨Rect.unit (s := S4x128x128) ![0, 0, 0] S4x128x128.size inb_S4x128x128_S4x128x128_0_0_0, shapeCast S4x128x128 S shapeCasts_S4x128x128_S4x128x128⟩]

theorem fwdB_carried (hc : ¬cond0_0 i) :
    (kernelRun0_B c i a1 h1 a2 h2 a3 h3 a4 h4 a5 h5 a6 h6 a7 h7 a8 h8 a9 h9 hc x0 x1 x2 x3 x4 x5 xs).2.2.val
      = carried (fstB a1 h1 a2 h2 a5 h5 a6 h6 a9 h9 x0 x1 x4 x5 xs 8) := by
  chain_rfl

/-- The state before chunk `k` at the first point. -/
def fstA (k : ℕ) : FVec F S4x128x128 .f32 :=
  stateM (rows a1 h1 x0) (rows a2 h2 x1) (rows a5 h5 x4) (rows a6 h6 x5) (kernelRun0_A.sl.v3 c a9) k

theorem fwdA_out (hc : cond0_0 i) :
    (kernelRun0_A c i a1 h1 a2 h2 a3 h3 a4 h4 a5 h5 a6 h6 a7 h7 a8 h8 a9 h9 hc x0 x1 x2 x3 x4 x5).1
      = headPieces (fun k => outM (heads (rows a1 h1 x0 k)) (heads (rows a2 h2 x1 k)) (half (heads (rows a3 h3 x2 k))) (heads (rows a4 h4 x3 k))
          (fstA c a1 h1 a2 h2 a5 h5 a6 h6 a9 x0 x1 x4 x5 k.val)) := by
  chain_rfl

theorem fwdA_states (hc : cond0_0 i) :
    (kernelRun0_A c i a1 h1 a2 h2 a3 h3 a4 h4 a5 h5 a6 h6 a7 h7 a8 h8 a9 h9 hc x0 x1 x2 x3 x4 x5).2.1
      = statePieces (fun k => fstA c a1 h1 a2 h2 a5 h5 a6 h6 a9 x0 x1 x4 x5 k.val) := by
  chain_rfl

theorem fwdA_carried (hc : cond0_0 i) :
    (kernelRun0_A c i a1 h1 a2 h2 a3 h3 a4 h4 a5 h5 a6 h6 a7 h7 a8 h8 a9 h9 hc x0 x1 x2 x3 x4 x5).2.2.val
      = carried (fstA c a1 h1 a2 h2 a5 h5 a6 h6 a9 x0 x1 x4 x5 8) ++ kernelRun0_A.sl.HS0_1 := by
  chain_rfl

/-- The first point stores zeros into the carried state before it reads it. -/
theorem fwdA_zero : kernelRun0_A.sl.v3 (F := F) c a9 = a9.view.readCov (carried (broadcast S4x128x128 (Scalar.ofBits .f32 0x00000000#32)))
    (Rect.unit (s := S4x128x128) ![0, 0, 0] S4x128x128.size inb_S4x128x128_S4x128x128_0_0_0).toLoadRect := by
  chain_rfl

end Cert.KernelIdeal.Val

end
-- ==== Proof.Val.ReadBack.lean ====
/- What a block stored chunk by chunk reads at an index: the chunk's stack at the head and row the index names. -/
module

public import proofs.«01_k».proof.Proof.Val.ChunkF
public import Idealize.ShloMosaic.Lib.Writes
public import Idealize.ShloMosaic.Lib.ValueIdxCore
public import Idealize.ShloMosaic.Lib.Pointwise.Tactic
public import Idealize.ShloMosaic.Lib.Pointwise.Sums
public import Idealize.ShloMosaic.Lib.Pointwise.Reshape
public import Idealize.ShloMosaic.Lib.WholeRead
public import Idealize.ShloMosaic.Lib.Exec.Geometry

@[expose] public section

set_option maxRecDepth 16384

noncomputable section

namespace Cert.KernelIdeal.Val

open Cert.KernelIdeal Cert.KernelIdeal.Gen
open Idealize.ShloMosaic Idealize.ShloMosaic.TcCoe
open Idealize.ShloMosaic.ValueIdx (idx2_lt0 idx2_lt1)

variable {F : FTy → Type} [FloatOps F]

/-- The chunk, head, row and lane of an index of a point's block. -/
def chunkOf (y : S512x512.Idx) : Fin 8 := ⟨(y 0).val / 64, by have := (y 0).isLt; simp only [S512x512] at this; change _ < 512 at this; omega⟩
def cellOf3 (y : S512x512.Idx) : S4x64x128.Idx :=
  ix3 ⟨(y 1).val / 128, by have := (y 1).isLt; change _ < 512 at this; omega⟩ ⟨(y 0).val % 64, Nat.mod_lt _ (by decide)⟩
    ⟨(y 1).val % 128, Nat.mod_lt _ (by decide)⟩

theorem headM_apply (h : Fin 4) (v : FVec F S4x64x128 .f32) (x : S64x128.Idx) : headM h v x = v (ix3 h (x 0) (x 1)) := by
  fin_cases h <;> idx_vars x <;> (unfold headM; pointwise) <;> rfl

theorem read_headPieces {sig : RefSig} {κ : Kind} {sp : Space} (v : View sig κ sp S512x512 .f32) (f : v.ty.Contents (Elt F))
    (g : Fin 8 → FVec F S4x64x128 .f32) (y : S512x512.Idx) :
    v.read (Elt F) (v.writes (Elt F) f (headPieces g)) y = g (chunkOf y) (cellOf3 y) := by
  refine View.read_writes_apply_of_pieces v f (fun y => g (chunkOf y) (cellOf3 y)) (headPieces g) ?_ y ?_
  · intro p hp x
    simp only [headPieces, List.mem_flatMap, List.mem_map] at hp
    obtain ⟨k, -, h, -, rfl⟩ := hp
    show headM h (g k) x = _
    rw [headM_apply]
    have hx0 := idx2_lt0 x
    have hx1 := idx2_lt1 x
    have hk : chunkOf ((Rect.unit (s := S512x512) ![64 * k.val, 128 * h.val] S64x128.size (inb_head k h)).emb x) = k := by
      apply Fin.ext
      show (64 * k.val + 1 * (x 0).val) / 64 = k.val
      omega
    rw [hk]
    congr 1
    funext a
    match a with
    | ⟨0, _⟩ => apply Fin.ext; show h.val = (128 * h.val + 1 * (x 1).val) / 128; omega
    | ⟨1, _⟩ => apply Fin.ext; show (x 0).val = (64 * k.val + 1 * (x 0).val) % 64; omega
    | ⟨2, _⟩ => apply Fin.ext; show (x 1).val = (128 * h.val + 1 * (x 1).val) % 128; omega
  · have h0 := idx2_lt0 y
    have h1 := idx2_lt1 y
    refine ⟨⟨Rect.unit (s := S512x512) ![64 * (chunkOf y).val, 128 * (cellOf3 y 0).val] S64x128.size (inb_head _ _), headM (cellOf3 y 0) (g (chunkOf y))⟩, ?_, ?_⟩
    · simp only [headPieces, List.mem_flatMap, List.mem_map]
      refine ⟨chunkOf y, ?_, cellOf3 y 0, ?_, rfl⟩
      · generalize chunkOf y = k; revert k; decide
      · generalize cellOf3 y 0 = k; revert k; exact (by decide : ∀ k : Fin 4, k ∈ ([3, 2, 1, 0] : List (Fin 4)))
    · rw [Rect.mem_set_unit]
      intro a
      match a with
      | ⟨0, _⟩ => show 64 * ((y 0).val / 64) ≤ (y 0).val ∧ (y 0).val < 64 * ((y 0).val / 64) + 64; omega
      | ⟨1, _⟩ => show 128 * ((y 1).val / 128) ≤ (y 1).val ∧ (y 1).val < 128 * ((y 1).val / 128) + 128; omega

theorem read_statePieces {sig : RefSig} {κ : Kind} {sp : Space} (v : View sig κ sp S8x4x128x128 .f32) (f : v.ty.Contents (Elt F))
    (g : Fin 8 → FVec F S4x128x128 .f32) (y : S8x4x128x128.Idx) :
    v.read (Elt F) (v.writes (Elt F) f (statePieces g)) y = g (y 0) (ix3 (y 1) (y 2) (y 3)) := by
  refine View.read_writes_apply_of_pieces v f (fun y => g (y 0) (ix3 (y 1) (y 2) (y 3))) (statePieces g) ?_ y ?_
  · intro p hp x
    simp only [statePieces, List.mem_map] at hp
    obtain ⟨k, -, rfl⟩ := hp
    show shapeCast S1x4x128x128 (g k) shapeCasts_S4x128x128_S1x4x128x128 x = _
    have hk : ((Rect.unit (s := S8x4x128x128) ![k.val, 0, 0, 0] S1x4x128x128.size (inb_state k)).emb x) 0 = k := by
      apply Fin.ext
      have : (x 0).val < 1 := (x 0).isLt
      show k.val + 1 * (x 0).val = k.val
      omega
    have hc : (ix3 (((Rect.unit (s := S8x4x128x128) ![k.val, 0, 0, 0] S1x4x128x128.size (inb_state k)).emb x) 1)
        (((Rect.unit (s := S8x4x128x128) ![k.val, 0, 0, 0] S1x4x128x128.size (inb_state k)).emb x) 2)
        (((Rect.unit (s := S8x4x128x128) ![k.val, 0, 0, 0] S1x4x128x128.size (inb_state k)).emb x) 3) : S4x128x128.Idx) = ix3 (x 1) (x 2) (x 3) := by
      funext a
      match a with
      | ⟨0, _⟩ => apply Fin.ext; show 0 + 1 * (x 1).val = (x 1).val; omega
      | ⟨1, _⟩ => apply Fin.ext; show 0 + 1 * (x 2).val = (x 2).val; omega
      | ⟨2, _⟩ => apply Fin.ext; show 0 + 1 * (x 3).val = (x 3).val; omega
    rw [hk, hc]
    clear hk hc
    idx_vars x
    pointwise
  · refine ⟨⟨Rect.unit (s := S8x4x128x128) ![(y 0).val, 0, 0, 0] S1x4x128x128.size (inb_state (y 0)), shapeCast S1x4x128x128 (g (y 0)) shapeCasts_S4x128x128_S1x4x128x128⟩, ?_, ?_⟩
    · simp only [statePieces, List.mem_map]
      refine ⟨y 0, ?_, rfl⟩
      generalize y 0 = k; revert k; exact (by decide : ∀ k : Fin 8, k ∈ ([7, 6, 5, 4, 3, 2, 1, 0] : List (Fin 8)))
    · rw [Rect.mem_set_unit]
      intro a
      have h1 : (y 1).val < 4 := (y 1).isLt
      have h2 : (y 2).val < 128 := (y 2).isLt
      have h3 : (y 3).val < 128 := (y 3).isLt
      match a with
      | ⟨0, _⟩ => show (y 0).val ≤ (y 0).val ∧ (y 0).val < (y 0).val + 1; omega
      | ⟨1, _⟩ => show 0 ≤ (y 1).val ∧ (y 1).val < 0 + 4; omega
      | ⟨2, _⟩ => show 0 ≤ (y 2).val ∧ (y 2).val < 0 + 128; omega
      | ⟨3, _⟩ => show 0 ≤ (y 3).val ∧ (y 3).val < 0 + 128; omega

end Cert.KernelIdeal.Val

end
-- ==== Proof.Val.ChunkIdeal.lean ====
/- The kernel's chunk at the ideal values: a change of format is the identity and a product the sum over its contracted axis. -/
module

public import proofs.«01_k».proof.Proof.Val.ReadBack
public import proofs.«01_k».proof.Proof.Val.Spec
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe

theorem matmul_b16 {sl sr so : Shape} (d : DotDims sl sr so) (a : FVec Ideal sl .f32) (b : FVec Ideal sr .f32) :
    matmul d none (b16 a) (b16 b) (constant so .f32 0x00000000#32) = Spec.mm d a b :=
  funext fun j => Ideal.matmul_constant_zero_apply d none (b16 a) (b16 b) j

theorem decayM_eq (eg : FVec Ideal S4x64x128 .f32) : decayM eg = Spec.decay eg := by
  funext j; idx_vars j; unfold decayM Spec.decay; pointwise

theorem half_eq (v : FVec Ideal S4x64x128 .f32) : half v = Spec.half v := by
  funext j; idx_vars j; unfold half Spec.half; pointwise

theorem heads_apply {F : FTy → Type} [FloatOps F] (v : Vec F S64x512 .f32) (j : S4x64x128.Idx) :
    heads v j = v (ix2 (j 1) ⟨128 * (j 0).val + (j 2).val, by have h0 : (j 0).val < 4 := (j 0).isLt; have h2 : (j 2).val < 128 := (j 2).isLt; omega⟩) := by
  idx_vars j
  unfold heads
  fin_cases j0 <;> pointwise <;> rfl

theorem vnewM_eq (u w : FVec Ideal S4x64x128 .f32) (S : FVec Ideal S4x128x128 .f32) : vnewM u w S = Spec.vnew u w S := by
  unfold vnewM Spec.vnew; rw [matmul_b16]; rfl

theorem outM_eq (u w : FVec Ideal S4x64x128 .f32) (qk : FVec Ideal S4x64x64 .f32) (qd : FVec Ideal S4x64x128 .f32) (S : FVec Ideal S4x128x128 .f32) :
    outM u w qk qd S = Spec.out u w qk qd S := by
  unfold outM Spec.out; rw [matmul_b16, matmul_b16, vnewM_eq]; rfl

theorem stepM_eq (u w kd eg : FVec Ideal S4x64x128 .f32) (S : FVec Ideal S4x128x128 .f32) : stepM u w kd eg S = Spec.step u w kd eg S := by
  unfold stepM Spec.step; rw [matmul_b16, vnewM_eq, decayM_eq]; rfl

/-- A staged block's chunk, head by head, at an index. -/
theorem heads_rows_apply {F : FTy → Type} [FloatOps F] (a : Memref sig .tc .vmem S512x512 .f32) (ha : a.IsWhole) (x : Vec F S512x512 .f32) (k : Fin 8) (j : S4x64x128.Idx) :
    heads (rows a ha x k) j = x (ix2 ⟨64 * k.val + (j 1).val, by have := k.isLt; have h1 : (j 1).val < 64 := (j 1).isLt; omega⟩
      ⟨128 * (j 0).val + (j 2).val, by have h0 : (j 0).val < 4 := (j 0).isLt; have h2 : (j 2).val < 128 := (j 2).isLt; omega⟩) := by
  rw [heads_apply, rows, Memref.IsWhole.readAt_unread]
  congr 1
  funext b
  match b with
  | ⟨0, _⟩ => apply Fin.ext; show 64 * k.val + 1 * (j 1).val = 64 * k.val + (j 1).val; rw [Nat.one_mul]
  | ⟨1, _⟩ => apply Fin.ext; show 0 + 1 * (128 * (j 0).val + (j 2).val) = 128 * (j 0).val + (j 2).val; rw [Nat.one_mul, Nat.zero_add]

end Cert.KernelIdeal.Val

end
-- ==== Proof.Val.Fwd.lean ====
/- The forward call's states: each grid point carries the recurrence eight chunks on, and stores the state before each. -/
module

public import proofs.«01_k».proof.Proof.Val.FwdPieces
public import proofs.«01_k».proof.Proof.Val.ChunkIdeal
public import Idealize.ShloMosaic.Lib.VecWindow

@[expose] public section

set_option maxRecDepth 16384

noncomputable section

namespace Cert.KernelIdeal.Val

open Cert.KernelIdeal Cert.KernelIdeal.Gen Cert.KernelIdeal.Fwd
open Idealize.ShloMosaic Idealize.ShloMosaic.TcCoe
open Idealize.ShloMosaic.Pipeline (Dat)

/-- A store of the whole carried state, last of all, is what is read back. -/
theorem read_carried {F : FTy → Type} [FloatOps F] {sig : RefSig} {κ : Kind} {sp : Space} (v : View sig κ sp S4x128x128 .f32) (f : v.ty.Contents (Elt F))
    (S : FVec F S4x128x128 .f32) (L : List (View.Piece (Elt F) S4x128x128 .f32)) :
    v.read (Elt F) (v.writes (Elt F) f (carried S ++ L)) = S := by
  funext y
  have h := View.read_writes_cons_emb v f (Rect.unit (s := S4x128x128) ![0, 0, 0] S4x128x128.size inb_S4x128x128_S4x128x128_0_0_0)
    (shapeCast S4x128x128 S shapeCasts_S4x128x128_S4x128x128) L y
  have e : (Rect.unit (s := S4x128x128) ![0, 0, 0] S4x128x128.size inb_S4x128x128_S4x128x128_0_0_0).emb y = y := by
    funext a
    match a with
    | ⟨0, _⟩ => apply Fin.ext; show 0 + 1 * (y 0).val = (y 0).val; omega
    | ⟨1, _⟩ => apply Fin.ext; show 0 + 1 * (y 1).val = (y 1).val; omega
    | ⟨2, _⟩ => apply Fin.ext; show 0 + 1 * (y 2).val = (y 2).val; omega
  rw [e] at h
  exact h.trans (congrFun (shapeCast_id S shapeCasts_S4x128x128_S4x128x128) y)

theorem load_whole {F : FTy → Type} [FloatOps F] (a9 : Memref sig .tc .vmem S4x128x128 .f32) (f : a9.view.ty.Contents (Elt F)) :
    View.readAt (Elt F) a9.view (Rect.unit (s := S4x128x128) ![0, 0, 0] S4x128x128.size inb_S4x128x128_S4x128x128_0_0_0).toLoadRect f = a9.view.read (Elt F) f := by
  funext y
  refine congrArg (a9.view.read (Elt F) f) ?_
  funext a
  match a with
  | ⟨0, _⟩ => apply Fin.ext; show 0 + 1 * (y 0).val = (y 0).val; omega
  | ⟨1, _⟩ => apply Fin.ext; show 0 + 1 * (y 1).val = (y 1).val; omega
  | ⟨2, _⟩ => apply Fin.ext; show 0 + 1 * (y 2).val = (y 2).val; omega

/-- The zeros the first point starts from. -/
theorem zero_state (c : Dev nD) (a9 : Memref sig .tc .vmem S4x128x128 .f32) : kernelRun0_A.sl.v3 (F := Ideal) c a9 = fun _ => (0 : EReal) := by
  rw [fwdA_zero, View.readCov, load_whole]
  have h := read_carried (F := Ideal) a9.view a9.view.junk (broadcast S4x128x128 (Scalar.ofBits .f32 0x00000000#32)) []
  rw [List.append_nil] at h
  rw [h]
  funext y
  exact Ideal.ofBits_zero_f32

/-- The rows the eight chunks of point `t` take from an array. -/
theorem stateM_eq (u w kd eg : S2048x512.Idx → EReal) (t : ℕ) (ru rw rkd reg : Fin 8 → Vec Ideal S64x512 .f32) (S : FVec Ideal S4x128x128 .f32)
    (hu : ∀ k, heads (ru k) = Spec.chunk u (8 * t + k.val)) (hw : ∀ k, heads (rw k) = Spec.chunk w (8 * t + k.val))
    (hkd : ∀ k, heads (rkd k) = Spec.chunk kd (8 * t + k.val)) (heg : ∀ k, heads (reg k) = Spec.chunk eg (8 * t + k.val))
    (hS : S = Spec.states u w kd eg (8 * t)) : ∀ k ≤ 8, stateM ru rw rkd reg S k = Spec.states u w kd eg (8 * t + k) := by
  intro k hk
  induction k with
  | zero => exact hS
  | succ k ih =>
    have hv : (Fin.ofNat 8 k).val = k := Nat.mod_eq_of_lt (by omega)
    show stepM _ _ _ _ (stateM ru rw rkd reg S k) = Spec.step _ _ _ _ (Spec.states u w kd eg (8 * t + k))
    rw [stepM_eq, ih (by omega), hu, hw, hkd, heg, hv]
    rfl

variable (V : (c : Dev nD) → (b : Ref sig .tc) → Buf (Elt Ideal) ((c : Thread nD τ).loc b))

theorem chunk_of_block (x : Vec Ideal S512x512 .f32) (A : S2048x512.Idx → EReal) (t : ℕ) (ht : t < 4)
    (h : ∀ y : S512x512.Idx, x y = A (ix2 ⟨(512 * t + (y 0).val) % 2048, Nat.mod_lt _ (by decide)⟩ (y 1)))
    (a : Memref sig .tc .vmem S512x512 .f32) (ha : a.IsWhole) (k : Fin 8) : heads (rows a ha x k) = Spec.chunk A (8 * t + k.val) := by
  funext j
  rw [heads_rows_apply, h]
  refine congrArg A ?_
  funext b
  match b with
  | ⟨0, _⟩ => apply Fin.ext; show (512 * t + (64 * k.val + (j 1).val)) % 2048 = (64 * (8 * t + k.val) + (j 1).val) % 2048; congr 1; omega
  | ⟨1, _⟩ => rfl

theorem fidx0 : ∀ t : Fin cfg0.N, win0_0.index t 0 = t.val ∧ win0_0.index t 1 = 0 :=
  (by decide +kernel : ∀ t : Fin grid0.N, win0_0.index t 0 = t.val ∧ win0_0.index t 1 = 0)

theorem fblk0 (c : Dev nD) (t : Fin cfg0.N) (y : S512x512.Idx) :
    Fwd.iblk V c 0 t y = V c main_arg0 (ix2 ⟨(512 * t.val + (y 0).val) % 2048, Nat.mod_lt _ (by decide)⟩ (y 1)) := by
  have hy : (y 0).val < 512 := (y 0).isLt
  have ht : t.val < 4 := Nat.lt_of_lt_of_eq t.isLt N_0
  obtain ⟨h0, h1⟩ := fidx0 t
  refine congrArg (V c main_arg0) (funext fun a => Fin.ext ?_)
  match a with
  | ⟨0, _⟩ => show win0_0.index t 0 * 512 + 1 * (y 0).val = (512 * t.val + (y 0).val) % 2048; rw [h0]; omega
  | ⟨1, _⟩ => show win0_0.index t 1 * 512 + 1 * (y 1).val = (y 1).val; rw [h1]; omega

theorem fidx1 : ∀ t : Fin cfg0.N, win0_1.index t 0 = t.val ∧ win0_1.index t 1 = 0 :=
  (by decide +kernel : ∀ t : Fin grid0.N, win0_1.index t 0 = t.val ∧ win0_1.index t 1 = 0)

theorem fblk1 (c : Dev nD) (t : Fin cfg0.N) (y : S512x512.Idx) :
    Fwd.iblk V c 1 t y = V c main_arg1 (ix2 ⟨(512 * t.val + (y 0).val) % 2048, Nat.mod_lt _ (by decide)⟩ (y 1)) := by
  have hy : (y 0).val < 512 := (y 0).isLt
  have ht : t.val < 4 := Nat.lt_of_lt_of_eq t.isLt N_0
  obtain ⟨h0, h1⟩ := fidx1 t
  refine congrArg (V c main_arg1) (funext fun a => Fin.ext ?_)
  match a with
  | ⟨0, _⟩ => show win0_1.index t 0 * 512 + 1 * (y 0).val = (512 * t.val + (y 0).val) % 2048; rw [h0]; omega
  | ⟨1, _⟩ => show win0_1.index t 1 * 512 + 1 * (y 1).val = (y 1).val; rw [h1]; omega

theorem fidx4 : ∀ t : Fin cfg0.N, win0_4.index t 0 = t.val ∧ win0_4.index t 1 = 0 :=
  (by decide +kernel : ∀ t : Fin grid0.N, win0_4.index t 0 = t.val ∧ win0_4.index t 1 = 0)

theorem fblk4 (c : Dev nD) (t : Fin cfg0.N) (y : S512x512.Idx) :
    Fwd.iblk V c 4 t y = V c main_arg4 (ix2 ⟨(512 * t.val + (y 0).val) % 2048, Nat.mod_lt _ (by decide)⟩ (y 1)) := by
  have hy : (y 0).val < 512 := (y 0).isLt
  have ht : t.val < 4 := Nat.lt_of_lt_of_eq t.isLt N_0
  obtain ⟨h0, h1⟩ := fidx4 t
  refine congrArg (V c main_arg4) (funext fun a => Fin.ext ?_)
  match a with
  | ⟨0, _⟩ => show win0_4.index t 0 * 512 + 1 * (y 0).val = (512 * t.val + (y 0).val) % 2048; rw [h0]; omega
  | ⟨1, _⟩ => show win0_4.index t 1 * 512 + 1 * (y 1).val = (y 1).val; rw [h1]; omega

theorem fidx5 : ∀ t : Fin cfg0.N, win0_5.index t 0 = t.val ∧ win0_5.index t 1 = 0 :=
  (by decide +kernel : ∀ t : Fin grid0.N, win0_5.index t 0 = t.val ∧ win0_5.index t 1 = 0)

theorem fblk5 (c : Dev nD) (t : Fin cfg0.N) (y : S512x512.Idx) :
    Fwd.iblk V c 5 t y = V c main_arg5 (ix2 ⟨(512 * t.val + (y 0).val) % 2048, Nat.mod_lt _ (by decide)⟩ (y 1)) := by
  have hy : (y 0).val < 512 := (y 0).isLt
  have ht : t.val < 4 := Nat.lt_of_lt_of_eq t.isLt N_0
  obtain ⟨h0, h1⟩ := fidx5 t
  refine congrArg (V c main_arg5) (funext fun a => Fin.ext ?_)
  match a with
  | ⟨0, _⟩ => show win0_5.index t 0 * 512 + 1 * (y 0).val = (512 * t.val + (y 0).val) % 2048; rw [h0]; omega
  | ⟨1, _⟩ => show win0_5.index t 1 * 512 + 1 * (y 1).val = (y 1).val; rw [h1]; omega

/-- The recurrence of the arrays the call finds. -/
abbrev fstates (c : Dev nD) : ℕ → Spec.State := Spec.states (V c main_arg0) (V c main_arg1) (V c main_arg4) (V c main_arg5)

/-- The state after a point, carried to the next. -/
theorem fwd_carried (c : Dev nD) : ∀ (n : ℕ) (hn : n < cfg0.N), (Fwd.outsAt0 V c n hn).2.2 = fstates V c (8 * (n + 1)) := by
  intro n
  induction n with
  | zero =>
    intro hn
    have e := congrArg (·.2.2) (Fwd.outsAt0_A V c ⟨0, hn⟩ rfl)
    refine e.trans ?_
    dsimp only
    unfold Fwd.sout0_A_0
    rw [fwdA_carried, read_carried]
    unfold fstA
    rw [zero_state]
    exact stateM_eq _ _ _ _ 0 _ _ _ _ _ (chunk_of_block _ _ 0 (by omega) (fblk0 V c ⟨0, hn⟩) _ _) (chunk_of_block _ _ 0 (by omega) (fblk1 V c ⟨0, hn⟩) _ _)
      (chunk_of_block _ _ 0 (by omega) (fblk4 V c ⟨0, hn⟩) _ _) (chunk_of_block _ _ 0 (by omega) (fblk5 V c ⟨0, hn⟩) _ _) rfl 8 (Nat.le_refl _)
  | succ n ih =>
    intro hn
    have ht : n + 1 < 4 := Nat.lt_of_lt_of_eq hn N_0
    have e := congrArg (·.2.2) (Fwd.outsAt0_B V c ⟨n + 1, hn⟩ (show ¬(n + 1) % 4 = 0 by omega))
    refine e.trans ?_
    dsimp only
    unfold Fwd.sout0_B_0
    rw [fwdB_carried, ← List.append_nil (carried _), read_carried]
    unfold fstB
    rw [load_whole, Memref.IsWhole.read_unread]
    exact stateM_eq _ _ _ _ (n + 1) _ _ _ _ _ (chunk_of_block _ _ (n + 1) ht (fblk0 V c ⟨n + 1, hn⟩) _ _) (chunk_of_block _ _ (n + 1) ht (fblk1 V c ⟨n + 1, hn⟩) _ _)
      (chunk_of_block _ _ (n + 1) ht (fblk4 V c ⟨n + 1, hn⟩) _ _) (chunk_of_block _ _ (n + 1) ht (fblk5 V c ⟨n + 1, hn⟩) _ _) (ih (by omega)) 8 (Nat.le_refl _)

/-- The block of states a point stores. -/
theorem fwd_states (c : Dev nD) (t : Fin cfg0.N) (y : S8x4x128x128.Idx) :
    (Fwd.outsAt0 V c t.val t.isLt).2.1 y = fstates V c (8 * t.val + (y 0).val) (ix3 (y 1) (y 2) (y 3)) := by
  have ht : t.val < 4 := Nat.lt_of_lt_of_eq t.isLt N_0
  have hy : (y 0).val < 8 := (y 0).isLt
  by_cases h0 : t.val % 4 = 0
  · have e := congrArg (·.2.1) (Fwd.outsAt0_A V c t h0)
    refine (congrFun e y).trans ?_
    dsimp only
    unfold Fwd.out0_A_7
    rw [fwdA_states, read_statePieces]
    unfold fstA
    rw [zero_state]
    refine congrFun (stateM_eq _ _ _ _ t.val _ _ _ _ _ (chunk_of_block _ _ _ ht (fblk0 V c t) _ _) (chunk_of_block _ _ _ ht (fblk1 V c t) _ _)
      (chunk_of_block _ _ _ ht (fblk4 V c t) _ _) (chunk_of_block _ _ _ ht (fblk5 V c t) _ _) ?_ (y 0).val (by omega)) _
    have : t.val = 0 := by omega
    rw [this]; rfl
  · have e := congrArg (·.2.1) (Fwd.outsAt0_B V c t h0)
    refine (congrFun e y).trans ?_
    dsimp only
    unfold Fwd.out0_B_7
    rw [fwdB_states, read_statePieces]
    unfold fstB
    rw [load_whole, Memref.IsWhole.read_unread]
    refine congrFun (stateM_eq _ _ _ _ t.val _ _ _ _ _ (chunk_of_block _ _ _ ht (fblk0 V c t) _ _) (chunk_of_block _ _ _ ht (fblk1 V c t) _ _)
      (chunk_of_block _ _ _ ht (fblk4 V c t) _ _) (chunk_of_block _ _ _ ht (fblk5 V c t) _ _) ?_ (y 0).val (by omega)) _
    rw [fwd_carried]
    congr 1
    omega

/-! ## The array of states after the call -/

theorem fidx_inj7 : ∀ t t' : Fin cfg0.N, win0_7.index t = win0_7.index t' → t = t' :=
  (by decide +kernel : ∀ t t' : Fin grid0.N, win0_7.index t = win0_7.index t' → t = t')

theorem fdisjoint7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun h => hne (fidx_inj7 t t' h)

theorem fflush7 : ∀ t : Fin cfg0.N, (cfg0.win 7).flush t = true :=
  (by decide +kernel : ∀ t : Fin grid0.N, win0_7.flush t = true)

theorem fidx7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)

/-- Chunk `n`'s entry of the array of states is the recurrence's state before chunk `n`. -/
theorem fwd_final (c : Dev nD) (y : S32x4x128x128.Idx) :
    ((Fwd.dat V c).arrAt 7 cfg0.N : S32x4x128x128.Idx → EReal) y = fstates V c (y 0).val (ix3 (y 1) (y 2) (y 3)) := by
  have hy : (y 0).val < 32 := (y 0).isLt
  let t : Fin cfg0.N := ⟨(y 0).val / 8, by rw [show cfg0.N = 4 from N_0]; omega⟩
  let z : S8x4x128x128.Idx := ix4 ⟨(y 0).val % 8, Nat.mod_lt _ (by decide)⟩ (y 1) (y 2) (y 3)
  have hb := congrFun ((Fwd.dat V c).read_blk_arrAt_eq_flushed 7 fdisjoint7 cfg0.N t t.isLt (fflush7 t)) z
  obtain ⟨i0, i1, i2, i3⟩ := fidx7 t
  have hz : ((cfg0.win 7).blk t).view.read (Elt Ideal) ((Fwd.dat V c).arrAt 7 cfg0.N) z = ((Fwd.dat V c).arrAt 7 cfg0.N : S32x4x128x128.Idx → EReal) y := by
    refine congrArg ((Fwd.dat V c).arrAt 7 cfg0.N : S32x4x128x128.Idx → EReal) (funext fun a => Fin.ext ?_)
    match a with
    | ⟨0, _⟩ => show win0_7.index t 0 * 8 + 1 * ((y 0).val % 8) = (y 0).val; rw [i0]; show (y 0).val / 8 * 8 + _ = _; omega
    | ⟨1, _⟩ => show win0_7.index t 1 * 4 + 1 * (y 1).val = (y 1).val; rw [i1]; omega
    | ⟨2, _⟩ => show win0_7.index t 2 * 128 + 1 * (y 2).val = (y 2).val; rw [i2]; omega
    | ⟨3, _⟩ => show win0_7.index t 3 * 128 + 1 * (y 3).val = (y 3).val; rw [i3]; omega
  rw [← hz, hb]
  show (Fwd.dat V c).after 7 t z = _
  rw [Fwd.after0_7, fwd_states]
  show fstates V c (8 * ((y 0).val / 8) + (y 0).val % 8) _ = _
  rw [Nat.div_add_mod]
  rfl

end Cert.KernelIdeal.Val

end
-- ==== Proof.Val.ChunkB.lean ====
/- One chunk of the backward recurrence in the kernel's own operations, and the eight chunks of a grid point, the last first. -/
module

public import proofs.«01_k».proof.Proof.Val.ChunkF

@[expose] public section

set_option maxRecDepth 16384

noncomputable section

namespace Cert.KernelIdeal.Val

open Cert.KernelIdeal Cert.KernelIdeal.Gen
open Idealize.ShloMosaic Idealize.ShloMosaic.TcCoe

variable {F : FTy → Type} [FloatOps F]

/-- A value rounded to the half format and widened again. -/
def rt {s : Shape} (v : FVec F s .f32) : FVec F s .f32 := extf .f32 (b16 v) bitsLt_bf16_f32

/-- The gradient of a chunk's new values. -/
def dUM (qk : FVec F S4x64x64 .f32) (kd d : FVec F S4x64x128 .f32) (dS : FVec F S4x128x128 .f32) : FVec F S4x64x128 .f32 :=
  addf (rt (transpose S4x64x128 [0, 2, 1] (matmul dot_S4x128x128_S4x64x128_S4x128x64_1_2_2_1_0_0 none dS (b16 kd) (constant S4x128x64 .f32 0x00000000#32)) transposes_S4x128x64_p0_2_1_S4x64x128))
    (rt (transpose S4x64x128 [0, 2, 1] (matmul dot_S4x64x128_S4x64x64_S4x128x64_1_1_2_2_0_0 none d (b16 qk) (constant S4x128x64 .f32 0x00000000#32)) transposes_S4x128x64_p0_2_1_S4x64x128))

def dKdM (u w : FVec F S4x64x128 .f32) (S dS : FVec F S4x128x128 .f32) : FVec F S4x64x128 .f32 :=
  rt (transpose S4x64x128 [0, 2, 1] (matmul dot_S4x128x128_S4x64x128_S4x128x64_2_2_1_1_0_0 none dS (b16 (vnewM u w S)) (constant S4x128x64 .f32 0x00000000#32)) transposes_S4x128x64_p0_2_1_S4x64x128)

def dQkM (u w d : FVec F S4x64x128 .f32) (S : FVec F S4x128x128 .f32) : FVec F S4x64x64 .f32 :=
  rt (matmul dot_S4x64x128_S4x64x128_S4x64x64_2_2_1_1_0_0 none d (b16 (vnewM u w S)) (constant S4x64x64 .f32 0x00000000#32))

def dQdM (d : FVec F S4x64x128 .f32) (S : FVec F S4x128x128 .f32) : FVec F S4x64x128 .f32 :=
  rt (matmul dot_S4x64x128_S4x128x128_S4x64x128_2_2_1_1_0_0 none d (b16 S) (constant S4x64x128 .f32 0x00000000#32))

def negUM (qk : FVec F S4x64x64 .f32) (kd d : FVec F S4x64x128 .f32) (dS : FVec F S4x128x128 .f32) : FVec F S4x64x128 .f32 :=
  subf (broadcast S4x64x128 (Scalar.ofBits .f32 0x00000000#32)) (dUM qk kd d dS)

def dWM (qk : FVec F S4x64x64 .f32) (kd d : FVec F S4x64x128 .f32) (S dS : FVec F S4x128x128 .f32) : FVec F S4x64x128 .f32 :=
  rt (matmul dot_S4x64x128_S4x128x128_S4x64x128_2_2_1_1_0_0 none (negUM qk kd d dS) (b16 S) (constant S4x64x128 .f32 0x00000000#32))

/-- The gradient of the decay: one row, the others zero. -/
def dEgM (S dS : FVec F S4x128x128 .f32) : FVec F S4x64x128 .f32 :=
  concatenate S4x64x128 1
    [⟨S4x1x128, shapeCast S4x1x128 (multiReduction .add [1] S4x128 (mulf S dS) 0x00000000#32 reduces_S4x128x128_S4x128 (.inl rfl) rfl) shapeCasts_S4x128_S4x1x128⟩,
     ⟨S4x63x128, broadcast S4x63x128 (Scalar.ofBits .f32 0x00000000#32)⟩] concatenates_S4x1x128_S4x63x128_S4x64x128_d1

/-- The gradient of the state before a chunk. -/
def backM (w : FVec F S4x64x128 .f32) (qk : FVec F S4x64x64 .f32) (qd kd eg d : FVec F S4x64x128 .f32) (dS : FVec F S4x128x128 .f32) : FVec F S4x128x128 .f32 :=
  addf (addf (mulf dS (decayM eg))
      (rt (transpose S4x128x128 [0, 2, 1] (matmul dot_S4x64x128_S4x64x128_S4x128x128_1_1_2_2_0_0 none d (b16 qd) (constant S4x128x128 .f32 0x00000000#32)) transposes_S4x128x128_p0_2_1_S4x128x128)))
    (rt (transpose S4x128x128 [0, 2, 1] (matmul dot_S4x64x128_S4x64x128_S4x128x128_1_1_2_2_0_0 none (negUM qk kd d dS) (b16 w) (constant S4x128x128 .f32 0x00000000#32)) transposes_S4x128x128_p0_2_1_S4x128x128))

/-- The gradient of the state with `i` of the point's chunks taken back, from `dS` after the last. -/
def backsM (w qk qd kd eg d : Fin 8 → Vec F S64x512 .f32) (dS : FVec F S4x128x128 .f32) : ℕ → FVec F S4x128x128 .f32
  | 0 => dS
  | i + 1 => backM (heads (w (Fin.ofNat 8 (7 - i)))) (half (heads (qk (Fin.ofNat 8 (7 - i))))) (heads (qd (Fin.ofNat 8 (7 - i)))) (heads (kd (Fin.ofNat 8 (7 - i))))
      (heads (eg (Fin.ofNat 8 (7 - i)))) (heads (d (Fin.ofNat 8 (7 - i)))) (backsM w qk qd kd eg d dS i)

/-- Chunk `k`'s state of a staged block of states. -/
def stRow (a : Memref sig .tc .vmem S8x4x128x128 .f32) (ha : a.IsWhole) (x : Vec F S8x4x128x128 .f32) (k : Fin 8) : FVec F S4x128x128 .f32 :=
  shapeCast S4x128x128 (View.readAt (Elt F) a.view (Rect.unit (s := S8x4x128x128) ![k.val, 0, 0, 0] S1x4x128x128.size (inb_state k)).toLoadRect (ha.unread x))
    shapeCasts_S1x4x128x128_S4x128x128

/-- The pieces of a block stored from the last chunk to the first, head by head, last first. -/
def headPiecesB (g : Fin 8 → FVec F S4x64x128 .f32) : List (View.Piece (Elt F) S512x512 .f32) :=
  ([0, 1, 2, 3, 4, 5, 6, 7] : List (Fin 8)).flatMap fun k => ([3, 2, 1, 0] : List (Fin 4)).map fun h =>
    ⟨Rect.unit (s := S512x512) ![64 * k.val, 128 * h.val] S64x128.size (inb_head k h), headM h (g k)⟩

theorem inb_lo (k : Fin 8) (h : Fin 4) : ∀ a, (![64 * k.val, 128 * h.val] : Fin 2 → ℕ) a + S64x64.size a ≤ S512x512.size a := by
  intro a; have := k.isLt; have := h.isLt; fin_cases a <;> simp [S64x64, S512x512] <;> omega

theorem inb_hi (k : Fin 8) (h : Fin 4) : ∀ a, (![64 * k.val, 128 * h.val + 64] : Fin 2 → ℕ) a + S64x64.size a ≤ S512x512.size a := by
  intro a; have := k.isLt; have := h.isLt; fin_cases a <;> simp [S64x64, S512x512] <;> omega

theorem slice_half : ∀ h : Fin 4, S4x64x64.Slices ![h.val, 0, 0] S1x64x64 := by decide

def headHalfM (h : Fin 4) (v : FVec F S4x64x64 .f32) : FVec F S64x64 .f32 :=
  shapeCast S64x64 (extractStridedSlice S1x64x64 ![h.val, 0, 0] v (slice_half h)) shapeCasts_S1x64x64_S64x64

/-- The pieces of a block whose heads' first 64 lanes hold values and whose other lanes are zero. -/
def halfPiecesB (g : Fin 8 → FVec F S4x64x64 .f32) : List (View.Piece (Elt F) S512x512 .f32) :=
  ([0, 1, 2, 3, 4, 5, 6, 7] : List (Fin 8)).flatMap fun k => ([3, 2, 1, 0] : List (Fin 4)).flatMap fun h =>
    [⟨Rect.unit (s := S512x512) ![64 * k.val, 128 * h.val + 64] S64x64.size (inb_hi k h), broadcast S64x64 (Scalar.ofBits .f32 0x00000000#32)⟩,
     ⟨Rect.unit (s := S512x512) ![64 * k.val, 128 * h.val] S64x64.size (inb_lo k h), headHalfM h (g k)⟩]

end Cert.KernelIdeal.Val

end
-- ==== Proof.Val.BwdPiecesA.lean ====
/- What the backward call's body stores at the first grid point, as the eight chunks from the last to the first. -/
module

public import proofs.«01_k».proof.Proof.Bwd.Body
public import proofs.«01_k».proof.Proof.Val.ChunkB
public import proofs.«01_k».proof.Proof.Val.FwdPieces

@[expose] public section

set_option maxRecDepth 16384

noncomputable section

namespace Cert.KernelIdeal.Val

open Cert.KernelIdeal Cert.KernelIdeal.Gen Cert.KernelIdeal.Bwd
open Idealize.ShloMosaic Idealize.ShloMosaic.TcCoe

variable {F : FTy → Type} [FloatOps F]

variable (c : Dev nD) (i : grid1.Coords) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S8x4x128x128 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S512x512 .f32) (h12 : a12.IsWhole) (a13 : Memref sig .tc .vmem S512x512 .f32) (h13 : a13.IsWhole) (a14 : Memref sig .tc .vmem S512x512 .f32) (h14 : a14.IsWhole) (a15 : Memref sig .tc .vmem S4x128x128 .f32) (h15 : a15.IsWhole)
  (x0 x1 x2 x3 x4 x5 : Vec F S512x512 .f32) (x6 : Vec F S8x4x128x128 .f32) (x7 : Vec F S512x512 .f32) (xs : Vec F S4x128x128 .f32)

/-- The gradient of the state with `i` chunks taken back at the first point. -/
def bstA (n : ℕ) : FVec F S4x128x128 .f32 :=
  backsM (rows a2 h2 x1) (rows a3 h3 x2) (rows a4 h4 x3) (rows a5 h5 x4) (rows a6 h6 x5) (rows a8 h8 x7)
    (shapeCast S4x128x128 (kernelRun0_A.sl.v3 c a15) shapeCasts_S4x128x128_S4x128x128) n

theorem bwdA_du (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).1
      = headPiecesB (fun k => dUM (half (heads (rows a3 h3 x2 k))) (heads (rows a5 h5 x4 k)) (heads (rows a8 h8 x7 k)) (bstA c a2 h2 a3 h3 a4 h4 a5 h5 a6 h6 a8 h8 a15 x1 x2 x3 x4 x5 x7 (7 - k.val))) := by
  chain_rfl

theorem bwdA_dw (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.1
      = headPiecesB (fun k => dWM (half (heads (rows a3 h3 x2 k))) (heads (rows a5 h5 x4 k)) (heads (rows a8 h8 x7 k)) (stRow a7 h7 x6 k) (bstA c a2 h2 a3 h3 a4 h4 a5 h5 a6 h6 a8 h8 a15 x1 x2 x3 x4 x5 x7 (7 - k.val))) := by
  chain_rfl

theorem bwdA_dqk (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.2.1
      = halfPiecesB (fun k => dQkM (heads (rows a1 h1 x0 k)) (heads (rows a2 h2 x1 k)) (heads (rows a8 h8 x7 k)) (stRow a7 h7 x6 k)) := by
  chain_rfl

theorem bwdA_dqd (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.2.2.1
      = headPiecesB (fun k => dQdM (heads (rows a8 h8 x7 k)) (stRow a7 h7 x6 k)) := by
  chain_rfl

theorem bwdA_dkd (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.2.2.2.1
      = headPiecesB (fun k => dKdM (heads (rows a1 h1 x0 k)) (heads (rows a2 h2 x1 k)) (stRow a7 h7 x6 k) (bstA c a2 h2 a3 h3 a4 h4 a5 h5 a6 h6 a8 h8 a15 x1 x2 x3 x4 x5 x7 (7 - k.val))) := by
  chain_rfl

theorem bwdA_deg (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.2.2.2.2.1
      = headPiecesB (fun k => dEgM (stRow a7 h7 x6 k) (bstA c a2 h2 a3 h3 a4 h4 a5 h5 a6 h6 a8 h8 a15 x1 x2 x3 x4 x5 x7 (7 - k.val))) := by
  chain_rfl

theorem bwdA_carried (hc : cond0_0 i) :
    (kernelRun0_A c i a1 h1 a2 h2 a3 h3 a4 h4 a5 h5 a6 h6 a7 h7 a8 h8 a9 h9 a10 h10 a11 h11 a12 h12 a13 h13 a14 h14 a15 h15 hc x0 x1 x2 x3 x4 x5 x6 x7).2.2.2.2.2.2.val
      = carried (bstA c a2 h2 a3 h3 a4 h4 a5 h5 a6 h6 a8 h8 a15 x1 x2 x3 x4 x5 x7 8) ++ kernelRun0_A.sl.HS0_1 := by
  chain_rfl

/-- The first point stores zeros into the carried gradient before it reads it. -/
theorem bwdA_zero : kernelRun0_A.sl.v3 (F := F) c a15 = a15.view.readCov (carried (broadcast S4x128x128 (Scalar.ofBits .f32 0x00000000#32)))
    (Rect.unit (s := S4x128x128) ![0, 0, 0] S4x128x128.size inb_S4x128x128_S4x128x128_0_0_0).toLoadRect := by
  chain_rfl

end Cert.KernelIdeal.Val

end
-- ==== Proof.Val.BwdPiecesB.lean ====
/- What the backward call's body stores at a later grid point, as the eight chunks from the last to the first. -/
module

public import proofs.«01_k».proof.Proof.Bwd.Body
public import proofs.«01_k».proof.Proof.Val.ChunkB
public import proofs.«01_k».proof.Proof.Val.FwdPieces

@[expose] public section

set_option maxRecDepth 16384

noncomputable section

namespace Cert.KernelIdeal.Val

open Cert.KernelIdeal Cert.KernelIdeal.Gen Cert.KernelIdeal.Bwd
open Idealize.ShloMosaic Idealize.ShloMosaic.TcCoe

variable {F : FTy → Type} [FloatOps F]

variable (c : Dev nD) (i : grid1.Coords) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S8x4x128x128 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole) (a11 : Memref sig .tc .vmem S512x512 .f32) (h11 : a11.IsWhole) (a12 : Memref sig .tc .vmem S512x512 .f32) (h12 : a12.IsWhole) (a13 : Memref sig .tc .vmem S512x512 .f32) (h13 : a13.IsWhole) (a14 : Memref sig .tc .vmem S512x512 .f32) (h14 : a14.IsWhole) (a15 : Memref sig .tc .vmem S4x128x128 .f32) (h15 : a15.IsWhole)
  (x0 x1 x2 x3 x4 x5 : Vec F S512x512 .f32) (x6 : Vec F S8x4x128x128 .f32) (x7 : Vec F S512x512 .f32) (xs : Vec F S4x128x128 .f32)

/-- The gradient of the state with `i` chunks taken back at a later point. -/
def bstB (n : ℕ) : FVec F S4x128x128 .f32 :=
  backsM (rows a2 h2 x1) (rows a3 h3 x2) (rows a4 h4 x3) (rows a5 h5 x4) (rows a6 h6 x5) (rows a8 h8 x7)
    (shapeCast S4x128x128 (View.readAt (Elt F) a15.view (Rect.unit (s := S4x128x128) ![0, 0, 0] S4x128x128.size inb_S4x128x128_S4x128x128_0_0_0).toLoadRect (h15.unread xs)) shapeCasts_S4x128x128_S4x128x128) n

theorem bwdB_du (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).1
      = headPiecesB (fun k => dUM (half (heads (rows a3 h3 x2 k))) (heads (rows a5 h5 x4 k)) (heads (rows a8 h8 x7 k)) (bstB a2 h2 a3 h3 a4 h4 a5 h5 a6 h6 a8 h8 a15 h15 x1 x2 x3 x4 x5 x7 xs (7 - k.val))) := by
  chain_rfl

theorem bwdB_dw (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.1
      = headPiecesB (fun k => dWM (half (heads (rows a3 h3 x2 k))) (heads (rows a5 h5 x4 k)) (heads (rows a8 h8 x7 k)) (stRow a7 h7 x6 k) (bstB a2 h2 a3 h3 a4 h4 a5 h5 a6 h6 a8 h8 a15 h15 x1 x2 x3 x4 x5 x7 xs (7 - k.val))) := by
  chain_rfl

theorem bwdB_dqk (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.2.1
      = halfPiecesB (fun k => dQkM (heads (rows a1 h1 x0 k)) (heads (rows a2 h2 x1 k)) (heads (rows a8 h8 x7 k)) (stRow a7 h7 x6 k)) := by
  chain_rfl

theorem bwdB_dqd (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.2.2.1
      = headPiecesB (fun k => dQdM (heads (rows a8 h8 x7 k)) (stRow a7 h7 x6 k)) := by
  chain_rfl

theorem bwdB_dkd (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.2.2.2.1
      = headPiecesB (fun k => dKdM (heads (rows a1 h1 x0 k)) (heads (rows a2 h2 x1 k)) (stRow a7 h7 x6 k) (bstB a2 h2 a3 h3 a4 h4 a5 h5 a6 h6 a8 h8 a15 h15 x1 x2 x3 x4 x5 x7 xs (7 - k.val))) := by
  chain_rfl

theorem bwdB_deg (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.2.2.2.2.1
      = headPiecesB (fun k => dEgM (stRow a7 h7 x6 k) (bstB a2 h2 a3 h3 a4 h4 a5 h5 a6 h6 a8 h8 a15 h15 x1 x2 x3 x4 x5 x7 xs (7 - k.val))) := by
  chain_rfl

theorem bwdB_carried (hc : ¬cond0_0 i) :
    (kernelRun0_B c i a1 h1 a2 h2 a3 h3 a4 h4 a5 h5 a6 h6 a7 h7 a8 h8 a9 h9 a10 h10 a11 h11 a12 h12 a13 h13 a14 h14 a15 h15 hc x0 x1 x2 x3 x4 x5 x6 x7 xs).2.2.2.2.2.2.val
      = carried (bstB a2 h2 a3 h3 a4 h4 a5 h5 a6 h6 a8 h8 a15 h15 x1 x2 x3 x4 x5 x7 xs 8) := by
  chain_rfl

end Cert.KernelIdeal.Val

end
-- ==== Proof.Val.ChunkBIdeal.lean ====
/- What a block of the backward call reads at an index, and its chunks at the ideal values. -/
module

public import proofs.«01_k».proof.Proof.Val.ChunkB
public import proofs.«01_k».proof.Proof.Val.ChunkIdeal

@[expose] public section

set_option maxRecDepth 16384

noncomputable section

namespace Cert.KernelIdeal.Val

open Cert.KernelIdeal Cert.KernelIdeal.Gen
open Idealize.ShloMosaic Idealize.ShloMosaic.TcCoe
open Idealize.ShloMosaic.ValueIdx (idx2_lt0 idx2_lt1)

section

variable {F : FTy → Type} [FloatOps F]

theorem read_headPiecesB {sig : RefSig} {κ : Kind} {sp : Space} (v : View sig κ sp S512x512 .f32) (f : v.ty.Contents (Elt F))
    (g : Fin 8 → FVec F S4x64x128 .f32) (y : S512x512.Idx) :
    v.read (Elt F) (v.writes (Elt F) f (headPiecesB g)) y = g (chunkOf y) (cellOf3 y) := by
  refine View.read_writes_apply_of_pieces v f (fun y => g (chunkOf y) (cellOf3 y)) (headPiecesB g) ?_ y ?_
  · intro p hp x
    simp only [headPiecesB, List.mem_flatMap, List.mem_map] at hp
    obtain ⟨k, -, h, -, rfl⟩ := hp
    show headM h (g k) x = _
    rw [headM_apply]
    have hx0 := idx2_lt0 x
    have hx1 := idx2_lt1 x
    have hk : chunkOf ((Rect.unit (s := S512x512) ![64 * k.val, 128 * h.val] S64x128.size (inb_head k h)).emb x) = k := by
      apply Fin.ext
      show (64 * k.val + 1 * (x 0).val) / 64 = k.val
      omega
    rw [hk]
    congr 1
    funext a
    match a with
    | ⟨0, _⟩ => apply Fin.ext; show h.val = (128 * h.val + 1 * (x 1).val) / 128; omega
    | ⟨1, _⟩ => apply Fin.ext; show (x 0).val = (64 * k.val + 1 * (x 0).val) % 64; omega
    | ⟨2, _⟩ => apply Fin.ext; show (x 1).val = (128 * h.val + 1 * (x 1).val) % 128; omega
  · have h0 := idx2_lt0 y
    have h1 := idx2_lt1 y
    refine ⟨⟨Rect.unit (s := S512x512) ![64 * (chunkOf y).val, 128 * (cellOf3 y 0).val] S64x128.size (inb_head _ _), headM (cellOf3 y 0) (g (chunkOf y))⟩, ?_, ?_⟩
    · simp only [headPiecesB, List.mem_flatMap, List.mem_map]
      refine ⟨chunkOf y, ?_, cellOf3 y 0, ?_, rfl⟩
      · generalize chunkOf y = k; revert k; exact (by decide : ∀ k : Fin 8, k ∈ ([0, 1, 2, 3, 4, 5, 6, 7] : List (Fin 8)))
      · generalize cellOf3 y 0 = k; revert k; exact (by decide : ∀ k : Fin 4, k ∈ ([3, 2, 1, 0] : List (Fin 4)))
    · rw [Rect.mem_set_unit]
      intro a
      match a with
      | ⟨0, _⟩ => show 64 * ((y 0).val / 64) ≤ (y 0).val ∧ (y 0).val < 64 * ((y 0).val / 64) + 64; omega
      | ⟨1, _⟩ => show 128 * ((y 1).val / 128) ≤ (y 1).val ∧ (y 1).val < 128 * ((y 1).val / 128) + 128; omega

/-- The stack's value in the first 64 lanes of its heads, zero in the others. -/
def padHalf (z : F .f32) (v : FVec F S4x64x64 .f32) : FVec F S4x64x128 .f32 := fun j =>
  if hl : (j 2).val < 64 then v (ix3 (j 0) (j 1) ⟨(j 2).val, hl⟩) else z

theorem padHalf_neg (z : F .f32) (v : FVec F S4x64x64 .f32) (j : S4x64x128.Idx) (h : ¬(j 2).val < 64) : padHalf z v j = z := dif_neg h

theorem headHalfM_apply (h : Fin 4) (v : FVec F S4x64x64 .f32) (x : S64x64.Idx) : headHalfM h v x = v (ix3 h (x 0) (x 1)) := by
  fin_cases h <;> idx_vars x <;> (unfold headHalfM; pointwise) <;> rfl

theorem read_halfPiecesB {sig : RefSig} {κ : Kind} {sp : Space} (v : View sig κ sp S512x512 .f32) (f : v.ty.Contents (Elt F))
    (g : Fin 8 → FVec F S4x64x64 .f32) (y : S512x512.Idx) :
    v.read (Elt F) (v.writes (Elt F) f (halfPiecesB g)) y = padHalf (Scalar.ofBits .f32 0x00000000#32) (g (chunkOf y)) (cellOf3 y) := by
  refine View.read_writes_apply_of_pieces v f (fun y => padHalf (Scalar.ofBits .f32 0x00000000#32) (g (chunkOf y)) (cellOf3 y)) (halfPiecesB g) ?_ y ?_
  · intro p hp x
    simp only [halfPiecesB, List.mem_flatMap] at hp
    obtain ⟨k, -, h, -, hp⟩ := hp
    simp only [List.mem_cons, List.not_mem_nil, or_false] at hp
    rcases hp with rfl | rfl
    · have hx1 : (x 1).val < 64 := (x 1).isLt
      refine (padHalf_neg _ _ _ ?_).symm
      show ¬(128 * h.val + 64 + 1 * (x 1).val) % 128 < 64
      omega
    · show headHalfM h (g k) x = _
      rw [headHalfM_apply]
      have hx0 : (x 0).val < 64 := (x 0).isLt
      have hx1 : (x 1).val < 64 := (x 1).isLt
      have hk : chunkOf ((Rect.unit (s := S512x512) ![64 * k.val, 128 * h.val] S64x64.size (inb_lo k h)).emb x) = k := by
        apply Fin.ext
        show (64 * k.val + 1 * (x 0).val) / 64 = k.val
        omega
      rw [hk]
      have hl : (cellOf3 ((Rect.unit (s := S512x512) ![64 * k.val, 128 * h.val] S64x64.size (inb_lo k h)).emb x) 2).val < 64 := by
        show (128 * h.val + 1 * (x 1).val) % 128 < 64
        omega
      refine Eq.trans ?_ (dif_pos hl).symm
      congr 1
      funext a
      match a with
      | ⟨0, _⟩ => apply Fin.ext; show h.val = (128 * h.val + 1 * (x 1).val) / 128; omega
      | ⟨1, _⟩ => apply Fin.ext; show (x 0).val = (64 * k.val + 1 * (x 0).val) % 64; omega
      | ⟨2, _⟩ => apply Fin.ext; show (x 1).val = (128 * h.val + 1 * (x 1).val) % 128; omega
  · have h0 := idx2_lt0 y
    have h1 := idx2_lt1 y
    have hk : chunkOf y ∈ ([0, 1, 2, 3, 4, 5, 6, 7] : List (Fin 8)) := by
      generalize chunkOf y = k; revert k; exact (by decide : ∀ k : Fin 8, k ∈ ([0, 1, 2, 3, 4, 5, 6, 7] : List (Fin 8)))
    have hh : cellOf3 y 0 ∈ ([3, 2, 1, 0] : List (Fin 4)) := by
      generalize cellOf3 y 0 = k; revert k; exact (by decide : ∀ k : Fin 4, k ∈ ([3, 2, 1, 0] : List (Fin 4)))
    by_cases hl : (y 1).val % 128 < 64
    · refine ⟨⟨Rect.unit (s := S512x512) ![64 * (chunkOf y).val, 128 * (cellOf3 y 0).val] S64x64.size (inb_lo _ _), headHalfM (cellOf3 y 0) (g (chunkOf y))⟩, ?_, ?_⟩
      · simp only [halfPiecesB, List.mem_flatMap]
        exact ⟨chunkOf y, hk, cellOf3 y 0, hh, List.mem_cons_of_mem _ (List.mem_cons_self ..)⟩
      · rw [Rect.mem_set_unit]
        intro a
        match a with
        | ⟨0, _⟩ => show 64 * ((y 0).val / 64) ≤ (y 0).val ∧ (y 0).val < 64 * ((y 0).val / 64) + 64; omega
        | ⟨1, _⟩ => show 128 * ((y 1).val / 128) ≤ (y 1).val ∧ (y 1).val < 128 * ((y 1).val / 128) + 64; omega
    · refine ⟨⟨Rect.unit (s := S512x512) ![64 * (chunkOf y).val, 128 * (cellOf3 y 0).val + 64] S64x64.size (inb_hi _ _), broadcast S64x64 (Scalar.ofBits .f32 0x00000000#32)⟩, ?_, ?_⟩
      · simp only [halfPiecesB, List.mem_flatMap]
        exact ⟨chunkOf y, hk, cellOf3 y 0, hh, List.mem_cons_self ..⟩
      · rw [Rect.mem_set_unit]
        intro a
        match a with
        | ⟨0, _⟩ => show 64 * ((y 0).val / 64) ≤ (y 0).val ∧ (y 0).val < 64 * ((y 0).val / 64) + 64; omega
        | ⟨1, _⟩ => show 128 * ((y 1).val / 128) + 64 ≤ (y 1).val ∧ (y 1).val < 128 * ((y 1).val / 128) + 64 + 64; omega

end

/-! ## At the ideal values -/

theorem matmul_right {sl sr so : Shape} (d : DotDims sl sr so) (a : FVec Ideal sl .f32) (b : FVec Ideal sr .f32) :
    matmul d none a (b16 b) (constant so .f32 0x00000000#32) = Spec.mm d a b :=
  funext fun j => Ideal.matmul_constant_zero_apply d none a (b16 b) j

theorem rt_eq {s : Shape} (v : FVec Ideal s .f32) : rt v = v := rfl

theorem tr_eq (a : FVec Ideal S4x128x64 .f32) : transpose S4x64x128 [0, 2, 1] a transposes_S4x128x64_p0_2_1_S4x64x128 = Spec.tr a := by
  funext j; idx_vars j; unfold Spec.tr; pointwise

theorem trS_eq (a : FVec Ideal S4x128x128 .f32) : transpose S4x128x128 [0, 2, 1] a transposes_S4x128x128_p0_2_1_S4x128x128 = Spec.trS a := by
  funext j; idx_vars j; unfold Spec.trS; pointwise

theorem dUM_eq (qk : FVec Ideal S4x64x64 .f32) (kd d : FVec Ideal S4x64x128 .f32) (dS : FVec Ideal S4x128x128 .f32) : dUM qk kd d dS = Spec.dU qk kd d dS := by
  unfold dUM Spec.dU; rw [matmul_right, matmul_right, tr_eq, tr_eq]; rfl

theorem dKdM_eq (u w : FVec Ideal S4x64x128 .f32) (S dS : FVec Ideal S4x128x128 .f32) : dKdM u w S dS = Spec.dKd u w S dS := by
  unfold dKdM Spec.dKd; rw [matmul_right, tr_eq, vnewM_eq]; rfl

theorem dQkM_eq (u w d : FVec Ideal S4x64x128 .f32) (S : FVec Ideal S4x128x128 .f32) : dQkM u w d S = Spec.dQk u w d S := by
  unfold dQkM Spec.dQk; rw [matmul_right, vnewM_eq]; rfl

theorem dQdM_eq (d : FVec Ideal S4x64x128 .f32) (S : FVec Ideal S4x128x128 .f32) : dQdM d S = Spec.dQd d S := by
  unfold dQdM Spec.dQd; rw [matmul_right]; rfl

theorem negUM_eq (qk : FVec Ideal S4x64x64 .f32) (kd d : FVec Ideal S4x64x128 .f32) (dS : FVec Ideal S4x128x128 .f32) : negUM qk kd d dS = Spec.negU qk kd d dS := by
  funext j
  unfold negUM Spec.negU
  rw [dUM_eq]
  show Ideal.ofBits .f32 0x00000000#32 - Spec.dU qk kd d dS j = _
  rw [Ideal.ofBits_zero_f32, zero_sub]

theorem dWM_eq (qk : FVec Ideal S4x64x64 .f32) (kd d : FVec Ideal S4x64x128 .f32) (S dS : FVec Ideal S4x128x128 .f32) : dWM qk kd d S dS = Spec.dW qk kd d S dS := by
  unfold dWM Spec.dW; rw [matmul_right, negUM_eq]; rfl

theorem backM_eq (w : FVec Ideal S4x64x128 .f32) (qk : FVec Ideal S4x64x64 .f32) (qd kd eg d : FVec Ideal S4x64x128 .f32) (dS : FVec Ideal S4x128x128 .f32) :
    backM w qk qd kd eg d dS = Spec.back w qk qd kd eg d dS := by
  unfold backM Spec.back; rw [matmul_right, matmul_right, trS_eq, trS_eq, negUM_eq, decayM_eq]; rfl

/-- The gradient of the decay in its first row, zero in the others. -/
def padRow (v : S4x128.Idx → EReal) : Spec.Rows := fun j => if (j 1).val = 0 then v (ix2 (j 0) (j 2)) else 0

theorem dEgM_eq (S dS : FVec Ideal S4x128x128 .f32) : dEgM S dS = padRow (Spec.dEg S dS) := by
  funext j
  idx_vars j
  unfold dEgM padRow Spec.dEg
  by_cases h : j1.val = 0
  · pointwise
    rw [dif_pos (by omega), if_pos h]
  · pointwise
    rw [dif_neg (by omega), if_neg h]

end Cert.KernelIdeal.Val

end
-- ==== Proof.Val.Bwd.lean ====
/- The backward call's gradients: each grid point carries the gradient of the state eight chunks back, and stores its chunks' gradients. -/
module

public import proofs.«01_k».proof.Proof.Val.BwdPiecesA
public import proofs.«01_k».proof.Proof.Val.BwdPiecesB
public import proofs.«01_k».proof.Proof.Val.ChunkBIdeal
public import proofs.«01_k».proof.Proof.Val.Fwd

@[expose] public section

set_option maxRecDepth 16384

noncomputable section

namespace Cert.KernelIdeal.Val

open Cert.KernelIdeal Cert.KernelIdeal.Gen Cert.KernelIdeal.Bwd
open Idealize.ShloMosaic Idealize.ShloMosaic.TcCoe
open Idealize.ShloMosaic.Pipeline (Dat)

/-- The eight chunks of point `t`, from the last: they carry the gradient from `8 t` chunks taken back to `8 t + 8`. -/
theorem backsM_eq (w qk qd kd eg d : S2048x512.Idx → EReal) (t : ℕ) (ht : t < 4) (rw rqk rqd rkd reg rd : Fin 8 → Vec Ideal S64x512 .f32) (dS : FVec Ideal S4x128x128 .f32)
    (hw : ∀ k, heads (rw k) = Spec.chunk w (8 * (3 - t) + k.val)) (hqk : ∀ k, heads (rqk k) = Spec.chunk qk (8 * (3 - t) + k.val))
    (hqd : ∀ k, heads (rqd k) = Spec.chunk qd (8 * (3 - t) + k.val)) (hkd : ∀ k, heads (rkd k) = Spec.chunk kd (8 * (3 - t) + k.val))
    (heg : ∀ k, heads (reg k) = Spec.chunk eg (8 * (3 - t) + k.val)) (hd : ∀ k, heads (rd k) = Spec.chunk d (8 * (3 - t) + k.val))
    (hS : dS = Spec.backs w qk qd kd eg d (8 * t)) : ∀ i ≤ 8, backsM rw rqk rqd rkd reg rd dS i = Spec.backs w qk qd kd eg d (8 * t + i) := by
  intro i hi
  induction i with
  | zero => exact hS
  | succ i ih =>
    have hv : 8 * (3 - t) + (Fin.ofNat 8 (7 - i)).val = 31 - (8 * t + i) := by
      rw [show (Fin.ofNat 8 (7 - i)).val = 7 - i from Nat.mod_eq_of_lt (by omega)]; omega
    show backM _ _ _ _ _ _ (backsM rw rqk rqd rkd reg rd dS i) = Spec.back _ _ _ _ _ _ (Spec.backs w qk qd kd eg d (8 * t + i))
    rw [backM_eq, ih (by omega), hw, hqk, hqd, hkd, heg, hd, half_eq, hv]
    rfl

variable (V : (c : Dev nD) → (b : Ref sig .tc) → Buf (Elt Ideal) ((c : Thread nD τ).loc b))

theorem bidx0 : ∀ t : Fin cfg1.N, win1_0.index t 0 = 3 - t.val ∧ win1_0.index t 1 = 0 :=
  (by decide +kernel : ∀ t : Fin grid1.N, win1_0.index t 0 = 3 - t.val ∧ win1_0.index t 1 = 0)

theorem bchunk0 (c : Dev nD) (t : Fin cfg1.N) (a : Memref sig .tc .vmem S512x512 .f32) (ha : a.IsWhole) (k : Fin 8) :
    heads (rows a ha (Bwd.iblk V c 0 t) k) = Spec.chunk (V c main_arg0) (8 * (3 - t.val) + k.val) := by
  refine chunk_of_block (Bwd.iblk V c 0 t) (V c main_arg0) (3 - t.val) (by omega) (fun y => ?_) a ha k
  have hy : (y 0).val < 512 := (y 0).isLt
  have ht : t.val < 4 := Nat.lt_of_lt_of_eq t.isLt N_1
  obtain ⟨h0, h1⟩ := bidx0 t
  refine congrArg (V c main_arg0) (funext fun a => Fin.ext ?_)
  match a with
  | ⟨0, _⟩ => show win1_0.index t 0 * 512 + 1 * (y 0).val = (512 * (3 - t.val) + (y 0).val) % 2048; rw [h0]; omega
  | ⟨1, _⟩ => show win1_0.index t 1 * 512 + 1 * (y 1).val = (y 1).val; rw [h1]; omega

theorem bidx1 : ∀ t : Fin cfg1.N, win1_1.index t 0 = 3 - t.val ∧ win1_1.index t 1 = 0 :=
  (by decide +kernel : ∀ t : Fin grid1.N, win1_1.index t 0 = 3 - t.val ∧ win1_1.index t 1 = 0)

theorem bchunk1 (c : Dev nD) (t : Fin cfg1.N) (a : Memref sig .tc .vmem S512x512 .f32) (ha : a.IsWhole) (k : Fin 8) :
    heads (rows a ha (Bwd.iblk V c 1 t) k) = Spec.chunk (V c main_arg1) (8 * (3 - t.val) + k.val) := by
  refine chunk_of_block (Bwd.iblk V c 1 t) (V c main_arg1) (3 - t.val) (by omega) (fun y => ?_) a ha k
  have hy : (y 0).val < 512 := (y 0).isLt
  have ht : t.val < 4 := Nat.lt_of_lt_of_eq t.isLt N_1
  obtain ⟨h0, h1⟩ := bidx1 t
  refine congrArg (V c main_arg1) (funext fun a => Fin.ext ?_)
  match a with
  | ⟨0, _⟩ => show win1_1.index t 0 * 512 + 1 * (y 0).val = (512 * (3 - t.val) + (y 0).val) % 2048; rw [h0]; omega
  | ⟨1, _⟩ => show win1_1.index t 1 * 512 + 1 * (y 1).val = (y 1).val; rw [h1]; omega

theorem bidx2 : ∀ t : Fin cfg1.N, win1_2.index t 0 = 3 - t.val ∧ win1_2.index t 1 = 0 :=
  (by decide +kernel : ∀ t : Fin grid1.N, win1_2.index t 0 = 3 - t.val ∧ win1_2.index t 1 = 0)

theorem bchunk2 (c : Dev nD) (t : Fin cfg1.N) (a : Memref sig .tc .vmem S512x512 .f32) (ha : a.IsWhole) (k : Fin 8) :
    heads (rows a ha (Bwd.iblk V c 2 t) k) = Spec.chunk (V c main_arg2) (8 * (3 - t.val) + k.val) := by
  refine chunk_of_block (Bwd.iblk V c 2 t) (V c main_arg2) (3 - t.val) (by omega) (fun y => ?_) a ha k
  have hy : (y 0).val < 512 := (y 0).isLt
  have ht : t.val < 4 := Nat.lt_of_lt_of_eq t.isLt N_1
  obtain ⟨h0, h1⟩ := bidx2 t
  refine congrArg (V c main_arg2) (funext fun a => Fin.ext ?_)
  match a with
  | ⟨0, _⟩ => show win1_2.index t 0 * 512 + 1 * (y 0).val = (512 * (3 - t.val) + (y 0).val) % 2048; rw [h0]; omega
  | ⟨1, _⟩ => show win1_2.index t 1 * 512 + 1 * (y 1).val = (y 1).val; rw [h1]; omega

theorem bidx3 : ∀ t : Fin cfg1.N, win1_3.index t 0 = 3 - t.val ∧ win1_3.index t 1 = 0 :=
  (by decide +kernel : ∀ t : Fin grid1.N, win1_3.index t 0 = 3 - t.val ∧ win1_3.index t 1 = 0)

theorem bchunk3 (c : Dev nD) (t : Fin cfg1.N) (a : Memref sig .tc .vmem S512x512 .f32) (ha : a.IsWhole) (k : Fin 8) :
    heads (rows a ha (Bwd.iblk V c 3 t) k) = Spec.chunk (V c main_arg3) (8 * (3 - t.val) + k.val) := by
  refine chunk_of_block (Bwd.iblk V c 3 t) (V c main_arg3) (3 - t.val) (by omega) (fun y => ?_) a ha k
  have hy : (y 0).val < 512 := (y 0).isLt
  have ht : t.val < 4 := Nat.lt_of_lt_of_eq t.isLt N_1
  obtain ⟨h0, h1⟩ := bidx3 t
  refine congrArg (V c main_arg3) (funext fun a => Fin.ext ?_)
  match a with
  | ⟨0, _⟩ => show win1_3.index t 0 * 512 + 1 * (y 0).val = (512 * (3 - t.val) + (y 0).val) % 2048; rw [h0]; omega
  | ⟨1, _⟩ => show win1_3.index t 1 * 512 + 1 * (y 1).val = (y 1).val; rw [h1]; omega

theorem bidx4 : ∀ t : Fin cfg1.N, win1_4.index t 0 = 3 - t.val ∧ win1_4.index t 1 = 0 :=
  (by decide +kernel : ∀ t : Fin grid1.N, win1_4.index t 0 = 3 - t.val ∧ win1_4.index t 1 = 0)

theorem bchunk4 (c : Dev nD) (t : Fin cfg1.N) (a : Memref sig .tc .vmem S512x512 .f32) (ha : a.IsWhole) (k : Fin 8) :
    heads (rows a ha (Bwd.iblk V c 4 t) k) = Spec.chunk (V c main_arg4) (8 * (3 - t.val) + k.val) := by
  refine chunk_of_block (Bwd.iblk V c 4 t) (V c main_arg4) (3 - t.val) (by omega) (fun y => ?_) a ha k
  have hy : (y 0).val < 512 := (y 0).isLt
  have ht : t.val < 4 := Nat.lt_of_lt_of_eq t.isLt N_1
  obtain ⟨h0, h1⟩ := bidx4 t
  refine congrArg (V c main_arg4) (funext fun a => Fin.ext ?_)
  match a with
  | ⟨0, _⟩ => show win1_4.index t 0 * 512 + 1 * (y 0).val = (512 * (3 - t.val) + (y 0).val) % 2048; rw [h0]; omega
  | ⟨1, _⟩ => show win1_4.index t 1 * 512 + 1 * (y 1).val = (y 1).val; rw [h1]; omega

theorem bidx5 : ∀ t : Fin cfg1.N, win1_5.index t 0 = 3 - t.val ∧ win1_5.index t 1 = 0 :=
  (by decide +kernel : ∀ t : Fin grid1.N, win1_5.index t 0 = 3 - t.val ∧ win1_5.index t 1 = 0)

theorem bchunk5 (c : Dev nD) (t : Fin cfg1.N) (a : Memref sig .tc .vmem S512x512 .f32) (ha : a.IsWhole) (k : Fin 8) :
    heads (rows a ha (Bwd.iblk V c 5 t) k) = Spec.chunk (V c main_arg5) (8 * (3 - t.val) + k.val) := by
  refine chunk_of_block (Bwd.iblk V c 5 t) (V c main_arg5) (3 - t.val) (by omega) (fun y => ?_) a ha k
  have hy : (y 0).val < 512 := (y 0).isLt
  have ht : t.val < 4 := Nat.lt_of_lt_of_eq t.isLt N_1
  obtain ⟨h0, h1⟩ := bidx5 t
  refine congrArg (V c main_arg5) (funext fun a => Fin.ext ?_)
  match a with
  | ⟨0, _⟩ => show win1_5.index t 0 * 512 + 1 * (y 0).val = (512 * (3 - t.val) + (y 0).val) % 2048; rw [h0]; omega
  | ⟨1, _⟩ => show win1_5.index t 1 * 512 + 1 * (y 1).val = (y 1).val; rw [h1]; omega

theorem bidx7 : ∀ t : Fin cfg1.N, win1_7.index t 0 = 3 - t.val ∧ win1_7.index t 1 = 0 :=
  (by decide +kernel : ∀ t : Fin grid1.N, win1_7.index t 0 = 3 - t.val ∧ win1_7.index t 1 = 0)

theorem bchunk7 (c : Dev nD) (t : Fin cfg1.N) (a : Memref sig .tc .vmem S512x512 .f32) (ha : a.IsWhole) (k : Fin 8) :
    heads (rows a ha (Bwd.iblk V c 7 t) k) = Spec.chunk (V c main_arg6) (8 * (3 - t.val) + k.val) := by
  refine chunk_of_block (Bwd.iblk V c 7 t) (V c main_arg6) (3 - t.val) (by omega) (fun y => ?_) a ha k
  have hy : (y 0).val < 512 := (y 0).isLt
  have ht : t.val < 4 := Nat.lt_of_lt_of_eq t.isLt N_1
  obtain ⟨h0, h1⟩ := bidx7 t
  refine congrArg (V c main_arg6) (funext fun a => Fin.ext ?_)
  match a with
  | ⟨0, _⟩ => show win1_7.index t 0 * 512 + 1 * (y 0).val = (512 * (3 - t.val) + (y 0).val) % 2048; rw [h0]; omega
  | ⟨1, _⟩ => show win1_7.index t 1 * 512 + 1 * (y 1).val = (y 1).val; rw [h1]; omega

/-! ## The states the call finds -/

theorem bidx6 : ∀ t : Fin cfg1.N, win1_6.index t 0 = 3 - t.val ∧ win1_6.index t 1 = 0 ∧ win1_6.index t 2 = 0 ∧ win1_6.index t 3 = 0 :=
  (by decide +kernel : ∀ t : Fin grid1.N, win1_6.index t 0 = 3 - t.val ∧ win1_6.index t 1 = 0 ∧ win1_6.index t 2 = 0 ∧ win1_6.index t 3 = 0)

theorem stRow_apply {F : FTy → Type} [FloatOps F] (a : Memref sig .tc .vmem S8x4x128x128 .f32) (ha : a.IsWhole) (x : Vec F S8x4x128x128 .f32) (k : Fin 8) (j : S4x128x128.Idx) :
    stRow a ha x k j = x (ix4 k (j 0) (j 1) (j 2)) := by
  have hc : ∀ v : Vec F S1x4x128x128 .f32, shapeCast S4x128x128 v shapeCasts_S1x4x128x128_S4x128x128 j = v (ix4 0 (j 0) (j 1) (j 2)) := by
    intro v; idx_vars j; pointwise
  unfold stRow
  rw [hc, Memref.IsWhole.readAt_unread]
  congr 1
  funext b
  match b with
  | ⟨0, _⟩ => apply Fin.ext; show k.val + 1 * 0 = k.val; omega
  | ⟨1, _⟩ => apply Fin.ext; show 0 + 1 * (j 0).val = (j 0).val; omega
  | ⟨2, _⟩ => apply Fin.ext; show 0 + 1 * (j 1).val = (j 1).val; omega
  | ⟨3, _⟩ => apply Fin.ext; show 0 + 1 * (j 2).val = (j 2).val; omega

theorem bstates (c : Dev nD) (st : ℕ → Spec.State) (hst : ∀ y : S32x4x128x128.Idx, V c main_v0_1 y = st (y 0).val (ix3 (y 1) (y 2) (y 3)))
    (t : Fin cfg1.N) (a : Memref sig .tc .vmem S8x4x128x128 .f32) (ha : a.IsWhole) (k : Fin 8) :
    stRow a ha (Bwd.iblk V c 6 t) k = st (8 * (3 - t.val) + k.val) := by
  funext j
  rw [stRow_apply]
  have ht : t.val < 4 := Nat.lt_of_lt_of_eq t.isLt N_1
  obtain ⟨h0, h1, h2, h3⟩ := bidx6 t
  have e : Bwd.iblk V c 6 t (ix4 k (j 0) (j 1) (j 2)) = V c main_v0_1 (ix4 ⟨8 * (3 - t.val) + k.val, by have := k.isLt; omega⟩ (j 0) (j 1) (j 2)) := by
    refine congrArg (V c main_v0_1) (funext fun a => Fin.ext ?_)
    match a with
    | ⟨0, _⟩ => show win1_6.index t 0 * 8 + 1 * k.val = 8 * (3 - t.val) + k.val; rw [h0]; omega
    | ⟨1, _⟩ => show win1_6.index t 1 * 4 + 1 * (j 0).val = (j 0).val; rw [h1]; omega
    | ⟨2, _⟩ => show win1_6.index t 2 * 128 + 1 * (j 1).val = (j 1).val; rw [h2]; omega
    | ⟨3, _⟩ => show win1_6.index t 3 * 128 + 1 * (j 2).val = (j 2).val; rw [h3]; omega
  rw [e, hst]
  refine congrArg (st (8 * (3 - t.val) + k.val)) (funext fun a => ?_)
  match a with
  | ⟨0, _⟩ => rfl
  | ⟨1, _⟩ => rfl
  | ⟨2, _⟩ => rfl

/-! ## The gradient of the state, from point to point -/

/-- The gradients of the states, of the arrays the call finds. -/
abbrev bbacks (c : Dev nD) : ℕ → Spec.State :=
  Spec.backs (V c main_arg1) (V c main_arg2) (V c main_arg3) (V c main_arg4) (V c main_arg5) (V c main_arg6)

theorem state_cast (v : Vec Ideal S4x128x128 .f32) : shapeCast S4x128x128 v shapeCasts_S4x128x128_S4x128x128 = v := shapeCast_id v _

theorem bstA_eq (c : Dev nD) (t : Fin cfg1.N) (h0 : t.val % 4 = 0) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a8 : Memref sig .tc .vmem S512x512 .f32) (h8 : a8.IsWhole) (a15 : Memref sig .tc .vmem S4x128x128 .f32) (i : ℕ) (hi : i ≤ 8) :
    bstA c a2 h2 a3 h3 a4 h4 a5 h5 a6 h6 a8 h8 a15 (Bwd.iblk V c 1 t) (Bwd.iblk V c 2 t) (Bwd.iblk V c 3 t) (Bwd.iblk V c 4 t) (Bwd.iblk V c 5 t) (Bwd.iblk V c 7 t) i
      = bbacks V c (8 * t.val + i) := by
  have ht : t.val < 4 := Nat.lt_of_lt_of_eq t.isLt N_1
  unfold bstA
  rw [state_cast, bwdA_zero, View.readCov, load_whole, ← List.append_nil (carried _), read_carried]
  refine backsM_eq _ _ _ _ _ _ t.val ht _ _ _ _ _ _ _ (bchunk1 V c t _ _) (bchunk2 V c t _ _) (bchunk3 V c t _ _) (bchunk4 V c t _ _) (bchunk5 V c t _ _) (bchunk7 V c t _ _) ?_ i hi
  rw [show t.val = 0 by omega]
  funext y
  exact Ideal.ofBits_zero_f32

theorem bstB_eq (c : Dev nD) (t : Fin cfg1.N) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a8 : Memref sig .tc .vmem S512x512 .f32) (h8 : a8.IsWhole) (a15 : Memref sig .tc .vmem S4x128x128 .f32) (h15 : a15.IsWhole) (xs : Vec Ideal S4x128x128 .f32) (hxs : xs = bbacks V c (8 * t.val)) (i : ℕ) (hi : i ≤ 8) :
    bstB a2 h2 a3 h3 a4 h4 a5 h5 a6 h6 a8 h8 a15 h15 (Bwd.iblk V c 1 t) (Bwd.iblk V c 2 t) (Bwd.iblk V c 3 t) (Bwd.iblk V c 4 t) (Bwd.iblk V c 5 t) (Bwd.iblk V c 7 t) xs i
      = bbacks V c (8 * t.val + i) := by
  have ht : t.val < 4 := Nat.lt_of_lt_of_eq t.isLt N_1
  unfold bstB
  rw [state_cast, load_whole, Memref.IsWhole.read_unread]
  exact backsM_eq _ _ _ _ _ _ t.val ht _ _ _ _ _ _ _ (bchunk1 V c t _ _) (bchunk2 V c t _ _) (bchunk3 V c t _ _) (bchunk4 V c t _ _) (bchunk5 V c t _ _) (bchunk7 V c t _ _) hxs i hi

/-- The gradient after a point, carried to the next. -/
theorem bwd_carried (c : Dev nD) : ∀ (n : ℕ) (hn : n < cfg1.N), (Bwd.outsAt0 V c n hn).2.2.2.2.2.2 = bbacks V c (8 * (n + 1)) := by
  intro n
  induction n with
  | zero =>
    intro hn
    refine (congrArg (·.2.2.2.2.2.2) (Bwd.outsAt0_A V c ⟨0, hn⟩ rfl)).trans ?_
    dsimp only
    unfold Bwd.sout0_A_0
    rw [bwdA_carried, read_carried]
    exact bstA_eq V c ⟨0, hn⟩ rfl _ _ _ _ _ _ _ _ _ _ _ _ _ 8 (Nat.le_refl _)
  | succ n ih =>
    intro hn
    have ht : n + 1 < 4 := Nat.lt_of_lt_of_eq hn N_1
    refine (congrArg (·.2.2.2.2.2.2) (Bwd.outsAt0_B V c ⟨n + 1, hn⟩ (show ¬(n + 1) % 4 = 0 by omega))).trans ?_
    dsimp only
    unfold Bwd.sout0_B_0
    rw [bwdB_carried, ← List.append_nil (carried _), read_carried]
    exact bstB_eq V c ⟨n + 1, hn⟩ _ _ _ _ _ _ _ _ _ _ _ _ _ _ _ (ih (by omega)) 8 (Nat.le_refl _)

theorem bwd_carried_pred (c : Dev nD) (t : Fin cfg1.N) (h0 : ¬t.val % 4 = 0) :
    (Bwd.outsAt0 V c (t.val - 1) (Nat.lt_of_le_of_lt (Nat.sub_le _ _) t.isLt)).2.2.2.2.2.2 = bbacks V c (8 * t.val) := by
  rw [bwd_carried]
  congr 2
  omega

/-! ## What each point stores, and the arrays after the call -/

section

variable (c : Dev nD) (st : ℕ → Spec.State)

def gDu (n : ℕ) : Spec.Rows := Spec.dU (Spec.half (Spec.chunk (V c main_arg2) n)) (Spec.chunk (V c main_arg4) n) (Spec.chunk (V c main_arg6) n) (bbacks V c (31 - n))
def gDw (n : ℕ) : Spec.Rows := Spec.dW (Spec.half (Spec.chunk (V c main_arg2) n)) (Spec.chunk (V c main_arg4) n) (Spec.chunk (V c main_arg6) n) (st n) (bbacks V c (31 - n))
def gDqk (n : ℕ) : Spec.Rows := padHalf (F := Ideal) (0 : EReal) (Spec.dQk (Spec.chunk (V c main_arg0) n) (Spec.chunk (V c main_arg1) n) (Spec.chunk (V c main_arg6) n) (st n))
def gDqd (n : ℕ) : Spec.Rows := Spec.dQd (Spec.chunk (V c main_arg6) n) (st n)
def gDkd (n : ℕ) : Spec.Rows := Spec.dKd (Spec.chunk (V c main_arg0) n) (Spec.chunk (V c main_arg1) n) (st n) (bbacks V c (31 - n))
def gDeg (n : ℕ) : Spec.Rows := padRow (Spec.dEg (st n) (bbacks V c (31 - n)))

end

theorem biidx (t : Fin cfg1.N) (k : Fin 8) : 8 * t.val + (7 - k.val) = 31 - (8 * (3 - t.val) + k.val) := by
  have ht : t.val < 4 := Nat.lt_of_lt_of_eq t.isLt N_1
  have := k.isLt
  omega

variable (c : Dev nD) (st : ℕ → Spec.State) (hst : ∀ y : S32x4x128x128.Idx, V c main_v0_1 y = st (y 0).val (ix3 (y 1) (y 2) (y 3)))

/-- The chunk, head, row and lane of an index of an array. -/
def cellOf (y : S2048x512.Idx) : S4x64x128.Idx :=
  ix3 ⟨(y 1).val / 128, by have h : (y 1).val < 512 := (y 1).isLt; omega⟩ ⟨(y 0).val % 64, Nat.mod_lt _ (by decide)⟩ ⟨(y 1).val % 128, Nat.mod_lt _ (by decide)⟩

theorem bwd_du (t : Fin cfg1.N) (y : S512x512.Idx) :
    (Bwd.outsAt0 V c t.val t.isLt).1 y = gDu V c (8 * (3 - t.val) + (chunkOf y).val) (cellOf3 y) := by
  by_cases h0 : t.val % 4 = 0
  · refine (congrFun (congrArg (·.1) (Bwd.outsAt0_A V c t h0)) y).trans ?_
    dsimp only
    unfold Bwd.out0_A_8
    rw [bwdA_du, read_headPiecesB, dUM_eq, half_eq, bchunk2, bchunk4, bchunk7, bstA_eq V c t h0 _ _ _ _ _ _ _ _ _ _ _ _ _ (7 - _) (Nat.le_trans (Nat.sub_le _ _) (by decide)), biidx]
    rfl
  · refine (congrFun (congrArg (·.1) (Bwd.outsAt0_B V c t h0)) y).trans ?_
    dsimp only
    unfold Bwd.out0_B_8
    rw [bwdB_du, read_headPiecesB, dUM_eq, half_eq, bchunk2, bchunk4, bchunk7, bstB_eq V c t _ _ _ _ _ _ _ _ _ _ _ _ _ _ _ (bwd_carried_pred V c t h0) (7 - _) (Nat.le_trans (Nat.sub_le _ _) (by decide)), biidx]
    rfl

theorem bidx_inj8 : ∀ t t' : Fin cfg1.N, win1_8.index t = win1_8.index t' → t = t' :=
  (by decide +kernel : ∀ t t' : Fin grid1.N, win1_8.index t = win1_8.index t' → t = t')

theorem bdisjoint8 (t t' : Fin cfg1.N) (_ : (cfg1.win 8).flush t = true) (_ : (cfg1.win 8).flush t' = true) (hne : t ≠ t') :
    Disjoint ((cfg1.win 8).blk t).view.set ((cfg1.win 8).blk t').view.set :=
  (cfg1.win 8).disjoint_blk fun h => hne (bidx_inj8 t t' h)

theorem bflush8 : ∀ t : Fin cfg1.N, (cfg1.win 8).flush t = true :=
  (by decide +kernel : ∀ t : Fin grid1.N, win1_8.flush t = true)

theorem bidx8 : ∀ t : Fin cfg1.N, win1_8.index t 0 = 3 - t.val ∧ win1_8.index t 1 = 0 :=
  (by decide +kernel : ∀ t : Fin grid1.N, win1_8.index t 0 = 3 - t.val ∧ win1_8.index t 1 = 0)

theorem bwd_final_du (y : S2048x512.Idx) :
    ((Bwd.dat V c).arrAt 8 cfg1.N : S2048x512.Idx → EReal) y = gDu V c ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 8 bdisjoint8 cfg1.N t t.isLt (bflush8 t)) z
  obtain ⟨i0, i1⟩ := bidx8 t
  have hz : ((cfg1.win 8).blk t).view.read (Elt Ideal) ((Bwd.dat V c).arrAt 8 cfg1.N) z = ((Bwd.dat V c).arrAt 8 cfg1.N : S2048x512.Idx → EReal) y := by
    refine congrArg ((Bwd.dat V c).arrAt 8 cfg1.N : S2048x512.Idx → EReal) (funext fun a => Fin.ext ?_)
    match a with
    | ⟨0, _⟩ => show win1_8.index t 0 * 512 + 1 * ((y 0).val % 512) = (y 0).val; rw [i0]; show (3 - (3 - (y 0).val / 512)) * 512 + _ = _; omega
    | ⟨1, _⟩ => show win1_8.index t 1 * 512 + 1 * (y 1).val = (y 1).val; rw [i1]; omega
  rw [← hz, hb]
  show (Bwd.dat V c).after 8 t z = _
  rw [Bwd.after0_8, bwd_du V c]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

include hst in
theorem bwd_dw (t : Fin cfg1.N) (y : S512x512.Idx) :
    (Bwd.outsAt0 V c t.val t.isLt).2.1 y = gDw V c st (8 * (3 - t.val) + (chunkOf y).val) (cellOf3 y) := by
  by_cases h0 : t.val % 4 = 0
  · refine (congrFun (congrArg (·.2.1) (Bwd.outsAt0_A V c t h0)) y).trans ?_
    dsimp only
    unfold Bwd.out0_A_9
    rw [bwdA_dw, read_headPiecesB, dWM_eq, half_eq, bchunk2, bchunk4, bchunk7, bstates V c st hst, bstA_eq V c t h0 _ _ _ _ _ _ _ _ _ _ _ _ _ (7 - _) (Nat.le_trans (Nat.sub_le _ _) (by decide)), biidx]
    rfl
  · refine (congrFun (congrArg (·.2.1) (Bwd.outsAt0_B V c t h0)) y).trans ?_
    dsimp only
    unfold Bwd.out0_B_9
    rw [bwdB_dw, read_headPiecesB, dWM_eq, half_eq, bchunk2, bchunk4, bchunk7, bstates V c st hst, bstB_eq V c t _ _ _ _ _ _ _ _ _ _ _ _ _ _ _ (bwd_carried_pred V c t h0) (7 - _) (Nat.le_trans (Nat.sub_le _ _) (by decide)), biidx]
    rfl

theorem bidx_inj9 : ∀ t t' : Fin cfg1.N, win1_9.index t = win1_9.index t' → t = t' :=
  (by decide +kernel : ∀ t t' : Fin grid1.N, win1_9.index t = win1_9.index t' → t = t')

theorem bdisjoint9 (t t' : Fin cfg1.N) (_ : (cfg1.win 9).flush t = true) (_ : (cfg1.win 9).flush t' = true) (hne : t ≠ t') :
    Disjoint ((cfg1.win 9).blk t).view.set ((cfg1.win 9).blk t').view.set :=
  (cfg1.win 9).disjoint_blk fun h => hne (bidx_inj9 t t' h)

theorem bflush9 : ∀ t : Fin cfg1.N, (cfg1.win 9).flush t = true :=
  (by decide +kernel : ∀ t : Fin grid1.N, win1_9.flush t = true)

theorem bidx9 : ∀ t : Fin cfg1.N, win1_9.index t 0 = 3 - t.val ∧ win1_9.index t 1 = 0 :=
  (by decide +kernel : ∀ t : Fin grid1.N, win1_9.index t 0 = 3 - t.val ∧ win1_9.index t 1 = 0)

include hst in
theorem bwd_final_dw (y : S2048x512.Idx) :
    ((Bwd.dat V c).arrAt 9 cfg1.N : S2048x512.Idx → EReal) y = gDw V c st ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 9 bdisjoint9 cfg1.N t t.isLt (bflush9 t)) z
  obtain ⟨i0, i1⟩ := bidx9 t
  have hz : ((cfg1.win 9).blk t).view.read (Elt Ideal) ((Bwd.dat V c).arrAt 9 cfg1.N) z = ((Bwd.dat V c).arrAt 9 cfg1.N : S2048x512.Idx → EReal) y := by
    refine congrArg ((Bwd.dat V c).arrAt 9 cfg1.N : S2048x512.Idx → EReal) (funext fun a => Fin.ext ?_)
    match a with
    | ⟨0, _⟩ => show win1_9.index t 0 * 512 + 1 * ((y 0).val % 512) = (y 0).val; rw [i0]; show (3 - (3 - (y 0).val / 512)) * 512 + _ = _; omega
    | ⟨1, _⟩ => show win1_9.index t 1 * 512 + 1 * (y 1).val = (y 1).val; rw [i1]; omega
  rw [← hz, hb]
  show (Bwd.dat V c).after 9 t z = _
  rw [Bwd.after0_9, bwd_dw V c st hst]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

include hst in
theorem bwd_dqk (t : Fin cfg1.N) (y : S512x512.Idx) :
    (Bwd.outsAt0 V c t.val t.isLt).2.2.1 y = gDqk V c st (8 * (3 - t.val) + (chunkOf y).val) (cellOf3 y) := by
  by_cases h0 : t.val % 4 = 0
  · refine (congrFun (congrArg (·.2.2.1) (Bwd.outsAt0_A V c t h0)) y).trans ?_
    dsimp only
    unfold Bwd.out0_A_10
    rw [bwdA_dqk, read_halfPiecesB, dQkM_eq, bchunk0, bchunk1, bchunk7, bstates V c st hst]
    unfold gDqk
    rw [show (Scalar.ofBits (F := Ideal) .f32 0x00000000#32 : EReal) = 0 from Ideal.ofBits_zero_f32]
  · refine (congrFun (congrArg (·.2.2.1) (Bwd.outsAt0_B V c t h0)) y).trans ?_
    dsimp only
    unfold Bwd.out0_B_10
    rw [bwdB_dqk, read_halfPiecesB, dQkM_eq, bchunk0, bchunk1, bchunk7, bstates V c st hst]
    unfold gDqk
    rw [show (Scalar.ofBits (F := Ideal) .f32 0x00000000#32 : EReal) = 0 from Ideal.ofBits_zero_f32]

theorem bidx_inj10 : ∀ t t' : Fin cfg1.N, win1_10.index t = win1_10.index t' → t = t' :=
  (by decide +kernel : ∀ t t' : Fin grid1.N, win1_10.index t = win1_10.index t' → t = t')

theorem bdisjoint10 (t t' : Fin cfg1.N) (_ : (cfg1.win 10).flush t = true) (_ : (cfg1.win 10).flush t' = true) (hne : t ≠ t') :
    Disjoint ((cfg1.win 10).blk t).view.set ((cfg1.win 10).blk t').view.set :=
  (cfg1.win 10).disjoint_blk fun h => hne (bidx_inj10 t t' h)

theorem bflush10 : ∀ t : Fin cfg1.N, (cfg1.win 10).flush t = true :=
  (by decide +kernel : ∀ t : Fin grid1.N, win1_10.flush t = true)

theorem bidx10 : ∀ t : Fin cfg1.N, win1_10.index t 0 = 3 - t.val ∧ win1_10.index t 1 = 0 :=
  (by decide +kernel : ∀ t : Fin grid1.N, win1_10.index t 0 = 3 - t.val ∧ win1_10.index t 1 = 0)

include hst in
theorem bwd_final_dqk (y : S2048x512.Idx) :
    ((Bwd.dat V c).arrAt 10 cfg1.N : S2048x512.Idx → EReal) y = gDqk V c st ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 10 bdisjoint10 cfg1.N t t.isLt (bflush10 t)) z
  obtain ⟨i0, i1⟩ := bidx10 t
  have hz : ((cfg1.win 10).blk t).view.read (Elt Ideal) ((Bwd.dat V c).arrAt 10 cfg1.N) z = ((Bwd.dat V c).arrAt 10 cfg1.N : S2048x512.Idx → EReal) y := by
    refine congrArg ((Bwd.dat V c).arrAt 10 cfg1.N : S2048x512.Idx → EReal) (funext fun a => Fin.ext ?_)
    match a with
    | ⟨0, _⟩ => show win1_10.index t 0 * 512 + 1 * ((y 0).val % 512) = (y 0).val; rw [i0]; show (3 - (3 - (y 0).val / 512)) * 512 + _ = _; omega
    | ⟨1, _⟩ => show win1_10.index t 1 * 512 + 1 * (y 1).val = (y 1).val; rw [i1]; omega
  rw [← hz, hb]
  show (Bwd.dat V c).after 10 t z = _
  rw [Bwd.after0_10, bwd_dqk V c st hst]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

include hst in
theorem bwd_dqd (t : Fin cfg1.N) (y : S512x512.Idx) :
    (Bwd.outsAt0 V c t.val t.isLt).2.2.2.1 y = gDqd V c st (8 * (3 - t.val) + (chunkOf y).val) (cellOf3 y) := by
  by_cases h0 : t.val % 4 = 0
  · refine (congrFun (congrArg (·.2.2.2.1) (Bwd.outsAt0_A V c t h0)) y).trans ?_
    dsimp only
    unfold Bwd.out0_A_11
    rw [bwdA_dqd, read_headPiecesB, dQdM_eq, bchunk7, bstates V c st hst]
    rfl
  · refine (congrFun (congrArg (·.2.2.2.1) (Bwd.outsAt0_B V c t h0)) y).trans ?_
    dsimp only
    unfold Bwd.out0_B_11
    rw [bwdB_dqd, read_headPiecesB, dQdM_eq, bchunk7, bstates V c st hst]
    rfl

theorem bidx_inj11 : ∀ t t' : Fin cfg1.N, win1_11.index t = win1_11.index t' → t = t' :=
  (by decide +kernel : ∀ t t' : Fin grid1.N, win1_11.index t = win1_11.index t' → t = t')

theorem bdisjoint11 (t t' : Fin cfg1.N) (_ : (cfg1.win 11).flush t = true) (_ : (cfg1.win 11).flush t' = true) (hne : t ≠ t') :
    Disjoint ((cfg1.win 11).blk t).view.set ((cfg1.win 11).blk t').view.set :=
  (cfg1.win 11).disjoint_blk fun h => hne (bidx_inj11 t t' h)

theorem bflush11 : ∀ t : Fin cfg1.N, (cfg1.win 11).flush t = true :=
  (by decide +kernel : ∀ t : Fin grid1.N, win1_11.flush t = true)

theorem bidx11 : ∀ t : Fin cfg1.N, win1_11.index t 0 = 3 - t.val ∧ win1_11.index t 1 = 0 :=
  (by decide +kernel : ∀ t : Fin grid1.N, win1_11.index t 0 = 3 - t.val ∧ win1_11.index t 1 = 0)

include hst in
theorem bwd_final_dqd (y : S2048x512.Idx) :
    ((Bwd.dat V c).arrAt 11 cfg1.N : S2048x512.Idx → EReal) y = gDqd V c st ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 11 bdisjoint11 cfg1.N t t.isLt (bflush11 t)) z
  obtain ⟨i0, i1⟩ := bidx11 t
  have hz : ((cfg1.win 11).blk t).view.read (Elt Ideal) ((Bwd.dat V c).arrAt 11 cfg1.N) z = ((Bwd.dat V c).arrAt 11 cfg1.N : S2048x512.Idx → EReal) y := by
    refine congrArg ((Bwd.dat V c).arrAt 11 cfg1.N : S2048x512.Idx → EReal) (funext fun a => Fin.ext ?_)
    match a with
    | ⟨0, _⟩ => show win1_11.index t 0 * 512 + 1 * ((y 0).val % 512) = (y 0).val; rw [i0]; show (3 - (3 - (y 0).val / 512)) * 512 + _ = _; omega
    | ⟨1, _⟩ => show win1_11.index t 1 * 512 + 1 * (y 1).val = (y 1).val; rw [i1]; omega
  rw [← hz, hb]
  show (Bwd.dat V c).after 11 t z = _
  rw [Bwd.after0_11, bwd_dqd V c st hst]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

include hst in
theorem bwd_dkd (t : Fin cfg1.N) (y : S512x512.Idx) :
    (Bwd.outsAt0 V c t.val t.isLt).2.2.2.2.1 y = gDkd V c st (8 * (3 - t.val) + (chunkOf y).val) (cellOf3 y) := by
  by_cases h0 : t.val % 4 = 0
  · refine (congrFun (congrArg (·.2.2.2.2.1) (Bwd.outsAt0_A V c t h0)) y).trans ?_
    dsimp only
    unfold Bwd.out0_A_12
    rw [bwdA_dkd, read_headPiecesB, dKdM_eq, bchunk0, bchunk1, bstates V c st hst, bstA_eq V c t h0 _ _ _ _ _ _ _ _ _ _ _ _ _ (7 - _) (Nat.le_trans (Nat.sub_le _ _) (by decide)), biidx]
    rfl
  · refine (congrFun (congrArg (·.2.2.2.2.1) (Bwd.outsAt0_B V c t h0)) y).trans ?_
    dsimp only
    unfold Bwd.out0_B_12
    rw [bwdB_dkd, read_headPiecesB, dKdM_eq, bchunk0, bchunk1, bstates V c st hst, bstB_eq V c t _ _ _ _ _ _ _ _ _ _ _ _ _ _ _ (bwd_carried_pred V c t h0) (7 - _) (Nat.le_trans (Nat.sub_le _ _) (by decide)), biidx]
    rfl

theorem bidx_inj12 : ∀ t t' : Fin cfg1.N, win1_12.index t = win1_12.index t' → t = t' :=
  (by decide +kernel : ∀ t t' : Fin grid1.N, win1_12.index t = win1_12.index t' → t = t')

theorem bdisjoint12 (t t' : Fin cfg1.N) (_ : (cfg1.win 12).flush t = true) (_ : (cfg1.win 12).flush t' = true) (hne : t ≠ t') :
    Disjoint ((cfg1.win 12).blk t).view.set ((cfg1.win 12).blk t').view.set :=
  (cfg1.win 12).disjoint_blk fun h => hne (bidx_inj12 t t' h)

theorem bflush12 : ∀ t : Fin cfg1.N, (cfg1.win 12).flush t = true :=
  (by decide +kernel : ∀ t : Fin grid1.N, win1_12.flush t = true)

theorem bidx12 : ∀ t : Fin cfg1.N, win1_12.index t 0 = 3 - t.val ∧ win1_12.index t 1 = 0 :=
  (by decide +kernel : ∀ t : Fin grid1.N, win1_12.index t 0 = 3 - t.val ∧ win1_12.index t 1 = 0)

include hst in
theorem bwd_final_dkd (y : S2048x512.Idx) :
    ((Bwd.dat V c).arrAt 12 cfg1.N : S2048x512.Idx → EReal) y = gDkd V c st ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 12 bdisjoint12 cfg1.N t t.isLt (bflush12 t)) z
  obtain ⟨i0, i1⟩ := bidx12 t
  have hz : ((cfg1.win 12).blk t).view.read (Elt Ideal) ((Bwd.dat V c).arrAt 12 cfg1.N) z = ((Bwd.dat V c).arrAt 12 cfg1.N : S2048x512.Idx → EReal) y := by
    refine congrArg ((Bwd.dat V c).arrAt 12 cfg1.N : S2048x512.Idx → EReal) (funext fun a => Fin.ext ?_)
    match a with
    | ⟨0, _⟩ => show win1_12.index t 0 * 512 + 1 * ((y 0).val % 512) = (y 0).val; rw [i0]; show (3 - (3 - (y 0).val / 512)) * 512 + _ = _; omega
    | ⟨1, _⟩ => show win1_12.index t 1 * 512 + 1 * (y 1).val = (y 1).val; rw [i1]; omega
  rw [← hz, hb]
  show (Bwd.dat V c).after 12 t z = _
  rw [Bwd.after0_12, bwd_dkd V c st hst]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

include hst in
theorem bwd_deg (t : Fin cfg1.N) (y : S512x512.Idx) :
    (Bwd.outsAt0 V c t.val t.isLt).2.2.2.2.2.1 y = gDeg V c st (8 * (3 - t.val) + (chunkOf y).val) (cellOf3 y) := by
  by_cases h0 : t.val % 4 = 0
  · refine (congrFun (congrArg (·.2.2.2.2.2.1) (Bwd.outsAt0_A V c t h0)) y).trans ?_
    dsimp only
    unfold Bwd.out0_A_13
    rw [bwdA_deg, read_headPiecesB, dEgM_eq, bstates V c st hst, bstA_eq V c t h0 _ _ _ _ _ _ _ _ _ _ _ _ _ (7 - _) (Nat.le_trans (Nat.sub_le _ _) (by decide)), biidx]
    rfl
  · refine (congrFun (congrArg (·.2.2.2.2.2.1) (Bwd.outsAt0_B V c t h0)) y).trans ?_
    dsimp only
    unfold Bwd.out0_B_13
    rw [bwdB_deg, read_headPiecesB, dEgM_eq, bstates V c st hst, bstB_eq V c t _ _ _ _ _ _ _ _ _ _ _ _ _ _ _ (bwd_carried_pred V c t h0) (7 - _) (Nat.le_trans (Nat.sub_le _ _) (by decide)), biidx]
    rfl

theorem bidx_inj13 : ∀ t t' : Fin cfg1.N, win1_13.index t = win1_13.index t' → t = t' :=
  (by decide +kernel : ∀ t t' : Fin grid1.N, win1_13.index t = win1_13.index t' → t = t')

theorem bdisjoint13 (t t' : Fin cfg1.N) (_ : (cfg1.win 13).flush t = true) (_ : (cfg1.win 13).flush t' = true) (hne : t ≠ t') :
    Disjoint ((cfg1.win 13).blk t).view.set ((cfg1.win 13).blk t').view.set :=
  (cfg1.win 13).disjoint_blk fun h => hne (bidx_inj13 t t' h)

theorem bflush13 : ∀ t : Fin cfg1.N, (cfg1.win 13).flush t = true :=
  (by decide +kernel : ∀ t : Fin grid1.N, win1_13.flush t = true)

theorem bidx13 : ∀ t : Fin cfg1.N, win1_13.index t 0 = 3 - t.val ∧ win1_13.index t 1 = 0 :=
  (by decide +kernel : ∀ t : Fin grid1.N, win1_13.index t 0 = 3 - t.val ∧ win1_13.index t 1 = 0)

include hst in
theorem bwd_final_deg (y : S2048x512.Idx) :
    ((Bwd.dat V c).arrAt 13 cfg1.N : S2048x512.Idx → EReal) y = gDeg V c st ((y 0).val / 64) (cellOf y) := by
  have hy : (y 0).val < 2048 := (y 0).isLt
  let t : Fin cfg1.N := ⟨3 - (y 0).val / 512, by rw [show cfg1.N = 4 from N_1]; omega⟩
  let z : S512x512.Idx := ix2 ⟨(y 0).val % 512, Nat.mod_lt _ (by decide)⟩ (y 1)
  have hb := congrFun ((Bwd.dat V c).read_blk_arrAt_eq_flushed 13 bdisjoint13 cfg1.N t t.isLt (bflush13 t)) z
  obtain ⟨i0, i1⟩ := bidx13 t
  have hz : ((cfg1.win 13).blk t).view.read (Elt Ideal) ((Bwd.dat V c).arrAt 13 cfg1.N) z = ((Bwd.dat V c).arrAt 13 cfg1.N : S2048x512.Idx → EReal) y := by
    refine congrArg ((Bwd.dat V c).arrAt 13 cfg1.N : S2048x512.Idx → EReal) (funext fun a => Fin.ext ?_)
    match a with
    | ⟨0, _⟩ => show win1_13.index t 0 * 512 + 1 * ((y 0).val % 512) = (y 0).val; rw [i0]; show (3 - (3 - (y 0).val / 512)) * 512 + _ = _; omega
    | ⟨1, _⟩ => show win1_13.index t 1 * 512 + 1 * (y 1).val = (y 1).val; rw [i1]; omega
  rw [← hz, hb]
  show (Bwd.dat V c).after 13 t z = _
  rw [Bwd.after0_13, bwd_deg V c st hst]
  have e1 : 8 * (3 - t.val) + (chunkOf z).val = (y 0).val / 64 := by
    show 8 * (3 - (3 - (y 0).val / 512)) + ((y 0).val % 512) / 64 = _
    omega
  have e2 : cellOf3 z = cellOf y := by
    funext a
    match a with
    | ⟨0, _⟩ => rfl
    | ⟨1, _⟩ => apply Fin.ext; show ((y 0).val % 512) % 64 = (y 0).val % 64; omega
    | ⟨2, _⟩ => rfl
  rw [e1, e2]

end Cert.KernelIdeal.Val

end
-- ==== Proof.Val.Equal.lean ====
/- The six results of the kernel are the reference's: both are the recurrence's gradients, entry by entry. -/
module

public import proofs.«01_k».proof.Proof.Val.RefEnd
public import proofs.«01_k».proof.Proof.Val.Fwd
public import proofs.«01_k».proof.Proof.Val.Bwd
public import proofs.«01_k».proof.Proof.Run

@[expose] public section

set_option maxRecDepth 16384

noncomputable section

namespace Cert.Proof

open Idealize.ShloMosaic Idealize.ShloMosaic.TcCoe
open Cert.KernelIdeal.Run (W0 W1 W2 at_ W1_arr W2_arr W1_keeps)
open Cert.KernelIdeal.Val (fstates bbacks cellOf)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The states the second call reads are those the first left. -/
theorem states_read (y : Cert.KernelIdeal.S32x4x128x128.Idx) :
    (at_ (W1 m) c Cert.KernelIdeal.main_v0_1 : Cert.KernelIdeal.S32x4x128x128.Idx → EReal) y = fstates (at_ (W0 m)) c (y 0).val (ix3 (y 1) (y 2) (y 3)) :=
  (congrFun (W1_arr m c 7) y).trans (Cert.KernelIdeal.Val.fwd_final (at_ (W0 m)) c y)

variable {m m' c}

theorem arg0_eq (h : Agree m m' c) : (at_ (W1 m) c Cert.KernelIdeal.main_arg0 : Cert.KernelIdeal.S2048x512.Idx → EReal) = Cert.ReferenceIdeal.Val.arg m' c Cert.ReferenceIdeal.main_arg0 :=
  (W1_keeps m c Cert.KernelIdeal.main_arg0 (by decide)).trans h.1.symm
theorem arg0_eq0 (h : Agree m m' c) : (at_ (W0 m) c Cert.KernelIdeal.main_arg0 : Cert.KernelIdeal.S2048x512.Idx → EReal) = Cert.ReferenceIdeal.Val.arg m' c Cert.ReferenceIdeal.main_arg0 :=
  h.1.symm
theorem arg1_eq (h : Agree m m' c) : (at_ (W1 m) c Cert.KernelIdeal.main_arg1 : Cert.KernelIdeal.S2048x512.Idx → EReal) = Cert.ReferenceIdeal.Val.arg m' c Cert.ReferenceIdeal.main_arg1 :=
  (W1_keeps m c Cert.KernelIdeal.main_arg1 (by decide)).trans h.2.1.symm
theorem arg1_eq0 (h : Agree m m' c) : (at_ (W0 m) c Cert.KernelIdeal.main_arg1 : Cert.KernelIdeal.S2048x512.Idx → EReal) = Cert.ReferenceIdeal.Val.arg m' c Cert.ReferenceIdeal.main_arg1 :=
  h.2.1.symm
theorem arg2_eq (h : Agree m m' c) : (at_ (W1 m) c Cert.KernelIdeal.main_arg2 : Cert.KernelIdeal.S2048x512.Idx → EReal) = Cert.ReferenceIdeal.Val.arg m' c Cert.ReferenceIdeal.main_arg2 :=
  (W1_keeps m c Cert.KernelIdeal.main_arg2 (by decide)).trans h.2.2.1.symm
theorem arg2_eq0 (h : Agree m m' c) : (at_ (W0 m) c Cert.KernelIdeal.main_arg2 : Cert.KernelIdeal.S2048x512.Idx → EReal) = Cert.ReferenceIdeal.Val.arg m' c Cert.ReferenceIdeal.main_arg2 :=
  h.2.2.1.symm
theorem arg3_eq (h : Agree m m' c) : (at_ (W1 m) c Cert.KernelIdeal.main_arg3 : Cert.KernelIdeal.S2048x512.Idx → EReal) = Cert.ReferenceIdeal.Val.arg m' c Cert.ReferenceIdeal.main_arg3 :=
  (W1_keeps m c Cert.KernelIdeal.main_arg3 (by decide)).trans h.2.2.2.1.symm
theorem arg3_eq0 (h : Agree m m' c) : (at_ (W0 m) c Cert.KernelIdeal.main_arg3 : Cert.KernelIdeal.S2048x512.Idx → EReal) = Cert.ReferenceIdeal.Val.arg m' c Cert.ReferenceIdeal.main_arg3 :=
  h.2.2.2.1.symm
theorem arg4_eq (h : Agree m m' c) : (at_ (W1 m) c Cert.KernelIdeal.main_arg4 : Cert.KernelIdeal.S2048x512.Idx → EReal) = Cert.ReferenceIdeal.Val.arg m' c Cert.ReferenceIdeal.main_arg4 :=
  (W1_keeps m c Cert.KernelIdeal.main_arg4 (by decide)).trans h.2.2.2.2.1.symm
theorem arg4_eq0 (h : Agree m m' c) : (at_ (W0 m) c Cert.KernelIdeal.main_arg4 : Cert.KernelIdeal.S2048x512.Idx → EReal) = Cert.ReferenceIdeal.Val.arg m' c Cert.ReferenceIdeal.main_arg4 :=
  h.2.2.2.2.1.symm
theorem arg5_eq (h : Agree m m' c) : (at_ (W1 m) c Cert.KernelIdeal.main_arg5 : Cert.KernelIdeal.S2048x512.Idx → EReal) = Cert.ReferenceIdeal.Val.arg m' c Cert.ReferenceIdeal.main_arg5 :=
  (W1_keeps m c Cert.KernelIdeal.main_arg5 (by decide)).trans h.2.2.2.2.2.1.symm
theorem arg5_eq0 (h : Agree m m' c) : (at_ (W0 m) c Cert.KernelIdeal.main_arg5 : Cert.KernelIdeal.S2048x512.Idx → EReal) = Cert.ReferenceIdeal.Val.arg m' c Cert.ReferenceIdeal.main_arg5 :=
  h.2.2.2.2.2.1.symm
theorem arg6_eq (h : Agree m m' c) : (at_ (W1 m) c Cert.KernelIdeal.main_arg6 : Cert.KernelIdeal.S2048x512.Idx → EReal) = Cert.ReferenceIdeal.Val.arg m' c Cert.ReferenceIdeal.main_arg6 :=
  (W1_keeps m c Cert.KernelIdeal.main_arg6 (by decide)).trans h.2.2.2.2.2.2.symm
theorem arg6_eq0 (h : Agree m m' c) : (at_ (W0 m) c Cert.KernelIdeal.main_arg6 : Cert.KernelIdeal.S2048x512.Idx → EReal) = Cert.ReferenceIdeal.Val.arg m' c Cert.ReferenceIdeal.main_arg6 :=
  h.2.2.2.2.2.2.symm

theorem states_eq (h : Agree m m' c) : fstates (at_ (W0 m)) c = Spec.states (Cert.ReferenceIdeal.Val.arg m' c Cert.ReferenceIdeal.main_arg0) (Cert.ReferenceIdeal.Val.arg m' c Cert.ReferenceIdeal.main_arg1) (Cert.ReferenceIdeal.Val.arg m' c Cert.ReferenceIdeal.main_arg4) (Cert.ReferenceIdeal.Val.arg m' c Cert.ReferenceIdeal.main_arg5) := by
  unfold fstates
  rw [arg0_eq0 h, arg1_eq0 h, arg4_eq0 h, arg5_eq0 h]

theorem backs_eq (h : Agree m m' c) : bbacks (at_ (W1 m)) c = Spec.backs (Cert.ReferenceIdeal.Val.arg m' c Cert.ReferenceIdeal.main_arg1) (Cert.ReferenceIdeal.Val.arg m' c Cert.ReferenceIdeal.main_arg2) (Cert.ReferenceIdeal.Val.arg m' c Cert.ReferenceIdeal.main_arg3) (Cert.ReferenceIdeal.Val.arg m' c Cert.ReferenceIdeal.main_arg4) (Cert.ReferenceIdeal.Val.arg m' c Cert.ReferenceIdeal.main_arg5) (Cert.ReferenceIdeal.Val.arg m' c Cert.ReferenceIdeal.main_arg6) := by
  unfold bbacks
  rw [arg1_eq h, arg2_eq h, arg3_eq h, arg4_eq h, arg5_eq h, arg6_eq h]

theorem equal_du (h : Agree m m' c) : (W2 m c Cert.KernelIdeal.main_v1_0 : Cert.KernelIdeal.S2048x512.Idx → EReal) = Cert.ReferenceIdeal.Ref.End m' c (Proc.devRef .tc Cert.ReferenceIdeal.main_v44) := by
  funext y
  refine ((congrFun (W2_arr m c 8) y).trans (Cert.KernelIdeal.Val.bwd_final_du (at_ (W1 m)) c y)).trans (Eq.trans ?_ (Cert.ReferenceIdeal.Val.end_du m' c y).symm)
  unfold Cert.KernelIdeal.Val.gDu
  rw [backs_eq h, arg2_eq h, arg4_eq h, arg6_eq h]
  rfl

theorem equal_dw (h : Agree m m' c) : (W2 m c Cert.KernelIdeal.main_v1_1 : Cert.KernelIdeal.S2048x512.Idx → EReal) = Cert.ReferenceIdeal.Ref.End m' c (Proc.devRef .tc Cert.ReferenceIdeal.main_v42) := by
  funext y
  refine ((congrFun (W2_arr m c 9) y).trans (Cert.KernelIdeal.Val.bwd_final_dw (at_ (W1 m)) c _ (states_read m c) y)).trans (Eq.trans ?_ (Cert.ReferenceIdeal.Val.end_dw m' c y).symm)
  unfold Cert.KernelIdeal.Val.gDw
  rw [states_eq h, backs_eq h, arg2_eq h, arg4_eq h, arg6_eq h]
  rfl

theorem equal_dqk (h : Agree m m' c) : (W2 m c Cert.KernelIdeal.main_v1_2 : Cert.KernelIdeal.S2048x512.Idx → EReal) = Cert.ReferenceIdeal.Ref.End m' c (Proc.devRef .tc Cert.ReferenceIdeal.main_v40) := by
  funext y
  refine ((congrFun (W2_arr m c 10) y).trans (Cert.KernelIdeal.Val.bwd_final_dqk (at_ (W1 m)) c _ (states_read m c) y)).trans (Eq.trans ?_ (Cert.ReferenceIdeal.Val.end_dqk m' c y).symm)
  unfold Cert.KernelIdeal.Val.gDqk
  rw [states_eq h, arg0_eq h, arg1_eq h, arg6_eq h]
  rfl

theorem equal_dqd (h : Agree m m' c) : (W2 m c Cert.KernelIdeal.main_v1_3 : Cert.KernelIdeal.S2048x512.Idx → EReal) = Cert.ReferenceIdeal.Ref.End m' c (Proc.devRef .tc Cert.ReferenceIdeal.main_v48) := by
  funext y
  refine ((congrFun (W2_arr m c 11) y).trans (Cert.KernelIdeal.Val.bwd_final_dqd (at_ (W1 m)) c _ (states_read m c) y)).trans (Eq.trans ?_ (Cert.ReferenceIdeal.Val.end_dqd m' c y).symm)
  unfold Cert.KernelIdeal.Val.gDqd
  rw [states_eq h, arg6_eq h]
  rfl

theorem equal_dkd (h : Agree m m' c) : (W2 m c Cert.KernelIdeal.main_v1_4 : Cert.KernelIdeal.S2048x512.Idx → EReal) = Cert.ReferenceIdeal.Ref.End m' c (Proc.devRef .tc Cert.ReferenceIdeal.main_v46) := by
  funext y
  refine ((congrFun (W2_arr m c 12) y).trans (Cert.KernelIdeal.Val.bwd_final_dkd (at_ (W1 m)) c _ (states_read m c) y)).trans (Eq.trans ?_ (Cert.ReferenceIdeal.Val.end_dkd m' c y).symm)
  unfold Cert.KernelIdeal.Val.gDkd
  rw [states_eq h, backs_eq h, arg0_eq h, arg1_eq h]
  rfl

theorem equal_deg (h : Agree m m' c) : (W2 m c Cert.KernelIdeal.main_v1_5 : Cert.KernelIdeal.S2048x512.Idx → EReal) = Cert.ReferenceIdeal.Ref.End m' c (Proc.devRef .tc Cert.ReferenceIdeal.main_v37) := by
  funext y
  refine ((congrFun (W2_arr m c 13) y).trans (Cert.KernelIdeal.Val.bwd_final_deg (at_ (W1 m)) c _ (states_read m c) y)).trans (Eq.trans ?_ (Cert.ReferenceIdeal.Val.end_deg m' c y).symm)
  unfold Cert.KernelIdeal.Val.gDeg
  rw [states_eq h, backs_eq h]
  rfl

end Cert.Proof

end
-- ==== Proof.Mm.Product.lean ====
/- The three products of a linear layer `y = x w`, as sums: the rows out of the layer, and by the cotangent `dy` the gradient of its
   rows, `dy` against `w` along the outputs, and of its weight, `x` against `dy` along the rows. -/
module

public import Idealize.ShloMosaic.Lib.Pointwise

@[expose] public section

noncomputable section

namespace Cert.Mm

open Idealize.ShloMosaic

variable {M K N : ℕ}

/-- `x w`. -/
def rows (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- `dy wᵀ`. -/
def rowsGrad (dy : (⟨2, ![M, K]⟩ : Shape).Idx → EReal) (w : (⟨2, ![N, K]⟩ : Shape).Idx → EReal) : (⟨2, ![M, N]⟩ : Shape).Idx → EReal :=
  fun i => ∑ k : Fin K, dy (ix2 (i 0) k) * w (ix2 (i 1) k)

/-- `xᵀ dy`. -/
def weightGrad (x : (⟨2, ![K, M]⟩ : Shape).Idx → EReal) (dy : (⟨2, ![K, N]⟩ : Shape).Idx → EReal) : (⟨2, ![M, N]⟩ : Shape).Idx → EReal :=
  fun i => ∑ k : Fin K, x (ix2 k (i 0)) * dy (ix2 k (i 1))

/-- The columns cut into four bands, one after the other. -/
def bands (f : (⟨2, ![M, 4 * N]⟩ : Shape).Idx → EReal) : (⟨3, ![4, M, N]⟩ : Shape).Idx → EReal :=
  fun i => f (ix2 (i 1) ⟨(i 0).val * N + (i 2).val, by
    have h0 : (i 0).val < 4 := (i 0).isLt
    have h2 : (i 2).val < N := (i 2).isLt
    nlinarith⟩)

end Cert.Mm

end
-- ==== Proof.Mm.InProj.lean ====
/- The layer `in_proj`: each of its three calls computes its product block by block over the output, a block the product of a band of
   the one argument and a band of the other; so the whole array is the product, and so is the plain one. -/
module

public import proofs.«01_k».proof.Defs
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Mm.Product
public import Idealize.ShloMosaic.Lib.Pipeline.ValueKit

@[expose] public section

noncomputable section

namespace Cert.Kernel2Ideal.Value

open Cert.Kernel2Ideal Cert.Kernel2Ideal.Gen Idealize.ShloMosaic Idealize.ShloMosaic.TcCoe Idealize.SL.Sem

/-- The array after the run: the rows out of the layer. -/
theorem final (m : (ℓ : Loc nD τ sig) → Buf (Elt Ideal) ℓ) (c : Dev nD) :
    (dats m 0 c).arrAt 2 cfg0.N = Cert.Mm.rows (m ((c : Thread nD τ).loc main_arg0)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rows
  blk_point [iblk, e0, e1]

/-- The plain product's frame: its run, read at the arguments. -/
theorem frame_plain : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The two arrays are equal, whatever the arguments. -/
theorem algebraic : Cert.algebraic_Kernel2Ideal_Reference2Ideal := by
  intro m g m' g' _ hag
  refine ⟨fun c => (dats m 0 c).arrAt 2 cfg0.N, run_blocks m g, ?_⟩
  refine (θ_run Cert.Reference2Ideal.defs _ _).mono (fun r h c => ⟨(h c).1.trans (.trans ?_ (final m c).symm), (h c).2⟩) (Cert.Reference2Ideal.Value.run m' g')
  rw [(hag c).1, (hag c).2]
  funext i
  unfold Cert.Mm.rows
  pointwise

end Cert.Kernel2Ideal.Value

namespace Cert.Kernel3Ideal.Value

open Cert.Kernel3Ideal Cert.Kernel3Ideal.Gen Idealize.ShloMosaic Idealize.ShloMosaic.TcCoe Idealize.SL.Sem

/-- The array after the run: the gradient of its rows. -/
theorem final (m : (ℓ : Loc nD τ sig) → Buf (Elt Ideal) ℓ) (c : Dev nD) :
    (dats m 0 c).arrAt 2 cfg0.N = Cert.Mm.rowsGrad (m ((c : Thread nD τ).loc main_arg2)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rowsGrad
  blk_point [iblk, e0, e1]

/-- The plain product's frame: its run, read at the arguments. -/
theorem frame_plain : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The two arrays are equal, whatever the arguments. -/
theorem algebraic : Cert.algebraic_Kernel3Ideal_Reference3Ideal := by
  intro m g m' g' _ hag
  refine ⟨fun c => (dats m 0 c).arrAt 2 cfg0.N, run_blocks m g, ?_⟩
  refine (θ_run Cert.Reference3Ideal.defs _ _).mono (fun r h c => ⟨(h c).1.trans (.trans ?_ (final m c).symm), (h c).2⟩) (Cert.Reference3Ideal.Value.run m' g')
  rw [(hag c).2.1, (hag c).2.2]
  funext i
  unfold Cert.Mm.rowsGrad
  pointwise

end Cert.Kernel3Ideal.Value

namespace Cert.Kernel4Ideal.Value

open Cert.Kernel4Ideal Cert.Kernel4Ideal.Gen Idealize.ShloMosaic Idealize.ShloMosaic.TcCoe Idealize.SL.Sem

/-- The array after the run: the gradient of its weight. -/
theorem final (m : (ℓ : Loc nD τ sig) → Buf (Elt Ideal) ℓ) (c : Dev nD) :
    (dats m 0 c).arrAt 2 cfg0.N = Cert.Mm.weightGrad (m ((c : Thread nD τ).loc main_arg0)) (m ((c : Thread nD τ).loc main_arg2)) := by
  have e0 : ∀ t : Fin cfg0.N, win0_0.index t = ![0, win0_2.index t 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.weightGrad
  blk_point [iblk, e0, e1]

/-- The plain product's frame: its run, read at the arguments. -/
theorem frame_plain : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The two arrays are equal, whatever the arguments. -/
theorem algebraic : Cert.algebraic_Kernel4Ideal_Reference4Ideal := by
  intro m g m' g' _ hag
  refine ⟨fun c => (dats m 0 c).arrAt 2 cfg0.N, run_blocks m g, ?_⟩
  refine (θ_run Cert.Reference4Ideal.defs _ _).mono (fun r h c => ⟨(h c).1.trans (.trans ?_ (final m c).symm), (h c).2⟩) (Cert.Reference4Ideal.Value.run m' g')
  rw [(hag c).1, (hag c).2.2]
  funext i
  unfold Cert.Mm.weightGrad
  pointwise
  exact Finset.sum_congr rfl fun _ _ => mul_comm _ _

end Cert.Kernel4Ideal.Value

end
-- ==== Proof.Mm.OutProj.lean ====
/- The layer `out_proj`: each of its three calls computes its product block by block over the output, a block the product of a band of
   the one argument and a band of the other; so the whole array is the product, and so is the plain one. -/
module

public import proofs.«01_k».proof.Defs
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Mm.Product
public import Idealize.ShloMosaic.Lib.Pipeline.ValueKit

@[expose] public section

noncomputable section

namespace Cert.Kernel5Ideal.Value

open Cert.Kernel5Ideal Cert.Kernel5Ideal.Gen Idealize.ShloMosaic Idealize.ShloMosaic.TcCoe Idealize.SL.Sem

/-- The array after the run: the rows out of the layer. -/
theorem final (m : (ℓ : Loc nD τ sig) → Buf (Elt Ideal) ℓ) (c : Dev nD) :
    (dats m 0 c).arrAt 2 cfg0.N = Cert.Mm.rows (m ((c : Thread nD τ).loc main_arg0)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rows
  blk_point [iblk, e0, e1]

/-- The plain product's frame: its run, read at the arguments. -/
theorem frame_plain : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The two arrays are equal, whatever the arguments. -/
theorem algebraic : Cert.algebraic_Kernel5Ideal_Reference5Ideal := by
  intro m g m' g' _ hag
  refine ⟨fun c => (dats m 0 c).arrAt 2 cfg0.N, run_blocks m g, ?_⟩
  refine (θ_run Cert.Reference5Ideal.defs _ _).mono (fun r h c => ⟨(h c).1.trans (.trans ?_ (final m c).symm), (h c).2⟩) (Cert.Reference5Ideal.Value.run m' g')
  rw [(hag c).1, (hag c).2]
  funext i
  unfold Cert.Mm.rows
  pointwise

end Cert.Kernel5Ideal.Value

namespace Cert.Kernel6Ideal.Value

open Cert.Kernel6Ideal Cert.Kernel6Ideal.Gen Idealize.ShloMosaic Idealize.ShloMosaic.TcCoe Idealize.SL.Sem

/-- The array after the run: the gradient of its rows. -/
theorem final (m : (ℓ : Loc nD τ sig) → Buf (Elt Ideal) ℓ) (c : Dev nD) :
    (dats m 0 c).arrAt 2 cfg0.N = Cert.Mm.rowsGrad (m ((c : Thread nD τ).loc main_arg2)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rowsGrad
  blk_point [iblk, e0, e1]

/-- The plain product's frame: its run, read at the arguments. -/
theorem frame_plain : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The two arrays are equal, whatever the arguments. -/
theorem algebraic : Cert.algebraic_Kernel6Ideal_Reference6Ideal := by
  intro m g m' g' _ hag
  refine ⟨fun c => (dats m 0 c).arrAt 2 cfg0.N, run_blocks m g, ?_⟩
  refine (θ_run Cert.Reference6Ideal.defs _ _).mono (fun r h c => ⟨(h c).1.trans (.trans ?_ (final m c).symm), (h c).2⟩) (Cert.Reference6Ideal.Value.run m' g')
  rw [(hag c).2.1, (hag c).2.2]
  funext i
  unfold Cert.Mm.rowsGrad
  pointwise

end Cert.Kernel6Ideal.Value

namespace Cert.Kernel7Ideal.Value

open Cert.Kernel7Ideal Cert.Kernel7Ideal.Gen Idealize.ShloMosaic Idealize.ShloMosaic.TcCoe Idealize.SL.Sem

/-- The array after the run: the gradient of its weight. -/
theorem final (m : (ℓ : Loc nD τ sig) → Buf (Elt Ideal) ℓ) (c : Dev nD) :
    (dats m 0 c).arrAt 2 cfg0.N = Cert.Mm.weightGrad (m ((c : Thread nD τ).loc main_arg0)) (m ((c : Thread nD τ).loc main_arg2)) := by
  have e0 : ∀ t : Fin cfg0.N, win0_0.index t = ![0, win0_2.index t 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.weightGrad
  blk_point [iblk, e0, e1]

/-- The plain product's frame: its run, read at the arguments. -/
theorem frame_plain : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The two arrays are equal, whatever the arguments. -/
theorem algebraic : Cert.algebraic_Kernel7Ideal_Reference7Ideal := by
  intro m g m' g' _ hag
  refine ⟨fun c => (dats m 0 c).arrAt 2 cfg0.N, run_blocks m g, ?_⟩
  refine (θ_run Cert.Reference7Ideal.defs _ _).mono (fun r h c => ⟨(h c).1.trans (.trans ?_ (final m c).symm), (h c).2⟩) (Cert.Reference7Ideal.Value.run m' g')
  rw [(hag c).1, (hag c).2.2]
  funext i
  unfold Cert.Mm.weightGrad
  pointwise
  exact Finset.sum_congr rfl fun _ _ => mul_comm _ _

end Cert.Kernel7Ideal.Value

end
-- ==== Proof.Mm.FfnIn.lean ====
/- The layer `ffn_in`: each of its three calls computes its product block by block over the output, a block the product of a band of
   the one argument and a band of the other; so the whole array is the product, and so is the plain one. -/
module

public import proofs.«01_k».proof.Defs
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Mm.Product
public import Idealize.ShloMosaic.Lib.Pipeline.ValueKit

@[expose] public section

noncomputable section

namespace Cert.Kernel8Ideal.Value

open Cert.Kernel8Ideal Cert.Kernel8Ideal.Gen Idealize.ShloMosaic Idealize.ShloMosaic.TcCoe Idealize.SL.Sem

/-- The array after the run: the rows out of the layer. -/
theorem final (m : (ℓ : Loc nD τ sig) → Buf (Elt Ideal) ℓ) (c : Dev nD) :
    (dats m 0 c).arrAt 2 cfg0.N = Cert.Mm.rows (m ((c : Thread nD τ).loc main_arg0)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rows
  blk_point [iblk, e0, e1]

/-- The plain product's frame: its run, read at the arguments. -/
theorem frame_plain : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- The two arrays are equal, whatever the arguments. -/
theorem algebraic : Cert.algebraic_Kernel8Ideal_Reference8Ideal := by
  intro m g m' g' _ hag
  refine ⟨fun c => (dats m 0 c).arrAt 2 cfg0.N, run_blocks m g, ?_⟩
  refine (θ_run Cert.Reference8Ideal.defs _ _).mono (fun r h c => ⟨(h c).1.trans (.trans ?_ (final m c).symm), (h c).2⟩) (Cert.Reference8Ideal.Value.run m' g')
  rw [(hag c).1, (hag c).2]
  funext i
  unfold Cert.Mm.rows
  pointwise

end Cert.Kernel8Ideal.Value

namespace Cert.Kernel9Ideal.Value

open Cert.Kernel9Ideal Cert.Kernel9Ideal.Gen Idealize.ShloMosaic Idealize.ShloMosaic.TcCoe Idealize.SL.Sem

/-- The array after the run: the gradient of its rows. -/
theorem final (m : (ℓ : Loc nD τ sig) → Buf (Elt Ideal) ℓ) (c : Dev nD) :
    (dats m 0 c).arrAt 2 cfg0.N = Cert.Mm.rowsGrad (m ((c : Thread nD τ).loc main_arg2)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rowsGrad
  blk_point [iblk, e0, e1]

/-- The plain product's frame: its run, read at the arguments. -/
theorem frame_plain : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- The two arrays are equal, whatever the arguments. -/
theorem algebraic : Cert.algebraic_Kernel9Ideal_Reference9Ideal := by
  intro m g m' g' _ hag
  refine ⟨fun c => (dats m 0 c).arrAt 2 cfg0.N, run_blocks m g, ?_⟩
  refine (θ_run Cert.Reference9Ideal.defs _ _).mono (fun r h c => ⟨(h c).1.trans (.trans ?_ (final m c).symm), (h c).2⟩) (Cert.Reference9Ideal.Value.run m' g')
  rw [(hag c).2.1, (hag c).2.2]
  funext i
  unfold Cert.Mm.rowsGrad
  pointwise

end Cert.Kernel9Ideal.Value

namespace Cert.Kernel10Ideal.Value

open Cert.Kernel10Ideal Cert.Kernel10Ideal.Gen Idealize.ShloMosaic Idealize.ShloMosaic.TcCoe Idealize.SL.Sem

/-- The array after the run: the gradient of its weight, cut into four bands of columns laid one after the other. -/
theorem final (m : (ℓ : Loc nD τ sig) → Buf (Elt Ideal) ℓ) (c : Dev nD) :
    (dats m 0 c).arrAt 2 cfg0.N = Cert.Mm.bands (Cert.Mm.weightGrad (m ((c : Thread nD τ).loc main_arg0)) (m ((c : Thread nD τ).loc main_arg2))) := by
  have e0 : ∀ t : Fin cfg0.N, win0_0.index t = ![0, win0_2.index t 1] := (by decide +kernel : ∀ t : Fin grid0.N, _)
  have e1 : ∀ t : Fin cfg0.N, win0_1.index t = ![0, win0_2.index t 0] := (by decide +kernel : ∀ t : Fin grid0.N, _)
  have e2 : ∀ t : Fin cfg0.N, win0_2.index t 2 = 0 := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.bands Cert.Mm.weightGrad
  blk_point [iblk, e0, e1, e2]

/-- The plain product's frame: its run, read at the arguments. -/
theorem frame_plain : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- The two arrays are equal, whatever the arguments. -/
theorem algebraic : Cert.algebraic_Kernel10Ideal_Reference10Ideal := by
  intro m g m' g' _ hag
  refine ⟨fun c => (dats m 0 c).arrAt 2 cfg0.N, run_blocks m g, ?_⟩
  refine (θ_run Cert.Reference10Ideal.defs _ _).mono (fun r h c => ⟨(h c).1.trans (.trans ?_ (final m c).symm), (h c).2⟩) (Cert.Reference10Ideal.Value.run m' g')
  rw [(hag c).1, (hag c).2.2]
  funext i
  unfold Cert.Mm.bands Cert.Mm.weightGrad
  pointwise
  have h0 : (i 0).val < 4 := (i 0).isLt
  split_ifs <;> refine Finset.sum_congr rfl fun k _ => (mul_comm _ _).trans ?_ <;>
    exact congrArg (fun z => HMul.hMul (α := EReal) (β := EReal) (m ((c : Thread nD τ).loc main_arg0) (ix2 k (i 1))) (m ((c : Thread nD τ).loc main_arg2) (ix2 k z)))
      (Fin.ext (by dsimp only; omega))

end Cert.Kernel10Ideal.Value

end
-- ==== Proof.Mm.FfnOut.lean ====
/- The layer `ffn_out`: each of its three calls computes its product block by block over the output, a block the product of a band of
   the one argument and a band of the other; so the whole array is the product, and so is the plain one. -/
module

public import proofs.«01_k».proof.Defs
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Mm.Product
public import Idealize.ShloMosaic.Lib.Pipeline.ValueKit

@[expose] public section

noncomputable section

namespace Cert.Kernel11Ideal.Value

open Cert.Kernel11Ideal Cert.Kernel11Ideal.Gen Idealize.ShloMosaic Idealize.ShloMosaic.TcCoe Idealize.SL.Sem

/-- The array after the run: the rows out of the layer. -/
theorem final (m : (ℓ : Loc nD τ sig) → Buf (Elt Ideal) ℓ) (c : Dev nD) :
    (dats m 0 c).arrAt 2 cfg0.N = Cert.Mm.rows (m ((c : Thread nD τ).loc main_arg0)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rows
  blk_point [iblk, e0, e1]

/-- The plain product's frame: its run, read at the arguments. -/
theorem frame_plain : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

/-- The two arrays are equal, whatever the arguments. -/
theorem algebraic : Cert.algebraic_Kernel11Ideal_Reference11Ideal := by
  intro m g m' g' _ hag
  refine ⟨fun c => (dats m 0 c).arrAt 2 cfg0.N, run_blocks m g, ?_⟩
  refine (θ_run Cert.Reference11Ideal.defs _ _).mono (fun r h c => ⟨(h c).1.trans (.trans ?_ (final m c).symm), (h c).2⟩) (Cert.Reference11Ideal.Value.run m' g')
  rw [(hag c).1, (hag c).2]
  funext i
  unfold Cert.Mm.rows
  pointwise

end Cert.Kernel11Ideal.Value

namespace Cert.Kernel12Ideal.Value

open Cert.Kernel12Ideal Cert.Kernel12Ideal.Gen Idealize.ShloMosaic Idealize.ShloMosaic.TcCoe Idealize.SL.Sem

/-- The array after the run: the gradient of its rows. -/
theorem final (m : (ℓ : Loc nD τ sig) → Buf (Elt Ideal) ℓ) (c : Dev nD) :
    (dats m 0 c).arrAt 2 cfg0.N = Cert.Mm.rowsGrad (m ((c : Thread nD τ).loc main_arg2)) (m ((c : Thread nD τ).loc main_arg1)) := by
  have e0 : ∀ t : Fin cfg0.N, win0_0.index t = ![win0_2.index t 0, 0] := (by decide +kernel : ∀ t : Fin grid0.N, _)
  have e1 : ∀ t : Fin cfg0.N, win0_1.index t = ![win0_2.index t 1, 0] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.rowsGrad
  blk_point [iblk, e0, e1]

/-- The plain product's frame: its run, read at the arguments. -/
theorem frame_plain : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

/-- The two arrays are equal, whatever the arguments. -/
theorem algebraic : Cert.algebraic_Kernel12Ideal_Reference12Ideal := by
  intro m g m' g' _ hag
  refine ⟨fun c => (dats m 0 c).arrAt 2 cfg0.N, run_blocks m g, ?_⟩
  refine (θ_run Cert.Reference12Ideal.defs _ _).mono (fun r h c => ⟨(h c).1.trans (.trans ?_ (final m c).symm), (h c).2⟩) (Cert.Reference12Ideal.Value.run m' g')
  rw [(hag c).2.1, (hag c).2.2]
  funext i
  unfold Cert.Mm.rowsGrad
  pointwise

end Cert.Kernel12Ideal.Value

namespace Cert.Kernel13Ideal.Value

open Cert.Kernel13Ideal Cert.Kernel13Ideal.Gen Idealize.ShloMosaic Idealize.ShloMosaic.TcCoe Idealize.SL.Sem

/-- The array after the run: the gradient of its weight. -/
theorem final (m : (ℓ : Loc nD τ sig) → Buf (Elt Ideal) ℓ) (c : Dev nD) :
    (dats m 0 c).arrAt 2 cfg0.N = Cert.Mm.weightGrad (m ((c : Thread nD τ).loc main_arg0)) (m ((c : Thread nD τ).loc main_arg2)) := by
  have e0 : ∀ t : Fin cfg0.N, win0_0.index t = ![0, win0_2.index t 0] := (by decide +kernel : ∀ t : Fin grid0.N, _)
  have e1 : ∀ t : Fin cfg0.N, win0_1.index t = ![0, win0_2.index t 1] := (by decide +kernel : ∀ t : Fin grid0.N, _)
  refine (dats m 0 c).arrAt_eq_of_covers 2 _ (by decide +kernel) fun t hf y => ?_
  blk_simp
  rw [after0_2]
  frame_out
  unfold_payloads
  pointwise
  unfold Cert.Mm.weightGrad
  blk_point [iblk, e0, e1]

/-- The plain product's frame: its run, read at the arguments. -/
theorem frame_plain : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

/-- The two arrays are equal, whatever the arguments. -/
theorem algebraic : Cert.algebraic_Kernel13Ideal_Reference13Ideal := by
  intro m g m' g' _ hag
  refine ⟨fun c => (dats m 0 c).arrAt 2 cfg0.N, run_blocks m g, ?_⟩
  refine (θ_run Cert.Reference13Ideal.defs _ _).mono (fun r h c => ⟨(h c).1.trans (.trans ?_ (final m c).symm), (h c).2⟩) (Cert.Reference13Ideal.Value.run m' g')
  rw [(hag c).1, (hag c).2.2]
  funext i
  unfold Cert.Mm.weightGrad
  pointwise
  exact Finset.sum_congr rfl fun _ _ => mul_comm _ _

end Cert.Kernel13Ideal.Value

end
-- ==== Proof.Optimiser.lean ====
/- The optimiser's step on one device's shards. Each call computes the step entry by entry, so its three arrays are the plain step's:
   the change of the weight and the two moments. -/
module

public import proofs.«01_k».proof.Defs
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import Idealize.ShloMosaic.Lib.Pointwise

@[expose] public section

set_option maxRecDepth 8192

noncomputable section

namespace Cert.Kernel14Ideal.Value

open Cert.Kernel14Ideal Cert.Kernel14Ideal.Gen Idealize.ShloMosaic Idealize.ShloMosaic.TcCoe Idealize.SL.Sem

/-- The plain step's frame: its run, read at the arguments. -/
theorem frame_plain : Cert.quiescent_Reference14Ideal := fun m ρ _ =>
  (θ_run Cert.Reference14Ideal.defs _ _).mono (fun r h => ⟨fun c => (h c).2.2.2, sem_eq_zero_of_no_sems (by decide) r.2⟩) (Cert.Reference14Ideal.Value.run m ρ)

/-- The step of `w_in` is the plain step, whatever the arrays. -/
theorem algebraic : Cert.algebraic_Kernel14Ideal_Reference14Ideal := by
  intro m g m' g' _ hag
  refine ⟨_, _, _, run m g, ?_⟩
  refine (θ_run Cert.Reference14Ideal.defs _ _).mono (fun r h c => ?_) (Cert.Reference14Ideal.Value.run m' g')
  obtain ⟨h0, h1, h2, h3⟩ := hag c
  refine And.imp (·.trans ?_) (And.imp (·.trans ?_) (And.imp (·.trans ?_) id)) (h c)
  all_goals
    simp only [h0, h1, h2, h3]
    funext i
    pointwise

end Cert.Kernel14Ideal.Value

namespace Cert.Kernel15Ideal.Value

open Cert.Kernel15Ideal Cert.Kernel15Ideal.Gen Idealize.ShloMosaic Idealize.ShloMosaic.TcCoe Idealize.SL.Sem

/-- The plain step's frame: its run, read at the arguments. -/
theorem frame_plain : Cert.quiescent_Reference15Ideal := fun m ρ _ =>
  (θ_run Cert.Reference15Ideal.defs _ _).mono (fun r h => ⟨fun c => (h c).2.2.2, sem_eq_zero_of_no_sems (by decide) r.2⟩) (Cert.Reference15Ideal.Value.run m ρ)

/-- The step of `w_out` is the plain step, whatever the arrays. -/
theorem algebraic : Cert.algebraic_Kernel15Ideal_Reference15Ideal := by
  intro m g m' g' _ hag
  refine ⟨_, _, _, run m g, ?_⟩
  refine (θ_run Cert.Reference15Ideal.defs _ _).mono (fun r h c => ?_) (Cert.Reference15Ideal.Value.run m' g')
  obtain ⟨h0, h1, h2, h3⟩ := hag c
  refine And.imp (·.trans ?_) (And.imp (·.trans ?_) (And.imp (·.trans ?_) id)) (h c)
  all_goals
    simp only [h0, h1, h2, h3]
    funext i
    pointwise

end Cert.Kernel15Ideal.Value

namespace Cert.Kernel16Ideal.Value

open Cert.Kernel16Ideal Cert.Kernel16Ideal.Gen Idealize.ShloMosaic Idealize.ShloMosaic.TcCoe Idealize.SL.Sem

/-- The plain step's frame: its run, read at the arguments. -/
theorem frame_plain : Cert.quiescent_Reference16Ideal := fun m ρ _ =>
  (θ_run Cert.Reference16Ideal.defs _ _).mono (fun r h => ⟨fun c => (h c).2.2.2, sem_eq_zero_of_no_sems (by decide) r.2⟩) (Cert.Reference16Ideal.Value.run m ρ)

/-- The step of `ffn_w_in` is the plain step, whatever the arrays. -/
theorem algebraic : Cert.algebraic_Kernel16Ideal_Reference16Ideal := by
  intro m g m' g' _ hag
  refine ⟨_, _, _, run m g, ?_⟩
  refine (θ_run Cert.Reference16Ideal.defs _ _).mono (fun r h c => ?_) (Cert.Reference16Ideal.Value.run m' g')
  obtain ⟨h0, h1, h2, h3⟩ := hag c
  refine And.imp (·.trans ?_) (And.imp (·.trans ?_) (And.imp (·.trans ?_) id)) (h c)
  all_goals
    simp only [h0, h1, h2, h3]
    funext i
    pointwise

end Cert.Kernel16Ideal.Value

namespace Cert.Kernel17Ideal.Value

open Cert.Kernel17Ideal Cert.Kernel17Ideal.Gen Idealize.ShloMosaic Idealize.ShloMosaic.TcCoe Idealize.SL.Sem

/-- The plain step's frame: its run, read at the arguments. -/
theorem frame_plain : Cert.quiescent_Reference17Ideal := fun m ρ _ =>
  (θ_run Cert.Reference17Ideal.defs _ _).mono (fun r h => ⟨fun c => (h c).2.2.2, sem_eq_zero_of_no_sems (by decide) r.2⟩) (Cert.Reference17Ideal.Value.run m ρ)

/-- The step of `ffn_w_out` is the plain step, whatever the arrays. -/
theorem algebraic : Cert.algebraic_Kernel17Ideal_Reference17Ideal := by
  intro m g m' g' _ hag
  refine ⟨_, _, _, run m g, ?_⟩
  refine (θ_run Cert.Reference17Ideal.defs _ _).mono (fun r h c => ?_) (Cert.Reference17Ideal.Value.run m' g')
  obtain ⟨h0, h1, h2, h3⟩ := hag c
  refine And.imp (·.trans ?_) (And.imp (·.trans ?_) (And.imp (·.trans ?_) id)) (h c)
  all_goals
    simp only [h0, h1, h2, h3]
    funext i
    pointwise

end Cert.Kernel17Ideal.Value

end
-- ==== Proof.OptimiserSmall.lean ====
/- The optimiser's step of the small weights, two or three at a time: a call computes each weight's step entry by entry, so its arrays are
   the plain step's. -/
module

public import proofs.«01_k».proof.Defs
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import Idealize.ShloMosaic.Lib.Pointwise

@[expose] public section

set_option maxRecDepth 8192

noncomputable section

namespace Cert.Kernel18Ideal.Value

open Cert.Kernel18Ideal Cert.Kernel18Ideal.Gen Idealize.ShloMosaic Idealize.ShloMosaic.TcCoe Idealize.SL.Sem

/-- The plain step's frame: its run, read at the arguments. -/
theorem frame_plain : Cert.quiescent_Reference18Ideal := fun m ρ _ =>
  (θ_run Cert.Reference18Ideal.defs _ _).mono (fun r h => ⟨fun c => (h c).2.2.2.2.2.2.2.2.2, sem_eq_zero_of_no_sems (by decide) r.2⟩) (Cert.Reference18Ideal.Value.run m ρ)

/-- The step of each of the weights is the plain step, whatever the arrays. -/
theorem algebraic : Cert.algebraic_Kernel18Ideal_Reference18Ideal := by
  intro m g m' g' _ hag
  refine ⟨_, _, _, _, _, _, _, _, _, run m g, ?_⟩
  refine (θ_run Cert.Reference18Ideal.defs _ _).mono (fun r h c => ?_) (Cert.Reference18Ideal.Value.run m' g')
  obtain ⟨h0, h1, h2, h3, h4, h5, h6, h7, h8, h9, h10, h11⟩ := hag c
  refine And.imp (·.trans ?_) (And.imp (·.trans ?_) (And.imp (·.trans ?_) (And.imp (·.trans ?_) (And.imp (·.trans ?_) (And.imp (·.trans ?_) (And.imp (·.trans ?_) (And.imp (·.trans ?_) (And.imp (·.trans ?_) id)))))))) (h c)
  all_goals
    simp only [h0, h1, h2, h3, h4, h5, h6, h7, h8, h9, h10, h11]
    funext i
    pointwise

end Cert.Kernel18Ideal.Value

namespace Cert.Kernel19Ideal.Value

open Cert.Kernel19Ideal Cert.Kernel19Ideal.Gen Idealize.ShloMosaic Idealize.ShloMosaic.TcCoe Idealize.SL.Sem

/-- The plain step's frame: its run, read at the arguments. -/
theorem frame_plain : Cert.quiescent_Reference19Ideal := fun m ρ _ =>
  (θ_run Cert.Reference19Ideal.defs _ _).mono (fun r h => ⟨fun c => (h c).2.2.2.2.2.2.2.2.2, sem_eq_zero_of_no_sems (by decide) r.2⟩) (Cert.Reference19Ideal.Value.run m ρ)

/-- The step of each of the weights is the plain step, whatever the arrays. -/
theorem algebraic : Cert.algebraic_Kernel19Ideal_Reference19Ideal := by
  intro m g m' g' _ hag
  refine ⟨_, _, _, _, _, _, _, _, _, run m g, ?_⟩
  refine (θ_run Cert.Reference19Ideal.defs _ _).mono (fun r h c => ?_) (Cert.Reference19Ideal.Value.run m' g')
  obtain ⟨h0, h1, h2, h3, h4, h5, h6, h7, h8, h9, h10, h11⟩ := hag c
  refine And.imp (·.trans ?_) (And.imp (·.trans ?_) (And.imp (·.trans ?_) (And.imp (·.trans ?_) (And.imp (·.trans ?_) (And.imp (·.trans ?_) (And.imp (·.trans ?_) (And.imp (·.trans ?_) (And.imp (·.trans ?_) id)))))))) (h c)
  all_goals
    simp only [h0, h1, h2, h3, h4, h5, h6, h7, h8, h9, h10, h11]
    funext i
    pointwise

end Cert.Kernel19Ideal.Value

namespace Cert.Kernel20Ideal.Value

open Cert.Kernel20Ideal Cert.Kernel20Ideal.Gen Idealize.ShloMosaic Idealize.ShloMosaic.TcCoe Idealize.SL.Sem

/-- The plain step's frame: its run, read at the arguments. -/
theorem frame_plain : Cert.quiescent_Reference20Ideal := fun m ρ _ =>
  (θ_run Cert.Reference20Ideal.defs _ _).mono (fun r h => ⟨fun c => (h c).2.2.2.2.2.2, sem_eq_zero_of_no_sems (by decide) r.2⟩) (Cert.Reference20Ideal.Value.run m ρ)

/-- The step of each of the weights is the plain step, whatever the arrays. -/
theorem algebraic : Cert.algebraic_Kernel20Ideal_Reference20Ideal := by
  intro m g m' g' _ hag
  refine ⟨_, _, _, _, _, _, run m g, ?_⟩
  refine (θ_run Cert.Reference20Ideal.defs _ _).mono (fun r h c => ?_) (Cert.Reference20Ideal.Value.run m' g')
  obtain ⟨h0, h1, h2, h3, h4, h5, h6, h7⟩ := hag c
  refine And.imp (·.trans ?_) (And.imp (·.trans ?_) (And.imp (·.trans ?_) (And.imp (·.trans ?_) (And.imp (·.trans ?_) (And.imp (·.trans ?_) id))))) (h c)
  all_goals
    simp only [h0, h1, h2, h3, h4, h5, h6, h7]
    funext i
    pointwise

end Cert.Kernel20Ideal.Value

end
-- ==== Proof.Norm.Rows.lean ====
/- The norm of a row and its derivative, as functions of rows of extended reals: what the norms' calls compute on a band of rows and
   the plain computation on all of them. -/
module

public import Idealize.ShloMosaic.Lib.Pipeline.ValueKit
public import Idealize.ShloMosaic.Lib.Pointwise

@[expose] public section

noncomputable section

namespace Cert.Norm

open Idealize.ShloMosaic

/-- The mean of the squares of a row of `d` entries (`d` a float word), and the small constant under the root. -/
def meanSq (d : BitVec 32) {n : Nat} (x : Fin n → EReal) : EReal :=
  Ideal.div (∑ k, x k * x k) (Ideal.ofBits .f32 d) + Ideal.ofBits .f32 0x358637BD#32

/-- A row over the root of its mean square. -/
def unit (d : BitVec 32) {n : Nat} (x : Fin n → EReal) (k : Fin n) : EReal := x k * Ideal.rsqrt (meanSq d x)

/-- The share of the row's gradient that goes through the mean square. -/
def slope (d : BitVec 32) {n : Nat} (x w dy : Fin n → EReal) : EReal :=
  Ideal.div ((∑ k, x k * (dy k * w k)) * (Ideal.ofBits .f32 0xBF000000#32 * Ideal.div (Ideal.rsqrt (meanSq d x)) (meanSq d x)))
    (Ideal.ofBits .f32 d)

/-- The gradient of a row through its norm of weight `w`, given the gradient `dy` of the norm. -/
def grad (d : BitVec 32) {n : Nat} (x w dy : Fin n → EReal) (k : Fin n) : EReal :=
  dy k * w k * Ideal.rsqrt (meanSq d x) + x k * slope d x w dy + slope d x w dy * x k

/-- The same gradient, added to what the row's gradient is already. -/
def gradOn (d : BitVec 32) {n : Nat} (x w dy a : Fin n → EReal) (k : Fin n) : EReal :=
  a k + dy k * w k * Ideal.rsqrt (meanSq d x) + x k * slope d x w dy + slope d x w dy * x k

/-- A row added to another one's norm. -/
def added (d : BitVec 32) {n : Nat} (x w res : Fin n → EReal) (k : Fin n) : EReal := res k + unit d x k * w k

/-- The sum of a function of the rows over the band of 512 rows that begins at row `512 t`. -/
def band (f : Fin 2048 → EReal) (t : Nat) : EReal := ∑ x : Fin 512, f ⟨t % 4 * 512 + x.val, by omega⟩

/-- The sum over all the rows is the sum over the four bands. -/
theorem sum_bands (f : Fin 2048 → EReal) : ∑ x, f x = band f 0 + band f 1 + band f 2 + band f 3 := by
  change ∑ x : Fin (512 + 512 + 512 + 512), f x = _
  rw [Fin.sum_univ_add, Fin.sum_univ_add, Fin.sum_univ_add]
  rfl

/-- A quantity that starts at the first band's share and adds each next band's is, after the fourth, the sum over all the rows. -/
theorem four_bands {N : Nat} (o : (n : Nat) → n < N → EReal) (f : Fin 2048 → EReal) (h : 3 < N)
    (h0 : ∀ h0 : 0 < N, o 0 h0 = band f 0) (hs : ∀ (n : Nat) (h : n < 3) (hn : n + 1 < N), o (n + 1) hn = o n (Nat.lt_of_succ_lt hn) + band f (n + 1)) :
    o 3 h = ∑ x, f x := by
  rw [sum_bands, hs 2 (by omega), hs 1 (by omega), hs 0 (by omega), h0]

/-- The same with the four heads' shares. -/
theorem four_heads {N : Nat} (o : (n : Nat) → n < N → EReal) (f : Fin 4 → EReal) (h : 3 < N) (h0 : ∀ h0 : 0 < N, o 0 h0 = f 0)
    (hs : ∀ (n : Nat) (h : n < 3) (hn : n + 1 < N), o (n + 1) hn = o n (Nat.lt_of_succ_lt hn) + f ⟨n + 1, by omega⟩) : o 3 h = ∑ x, f x := by
  rw [Fin.sum_univ_four, hs 2 (by omega), hs 1 (by omega), hs 0 (by omega), h0]
  rfl

/-- A finite factor that is not negative may be taken out of a sum. -/
theorem sum_scaled {n : Nat} (k : EReal) (h0 : 0 ≤ k) (ht : k ≠ ⊤) (f : Fin n → EReal) : (∑ x, f x) * k = ∑ x, f x * k := by
  induction n with
  | zero => simp
  | succ n ih => rw [Fin.sum_univ_succ, Fin.sum_univ_succ, EReal.right_distrib_of_nonneg_of_ne_top h0 ht, ih]

/-- A row of an array. -/
def row {n d : Nat} (X : (⟨2, ![n, d]⟩ : Shape).Idx → EReal) (r : Fin n) (k : Fin d) : EReal := X (ix2 r k)

/-- The head of 128 columns a column is of. -/
abbrev headOf (j : Fin 512) : Fin 4 := ⟨j.val / 128, by omega⟩

/-- The column's place in its head. -/
abbrev laneOf (j : Fin 512) : Fin 128 := ⟨j.val % 128, by omega⟩

/-- A head's entries of a row, the heads lying side by side from column `o` on. -/
abbrev head {n d : Nat} (o : Nat) (ho : o + 512 ≤ d) (X : (⟨2, ![n, d]⟩ : Shape).Idx → EReal) (r : Fin n) (h : Fin 4) (k : Fin 128) : EReal :=
  row X r ⟨o + (h.val * 128 + k.val), by omega⟩

end Cert.Norm

end
-- ==== Proof.Norm.PreMix.lean ====
/- The backward call of the layer's first norm: a band of rows at a grid point, the weight's gradient summed over the bands. -/
module

public import proofs.«01_k».proof.Defs
public import proofs.«01_k».proof.Proof.Gen.Kernel21Ideal.Value
public import proofs.«01_k».proof.Proof.Gen.Reference21Ideal.Run
public import proofs.«01_k».proof.Proof.Norm.Rows

@[expose] public section

noncomputable section

namespace Cert.Kernel21Ideal.Value

open Cert.Kernel21Ideal Cert.Kernel21Ideal.Gen Idealize.ShloMosaic Idealize.ShloMosaic.TcCoe Idealize.SL.Sem

/-- Row `r` of the layer's input. -/
abbrev X (m : (ℓ : Loc nD τ sig) → Buf (Elt Ideal) ℓ) (c : Dev nD) := Norm.row (n := 2048) (d := 1024) (m ((c : Thread nD τ).loc main_arg0))
/-- The norm's weight. -/
abbrev W (m : (ℓ : Loc nD τ sig) → Buf (Elt Ideal) ℓ) (c : Dev nD) := Norm.row (n := 1) (d := 1024) (m ((c : Thread nD τ).loc main_arg1)) 0
/-- Row `r` of the gradient of the norm. -/
abbrev DY (m : (ℓ : Loc nD τ sig) → Buf (Elt Ideal) ℓ) (c : Dev nD) := Norm.row (n := 2048) (d := 1024) (m ((c : Thread nD τ).loc main_arg2))

/-- The gradient of the rows after the run. -/
theorem final4 (m : (ℓ : Loc nD τ sig) → Buf (Elt Ideal) ℓ) (c : Dev nD) :
    (dats m 0 c).arrAt 4 cfg0.N = fun i : S2048x1024.Idx =>
      HAdd.hAdd (α := EReal) (β := EReal) (Norm.grad 0x44800000#32 (X m c (i 0)) (W m c) (DY m c (i 0)) (i 1)) (m ((c : Thread nD τ).loc main_arg3) i) := by
  have e0 : ∀ t : Fin cfg0.N, win0_0.index t = ![win0_4.index t 0, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![win0_4.index t 0, 0] := (by decide +kernel : ∀ t : Fin grid0.N, _)
  have e3 : ∀ t : Fin cfg0.N, win0_3.index t = ![win0_4.index t 0, 0] := (by decide +kernel : ∀ t : Fin grid0.N, _)
  have e4 : ∀ t : Fin cfg0.N, win0_4.index t 1 = 0 := (by decide +kernel : ∀ t : Fin grid0.N, _)
  refine (dats m 0 c).arrAt_eq_of_covers 4 _ (by decide +kernel) fun t hf y => ?_
  blk_simp
  rw [after0_4]
  by_cases h0 : t.val % 4 = 0
  on_goal 1 => rw [outsAt0_A m c t h0]
  on_goal 2 => rw [outsAt0_B m c t h0]
  all_goals
    dsimp only
    frame_out
    unfold_payloads
    pointwise
    simp only [X, W, DY, Norm.grad, Norm.slope, Norm.meanSq, Norm.row, Fin.sum_univ_one]
    blk_point [iblk, e0, e1, e2, e3, e4]

/-- The first band's share of the weight's gradient, on a fresh array. -/
theorem first5 (m : (ℓ : Loc nD τ sig) → Buf (Elt Ideal) ℓ) (c : Dev nD) (t : Fin cfg0.N) (h0 : t.val % 4 = 0) (j : S1x1024.Idx) :
    (outsAt0 m c t.val t.isLt).2 j = Norm.band (fun r => HMul.hMul (α := EReal) (β := EReal) (Norm.unit 0x44800000#32 (X m c r) (j 1)) (DY m c r (j 1))) t.val := by
  have e0 : ∀ t : Fin cfg0.N, win0_0.index t = ![t.val % 4, 0] := (by decide +kernel : ∀ t : Fin grid0.N, _)
  have e2 : ∀ t : Fin cfg0.N, win0_2.index t = ![t.val % 4, 0] := (by decide +kernel : ∀ t : Fin grid0.N, _)
  rw [outsAt0_A m c t h0]
  dsimp only
  frame_out
  unfold_payloads
  pointwise
  simp only [X, DY, Norm.band, Norm.unit, Norm.meanSq, Norm.row]
  blk_point [iblk, e0, e2]

/-- A later band's share, on what the band before left. -/
theorem next5 (m : (ℓ : Loc nD τ sig) → Buf (Elt Ideal) ℓ) (c : Dev nD) (t : Fin cfg0.N) (h0 : ¬t.val % 4 = 0) (j : S1x1024.Idx) :
    (outsAt0 m c t.val t.isLt).2 j = HAdd.hAdd (α := EReal) (β := EReal) ((outsAt0 m c (t.val - 1) (Nat.lt_of_le_of_lt (Nat.sub_le _ _) t.isLt)).2 j)
      (Norm.band (fun r => HMul.hMul (α := EReal) (β := EReal) (Norm.unit 0x44800000#32 (X m c r) (j 1)) (DY m c r (j 1))) t.val) := by
  have e0 : ∀ t : Fin cfg0.N, win0_0.index t = ![t.val % 4, 0] := (by decide +kernel : ∀ t : Fin grid0.N, _)
  have e2 : ∀ t : Fin cfg0.N, win0_2.index t = ![t.val % 4, 0] := (by decide +kernel : ∀ t : Fin grid0.N, _)
  rw [outsAt0_B m c t h0]
  dsimp only
  frame_out
  unfold_payloads
  pointwise
  simp only [X, DY, Norm.band, Norm.unit, Norm.meanSq, Norm.row]
  congr 1
  blk_point [iblk, e0, e2]

/-- After the last band: the weight's gradient. -/
theorem final5 (m : (ℓ : Loc nD τ sig) → Buf (Elt Ideal) ℓ) (c : Dev nD) :
    (dats m 0 c).arrAt 5 cfg0.N = fun j : S1x1024.Idx => ∑ r, HMul.hMul (α := EReal) (β := EReal) (Norm.unit 0x44800000#32 (X m c r) (j 1)) (DY m c r (j 1)) := by
  refine (dats m 0 c).arrAt_eq_of_after_last 5 t0_3 (by decide +kernel) _ fun j => ?_
  blk_simp
  rw [after0_5]
  exact Norm.four_bands (fun n h => (outsAt0 m c n h).2 j) _ _ (fun h => first5 m c ⟨0, h⟩ (Nat.zero_mod 4) j) fun n hn h =>
    next5 m c ⟨n + 1, h⟩ (by change ¬(n + 1) % 4 = 0; omega) j

/-- The plain computation's frame: its run, read at the arguments. -/
theorem frame_plain : Cert.quiescent_Reference21Ideal := fun m ρ _ =>
  (θ_run Cert.Reference21Ideal.defs _ _).mono (fun r h => ⟨fun c => (h c).2.2, sem_eq_zero_of_no_sems (by decide) r.2⟩) (Cert.Reference21Ideal.Value.run m ρ)

/-- The two gradients are the plain ones, whatever the arguments. -/
theorem algebraic : Cert.algebraic_Kernel21Ideal_Reference21Ideal := by
  intro m g m' g' _ hag
  refine ⟨_, _, run_blocks m g, ?_⟩
  refine (θ_run Cert.Reference21Ideal.defs _ _).mono (fun r h c => ?_) (Cert.Reference21Ideal.Value.run m' g')
  obtain ⟨h0, h1, h2, h3⟩ := hag c
  refine And.imp (·.trans (.trans ?_ (final4 m c).symm)) (And.imp (·.trans (.trans ?_ (final5 m c).symm)) id) (h c)
  · simp only [h0, h1, h2, h3]
    funext i
    pointwise
    rw [add_comm]
    simp only [X, W, DY, Norm.grad, Norm.slope, Norm.meanSq, Norm.row, Fin.sum_univ_one]
    pointwise
  · simp only [h0, h1, h2, h3]
    funext i
    pointwise
    rfl

end Cert.Kernel21Ideal.Value

end
-- ==== Proof.Norm.PostFfn.lean ====
/- The backward call of the layer's last norm: a band of rows at a grid point, the weight's gradient summed over the bands. -/
module

public import proofs.«01_k».proof.Defs
public import proofs.«01_k».proof.Proof.Gen.Kernel22Ideal.Value
public import proofs.«01_k».proof.Proof.Gen.Reference22Ideal.Run
public import proofs.«01_k».proof.Proof.Norm.Rows

@[expose] public section

noncomputable section

namespace Cert.Kernel22Ideal.Value

open Cert.Kernel22Ideal Cert.Kernel22Ideal.Gen Idealize.ShloMosaic Idealize.ShloMosaic.TcCoe Idealize.SL.Sem

/-- Row `r` of the norm's input. -/
abbrev X (m : (ℓ : Loc nD τ sig) → Buf (Elt Ideal) ℓ) (c : Dev nD) := Norm.row (n := 2048) (d := 1024) (m ((c : Thread nD τ).loc main_arg0))
/-- The norm's weight. -/
abbrev W (m : (ℓ : Loc nD τ sig) → Buf (Elt Ideal) ℓ) (c : Dev nD) := Norm.row (n := 1) (d := 1024) (m ((c : Thread nD τ).loc main_arg1)) 0
/-- Row `r` of the gradient of the norm. -/
abbrev DY (m : (ℓ : Loc nD τ sig) → Buf (Elt Ideal) ℓ) (c : Dev nD) := Norm.row (n := 2048) (d := 1024) (m ((c : Thread nD τ).loc main_arg2))

/-- The gradient of the rows after the run. -/
theorem final3 (m : (ℓ : Loc nD τ sig) → Buf (Elt Ideal) ℓ) (c : Dev nD) :
    (dats m 0 c).arrAt 3 cfg0.N = fun i : S2048x1024.Idx =>
      Norm.grad 0x44800000#32 (X m c (i 0)) (W m c) (DY m c (i 0)) (i 1) := by
  have e0 : ∀ t : Fin cfg0.N, win0_0.index t = ![win0_3.index t 0, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![win0_3.index t 0, 0] := (by decide +kernel : ∀ t : Fin grid0.N, _)
  have e3 : ∀ t : Fin cfg0.N, win0_3.index t 1 = 0 := (by decide +kernel : ∀ t : Fin grid0.N, _)
  refine (dats m 0 c).arrAt_eq_of_covers 3 _ (by decide +kernel) fun t hf y => ?_
  blk_simp
  rw [after0_3]
  by_cases h0 : t.val % 4 = 0
  on_goal 1 => rw [outsAt0_A m c t h0]
  on_goal 2 => rw [outsAt0_B m c t h0]
  all_goals
    dsimp only
    frame_out
    unfold_payloads
    pointwise
    simp only [X, W, DY, Norm.grad, Norm.slope, Norm.meanSq, Norm.row, Fin.sum_univ_one]
    blk_point [iblk, e0, e1, e2, e3]

/-- The first band's share of the weight's gradient, on a fresh array. -/
theorem first4 (m : (ℓ : Loc nD τ sig) → Buf (Elt Ideal) ℓ) (c : Dev nD) (t : Fin cfg0.N) (h0 : t.val % 4 = 0) (j : S1x1024.Idx) :
    (outsAt0 m c t.val t.isLt).2 j = Norm.band (fun r => HMul.hMul (α := EReal) (β := EReal) (Norm.unit 0x44800000#32 (X m c r) (j 1)) (DY m c r (j 1))) t.val := by
  have e0 : ∀ t : Fin cfg0.N, win0_0.index t = ![t.val % 4, 0] := (by decide +kernel : ∀ t : Fin grid0.N, _)
  have e2 : ∀ t : Fin cfg0.N, win0_2.index t = ![t.val % 4, 0] := (by decide +kernel : ∀ t : Fin grid0.N, _)
  rw [outsAt0_A m c t h0]
  dsimp only
  frame_out
  unfold_payloads
  pointwise
  simp only [X, DY, Norm.band, Norm.unit, Norm.meanSq, Norm.row]
  blk_point [iblk, e0, e2]

/-- A later band's share, on what the band before left. -/
theorem next4 (m : (ℓ : Loc nD τ sig) → Buf (Elt Ideal) ℓ) (c : Dev nD) (t : Fin cfg0.N) (h0 : ¬t.val % 4 = 0) (j : S1x1024.Idx) :
    (outsAt0 m c t.val t.isLt).2 j = HAdd.hAdd (α := EReal) (β := EReal) ((outsAt0 m c (t.val - 1) (Nat.lt_of_le_of_lt (Nat.sub_le _ _) t.isLt)).2 j)
      (Norm.band (fun r => HMul.hMul (α := EReal) (β := EReal) (Norm.unit 0x44800000#32 (X m c r) (j 1)) (DY m c r (j 1))) t.val) := by
  have e0 : ∀ t : Fin cfg0.N, win0_0.index t = ![t.val % 4, 0] := (by decide +kernel : ∀ t : Fin grid0.N, _)
  have e2 : ∀ t : Fin cfg0.N, win0_2.index t = ![t.val % 4, 0] := (by decide +kernel : ∀ t : Fin grid0.N, _)
  rw [outsAt0_B m c t h0]
  dsimp only
  frame_out
  unfold_payloads
  pointwise
  simp only [X, DY, Norm.band, Norm.unit, Norm.meanSq, Norm.row]
  congr 1
  blk_point [iblk, e0, e2]

/-- After the last band: the weight's gradient. -/
theorem final4 (m : (ℓ : Loc nD τ sig) → Buf (Elt Ideal) ℓ) (c : Dev nD) :
    (dats m 0 c).arrAt 4 cfg0.N = fun j : S1x1024.Idx => ∑ r, HMul.hMul (α := EReal) (β := EReal) (Norm.unit 0x44800000#32 (X m c r) (j 1)) (DY m c r (j 1)) := by
  refine (dats m 0 c).arrAt_eq_of_after_last 4 t0_3 (by decide +kernel) _ fun j => ?_
  blk_simp
  rw [after0_4]
  exact Norm.four_bands (fun n h => (outsAt0 m c n h).2 j) _ _ (fun h => first4 m c ⟨0, h⟩ (Nat.zero_mod 4) j) fun n hn h =>
    next4 m c ⟨n + 1, h⟩ (by change ¬(n + 1) % 4 = 0; omega) j

/-- The plain computation's frame: its run, read at the arguments. -/
theorem frame_plain : Cert.quiescent_Reference22Ideal := fun m ρ _ =>
  (θ_run Cert.Reference22Ideal.defs _ _).mono (fun r h => ⟨fun c => (h c).2.2, sem_eq_zero_of_no_sems (by decide) r.2⟩) (Cert.Reference22Ideal.Value.run m ρ)

/-- The two gradients are the plain ones, whatever the arguments. -/
theorem algebraic : Cert.algebraic_Kernel22Ideal_Reference22Ideal := by
  intro m g m' g' _ hag
  refine ⟨_, _, run_blocks m g, ?_⟩
  refine (θ_run Cert.Reference22Ideal.defs _ _).mono (fun r h c => ?_) (Cert.Reference22Ideal.Value.run m' g')
  obtain ⟨h0, h1, h2⟩ := hag c
  refine And.imp (·.trans (.trans ?_ (final3 m c).symm)) (And.imp (·.trans (.trans ?_ (final4 m c).symm)) id) (h c)
  · simp only [h0, h1, h2]
    funext i
    pointwise
    simp only [X, W, DY, Norm.grad, Norm.slope, Norm.meanSq, Norm.row, Fin.sum_univ_one]
    pointwise
  · simp only [h0, h1, h2]
    funext i
    pointwise
    rfl

end Cert.Kernel22Ideal.Value

end
-- ==== Proof.Norm.Layer.lean ====
/- The backward call of the two norms around a sum, which ends one layer and begins the next: a band of rows at a grid point, the two
   weights' gradients summed over the bands. -/
module

public import proofs.«01_k».proof.Defs
public import proofs.«01_k».proof.Proof.Gen.Kernel23Ideal.Value
public import proofs.«01_k».proof.Proof.Gen.Reference23Ideal.Run
public import proofs.«01_k».proof.Proof.Norm.Rows

@[expose] public section

noncomputable section

namespace Cert.Kernel23Ideal.Value

open Cert.Kernel23Ideal Cert.Kernel23Ideal.Gen Idealize.ShloMosaic Idealize.ShloMosaic.TcCoe Idealize.SL.Sem

variable (m : (ℓ : Loc nD τ sig) → Buf (Elt Ideal) ℓ) (c : Dev nD)

/-- The rows that go through the first norm. -/
abbrev F := Norm.row (n := 2048) (d := 1024) (m ((c : Thread nD τ).loc main_arg0))
/-- The rows the norm is added to. -/
abbrev R := Norm.row (n := 2048) (d := 1024) (m ((c : Thread nD τ).loc main_arg1))
/-- The first norm's weight. -/
abbrev W := Norm.row (n := 1) (d := 1024) (m ((c : Thread nD τ).loc main_arg2)) 0
/-- The second norm's weight. -/
abbrev W' := Norm.row (n := 1) (d := 1024) (m ((c : Thread nD τ).loc main_arg3)) 0
/-- The gradient of the sum's rows from above. -/
abbrev D := Norm.row (n := 2048) (d := 1024) (m ((c : Thread nD τ).loc main_arg4))
/-- The gradient of the second norm's rows. -/
abbrev H := Norm.row (n := 2048) (d := 1024) (m ((c : Thread nD τ).loc main_arg5))

/-- A row of the sum. -/
abbrev S (r : Fin 2048) := Norm.added 0x44800000#32 (F m c r) (W m c) (R m c r)
/-- A row of the sum's gradient. -/
abbrev DS (r : Fin 2048) := Norm.gradOn 0x44800000#32 (S m c r) (W' m c) (H m c r) (D m c r)

/-- The gradient of the first norm's rows. -/
theorem final6 : (dats m 0 c).arrAt 6 cfg0.N = fun i : S2048x1024.Idx => Norm.grad 0x44800000#32 (F m c (i 0)) (W m c) (DS m c (i 0)) (i 1) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  have e6 : ∀ t : Fin cfg0.N, win0_6.index t = ![t.val % 4, 0] := (by decide +kernel : ∀ t : Fin grid0.N, _)
  refine (dats m 0 c).arrAt_eq_of_covers 6 _ (by decide +kernel) fun t hf y => ?_
  blk_simp
  rw [after0_6]
  by_cases h0 : t.val % 4 = 0
  on_goal 1 => rw [outsAt0_A m c t h0 h0]
  on_goal 2 => rw [outsAt0_B m c t h0 h0]
  all_goals
    dsimp only
    frame_out
    unfold_payloads
    pointwise
    simp only [Norm.band, DS, S, F, R, W, W', D, H, Norm.grad, Norm.gradOn, Norm.added, Norm.slope, Norm.unit, Norm.meanSq, Norm.row, Fin.sum_univ_one]
    blk_point [iblk, e0, e1, e2, e3, e4, e5, e6]

/-- The gradient of the rows added to. -/
theorem final7 : (dats m 0 c).arrAt 7 cfg0.N = fun i : S2048x1024.Idx => DS m c (i 0) (i 1) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  have e7 : ∀ t : Fin cfg0.N, win0_7.index t = ![t.val % 4, 0] := (by decide +kernel : ∀ t : Fin grid0.N, _)
  refine (dats m 0 c).arrAt_eq_of_covers 7 _ (by decide +kernel) fun t hf y => ?_
  blk_simp
  rw [after0_7]
  by_cases h0 : t.val % 4 = 0
  on_goal 1 => rw [outsAt0_A m c t h0 h0]
  on_goal 2 => rw [outsAt0_B m c t h0 h0]
  all_goals
    dsimp only
    frame_out
    unfold_payloads
    pointwise
    simp only [Norm.band, DS, S, F, R, W, W', D, H, Norm.grad, Norm.gradOn, Norm.added, Norm.slope, Norm.unit, Norm.meanSq, Norm.row, Fin.sum_univ_one]
    blk_point [iblk, e0, e1, e2, e3, e4, e5, e7]

/-- The first band's share of the first weight's gradient. -/
theorem first8 (t : Fin cfg0.N) (h0 : t.val % 4 = 0) (j : S1x1024.Idx) :
    (outsAt0 m c t.val t.isLt).2.2.1 j = Norm.band (fun r => HMul.hMul (α := EReal) (β := EReal) (Norm.unit 0x44800000#32 (F m c r) (j 1)) (DS m c r (j 1))) t.val := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  rw [outsAt0_A m c t h0 h0]
  dsimp only
  frame_out
  unfold_payloads
  pointwise
  simp only [Norm.band, DS, S, F, R, W, W', D, H, Norm.grad, Norm.gradOn, Norm.added, Norm.slope, Norm.unit, Norm.meanSq, Norm.row, Fin.sum_univ_one]
  blk_point [iblk, e0, e1, e2, e3, e4, e5]

/-- A later band's share, on what the band before left. -/
theorem next8 (t : Fin cfg0.N) (h0 : ¬t.val % 4 = 0) (j : S1x1024.Idx) :
    (outsAt0 m c t.val t.isLt).2.2.1 j = HAdd.hAdd (α := EReal) (β := EReal) ((outsAt0 m c (t.val - 1) (Nat.lt_of_le_of_lt (Nat.sub_le _ _) t.isLt)).2.2.1 j)
      (Norm.band (fun r => HMul.hMul (α := EReal) (β := EReal) (Norm.unit 0x44800000#32 (F m c r) (j 1)) (DS m c r (j 1))) t.val) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  rw [outsAt0_B m c t h0 h0]
  dsimp only
  frame_out
  unfold_payloads
  pointwise
  simp only [Norm.band, DS, S, F, R, W, W', D, H, Norm.grad, Norm.gradOn, Norm.added, Norm.slope, Norm.unit, Norm.meanSq, Norm.row, Fin.sum_univ_one]
  congr 1
  blk_point [iblk, e0, e1, e2, e3, e4, e5]

/-- After the last band: the first weight's gradient. -/
theorem final8 : (dats m 0 c).arrAt 8 cfg0.N = fun j : S1x1024.Idx => ∑ r, HMul.hMul (α := EReal) (β := EReal) (Norm.unit 0x44800000#32 (F m c r) (j 1)) (DS m c r (j 1)) := by
  refine (dats m 0 c).arrAt_eq_of_after_last 8 t0_3 (by decide +kernel) _ fun j => ?_
  blk_simp
  rw [after0_8]
  exact Norm.four_bands (fun n h => (outsAt0 m c n h).2.2.1 j) _ _ (fun h => first8 m c ⟨0, h⟩ (Nat.zero_mod 4) j) fun n hn h =>
    next8 m c ⟨n + 1, h⟩ (by change ¬(n + 1) % 4 = 0; omega) j

/-- The first band's share of the second weight's gradient. -/
theorem first9 (t : Fin cfg0.N) (h0 : t.val % 4 = 0) (j : S1x1024.Idx) :
    (outsAt0 m c t.val t.isLt).2.2.2 j = Norm.band (fun r => HMul.hMul (α := EReal) (β := EReal) (Norm.unit 0x44800000#32 (S m c r) (j 1)) (H m c r (j 1))) t.val := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  rw [outsAt0_A m c t h0 h0]
  dsimp only
  frame_out
  unfold_payloads
  pointwise
  simp only [Norm.band, DS, S, F, R, W, W', D, H, Norm.grad, Norm.gradOn, Norm.added, Norm.slope, Norm.unit, Norm.meanSq, Norm.row, Fin.sum_univ_one]
  blk_point [iblk, e0, e1, e2, e3, e4, e5]

/-- A later band's share, on what the band before left. -/
theorem next9 (t : Fin cfg0.N) (h0 : ¬t.val % 4 = 0) (j : S1x1024.Idx) :
    (outsAt0 m c t.val t.isLt).2.2.2 j = HAdd.hAdd (α := EReal) (β := EReal) ((outsAt0 m c (t.val - 1) (Nat.lt_of_le_of_lt (Nat.sub_le _ _) t.isLt)).2.2.2 j)
      (Norm.band (fun r => HMul.hMul (α := EReal) (β := EReal) (Norm.unit 0x44800000#32 (S m c r) (j 1)) (H m c r (j 1))) t.val) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![t.val % 4, 0] := (by decide +kernel : ∀ t : Fin grid0.N, _)
  have e5 : ∀ t : Fin cfg0.N, win0_5.index t = ![t.val % 4, 0] := (by decide +kernel : ∀ t : Fin grid0.N, _)
  rw [outsAt0_B m c t h0 h0]
  dsimp only
  frame_out
  unfold_payloads
  pointwise
  simp only [Norm.band, DS, S, F, R, W, W', D, H, Norm.grad, Norm.gradOn, Norm.added, Norm.slope, Norm.unit, Norm.meanSq, Norm.row, Fin.sum_univ_one]
  congr 1
  blk_point [iblk, e0, e1, e2, e3, e4, e5]

/-- After the last band: the second weight's gradient. -/
theorem final9 : (dats m 0 c).arrAt 9 cfg0.N = fun j : S1x1024.Idx => ∑ r, HMul.hMul (α := EReal) (β := EReal) (Norm.unit 0x44800000#32 (S m c r) (j 1)) (H m c r (j 1)) := by
  refine (dats m 0 c).arrAt_eq_of_after_last 9 t0_3 (by decide +kernel) _ fun j => ?_
  blk_simp
  rw [after0_9]
  exact Norm.four_bands (fun n h => (outsAt0 m c n h).2.2.2 j) _ _ (fun h => first9 m c ⟨0, h⟩ (Nat.zero_mod 4) j) fun n hn h =>
    next9 m c ⟨n + 1, h⟩ (by change ¬(n + 1) % 4 = 0; omega) j

/-- The plain computation's frame: its run, read at the arguments. -/
theorem frame_plain : Cert.quiescent_Reference23Ideal := fun m ρ _ =>
  (θ_run Cert.Reference23Ideal.defs _ _).mono (fun r h => ⟨fun c => (h c).2.2.2.2, sem_eq_zero_of_no_sems (by decide) r.2⟩) (Cert.Reference23Ideal.Value.run m ρ)

/-- The four gradients are the plain ones, whatever the arguments. -/
theorem algebraic : Cert.algebraic_Kernel23Ideal_Reference23Ideal := by
  intro m g m' g' _ hag
  refine ⟨_, _, _, _, run_blocks m g, ?_⟩
  refine (θ_run Cert.Reference23Ideal.defs _ _).mono (fun r h c => ?_) (Cert.Reference23Ideal.Value.run m' g')
  obtain ⟨h0, h1, h2, h3, h4, h5⟩ := hag c
  refine And.imp (·.trans (.trans ?_ (final6 m c).symm)) (And.imp (·.trans (.trans ?_ (final7 m c).symm))
    (And.imp (·.trans (.trans ?_ (final8 m c).symm)) (And.imp (·.trans (.trans ?_ (final9 m c).symm)) id))) (h c)
  all_goals
    simp only [Reference23Ideal.Value.res_main_v54, Reference23Ideal.Value.res_main_v50, Reference23Ideal.Value.res_main_v71, h0, h1, h2, h3, h4, h5]
    funext i
    pointwise
    simp only [Norm.band, DS, S, F, R, W, W', D, H, Norm.grad, Norm.gradOn, Norm.added, Norm.slope, Norm.unit, Norm.meanSq, Norm.row, Fin.sum_univ_one]
    try pointwise

end Cert.Kernel23Ideal.Value

end
-- ==== Proof.Norm.GatedBack.lean ====
/- The backward call of the gated norm of the heads: one head of all the rows at a grid point, the weight's gradient summed over the heads. -/
module

public import proofs.«01_k».proof.Defs
public import proofs.«01_k».proof.Proof.Gen.Kernel24Ideal.Value
public import proofs.«01_k».proof.Proof.Gen.Reference24Ideal.Run
public import proofs.«01_k».proof.Proof.Norm.Rows

@[expose] public section

noncomputable section

namespace Cert.Kernel24Ideal.Value

open Cert.Kernel24Ideal Cert.Kernel24Ideal.Gen Idealize.ShloMosaic Idealize.ShloMosaic.TcCoe Idealize.SL.Sem

variable (m : (ℓ : Loc nD τ sig) → Buf (Elt Ideal) ℓ) (c : Dev nD)

/-- A head's entries of a row. -/
abbrev O (r : Fin 2048) (h : Fin 4) (k : Fin 128) := Norm.row (n := 2048) (d := 512) (m ((c : Thread nD τ).loc main_arg0)) r ⟨h.val * 128 + k.val, by omega⟩
/-- The norm's weight. -/
abbrev W := Norm.row (n := 1) (d := 128) (m ((c : Thread nD τ).loc main_arg2)) 0
/-- A head's gate, which the projection has from column 3072 on. -/
abbrev Z := Norm.head (n := 2048) (d := 3840) 3072 (by omega) (m ((c : Thread nD τ).loc main_arg1))

/-- A head's gradient of the gated norm, which the mixed rows' gradient has from column 512 on. -/
abbrev DG := Norm.head (n := 2048) (d := 1024) 512 (by omega) (m ((c : Thread nD τ).loc main_arg3))

/-- A head's gradient of its norm. -/
abbrev DN (r : Fin 2048) (h : Fin 4) (k : Fin 128) := HMul.hMul (α := EReal) (β := EReal) (DG m c r h k) (HMul.hMul (α := EReal) (β := EReal) (Z m c r h k) (Ideal.logistic (Z m c r h k)))

/-- A head's share of the weight's gradient. -/
abbrev share (k : Fin 128) (h : Fin 4) := ∑ r, HMul.hMul (α := EReal) (β := EReal) (Norm.unit 0x43000000#32 (O m c r h) k) (DN m c r h k)

/-- The gradient of the heads. -/
theorem final4 : (dats m 0 c).arrAt 4 cfg0.N = fun i : S2048x512.Idx =>
    Norm.grad 0x43000000#32 (O m c (i 0) (Norm.headOf (i 1))) (W m c) (DN m c (i 0) (Norm.headOf (i 1))) (Norm.laneOf (i 1)) := by
  have e0 : ∀ t : Fin cfg0.N, win0_0.index t = ![0, t.val % 4] := (by decide +kernel : ∀ t : Fin grid0.N, _)
  have e1 : ∀ t : Fin cfg0.N, win0_1.index t = ![0, 24 + t.val % 4] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 4 + t.val % 4] := (by decide +kernel : ∀ t : Fin grid0.N, _)
  have e4 : ∀ t : Fin cfg0.N, win0_4.index t = ![0, t.val % 4] := (by decide +kernel : ∀ t : Fin grid0.N, _)
  refine (dats m 0 c).arrAt_eq_of_covers 4 _ (by decide +kernel) fun t hf y => ?_
  blk_simp
  rw [after0_4]
  by_cases h0 : t.val % 4 = 0
  on_goal 1 => rw [outsAt0_A m c t h0]
  on_goal 2 => rw [outsAt0_B m c t h0]
  all_goals
    dsimp only
    frame_out
    unfold_payloads
    pointwise
    simp only [O, W, Z, DG, DN, Norm.head, Norm.headOf, Norm.laneOf, Norm.grad, Norm.slope, Norm.unit, Norm.meanSq, Norm.row, Fin.sum_univ_one]
    blk_point [iblk, e0, e1, e2, e3, e4]

/-- The gradient of the gates. -/
theorem final5 : (dats m 0 c).arrAt 5 cfg0.N = fun i : S2048x512.Idx =>
    HAdd.hAdd (α := EReal) (β := EReal) (HMul.hMul (α := EReal) (β := EReal) (HMul.hMul (α := EReal) (β := EReal) (HMul.hMul (α := EReal) (β := EReal) (Norm.unit 0x43000000#32 (O m c (i 0) (Norm.headOf (i 1))) (Norm.laneOf (i 1))) (W m c (Norm.laneOf (i 1)))) (DG m c (i 0) (Norm.headOf (i 1)) (Norm.laneOf (i 1)))) (Ideal.logistic (Z m c (i 0) (Norm.headOf (i 1)) (Norm.laneOf (i 1))))) (HMul.hMul (α := EReal) (β := EReal) (HMul.hMul (α := EReal) (β := EReal) (Z m c (i 0) (Norm.headOf (i 1)) (Norm.laneOf (i 1))) (HMul.hMul (α := EReal) (β := EReal) (HMul.hMul (α := EReal) (β := EReal) (Norm.unit 0x43000000#32 (O m c (i 0) (Norm.headOf (i 1))) (Norm.laneOf (i 1))) (W m c (Norm.laneOf (i 1)))) (DG m c (i 0) (Norm.headOf (i 1)) (Norm.laneOf (i 1))))) (HMul.hMul (α := EReal) (β := EReal) (Ideal.logistic (Z m c (i 0) (Norm.headOf (i 1)) (Norm.laneOf (i 1)))) (HSub.hSub (α := EReal) (β := EReal) 1 (Ideal.logistic (Z m c (i 0) (Norm.headOf (i 1)) (Norm.laneOf (i 1))))))) := by
  have e0 : ∀ t : Fin cfg0.N, win0_0.index t = ![0, t.val % 4] := (by decide +kernel : ∀ t : Fin grid0.N, _)
  have e1 : ∀ t : Fin cfg0.N, win0_1.index t = ![0, 24 + t.val % 4] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 4 + t.val % 4] := (by decide +kernel : ∀ t : Fin grid0.N, _)
  have e5 : ∀ t : Fin cfg0.N, win0_5.index t = ![0, t.val % 4] := (by decide +kernel : ∀ t : Fin grid0.N, _)
  refine (dats m 0 c).arrAt_eq_of_covers 5 _ (by decide +kernel) fun t hf y => ?_
  blk_simp
  rw [after0_5]
  by_cases h0 : t.val % 4 = 0
  on_goal 1 => rw [outsAt0_A m c t h0]
  on_goal 2 => rw [outsAt0_B m c t h0]
  all_goals
    dsimp only
    frame_out
    unfold_payloads
    pointwise
    simp only [O, W, Z, DG, DN, Norm.head, Norm.headOf, Norm.laneOf, Norm.grad, Norm.slope, Norm.unit, Norm.meanSq, Norm.row, Fin.sum_univ_one]
    blk_point [iblk, e0, e1, e2, e3, e5]

/-- The first head's share of the weight's gradient. -/
theorem first6 (t : Fin cfg0.N) (h0 : t.val % 4 = 0) (j : S1x128.Idx) :
    (outsAt0 m c t.val t.isLt).2.2 j = share m c (j 1) ⟨t.val % 4, by omega⟩ := by
  have e0 : ∀ t : Fin cfg0.N, win0_0.index t = ![0, t.val % 4] := (by decide +kernel : ∀ t : Fin grid0.N, _)
  have e1 : ∀ t : Fin cfg0.N, win0_1.index t = ![0, 24 + t.val % 4] := (by decide +kernel : ∀ t : Fin grid0.N, _)
  have e3 : ∀ t : Fin cfg0.N, win0_3.index t = ![0, 4 + t.val % 4] := (by decide +kernel : ∀ t : Fin grid0.N, _)
  rw [outsAt0_A m c t h0]
  dsimp only
  frame_out
  unfold_payloads
  pointwise
  simp only [share]
  simp only [O, W, Z, DG, DN, Norm.head, Norm.headOf, Norm.laneOf, Norm.grad, Norm.slope, Norm.unit, Norm.meanSq, Norm.row, Fin.sum_univ_one]
  blk_point [iblk, e0, e1, e3]

/-- A later head's share, on what the head before left. -/
theorem next6 (t : Fin cfg0.N) (h0 : ¬t.val % 4 = 0) (j : S1x128.Idx) :
    (outsAt0 m c t.val t.isLt).2.2 j = HAdd.hAdd (α := EReal) (β := EReal) ((outsAt0 m c (t.val - 1) (Nat.lt_of_le_of_lt (Nat.sub_le _ _) t.isLt)).2.2 j) (share m c (j 1) ⟨t.val % 4, by omega⟩) := by
  have e0 : ∀ t : Fin cfg0.N, win0_0.index t = ![0, t.val % 4] := (by decide +kernel : ∀ t : Fin grid0.N, _)
  have e1 : ∀ t : Fin cfg0.N, win0_1.index t = ![0, 24 + t.val % 4] := (by decide +kernel : ∀ t : Fin grid0.N, _)
  have e3 : ∀ t : Fin cfg0.N, win0_3.index t = ![0, 4 + t.val % 4] := (by decide +kernel : ∀ t : Fin grid0.N, _)
  rw [outsAt0_B m c t h0]
  dsimp only
  frame_out
  unfold_payloads
  pointwise
  simp only [share]
  simp only [O, W, Z, DG, DN, Norm.head, Norm.headOf, Norm.laneOf, Norm.grad, Norm.slope, Norm.unit, Norm.meanSq, Norm.row, Fin.sum_univ_one]
  congr 1
  blk_point [iblk, e0, e1, e3]

/-- After the last head: the weight's gradient. -/
theorem final6 : (dats m 0 c).arrAt 6 cfg0.N = fun j : S1x128.Idx => ∑ h, share m c (j 1) h := by
  refine (dats m 0 c).arrAt_eq_of_after_last 6 t0_3 (by decide +kernel) _ fun j => ?_
  blk_simp
  rw [after0_6]
  exact Norm.four_heads (fun n h => (outsAt0 m c n h).2.2 j) (share m c (j 1)) _ (fun h => first6 m c ⟨0, h⟩ (Nat.zero_mod 4) j) fun n hn h =>
    (next6 m c ⟨n + 1, h⟩ (by change ¬(n + 1) % 4 = 0; omega) j).trans
      (congrArg (fun i => (outsAt0 m c n (Nat.lt_of_succ_lt h)).2.2 j + share m c (j 1) i) (Fin.ext (Nat.mod_eq_of_lt (by change n + 1 < 4; omega))))

/-- The plain computation's frame: its run, read at the arguments. -/
theorem frame_plain : Cert.quiescent_Reference24Ideal := fun m ρ _ =>
  (θ_run Cert.Reference24Ideal.defs _ _).mono (fun r h => ⟨fun c => (h c).2.2.2, sem_eq_zero_of_no_sems (by decide) r.2⟩) (Cert.Reference24Ideal.Value.run m ρ)

/-- The three gradients are the plain ones, whatever the arguments. -/
theorem algebraic : Cert.algebraic_Kernel24Ideal_Reference24Ideal := by
  intro m g m' g' _ hag
  refine ⟨_, _, _, run_blocks m g, ?_⟩
  refine (θ_run Cert.Reference24Ideal.defs _ _).mono (fun r h c => ?_) (Cert.Reference24Ideal.Value.run m' g')
  obtain ⟨h0, h1, h2, h3⟩ := hag c
  refine And.imp (·.trans (.trans ?_ (final4 m c).symm)) (And.imp (·.trans (.trans ?_ (final5 m c).symm))
    (And.imp (·.trans (.trans ?_ (final6 m c).symm)) id)) (h c)
  on_goal 3 =>
    simp only [h0, h1, h2, h3]
    funext j
    pointwise
    simp only [share, O, W, Z, DG, DN, Norm.head, Norm.unit, Norm.meanSq, Norm.row, Fin.sum_univ_one, Ideal.logistic]
  all_goals
    simp only [Reference24Ideal.Value.res_main_v49, h0, h1, h2, h3]
    funext i
    obtain ⟨a, b, rfl⟩ : ∃ (a : Fin 2048) (b : Fin 512), i = ix2 a b := ⟨i 0, i 1, eq_ix2 i⟩
    pointwise
    simp only [O, W, Z, DG, DN, Norm.head, Norm.headOf, Norm.laneOf, Norm.grad, Norm.slope, Norm.unit, Norm.meanSq, Norm.row, Fin.sum_univ_one,
      Nat.div_add_mod', Ideal.logistic]
    try rfl

end Cert.Kernel24Ideal.Value

end
-- ==== Proof.Norm.Forward.lean ====
/- The norms' forward calls: a band of rows at a grid point, each row over the root of its mean square and by the weight. -/
module

public import proofs.«01_k».proof.Defs
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Norm.Rows

@[expose] public section

noncomputable section

namespace Cert.Kernel25Ideal.Value

open Cert.Kernel25Ideal Cert.Kernel25Ideal.Gen Idealize.ShloMosaic Idealize.ShloMosaic.TcCoe Idealize.SL.Sem

/-- The normed rows. -/
theorem final2 (m : (ℓ : Loc nD τ sig) → Buf (Elt Ideal) ℓ) (c : Dev nD) :
    (dats m 0 c).arrAt 2 cfg0.N = fun i : S2048x1024.Idx => HMul.hMul (α := EReal) (β := EReal) (Norm.unit 0x44800000#32 (Norm.row (n := 2048) (d := 1024) (m ((c : Thread nD τ).loc main_arg0)) (i 0)) (i 1)) ((Norm.row (n := 1) (d := 1024) (m ((c : Thread nD τ).loc main_arg1)) 0) (i 1)) := by
  have e0 : ∀ t : Fin cfg0.N, win0_0.index t = ![t.val % 4, 0] := (by decide +kernel : ∀ t : Fin grid0.N, _)
  have e2 : ∀ t : Fin cfg0.N, win0_2.index t = ![t.val % 4, 0] := (by decide +kernel : ∀ t : Fin grid0.N, _)
  have e1 : ∀ t : Fin cfg0.N, win0_1.index t = ![0, 0] := (by decide +kernel : ∀ t : Fin grid0.N, _)
  refine (dats m 0 c).arrAt_eq_of_covers 2 _ (by decide +kernel) fun t hf y => ?_
  blk_simp
  rw [after0_2]
  frame_out
  unfold_payloads
  pointwise
  simp only [Norm.added, Norm.unit, Norm.meanSq, Norm.row]
  blk_point [iblk, e0, e1, e2]

/-- The plain computation's frame: its run, read at the arguments. -/
theorem frame_plain : Cert.quiescent_Reference25Ideal := fun m ρ _ =>
  (θ_run Cert.Reference25Ideal.defs _ _).mono (fun r h => ⟨fun c => (h c).2, sem_eq_zero_of_no_sems (by decide) r.2⟩) (Cert.Reference25Ideal.Value.run m ρ)

/-- The rows are the plain computation's, whatever the arguments. -/
theorem algebraic : Cert.algebraic_Kernel25Ideal_Reference25Ideal := by
  intro m g m' g' _ hag
  refine ⟨_, run_blocks m g, ?_⟩
  refine (θ_run Cert.Reference25Ideal.defs _ _).mono (fun r h c => ?_) (Cert.Reference25Ideal.Value.run m' g')
  obtain ⟨h0, h1⟩ := hag c
  refine And.imp (·.trans (.trans ?_ (final2 m c).symm)) id (h c)
  all_goals
    simp only [h0, h1]
    funext i
    pointwise
    simp only [Norm.added, Norm.unit, Norm.meanSq, Norm.row]
    try pointwise

end Cert.Kernel25Ideal.Value

namespace Cert.Kernel26Ideal.Value

open Cert.Kernel26Ideal Cert.Kernel26Ideal.Gen Idealize.ShloMosaic Idealize.ShloMosaic.TcCoe Idealize.SL.Sem

/-- The sum of the rows and the norm. -/
theorem final4 (m : (ℓ : Loc nD τ sig) → Buf (Elt Ideal) ℓ) (c : Dev nD) :
    (dats m 0 c).arrAt 4 cfg0.N = fun i : S2048x1024.Idx => Norm.added 0x44800000#32 (Norm.row (n := 2048) (d := 1024) (m ((c : Thread nD τ).loc main_arg0)) (i 0)) (Norm.row (n := 1) (d := 1024) (m ((c : Thread nD τ).loc main_arg2)) 0) (Norm.row (n := 2048) (d := 1024) (m ((c : Thread nD τ).loc main_arg1)) (i 0)) (i 1) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e4 : ∀ t : Fin cfg0.N, win0_4.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  refine (dats m 0 c).arrAt_eq_of_covers 4 _ (by decide +kernel) fun t hf y => ?_
  blk_simp
  rw [after0_4]
  frame_out
  unfold_payloads
  pointwise
  simp only [Norm.added, Norm.unit, Norm.meanSq, Norm.row]
  blk_point [iblk, e0, e1, e2, e3, e4]

/-- The sum's own norm. -/
theorem final5 (m : (ℓ : Loc nD τ sig) → Buf (Elt Ideal) ℓ) (c : Dev nD) :
    (dats m 0 c).arrAt 5 cfg0.N = fun i : S2048x1024.Idx => HMul.hMul (α := EReal) (β := EReal) (Norm.unit 0x44800000#32 (Norm.added 0x44800000#32 (Norm.row (n := 2048) (d := 1024) (m ((c : Thread nD τ).loc main_arg0)) (i 0)) (Norm.row (n := 1) (d := 1024) (m ((c : Thread nD τ).loc main_arg2)) 0) (Norm.row (n := 2048) (d := 1024) (m ((c : Thread nD τ).loc main_arg1)) (i 0))) (i 1)) ((Norm.row (n := 1) (d := 1024) (m ((c : Thread nD τ).loc main_arg3)) 0) (i 1)) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e5 : ∀ t : Fin cfg0.N, win0_5.index t = ![t.val % 4, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  refine (dats m 0 c).arrAt_eq_of_covers 5 _ (by decide +kernel) fun t hf y => ?_
  blk_simp
  rw [after0_5]
  frame_out
  unfold_payloads
  pointwise
  simp only [Norm.added, Norm.unit, Norm.meanSq, Norm.row]
  blk_point [iblk, e0, e1, e2, e3, e5]

/-- The plain computation's frame: its run, read at the arguments. -/
theorem frame_plain : Cert.quiescent_Reference26Ideal := fun m ρ _ =>
  (θ_run Cert.Reference26Ideal.defs _ _).mono (fun r h => ⟨fun c => (h c).2.2, sem_eq_zero_of_no_sems (by decide) r.2⟩) (Cert.Reference26Ideal.Value.run m ρ)

/-- The rows are the plain computation's, whatever the arguments. -/
theorem algebraic : Cert.algebraic_Kernel26Ideal_Reference26Ideal := by
  intro m g m' g' _ hag
  refine ⟨_, _, run_blocks m g, ?_⟩
  refine (θ_run Cert.Reference26Ideal.defs _ _).mono (fun r h c => ?_) (Cert.Reference26Ideal.Value.run m' g')
  obtain ⟨h0, h1, h2, h3⟩ := hag c
  refine And.imp (·.trans (.trans ?_ (final4 m c).symm)) (And.imp (·.trans (.trans ?_ (final5 m c).symm)) id) (h c)
  all_goals
    simp only [h0, h1, h2, h3]
    funext i
    pointwise
    simp only [Norm.added, Norm.unit, Norm.meanSq, Norm.row]
    try pointwise

end Cert.Kernel26Ideal.Value

namespace Cert.Kernel27Ideal.Value

open Cert.Kernel27Ideal Cert.Kernel27Ideal.Gen Idealize.ShloMosaic Idealize.ShloMosaic.TcCoe Idealize.SL.Sem

/-- The sum of the rows and the norm. -/
theorem final3 (m : (ℓ : Loc nD τ sig) → Buf (Elt Ideal) ℓ) (c : Dev nD) :
    (dats m 0 c).arrAt 3 cfg0.N = fun i : S2048x1024.Idx => Norm.added 0x44800000#32 (Norm.row (n := 2048) (d := 1024) (m ((c : Thread nD τ).loc main_arg0)) (i 0)) (Norm.row (n := 1) (d := 1024) (m ((c : Thread nD τ).loc main_arg2)) 0) (Norm.row (n := 2048) (d := 1024) (m ((c : Thread nD τ).loc main_arg1)) (i 0)) (i 1) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e3 : ∀ t : Fin cfg0.N, win0_3.index t = ![t.val % 4, 0] := (by decide +kernel : ∀ t : Fin grid0.N, _)
  have e2 : ∀ t : Fin cfg0.N, win0_2.index t = ![0, 0] := (by decide +kernel : ∀ t : Fin grid0.N, _)
  refine (dats m 0 c).arrAt_eq_of_covers 3 _ (by decide +kernel) fun t hf y => ?_
  blk_simp
  rw [after0_3]
  frame_out
  unfold_payloads
  pointwise
  simp only [Norm.added, Norm.unit, Norm.meanSq, Norm.row]
  blk_point [iblk, e0, e1, e2, e3]

/-- The plain computation's frame: its run, read at the arguments. -/
theorem frame_plain : Cert.quiescent_Reference27Ideal := fun m ρ _ =>
  (θ_run Cert.Reference27Ideal.defs _ _).mono (fun r h => ⟨fun c => (h c).2, sem_eq_zero_of_no_sems (by decide) r.2⟩) (Cert.Reference27Ideal.Value.run m ρ)

/-- The rows are the plain computation's, whatever the arguments. -/
theorem algebraic : Cert.algebraic_Kernel27Ideal_Reference27Ideal := by
  intro m g m' g' _ hag
  refine ⟨_, run_blocks m g, ?_⟩
  refine (θ_run Cert.Reference27Ideal.defs _ _).mono (fun r h c => ?_) (Cert.Reference27Ideal.Value.run m' g')
  obtain ⟨h0, h1, h2⟩ := hag c
  refine And.imp (·.trans (.trans ?_ (final3 m c).symm)) id (h c)
  all_goals
    simp only [h0, h1, h2]
    funext i
    pointwise
    simp only [Norm.added, Norm.unit, Norm.meanSq, Norm.row]
    try pointwise

end Cert.Kernel27Ideal.Value

end
-- ==== Proof.Norm.Gated.lean ====
/- The gated norm of the heads, forward: one head of all the rows at a grid point. -/
module

public import proofs.«01_k».proof.Defs
public import proofs.«01_k».proof.Proof.Gen.Kernel28Ideal.Value
public import proofs.«01_k».proof.Proof.Gen.Reference28Ideal.Run
public import proofs.«01_k».proof.Proof.Norm.Rows

@[expose] public section

noncomputable section

namespace Cert.Kernel28Ideal.Value

open Cert.Kernel28Ideal Cert.Kernel28Ideal.Gen Idealize.ShloMosaic Idealize.ShloMosaic.TcCoe Idealize.SL.Sem

variable (m : (ℓ : Loc nD τ sig) → Buf (Elt Ideal) ℓ) (c : Dev nD)

/-- A head's entries of a row. -/
abbrev O (r : Fin 2048) (h : Fin 4) (k : Fin 128) := Norm.row (n := 2048) (d := 512) (m ((c : Thread nD τ).loc main_arg0)) r ⟨h.val * 128 + k.val, by omega⟩
/-- The norm's weight. -/
abbrev W := Norm.row (n := 1) (d := 128) (m ((c : Thread nD τ).loc main_arg2)) 0
/-- A head's gate, which the projection has from column 3072 on. -/
abbrev Z := Norm.head (n := 2048) (d := 3840) 3072 (by omega) (m ((c : Thread nD τ).loc main_arg1))

/-- The gated heads after the run. -/
theorem final3 : (dats m 0 c).arrAt 3 cfg0.N = fun i : S2048x512.Idx =>
    HMul.hMul (α := EReal) (β := EReal) (HMul.hMul (α := EReal) (β := EReal) (Norm.unit 0x43000000#32 (O m c (i 0) (Norm.headOf (i 1))) (Norm.laneOf (i 1))) (W m c (Norm.laneOf (i 1))))
      (HMul.hMul (α := EReal) (β := EReal) (Z m c (i 0) (Norm.headOf (i 1)) (Norm.laneOf (i 1))) (Ideal.logistic (Z m c (i 0) (Norm.headOf (i 1)) (Norm.laneOf (i 1))))) := by
  have e0 : ∀ t : Fin cfg0.N, win0_0.index t = ![0, t.val % 4] := (by decide +kernel : ∀ t : Fin grid0.N, _)
  have e1 : ∀ t : Fin cfg0.N, win0_1.index t = ![0, 24 + t.val % 4] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, t.val % 4] := (by decide +kernel : ∀ t : Fin grid0.N, _)
  refine (dats m 0 c).arrAt_eq_of_covers 3 _ (by decide +kernel) fun t hf y => ?_
  blk_simp
  rw [after0_3]
  frame_out
  unfold_payloads
  pointwise
  simp only [O, W, Z, Norm.head, Norm.headOf, Norm.laneOf, Norm.unit, Norm.meanSq, Norm.row]
  blk_point [iblk, e0, e1, e2, e3]

/-- The plain computation's frame: its run, read at the arguments. -/
theorem frame_plain : Cert.quiescent_Reference28Ideal := fun m ρ _ =>
  (θ_run Cert.Reference28Ideal.defs _ _).mono (fun r h => ⟨fun c => (h c).2, sem_eq_zero_of_no_sems (by decide) r.2⟩) (Cert.Reference28Ideal.Value.run m ρ)

/-- The gated heads are the plain ones, whatever the arguments. -/
theorem algebraic : Cert.algebraic_Kernel28Ideal_Reference28Ideal := by
  intro m g m' g' _ hag
  refine ⟨_, run_blocks m g, ?_⟩
  refine (θ_run Cert.Reference28Ideal.defs _ _).mono (fun r h c => ?_) (Cert.Reference28Ideal.Value.run m' g')
  obtain ⟨h0, h1, h2⟩ := hag c
  refine And.imp (·.trans (.trans ?_ (final3 m c).symm)) id (h c)
  simp only [h0, h1, h2]
  funext i
  obtain ⟨a, b, rfl⟩ : ∃ (a : Fin 2048) (b : Fin 512), i = ix2 a b := ⟨i 0, i 1, eq_ix2 i⟩
  pointwise
  simp only [O, W, Z, Norm.head, Norm.headOf, Norm.laneOf, Norm.unit, Norm.meanSq, Norm.row, Nat.div_add_mod', Ideal.logistic]

end Cert.Kernel28Ideal.Value

end
-- ==== Proof.LossHead.lean ====
/- The loss head: a band of rows' half mean of squares at a grid point, summed over the bands, and its derivative. -/
module

public import proofs.«01_k».proof.Defs
public import proofs.«01_k».proof.Proof.Gen.Kernel29Ideal.Value
public import proofs.«01_k».proof.Proof.Gen.Reference29Ideal.Run
public import proofs.«01_k».proof.Proof.Norm.Rows
public import Idealize.ShloMosaic.Lib.IdealHost

@[expose] public section

noncomputable section

namespace Cert.Kernel29Ideal.Value

open Cert.Kernel29Ideal Cert.Kernel29Ideal.Gen Idealize.ShloMosaic Idealize.ShloMosaic.TcCoe Idealize.SL.Sem

/-- The float word of 1/2048. -/
theorem word_2048 : Ideal.ofBits .f32 0x3A000000#32 = (((1 : ℝ) / 2048 : ℝ) : EReal) := by
  simp [Ideal.ofBits, Ideal.ieee, -EReal.coe_mul]; norm_num

/-- The float word of 1/1024. -/
theorem word_1024 : Ideal.ofBits .f32 0x3A800000#32 = (((1 : ℝ) / 1024 : ℝ) : EReal) := by
  simp [Ideal.ofBits, Ideal.ieee, -EReal.coe_mul]; norm_num

/-- The float word of 1024. -/
theorem word_rows : Ideal.ofBits .f32 0x44800000#32 = ((1024 : ℝ) : EReal) := by
  simp [Ideal.ofBits, Ideal.ieee, -EReal.coe_mul]; norm_num

/-- The float word of 1/2. -/
theorem word_half : Ideal.ofBits .f32 0x3F000000#32 = (((1 : ℝ) / 2 : ℝ) : EReal) := by
  simp [Ideal.ofBits, Ideal.ieee, -EReal.coe_mul]; norm_num

/-- The float word of 2. -/
theorem word_two : Ideal.ofBits .f32 0x40000000#32 = ((2 : ℝ) : EReal) := by
  simp [Ideal.ofBits, Ideal.ieee, -EReal.coe_mul]; norm_num

/-- A division by 1024 is a product. -/
theorem div_rows (x : EReal) : Ideal.div x (Ideal.ofBits .f32 0x44800000#32) = x * (((1 : ℝ) / 1024 : ℝ) : EReal) := by
  rw [word_rows, Ideal.div, if_neg (by norm_num), ← EReal.coe_inv, one_div]

/-- A half of the mean over 1024 entries, summed over the rows. -/
theorem half_mean (f : Fin 2048 → EReal) : Ideal.ofBits .f32 0x3F000000#32 * ∑ x, Ideal.div (f x) (Ideal.ofBits .f32 0x44800000#32) =
    ∑ x, f x * Ideal.ofBits .f32 0x3A000000#32 := by
  simp only [div_rows, word_half, word_2048]
  rw [mul_comm, Norm.sum_scaled _ (by exact_mod_cast (by norm_num : (0 : ℝ) ≤ 1 / 2)) (EReal.coe_ne_top _)]
  refine Finset.sum_congr rfl fun x _ => ?_
  rw [mul_assoc, ← EReal.coe_mul]
  norm_num

/-- The derivative of a half of the mean of squares. -/
theorem half_slope (x : EReal) : Ideal.div (Ideal.ofBits .f32 0x3F000000#32) (Ideal.ofBits .f32 0x44800000#32) * (Ideal.ofBits .f32 0x40000000#32 * x) =
    x * Ideal.ofBits .f32 0x3A800000#32 := by
  rw [div_rows, word_half, word_two, word_1024, ← mul_assoc, ← EReal.coe_mul, ← EReal.coe_mul, mul_comm]
  norm_num

variable (m : (ℓ : Loc nD τ sig) → Buf (Elt Ideal) ℓ) (c : Dev nD)

/-- A row of the difference. -/
abbrev Diff (r : Fin 2048) (k : Fin 1024) := HSub.hSub (α := EReal) (β := EReal)
  (Norm.row (n := 2048) (d := 1024) (m ((c : Thread nD τ).loc main_arg0)) r k) (Norm.row (n := 2048) (d := 1024) (m ((c : Thread nD τ).loc main_arg1)) r k)
/-- A row's sum of squares. -/
abbrev Squares (r : Fin 2048) : EReal := ∑ k, HMul.hMul (α := EReal) (β := EReal) (Diff m c r k) (Diff m c r k)

/-- The derivative of the loss. -/
theorem final2 : (dats m 0 c).arrAt 2 cfg0.N = fun i : S2048x1024.Idx => HMul.hMul (α := EReal) (β := EReal) (Diff m c (i 0) (i 1)) (Ideal.ofBits .f32 0x3A800000#32) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  have e2 : ∀ t : Fin cfg0.N, win0_2.index t = ![t.val % 4, 0] := (by decide +kernel : ∀ t : Fin grid0.N, _)
  refine (dats m 0 c).arrAt_eq_of_covers 2 _ (by decide +kernel) fun t hf y => ?_
  blk_simp
  rw [after0_2]
  by_cases h0 : t.val % 4 = 0
  on_goal 1 => rw [outsAt0_A m c t h0]
  on_goal 2 => rw [outsAt0_B m c t h0]
  all_goals
    dsimp only
    frame_out
    unfold_payloads
    pointwise
    simp only [Diff, Norm.row]
    blk_point [iblk, e0, e1, e2]

/-- A band's share of the loss is its sum of squares, scaled. -/
theorem share_scaled (f : Fin 2048 → EReal) (t : Nat) : Norm.band f t * Ideal.ofBits .f32 0x3A000000#32 = Norm.band (fun r => f r * Ideal.ofBits .f32 0x3A000000#32) t := by
  refine Norm.sum_scaled _ ?_ ?_ _ <;> rw [word_2048]
  · exact_mod_cast (by norm_num : (0 : ℝ) ≤ 1 / 2048)
  · exact EReal.coe_ne_top _

/-- The first band's share of the loss. -/
theorem first3 (t : Fin cfg0.N) (h0 : t.val % 4 = 0) (j : S1x128.Idx) : (outsAt0 m c t.val t.isLt).2 j = (Norm.band (fun r => Squares m c r * Ideal.ofBits .f32 0x3A000000#32) t.val) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  rw [outsAt0_A m c t h0, ← share_scaled]
  dsimp only
  frame_out
  unfold_payloads
  pointwise
  simp only [Squares, Diff, Norm.band, Norm.row]
  congr 1
  blk_point [iblk, e0, e1]

/-- A later band's share, on what the band before left. -/
theorem next3 (t : Fin cfg0.N) (h0 : ¬t.val % 4 = 0) (j : S1x128.Idx) : (outsAt0 m c t.val t.isLt).2 j = HAdd.hAdd (α := EReal) (β := EReal) ((outsAt0 m c (t.val - 1) (Nat.lt_of_le_of_lt (Nat.sub_le _ _) t.isLt)).2 j)
      (Norm.band (fun r => Squares m c r * Ideal.ofBits .f32 0x3A000000#32) t.val) := by
  have e0 : ∀ t : Fin cfg0.N, win0_0.index t = ![t.val % 4, 0] := (by decide +kernel : ∀ t : Fin grid0.N, _)
  have e1 : ∀ t : Fin cfg0.N, win0_1.index t = ![t.val % 4, 0] := (by decide +kernel : ∀ t : Fin grid0.N, _)
  rw [outsAt0_B m c t h0, ← share_scaled]
  dsimp only
  frame_out
  unfold_payloads
  pointwise
  simp only [Squares, Diff, Norm.band, Norm.row]
  congr 2
  blk_point [iblk, e0, e1]

/-- After the last band: the loss. -/
theorem final3 : (dats m 0 c).arrAt 3 cfg0.N = fun _ : S1x128.Idx => ∑ r, Squares m c r * Ideal.ofBits .f32 0x3A000000#32 := by
  refine (dats m 0 c).arrAt_eq_of_after_last 3 t0_3 (by decide +kernel) _ fun j => ?_
  blk_simp
  rw [after0_3]
  exact Norm.four_bands (fun n h => (outsAt0 m c n h).2 j) _ _ (fun h => first3 m c ⟨0, h⟩ (Nat.zero_mod 4) j) fun n hn h =>
    next3 m c ⟨n + 1, h⟩ (by change ¬(n + 1) % 4 = 0; omega) j

/-- The plain computation's frame: its run, read at the arguments. -/
theorem frame_plain : Cert.quiescent_Reference29Ideal := fun m ρ _ =>
  (θ_run Cert.Reference29Ideal.defs _ _).mono (fun r h => ⟨fun c => (h c).2.2, sem_eq_zero_of_no_sems (by decide) r.2⟩) (Cert.Reference29Ideal.Value.run m ρ)

/-- The loss and its derivative are the plain ones, whatever the arguments. -/
theorem algebraic : Cert.algebraic_Kernel29Ideal_Reference29Ideal := by
  intro m g m' g' _ hag
  refine ⟨_, _, (θ_run _ _ _).mono (fun r h c => ⟨(h c).2.1, (h c).1, (h c).2.2⟩) (run_blocks m g), ?_⟩
  refine (θ_run Cert.Reference29Ideal.defs _ _).mono (fun r h c => ?_) (Cert.Reference29Ideal.Value.run m' g')
  obtain ⟨h0, h1⟩ := hag c
  refine And.imp (·.trans (.trans ?_ (final3 m c).symm)) (And.imp (·.trans (.trans ?_ (final2 m c).symm)) id) (h c)
  all_goals
    simp only [h0, h1]
    funext i
    pointwise
  · exact half_mean (Squares m c)
  · obtain ⟨a, b, rfl⟩ : ∃ (a : Fin 2048) (b : Fin 1024), i = ix2 a b := ⟨i 0, i 1, eq_ix2 i⟩
    exact half_slope (Diff m c a b)

end Cert.Kernel29Ideal.Value

end
-- ==== Proof.Conv.Taps.lean ====
/- The causal convolution down a column, tap by tap: a shift by a roll of the rows with the first ones blanked, as the calls have it, is
   the shift the plain computation makes by setting zero rows before the others. -/
module

public import Idealize.ShloMosaic.Lib.Pipeline.ValueKit
public import Idealize.ShloMosaic.Lib.Pointwise
public import Idealize.ShloMosaic.Lib.WordCmp
public import Idealize.ShloMosaic.Lib.KernelVsHost

@[expose] public section

noncomputable section

namespace Cert.Conv

open Idealize.ShloMosaic

/-- Of the tap `s` rows up, what row `r` gets: the rolled row times the weight, nothing in the first `s` rows. -/
def tap (s : Nat) (x : Fin 2048 → EReal) (w : EReal) (r : Fin 2048) : EReal :=
  Scalar.select (IntOp.cmpi .sge (BitVec.ofNat 32 r.val) (BitVec.ofNat 32 s)) (x ⟨(r.val + 2048 - s) % 2048, Nat.mod_lt _ (by omega)⟩ * w) 0

/-- It is the row `s` up times the weight, where there is one. -/
theorem tap_eq (s : Nat) (hs : s < 2048) (x : Fin 2048 → EReal) (w : EReal) (r : Fin 2048) :
    tap s x w r = (if h : r.val < s then 0 else x ⟨r.val - s, by omega⟩) * w := by
  unfold tap
  rw [WordCmp.cmpi_sge_ofNat (by omega) (by omega)]
  by_cases h : r.val < s
  · rw [dif_pos h, zero_mul, decide_eq_false (by omega)]
    rfl
  · rw [dif_neg h, decide_eq_true (by omega)]
    change x _ * w = _
    congr 2
    exact Fin.ext (by change (r.val + 2048 - s) % 2048 = r.val - s; rw [show r.val + 2048 - s = r.val - s + 2048 by omega, Nat.add_mod_right, Nat.mod_eq_of_lt (by omega)])

/-- The convolution of width three. -/
def conv3 (x : Fin 2048 → EReal) (w : Fin 3 → EReal) (r : Fin 2048) : EReal := x r * w 2 + tap 1 x (w 1) r + tap 2 x (w 0) r

/-- The convolution of width four. -/
def conv4 (x : Fin 2048 → EReal) (w : Fin 4 → EReal) (r : Fin 2048) : EReal := x r * w 3 + tap 1 x (w 2) r + tap 2 x (w 1) r + tap 3 x (w 0) r

/-- A roll by `2048 - s` brings the row `s` down. -/
theorem roll_up {d : Nat} (s : Nat) (sb : BitVec 32) (hsb : sb.toNat = 2048 - s) (h0 : 0 < s) (hs : s < 2048) (x : (⟨2, ![2048, d]⟩ : Shape).Idx → EReal)
    (h : (⟨2, ![2048, d]⟩ : Shape).Rotates 0 none) (r : Fin 2048) (b : Fin d) :
    dynamicRotate 0 sb none x h (ix2 r b) = x (ix2 ⟨(s + r.val) % 2048, Nat.mod_lt _ (by omega)⟩ b) :=
  dynamicRotate_apply 0 sb x h _ _ (fun k => by
    fin_cases k
    · change (s + r.val) % 2048 = (r.val + 2048 - sb.toNat % 2048) % 2048
      rw [hsb, Nat.mod_eq_of_lt (by omega : 2048 - s < 2048)]
      congr 1
      omega
    · rfl)

/-- Of the gradient `s` rows down, what row `r` gets. -/
def up (s : Nat) (d : Fin 2048 → EReal) (w : EReal) (r : Fin 2048) : EReal := if h : s + r.val < 2048 then d ⟨s + r.val, h⟩ * w else 0

/-- As the calls have it: the rolled row, nothing in the last `s`. -/
theorem up_eq (s n : Nat) (hn : n + s = 2048) (d : Fin 2048 → EReal) (w : EReal) (r : Fin 2048) :
    Scalar.select (IntOp.cmpi .slt (BitVec.ofNat 32 r.val) (BitVec.ofNat 32 n)) (d ⟨(s + r.val) % 2048, Nat.mod_lt _ (by omega)⟩ * w) 0 = up s d w r := by
  unfold up
  rw [WordCmp.cmpi_slt_ofNat (by omega) (by omega)]
  by_cases h : s + r.val < 2048
  · rw [dif_pos h, decide_eq_true (by omega)]
    change d _ * w = _
    congr 2
    exact Fin.ext (Nat.mod_eq_of_lt h)
  · rw [dif_neg h, decide_eq_false (by omega)]
    rfl

/-- A tap's gradient: the products of the gradient and the row `s` up, summed. -/
def dtap (s : Nat) (d x : Fin 2048 → EReal) : EReal := ∑ r, tap s x (d r) r

/-- Without the rows that give nothing. -/
theorem dtap_eq (s n : Nat) (hn : s + n = 2048) (h0 : 0 < n) (d x : Fin 2048 → EReal) :
    dtap s d x = ∑ i : Fin n, x ⟨i.val, by omega⟩ * d ⟨s + i.val, by omega⟩ := by
  unfold dtap
  rw [← Equiv.sum_comp (finCongr hn), Fin.sum_univ_add]
  refine (congrArg₂ (· + ·) (Finset.sum_eq_zero fun i _ => ?_) (Finset.sum_congr rfl fun i _ => ?_)).trans (zero_add _)
  · rw [tap_eq s (by omega), dif_pos (by exact i.isLt), zero_mul]
  · rw [tap_eq s (by omega), dif_neg (by change ¬ s + i.val < s; omega)]
    congr 2
    exact Fin.ext (by change s + i.val - s = i.val; omega)

/-- A column of an array. -/
def col {n d : Nat} (X : (⟨2, ![n, d]⟩ : Shape).Idx → EReal) (j : Fin d) (r : Fin n) : EReal := X (ix2 r j)

/-- The gradient at a silu's argument `z` from that at its result. -/
def dsilu (z g : EReal) : EReal := g * Ideal.logistic z + z * g * (Ideal.logistic z * (1 - Ideal.logistic z))

/-- The gradient in the convolution's input. -/
def back4 (d : Fin 2048 → EReal) (w : Fin 4 → EReal) (r : Fin 2048) : EReal := d r * w 3 + up 1 d (w 2) r + up 2 d (w 1) r + up 3 d (w 0) r

/-- A column's convolution of width three with its bias. -/
def pre {d : Nat} (U : (⟨2, ![2048, d]⟩ : Shape).Idx → EReal) (W : (⟨2, ![3, d]⟩ : Shape).Idx → EReal) (B : (⟨2, ![1, d]⟩ : Shape).Idx → EReal) (j : Fin d)
    (r : Fin 2048) : EReal := conv3 (col U j) (col W j) r + B (ix2 0 j)

end Cert.Conv

end
-- ==== Proof.Conv.SiluBackRef.lean ====
/- The plain gradient of the delta rule's convolution, piece by piece. -/
module

public import proofs.«01_k».proof.Proof.Gen.Reference30Ideal.Run
public import proofs.«01_k».proof.Proof.Conv.Taps

@[expose] public section

noncomputable section

namespace Cert.Reference30Ideal.Value

open Cert.Reference30Ideal Cert.Reference30Ideal.Gen Idealize.ShloMosaic Idealize.ShloMosaic.TcCoe Idealize.ShloMosaic.StableHlo

/-- The columns of q, k and v. -/
def xT (P : FVec Ideal S2048x3840 .f32) : FVec Ideal S2048x1536 .f32 := extractStridedSlice S2048x1536 ![0, 1536] P slices_S2048x3840_S2048x1536_0_1536

/-- Tap 0, along the rows. -/
abbrev lane0 (W : FVec Ideal S4x1536 .f32) : FVec Ideal S2048x1536 .f32 :=
  broadcastInDim S2048x1536 ![0, 1] bcast_S1x1536_S2048x1536_0_1 (extractStridedSlice S1x1536 ![0, 0] W slices_S4x1536_S1x1536_0_0)
/-- Tap 1, along the rows. -/
abbrev lane1 (W : FVec Ideal S4x1536 .f32) : FVec Ideal S2048x1536 .f32 :=
  broadcastInDim S2048x1536 ![0, 1] bcast_S1x1536_S2048x1536_0_1 (extractStridedSlice S1x1536 ![1, 0] W slices_S4x1536_S1x1536_1_0)
/-- Tap 2, along the rows. -/
abbrev lane2 (W : FVec Ideal S4x1536 .f32) : FVec Ideal S2048x1536 .f32 :=
  broadcastInDim S2048x1536 ![0, 1] bcast_S1x1536_S2048x1536_0_1 (extractStridedSlice S1x1536 ![2, 0] W slices_S4x1536_S1x1536_2_0)
/-- Tap 3, along the rows. -/
abbrev lane3 (W : FVec Ideal S4x1536 .f32) : FVec Ideal S2048x1536 .f32 :=
  broadcastInDim S2048x1536 ![0, 1] bcast_S1x1536_S2048x1536_0_1 (extractStridedSlice S1x1536 ![3, 0] W slices_S4x1536_S1x1536_3_0)
/-- The rows 1 down. -/
abbrev sh1 (X : FVec Ideal S2048x1536 .f32) : FVec Ideal S2048x1536 .f32 := concatenate S2048x1536 0 [⟨S1x1536, (broadcastInDim S1x1536 ![] bcast_S_S1x1536 (constant S_ .f32 0x00000000#32))⟩,
  ⟨S2047x1536, (extractStridedSlice S2047x1536 ![0, 0] X slices_S2048x1536_S2047x1536_0_0)⟩] concatenates_S1x1536_S2047x1536_S2048x1536_d0
/-- The rows 2 down. -/
abbrev sh2 (X : FVec Ideal S2048x1536 .f32) : FVec Ideal S2048x1536 .f32 := concatenate S2048x1536 0 [⟨S2x1536, (broadcastInDim S2x1536 ![] bcast_S_S2x1536 (constant S_ .f32 0x00000000#32))⟩,
  ⟨S2046x1536, (extractStridedSlice S2046x1536 ![0, 0] X slices_S2048x1536_S2046x1536_0_0)⟩] concatenates_S2x1536_S2046x1536_S2048x1536_d0
/-- The rows 3 down. -/
abbrev sh3 (X : FVec Ideal S2048x1536 .f32) : FVec Ideal S2048x1536 .f32 := concatenate S2048x1536 0 [⟨S3x1536, (broadcastInDim S3x1536 ![] bcast_S_S3x1536 (constant S_ .f32 0x00000000#32))⟩,
  ⟨S2045x1536, (extractStridedSlice S2045x1536 ![0, 0] X slices_S2048x1536_S2045x1536_0_0)⟩] concatenates_S3x1536_S2045x1536_S2048x1536_d0
/-- One, everywhere. -/
abbrev one : FVec Ideal S2048x1536 .f32 := broadcastInDim S2048x1536 ![] bcast_S_S2048x1536 (constant S_ .f32 0x3F800000#32)
/-- The logistic. -/
abbrev sig (Z : FVec Ideal S2048x1536 .f32) : FVec Ideal S2048x1536 .f32 := Host.divf one (addf one (Host.exp (Host.negf Z)))

/-- Their convolution. -/
def zT (X : FVec Ideal S2048x1536 .f32) (W : FVec Ideal S4x1536 .f32) : FVec Ideal S2048x1536 .f32 :=
  (addf (addf (addf (mulf X (lane3 W)) (mulf (sh1 X) (lane2 W))) (mulf (sh2 X) (lane1 W))) (mulf (sh3 X) (lane0 W)))

/-- The gradient at the convolution's result `Z`, from that at the silu's. -/
def dT (Z G : FVec Ideal S2048x1536 .f32) : FVec Ideal S2048x1536 .f32 :=
  (addf (mulf G (sig Z)) (mulf (mulf Z G) (mulf (sig Z) (subf one (sig Z)))))

/-- The convolution's gradient in its input. -/
def dxT (D : FVec Ideal S2048x1536 .f32) (W : FVec Ideal S4x1536 .f32) : FVec Ideal S2048x1536 .f32 :=
  addf (addf (addf (pad S2048x1536 ![0, 0] ![3, 0] ![0, 0] (extractStridedSlice S2045x1536 ![3, 0] (mulf D (lane0 W)) slices_S2048x1536_S2045x1536_3_0) (constant S_ .f32 0x00000000#32) pads_S2045x1536_S2048x1536_030_000 h_S_) (pad S2048x1536 ![0, 0] ![2, 0] ![0, 0] (extractStridedSlice S2046x1536 ![2, 0] (mulf D (lane1 W)) slices_S2048x1536_S2046x1536_2_0) (constant S_ .f32 0x00000000#32) pads_S2046x1536_S2048x1536_020_000 h_S_)) (pad S2048x1536 ![0, 0] ![1, 0] ![0, 0] (extractStridedSlice S2047x1536 ![1, 0] (mulf D (lane2 W)) slices_S2048x1536_S2047x1536_1_0) (constant S_ .f32 0x00000000#32) pads_S2047x1536_S2048x1536_010_000 h_S_)) (mulf D (lane3 W))

/-- In its taps. -/
def dwT (X D : FVec Ideal S2048x1536 .f32) : FVec Ideal S4x1536 .f32 :=
  addf (addf (addf (pad S4x1536 ![0, 0] ![3, 0] ![0, 0] (shapeCast _ (Host.reduceAdd (mulf (sh3 X) D) (constant S_ .f32 0x00000000#32) reducesTo_S2048x1536_S1536_d0 h_S_) shapeCasts_S1536_S1x1536) (constant S_ .f32 0x00000000#32) pads_S1x1536_S4x1536_030_000 h_S_) (pad S4x1536 ![1, 0] ![2, 0] ![0, 0] (shapeCast _ (Host.reduceAdd (mulf (sh2 X) D) (constant S_ .f32 0x00000000#32) reducesTo_S2048x1536_S1536_d0 h_S_) shapeCasts_S1536_S1x1536) (constant S_ .f32 0x00000000#32) pads_S1x1536_S4x1536_120_000 h_S_)) (pad S4x1536 ![2, 0] ![1, 0] ![0, 0] (shapeCast _ (Host.reduceAdd (mulf (sh1 X) D) (constant S_ .f32 0x00000000#32) reducesTo_S2048x1536_S1536_d0 h_S_) shapeCasts_S1536_S1x1536) (constant S_ .f32 0x00000000#32) pads_S1x1536_S4x1536_210_000 h_S_)) (pad S4x1536 ![3, 0] ![0, 0] ![0, 0] (shapeCast _ (Host.reduceAdd (mulf X D) (constant S_ .f32 0x00000000#32) reducesTo_S2048x1536_S1536_d0 h_S_) shapeCasts_S1536_S1x1536) (constant S_ .f32 0x00000000#32) pads_S1x1536_S4x1536_300_000 h_S_)

/-- Its entries. -/
theorem zT_at (X : FVec Ideal S2048x1536 .f32) (W : FVec Ideal S4x1536 .f32) (r : Fin 2048) (b : Fin 1536) :
    zT X W (ix2 r b) = Conv.conv4 (Conv.col (d := 1536) X b) (Conv.col (d := 1536) W b) r := by
  pointwise [zT]
  simp only [Conv.conv4, Conv.tap_eq _ (by decide : 1 < 2048), Conv.tap_eq _ (by decide : 2 < 2048), Conv.tap_eq _ (by decide : 3 < 2048), Conv.col]

/-- Its entries. -/
theorem dT_at (Z G : FVec Ideal S2048x1536 .f32) (r : Fin 2048) (b : Fin 1536) : dT Z G (ix2 r b) = Conv.dsilu (Z (ix2 r b)) (G (ix2 r b)) := by
  pointwise [dT]
  rfl

/-- Its entries. -/
theorem dxT_at (D : FVec Ideal S2048x1536 .f32) (W : FVec Ideal S4x1536 .f32) (r : Fin 2048) (b : Fin 1536) :
    dxT D W (ix2 r b) = Conv.back4 (Conv.col (d := 1536) D b) (Conv.col (d := 1536) W b) r := by
  pointwise [dxT]
  unfold Conv.back4 Conv.up Conv.col
  simp only [show (r.val < 2045) = (3 + r.val < 2048) from propext ⟨by omega, by omega⟩,
    show (r.val < 2046) = (2 + r.val < 2048) from propext ⟨by omega, by omega⟩, show (r.val < 2047) = (1 + r.val < 2048) from propext ⟨by omega, by omega⟩]
  ac_rfl

/-- A row is one tap's sum. -/
theorem dwT_at (X D : FVec Ideal S2048x1536 .f32) (k : Fin 4) (b : Fin 1536) :
    dwT X D (ix2 k b) = Conv.dtap (3 - k.val) (Conv.col (d := 1536) D b) (Conv.col (d := 1536) X b) := by
  pointwise [dwT]
  fin_cases k
  · rw [Conv.dtap_eq (3 - 0) 2045 (by decide) (by decide)]
    simp [Conv.col]
  · rw [Conv.dtap_eq (3 - 1) 2046 (by decide) (by decide)]
    simp [Conv.col]
  · rw [Conv.dtap_eq (3 - 2) 2047 (by decide) (by decide)]
    simp [Conv.col]
  · rw [Conv.dtap_eq (3 - 3) 2048 (by decide) (by decide)]
    simp [Conv.col]

end Cert.Reference30Ideal.Value

end
-- ==== Proof.Conv.SiluBack.lean ====
/- The delta rule's convolution, backward: a band of columns at a grid point. -/
module

public import proofs.«01_k».proof.Defs
public import proofs.«01_k».proof.Proof.Gen.Kernel30Ideal.Value
public import proofs.«01_k».proof.Proof.Conv.SiluBackRef

@[expose] public section

noncomputable section

namespace Cert.Kernel30Ideal.Value

open Cert.Kernel30Ideal Cert.Kernel30Ideal.Gen Idealize.ShloMosaic Idealize.ShloMosaic.TcCoe Idealize.SL.Sem

/-- The gradient at the convolution's result. -/
theorem d_at (X G : Vec Ideal S2048x512 .f32) (W : Vec Ideal S4x512 .f32) (r : Fin 2048) (b : Fin 512) :
    k0_pay4 (F := Ideal) X W G (ix2 r b) = Conv.dsilu (Conv.conv4 (Conv.col (d := 512) X b) (Conv.col (d := 512) W b) r) (G (ix2 r b)) := by
  pointwise [k0_pay4]
  rfl

/-- The input's block, of that gradient. -/
theorem dx_at (D : Vec Ideal S2048x512 .f32) (W : Vec Ideal S4x512 .f32) (r : Fin 2048) (b : Fin 512) :
    k0_pay2 (F := Ideal) (iota Kind.tc S2048x512 32 [0] iota_S2048x512_d0_w32) W D
      (k0_pay8 (iota Kind.tc S2048x512 32 [0] iota_S2048x512_d0_w32) W D (k0_pay5 W)) (ix2 r b) =
    Conv.back4 (Conv.col (d := 512) D b) (Conv.col (d := 512) W b) r := by
  unfold k0_pay2 k0_pay8 k0_pay5
  have q1 := Conv.roll_up 1 2047#32 (by decide) (by decide) (by decide) D rotates_S2048x512_d0 r b
  have q2 := Conv.roll_up 2 2046#32 (by decide) (by decide) (by decide) D rotates_S2048x512_d0 r b
  have q3 := Conv.roll_up 3 2045#32 (by decide) (by decide) (by decide) D rotates_S2048x512_d0 r b
  generalize dynamicRotate 0 2047#32 none D rotates_S2048x512_d0 = R1 at q1 ⊢
  generalize dynamicRotate 0 2046#32 none D rotates_S2048x512_d0 = R2 at q2 ⊢
  generalize dynamicRotate 0 2045#32 none D rotates_S2048x512_d0 = R3 at q3 ⊢
  pointwise
  rw [q1, q2, q3]
  unfold Conv.back4
  rw [← Conv.up_eq 1 2047 (by decide), ← Conv.up_eq 2 2046 (by decide), ← Conv.up_eq 3 2045 (by decide)]
  rfl

/-- The first tap's gradient. -/
theorem dw3_at (X D : Vec Ideal S2048x512 .f32) (x : S1x512.Idx) :
    k0_pay3 (F := Ideal) (iota Kind.tc S2048x512 32 [0] iota_S2048x512_d0_w32) X D x = Conv.dtap 3 (Conv.col (d := 512) D (x 1)) (Conv.col (d := 512) X (x 1)) := by
  pointwise [k0_pay3]
  simp only [Conv.dtap, Conv.tap, Conv.col, mul_comm]

/-- The second's. -/
theorem dw2_at (X D : Vec Ideal S2048x512 .f32) (x : S1x512.Idx) :
    k0_pay1 (F := Ideal) (k0_pay9 (iota Kind.tc S2048x512 32 [0] iota_S2048x512_d0_w32) X D) x = Conv.dtap 2 (Conv.col (d := 512) D (x 1)) (Conv.col (d := 512) X (x 1)) := by
  pointwise [k0_pay1, k0_pay9]
  simp only [Conv.dtap, Conv.tap, Conv.col, mul_comm]

/-- The third's. -/
theorem dw1_at (X D : Vec Ideal S2048x512 .f32) (x : S1x512.Idx) :
    k0_pay7 (F := Ideal) (iota Kind.tc S2048x512 32 [0] iota_S2048x512_d0_w32) X D x = Conv.dtap 1 (Conv.col (d := 512) D (x 1)) (Conv.col (d := 512) X (x 1)) := by
  pointwise [k0_pay7]
  simp only [Conv.dtap, Conv.tap, Conv.col, mul_comm]

/-- The last's. -/
theorem dw0_at (X D : Vec Ideal S2048x512 .f32) (x : S1x512.Idx) :
    k0_pay6 (F := Ideal) X D x = Conv.dtap 0 (Conv.col (d := 512) D (x 1)) (Conv.col (d := 512) X (x 1)) := by
  rw [Conv.dtap_eq 0 2048 (by decide) (by decide)]
  pointwise [k0_pay6]
  simp [Conv.col, mul_comm]

variable (m : (ℓ : Loc nD τ sig) → Buf (Elt Ideal) ℓ) (c : Dev nD)

/-- A column of q, k and v, which the projection has from column 1536 on. -/
abbrev X (j : Fin 1536) := Conv.col (n := 2048) (d := 3840) (m ((c : Thread nD τ).loc main_arg0)) ⟨1536 + j.val, by omega⟩
/-- A column's taps. -/
abbrev W := Conv.col (n := 4) (d := 1536) (m ((c : Thread nD τ).loc main_arg1))
/-- The gradient at a column of the convolution's result. -/
abbrev Z (j : Fin 1536) (r : Fin 2048) : EReal := Conv.dsilu (Conv.conv4 (X m c j) (W m c j) r) (m ((c : Thread nD τ).loc main_arg2) (ix2 (n0 := 2048) (n1 := 1536) r j))

/-- A grid point's column. -/
abbrev gcol (t : Fin cfg0.N) (b : Fin 512) : Fin 1536 := ⟨t.val % 3 * 512 + b.val, by omega⟩

/-- The first window's columns at a grid point. -/
theorem x_blk (t : Fin cfg0.N) (b : Fin 512) : Conv.col (n := 2048) (d := 512) (X0_0 m c t) b = X m c (gcol t b) := by
  have e0 : ∀ t : Fin cfg0.N, win0_0.index t = ![0, 3 + t.val % 3] := (by decide +kernel : ∀ t : Fin grid0.N, _)
  funext r
  unfold Conv.col X0_0 Pipeline.Window.fill
  rw [dif_pos (moved0_0 t (ix2 r b))]
  simp only [X, Conv.col]
  blk_point [iblk, e0]

/-- The taps' columns. -/
theorem w_blk (t : Fin cfg0.N) (b : Fin 512) : Conv.col (n := 4) (d := 512) (iblk m c 1 t) b = W m c (gcol t b) := by
  have e1 : ∀ t : Fin cfg0.N, win0_1.index t = ![0, t.val % 3] := (by decide +kernel : ∀ t : Fin grid0.N, _)
  funext r
  simp only [W, Conv.col]
  blk_point [iblk, e1]

/-- The gradient's columns. -/
theorem d_blk (t : Fin cfg0.N) (b : Fin 512) : Conv.col (n := 2048) (d := 512) (k0_pay4 (F := Ideal) (X0_0 m c t) (iblk m c 1 t) (iblk m c 2 t)) b = Z m c (gcol t b) := by
  have e2 : ∀ t : Fin cfg0.N, win0_2.index t = ![0, t.val % 3] := (by decide +kernel : ∀ t : Fin grid0.N, _)
  funext r
  refine (d_at _ _ _ r b).trans ?_
  rw [x_blk, w_blk]
  refine congrArg _ ?_
  blk_point [iblk, e2]

/-- The input's gradient after the run. -/
theorem final3 : (dats m 0 c).arrAt 3 cfg0.N = fun i : S2048x1536.Idx => Conv.back4 (Z m c (i 1)) (W m c (i 1)) (i 0) := by
  have e3 : ∀ t : Fin cfg0.N, win0_3.index t = ![0, t.val % 3] := (by decide +kernel : ∀ t : Fin grid0.N, _)
  refine (dats m 0 c).arrAt_eq_of_covers 3 _ (by decide +kernel) fun t hf y => ?_
  obtain ⟨r, b, rfl⟩ : ∃ (r : Fin 2048) (b : Fin 512), y = ix2 r b := ⟨y 0, y 1, eq_ix2 y⟩
  have q0 : ((View.whole main_v0_0).slice (win0_3.rect t)).emb (ix2 r b) 0 = r := Fin.ext (by blk_simp [e3])
  have q1 : ((View.whole main_v0_0).slice (win0_3.rect t)).emb (ix2 r b) 1 = gcol t b := Fin.ext (by blk_simp [e3])
  blk_simp
  rw [after0_3, q0, q1]
  unfold outsAt0
  frame_out
  refine (dx_at _ _ r b).trans ?_
  rw [d_blk, w_blk]

/-- The taps' after the run. -/
theorem final4 : (dats m 0 c).arrAt 4 cfg0.N = fun i : S4x1536.Idx => Conv.dtap (3 - (i 0).val) (Z m c (i 1)) (X m c (i 1)) := by
  have e4 : ∀ t : Fin cfg0.N, win0_4.index t = ![0, t.val % 3] := (by decide +kernel : ∀ t : Fin grid0.N, _)
  refine (dats m 0 c).arrAt_eq_of_covers 4 _ (by decide +kernel) fun t hf y => ?_
  obtain ⟨k, b, rfl⟩ : ∃ (k : Fin 4) (b : Fin 512), y = ix2 k b := ⟨y 0, y 1, eq_ix2 y⟩
  have q0 : k.val = win0_4.index t 0 * 4 + k.val := by rw [e4]; simp
  have q1 : ((View.whole main_v0_1).slice (win0_4.rect t)).emb (ix2 k b) 1 = gcol t b := Fin.ext (by blk_simp [e4])
  blk_simp
  rw [after0_4]
  refine Eq.trans ?_ (congrArg₂ (fun (n : Nat) (j : Fin 1536) => Conv.dtap (3 - n) (Z m c j) (X m c j)) q0 q1.symm)
  beta_reduce
  rw [← d_blk, ← x_blk]
  unfold outsAt0
  frame_out
  canon_tiles x h
  · rw [dw3_at, show x 1 = b from Fin.ext h1.symm, show k.val = 0 from h0.trans (by omega)]
  · rw [dw2_at, show x 1 = b from Fin.ext h1.symm, show k.val = 1 from h0.trans (by omega)]
  · rw [dw1_at, show x 1 = b from Fin.ext h1.symm, show k.val = 2 from h0.trans (by omega)]
  · rw [dw0_at, show x 1 = b from Fin.ext h1.symm, show k.val = 3 from h0.trans (by omega)]

/-- The plain computation's frame: its run, read at the arguments. -/
theorem frame_plain : Cert.quiescent_Reference30Ideal := fun m ρ _ =>
  (θ_run Cert.Reference30Ideal.defs _ _).mono (fun r h => ⟨fun c => (h c).2.2, sem_eq_zero_of_no_sems (by decide) r.2⟩) (Cert.Reference30Ideal.Value.run m ρ)

/-- The results are the plain ones, whatever the arguments. -/
theorem algebraic : Cert.algebraic_Kernel30Ideal_Reference30Ideal := by
  intro m g m' g' _ hag
  refine ⟨_, _, run_blocks m g, ?_⟩
  refine (θ_run Cert.Reference30Ideal.defs _ _).mono (fun r h c => ?_) (Cert.Reference30Ideal.Value.run m' g')
  obtain ⟨h0, h1, h2⟩ := hag c
  have hx (b : Fin 1536) : Conv.col (n := 2048) (d := 1536) (Reference30Ideal.Value.xT (m' ((c : Thread Reference30Ideal.nD Reference30Ideal.τ).loc Reference30Ideal.main_arg0))) b = X m c b := by
    funext r
    unfold Conv.col
    pointwise [Reference30Ideal.Value.xT]
    rw [h0]
    rfl
  have hz (b : Fin 1536) : Conv.col (n := 2048) (d := 1536) (Reference30Ideal.Value.dT (Reference30Ideal.Value.zT
      (Reference30Ideal.Value.xT (m' ((c : Thread Reference30Ideal.nD Reference30Ideal.τ).loc Reference30Ideal.main_arg0)))
      (m' ((c : Thread Reference30Ideal.nD Reference30Ideal.τ).loc Reference30Ideal.main_arg1)))
      (m' ((c : Thread Reference30Ideal.nD Reference30Ideal.τ).loc Reference30Ideal.main_arg2))) b = Z m c b := by
    funext r
    refine (Reference30Ideal.Value.dT_at _ _ r b).trans ?_
    rw [Reference30Ideal.Value.zT_at, hx, h1, h2]
  refine And.imp (·.trans (.trans ?_ (final3 m c).symm)) (And.imp (·.trans (.trans ?_ (final4 m c).symm)) id) (h c)
  · funext i
    obtain ⟨a, b, rfl⟩ : ∃ (a : Fin 2048) (b : Fin 1536), i = ix2 a b := ⟨i 0, i 1, eq_ix2 i⟩
    refine (Reference30Ideal.Value.dxT_at (Reference30Ideal.Value.dT (Reference30Ideal.Value.zT (Reference30Ideal.Value.xT _) _) _) _ a b).trans ?_
    rw [hz, h1]
    rfl
  · funext i
    obtain ⟨a, b, rfl⟩ : ∃ (a : Fin 4) (b : Fin 1536), i = ix2 a b := ⟨i 0, i 1, eq_ix2 i⟩
    refine (Reference30Ideal.Value.dwT_at (Reference30Ideal.Value.xT _) (Reference30Ideal.Value.dT (Reference30Ideal.Value.zT (Reference30Ideal.Value.xT _) _) _) a b).trans ?_
    rw [hz, hx]
    rfl

end Cert.Kernel30Ideal.Value

end
-- ==== Proof.Conv.Silu.lean ====
/- The delta rule's convolution, forward: a band of columns at a grid point. -/
module

public import proofs.«01_k».proof.Defs
public import proofs.«01_k».proof.Proof.Gen.Kernel31Ideal.Value
public import proofs.«01_k».proof.Proof.Gen.Reference31Ideal.Run
public import proofs.«01_k».proof.Proof.Conv.Taps

@[expose] public section

noncomputable section

namespace Cert.Kernel31Ideal.Value

open Cert.Kernel31Ideal Cert.Kernel31Ideal.Gen Idealize.ShloMosaic Idealize.ShloMosaic.TcCoe Idealize.SL.Sem

variable (m : (ℓ : Loc nD τ sig) → Buf (Elt Ideal) ℓ) (c : Dev nD)

/-- A column of q, k and v, which the projection has from column 1536 on. -/
abbrev X (j : Fin 1536) := Conv.col (n := 2048) (d := 3840) (m ((c : Thread nD τ).loc main_arg0)) ⟨1536 + j.val, by omega⟩
/-- A column's taps. -/
abbrev W := Conv.col (n := 4) (d := 1536) (m ((c : Thread nD τ).loc main_arg1))

/-- The first window's block at a grid point. -/
theorem block0 (t : Fin cfg0.N) (j : S2048x512.Idx) : X0_0 m c t j =
    m ((c : Thread nD τ).loc main_arg0) (ix2 (n0 := 2048) (n1 := 3840) (j 0) ⟨(3 + t.val % 3) * 512 + (j 1).val, by have := (j 1).isLt; change (j 1).val < 512 at this; omega⟩) := by
  have e0 : ∀ t : Fin cfg0.N, win0_0.index t = ![0, 3 + t.val % 3] := (by decide +kernel : ∀ t : Fin grid0.N, _)
  unfold X0_0 Pipeline.Window.fill
  rw [dif_pos (moved0_0 t j)]
  blk_point [iblk, e0]

/-- The result after the run. -/
theorem final2 : (dats m 0 c).arrAt 2 cfg0.N = fun i : S2048x1536.Idx =>
    HMul.hMul (α := EReal) (β := EReal) (Conv.conv4 (X m c (i 1)) (W m c (i 1)) (i 0)) (Ideal.logistic (Conv.conv4 (X m c (i 1)) (W m c (i 1)) (i 0))) := by
  have e1 : ∀ t : Fin cfg0.N, win0_1.index t = ![0, t.val % 3] := (by decide +kernel : ∀ t : Fin grid0.N, _)
  have e2 : ∀ t : Fin cfg0.N, win0_2.index t = ![0, t.val % 3] := (by decide +kernel : ∀ t : Fin grid0.N, _)
  refine (dats m 0 c).arrAt_eq_of_covers 2 _ (by decide +kernel) fun t hf y => ?_
  blk_simp
  rw [after0_2]
  unfold outsAt0
  frame_out
  unfold_payloads
  pointwise
  simp only [block0, X, W, Conv.conv4, Conv.tap, Conv.col]
  blk_point [iblk, e1, e2]

/-- The plain computation's frame: its run, read at the arguments. -/
theorem frame_plain : Cert.quiescent_Reference31Ideal := fun m ρ _ =>
  (θ_run Cert.Reference31Ideal.defs _ _).mono (fun r h => ⟨fun c => (h c).2, sem_eq_zero_of_no_sems (by decide) r.2⟩) (Cert.Reference31Ideal.Value.run m ρ)

/-- The result is the plain one, whatever the arguments. -/
theorem algebraic : Cert.algebraic_Kernel31Ideal_Reference31Ideal := by
  intro m g m' g' _ hag
  refine ⟨_, run_blocks m g, ?_⟩
  refine (θ_run Cert.Reference31Ideal.defs _ _).mono (fun r h c => ?_) (Cert.Reference31Ideal.Value.run m' g')
  obtain ⟨h0, h1⟩ := hag c
  refine And.imp (·.trans (.trans ?_ (final2 m c).symm)) id (h c)
  simp only [Reference31Ideal.Value.res_main_v25]
  funext i
  obtain ⟨a, b, rfl⟩ : ∃ (a : Fin 2048) (b : Fin 1536), i = ix2 a b := ⟨i 0, i 1, eq_ix2 i⟩
  change _ = HMul.hMul (α := EReal) (β := EReal) (Conv.conv4 (X m c b) (W m c b) a) (Ideal.logistic (Conv.conv4 (X m c b) (W m c b) a))
  pointwise
  simp only [X, W, Conv.conv4, Conv.tap_eq _ (by decide : 1 < 2048), Conv.tap_eq _ (by decide : 2 < 2048), Conv.tap_eq _ (by decide : 3 < 2048), Conv.col, Ideal.logistic, h0, h1]

end Cert.Kernel31Ideal.Value

end
-- ==== Proof.Conv.Glu.lean ====
/- The feed-forward layer's convolution and gate, forward: a band of units at a grid point. -/
module

public import proofs.«01_k».proof.Defs
public import proofs.«01_k».proof.Proof.Gen.Kernel32Ideal.Value
public import proofs.«01_k».proof.Proof.Gen.Reference32Ideal.Run
public import proofs.«01_k».proof.Proof.Conv.Taps

@[expose] public section

noncomputable section

namespace Cert.Kernel32Ideal.Value

open Cert.Kernel32Ideal Cert.Kernel32Ideal.Gen Idealize.ShloMosaic Idealize.ShloMosaic.TcCoe Idealize.SL.Sem

variable (m : (ℓ : Loc nD τ sig) → Buf (Elt Ideal) ℓ) (c : Dev nD)

/-- The sum of taps and bias in column `j` of the whole arrays. -/
abbrev pre (j : Fin 5632) (r : Fin 2048) : EReal :=
  Conv.pre (d := 5632) (m ((c : Thread nD τ).loc main_arg0)) (m ((c : Thread nD τ).loc main_arg1)) (m ((c : Thread nD τ).loc main_arg2)) j r

/-- The gate's GELU times the other half, in the call's order. -/
def act (g u : EReal) : EReal :=
  Ideal.ofBits .f32 1056964608#32 * g * (1 + Ideal.tanh (Ideal.ofBits .f32 1061962282#32 * (g + Ideal.ofBits .f32 1027024659#32 * g * g * g))) * u

/-- A unit. -/
def unit (j : Fin 2816) (r : Fin 2048) : EReal := act (pre m c ⟨j.val, by omega⟩ r) (pre m c ⟨2816 + j.val, by omega⟩ r)

/-- The gate's sum at a grid point. -/
theorem gate_at (t : Fin cfg0.N) (r : Fin 2048) (b : Fin 256) :
    Conv.pre (d := 256) (iblk m c 0 t) (iblk m c 2 t) (iblk m c 4 t) b r = pre m c ⟨t.val % 11 * 256 + b.val, by omega⟩ r := by
  have e0 : ∀ t : Fin cfg0.N, win0_0.index t = ![0, t.val % 11] := (by decide +kernel : ∀ t : Fin grid0.N, _)
  have e2 : ∀ t : Fin cfg0.N, win0_2.index t = ![0, t.val % 11] := (by decide +kernel : ∀ t : Fin grid0.N, _)
  have e4 : ∀ t : Fin cfg0.N, win0_4.index t = ![0, t.val % 11] := (by decide +kernel : ∀ t : Fin grid0.N, _)
  simp only [pre, Conv.pre, Conv.conv3, Conv.tap, Conv.col]
  blk_point [iblk, e0, e2, e4]

/-- The other half's. -/
theorem up_at (t : Fin cfg0.N) (r : Fin 2048) (b : Fin 256) :
    Conv.pre (d := 256) (iblk m c 1 t) (iblk m c 3 t) (iblk m c 5 t) b r = pre m c ⟨2816 + (t.val % 11 * 256 + b.val), by omega⟩ r := by
  have e1 : ∀ t : Fin cfg0.N, win0_1.index t = ![0, 11 + t.val % 11] := (by decide +kernel : ∀ t : Fin grid0.N, _)
  have e3 : ∀ t : Fin cfg0.N, win0_3.index t = ![0, 11 + t.val % 11] := (by decide +kernel : ∀ t : Fin grid0.N, _)
  have e5 : ∀ t : Fin cfg0.N, win0_5.index t = ![0, 11 + t.val % 11] := (by decide +kernel : ∀ t : Fin grid0.N, _)
  simp only [pre, Conv.pre, Conv.conv3, Conv.tap, Conv.col]
  blk_point [iblk, e1, e3, e5]

/-- The result after the run. -/
theorem final6 : (dats m 0 c).arrAt 6 cfg0.N = fun i : S2048x2816.Idx => unit m c (i 1) (i 0) := by
  have e6 : ∀ t : Fin cfg0.N, win0_6.index t = ![0, t.val % 11] := (by decide +kernel : ∀ t : Fin grid0.N, _)
  refine (dats m 0 c).arrAt_eq_of_covers 6 _ (by decide +kernel) fun t hf y => ?_
  obtain ⟨r, b, rfl⟩ : ∃ (r : Fin 2048) (b : Fin 256), y = ix2 r b := ⟨y 0, y 1, eq_ix2 y⟩
  blk_simp
  rw [after0_6]
  frame_out
  unfold_payloads
  pointwise
  have q0 : ((View.whole main_v0).slice (win0_6.rect t)).emb (ix2 r b) 0 = r := Fin.ext (by blk_simp [e6])
  have q1 : ((View.whole main_v0).slice (win0_6.rect t)).emb (ix2 r b) 1 = (⟨t.val % 11 * 256 + b.val, by omega⟩ : Fin 2816) := Fin.ext (by blk_simp [e6])
  rw [q0, q1]
  unfold unit
  rw [← gate_at m c t r b, ← up_at m c t r b]
  rfl

/-- The plain computation's frame: its run, read at the arguments. -/
theorem frame_plain : Cert.quiescent_Reference32Ideal := fun m ρ _ =>
  (θ_run Cert.Reference32Ideal.defs _ _).mono (fun r h => ⟨fun c => (h c).2, sem_eq_zero_of_no_sems (by decide) r.2⟩) (Cert.Reference32Ideal.Value.run m ρ)

/-- The plain computation orders the gate's factors otherwise. -/
theorem act_eq (g u : EReal) :
    act g u = g * (Ideal.ofBits .f32 1056964608#32 * (1 + Ideal.tanh (Ideal.ofBits .f32 1061962282#32 * (g + Ideal.ofBits .f32 1027024659#32 * (g * g * g))))) * u := by
  unfold act
  rw [mul_comm (Ideal.ofBits .f32 1056964608#32) g]
  simp only [mul_assoc]

/-- The result is the plain one, whatever the arguments. -/
theorem algebraic : Cert.algebraic_Kernel32Ideal_Reference32Ideal := by
  intro m g m' g' _ hag
  refine ⟨_, run_blocks m g, ?_⟩
  refine (θ_run Cert.Reference32Ideal.defs _ _).mono (fun r h c => ?_) (Cert.Reference32Ideal.Value.run m' g')
  obtain ⟨h0, h1, h2⟩ := hag c
  refine And.imp (·.trans (.trans ?_ (final6 m c).symm)) id (h c)
  simp only [Reference32Ideal.Value.res_main_v36]
  funext i
  obtain ⟨a, b, rfl⟩ : ∃ (a : Fin 2048) (b : Fin 2816), i = ix2 a b := ⟨i 0, i 1, eq_ix2 i⟩
  pointwise
  change _ = act (pre m c ⟨b.val, by omega⟩ a) (pre m c ⟨2816 + b.val, by omega⟩ a)
  rw [act_eq]
  simp only [pre, Conv.pre, Conv.conv3, Conv.tap_eq _ (by decide : 1 < 2048), Conv.tap_eq _ (by decide : 2 < 2048), Conv.col, h0, h1, h2]
  done

end Cert.Kernel32Ideal.Value

end
-- ==== Proof.lean ====
/- The certificate's claims. Each program's run is written once (`Proof/Run.lean` for the two calls, `Proof/Ref/Run.lean` for the
   reference's two loops), for any values of the floats; the frames are its reading at the arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Ref.Run
public import proofs.«01_k».proof.Proof.Val.Equal
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Mm.InProj
public import proofs.«01_k».proof.Proof.Mm.OutProj
public import proofs.«01_k».proof.Proof.Mm.FfnIn
public import proofs.«01_k».proof.Proof.Mm.FfnOut
public import proofs.«01_k».proof.Proof.Optimiser
public import proofs.«01_k».proof.Proof.OptimiserSmall
public import proofs.«01_k».proof.Proof.Norm.PreMix
public import proofs.«01_k».proof.Proof.Norm.PostFfn
public import proofs.«01_k».proof.Proof.Norm.Layer
public import proofs.«01_k».proof.Proof.Norm.GatedBack
public import proofs.«01_k».proof.Proof.Norm.Forward
public import proofs.«01_k».proof.Proof.Norm.Gated
public import proofs.«01_k».proof.Proof.LossHead
public import proofs.«01_k».proof.Proof.Conv.SiluBack
public import proofs.«01_k».proof.Proof.Conv.Silu
public import proofs.«01_k».proof.Proof.Conv.Glu

@[expose] public section

noncomputable section

namespace Cert.Proof

open Idealize.ShloMosaic Idealize.SL.Sem

/-- The printed program and the ideal one have the same text, so at the bits the two frames say the same. -/
theorem same_text : Cert.quiescent_Kernel = (open Cert.KernelIdeal in ∀ (m : (ℓ : Loc nD τ sig) → Buf (Elt Bits) ℓ) (g : Dev nD → PrngReg), True →
    θ_run (Cert.KernelIdeal.defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)) := by
  chain_rfl

/-- The printed program's frame: the same run, at the bits. -/
theorem frame_kernel : Cert.quiescent_Kernel := same_text.mpr fun m ρ _ => Cert.KernelIdeal.Run.frame (F := Bits) m ρ

theorem frame_ideal : Cert.quiescent_KernelIdeal := fun m ρ _ => Cert.KernelIdeal.Run.frame (F := Ideal) m ρ

theorem frame_reference : Cert.quiescent_ReferenceIdeal := fun m ρ _ => Cert.ReferenceIdeal.Ref.frame (F := Ideal) m ρ

/-- The six gradients: both runs end with the recurrence's. -/
theorem gradients : Cert.algebraic_KernelIdeal_ReferenceIdeal := by
  intro m g m' g' _ hag
  refine ⟨fun c => Cert.KernelIdeal.Run.W2 m c (Proc.devRef .tc Cert.KernelIdeal.main_v1_0), fun c => Cert.KernelIdeal.Run.W2 m c (Proc.devRef .tc Cert.KernelIdeal.main_v1_1),
    fun c => Cert.KernelIdeal.Run.W2 m c (Proc.devRef .tc Cert.KernelIdeal.main_v1_2), fun c => Cert.KernelIdeal.Run.W2 m c (Proc.devRef .tc Cert.KernelIdeal.main_v1_3),
    fun c => Cert.KernelIdeal.Run.W2 m c (Proc.devRef .tc Cert.KernelIdeal.main_v1_4), fun c => Cert.KernelIdeal.Run.W2 m c (Proc.devRef .tc Cert.KernelIdeal.main_v1_5), ?_, ?_⟩
  · exact (θ_run Cert.KernelIdeal.defs _ _).mono (fun _ h c => ⟨h.1 c _ (Cert.KernelIdeal.Run.mem_uc Cert.KernelIdeal.main_v1_0 (by decide)),
      h.1 c _ (Cert.KernelIdeal.Run.mem_uc Cert.KernelIdeal.main_v1_1 (by decide)),
      h.1 c _ (Cert.KernelIdeal.Run.mem_uc Cert.KernelIdeal.main_v1_2 (by decide)),
      h.1 c _ (Cert.KernelIdeal.Run.mem_uc Cert.KernelIdeal.main_v1_3 (by decide)),
      h.1 c _ (Cert.KernelIdeal.Run.mem_uc Cert.KernelIdeal.main_v1_4 (by decide)),
      h.1 c _ (Cert.KernelIdeal.Run.mem_uc Cert.KernelIdeal.main_v1_5 (by decide)),
      (h.1 c _ (Cert.KernelIdeal.Run.mem_uc Cert.KernelIdeal.main_arg0 (by decide))).trans (Cert.KernelIdeal.Run.W2_arg0 m c),
      (h.1 c _ (Cert.KernelIdeal.Run.mem_uc Cert.KernelIdeal.main_arg1 (by decide))).trans (Cert.KernelIdeal.Run.W2_arg1 m c),
      (h.1 c _ (Cert.KernelIdeal.Run.mem_uc Cert.KernelIdeal.main_arg2 (by decide))).trans (Cert.KernelIdeal.Run.W2_arg2 m c),
      (h.1 c _ (Cert.KernelIdeal.Run.mem_uc Cert.KernelIdeal.main_arg3 (by decide))).trans (Cert.KernelIdeal.Run.W2_arg3 m c),
      (h.1 c _ (Cert.KernelIdeal.Run.mem_uc Cert.KernelIdeal.main_arg4 (by decide))).trans (Cert.KernelIdeal.Run.W2_arg4 m c),
      (h.1 c _ (Cert.KernelIdeal.Run.mem_uc Cert.KernelIdeal.main_arg5 (by decide))).trans (Cert.KernelIdeal.Run.W2_arg5 m c),
      (h.1 c _ (Cert.KernelIdeal.Run.mem_uc Cert.KernelIdeal.main_arg6 (by decide))).trans (Cert.KernelIdeal.Run.W2_arg6 m c)⟩)
      (Cert.KernelIdeal.Run.run_main (F := Ideal) m g)
  · have K : ∀ (c : Dev Cert.ReferenceIdeal.nD) (r : Ref Cert.ReferenceIdeal.sig .tc), r ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6] →
        Cert.ReferenceIdeal.Ref.End m' c (Proc.devRef .tc r) = StableHlo.launchContents m' c (Proc.devRef .tc r) := fun c r hr => by
      refine Cert.ReferenceIdeal.Ref.End_keep m' c r ?_ ?_ ?_ ?_ ?_ ?_ ?_ <;> revert r <;> decide +kernel
    exact (θ_run Cert.ReferenceIdeal.defs _ _).mono (fun _ h c => ⟨(h.1 c _ (Cert.ReferenceIdeal.Ref.mem_uc Cert.ReferenceIdeal.main_v44 (by decide))).trans (equal_du (hag c)).symm,
      (h.1 c _ (Cert.ReferenceIdeal.Ref.mem_uc Cert.ReferenceIdeal.main_v42 (by decide))).trans (equal_dw (hag c)).symm,
      (h.1 c _ (Cert.ReferenceIdeal.Ref.mem_uc Cert.ReferenceIdeal.main_v40 (by decide))).trans (equal_dqk (hag c)).symm,
      (h.1 c _ (Cert.ReferenceIdeal.Ref.mem_uc Cert.ReferenceIdeal.main_v48 (by decide))).trans (equal_dqd (hag c)).symm,
      (h.1 c _ (Cert.ReferenceIdeal.Ref.mem_uc Cert.ReferenceIdeal.main_v46 (by decide))).trans (equal_dkd (hag c)).symm,
      (h.1 c _ (Cert.ReferenceIdeal.Ref.mem_uc Cert.ReferenceIdeal.main_v37 (by decide))).trans (equal_deg (hag c)).symm,
      (h.1 c _ (Cert.ReferenceIdeal.Ref.mem_uc Cert.ReferenceIdeal.main_arg0 (by decide))).trans (K c Cert.ReferenceIdeal.main_arg0 (by decide)),
      (h.1 c _ (Cert.ReferenceIdeal.Ref.mem_uc Cert.ReferenceIdeal.main_arg1 (by decide))).trans (K c Cert.ReferenceIdeal.main_arg1 (by decide)),
      (h.1 c _ (Cert.ReferenceIdeal.Ref.mem_uc Cert.ReferenceIdeal.main_arg2 (by decide))).trans (K c Cert.ReferenceIdeal.main_arg2 (by decide)),
      (h.1 c _ (Cert.ReferenceIdeal.Ref.mem_uc Cert.ReferenceIdeal.main_arg3 (by decide))).trans (K c Cert.ReferenceIdeal.main_arg3 (by decide)),
      (h.1 c _ (Cert.ReferenceIdeal.Ref.mem_uc Cert.ReferenceIdeal.main_arg4 (by decide))).trans (K c Cert.ReferenceIdeal.main_arg4 (by decide)),
      (h.1 c _ (Cert.ReferenceIdeal.Ref.mem_uc Cert.ReferenceIdeal.main_arg5 (by decide))).trans (K c Cert.ReferenceIdeal.main_arg5 (by decide)),
      (h.1 c _ (Cert.ReferenceIdeal.Ref.mem_uc Cert.ReferenceIdeal.main_arg6 (by decide))).trans (K c Cert.ReferenceIdeal.main_arg6 (by decide))⟩)
      (Cert.ReferenceIdeal.Ref.run_main (F := Ideal) m' g')

/-- All the claims: the frames of every program, then each kernel's program kept and its values those of the plain computation. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  frame_kernel, frame_ideal, frame_reference,
  fun m ρ _ => Cert.Kernel2.Gen.frame m ρ, fun m ρ _ => Cert.Kernel2Ideal.Gen.frame m ρ, Cert.Kernel2Ideal.Value.frame_plain,
  fun m ρ _ => Cert.Kernel3.Gen.frame m ρ, fun m ρ _ => Cert.Kernel3Ideal.Gen.frame m ρ, Cert.Kernel3Ideal.Value.frame_plain,
  fun m ρ _ => Cert.Kernel4.Gen.frame m ρ, fun m ρ _ => Cert.Kernel4Ideal.Gen.frame m ρ, Cert.Kernel4Ideal.Value.frame_plain,
  fun m ρ _ => Cert.Kernel5.Gen.frame m ρ, fun m ρ _ => Cert.Kernel5Ideal.Gen.frame m ρ, Cert.Kernel5Ideal.Value.frame_plain,
  fun m ρ _ => Cert.Kernel6.Gen.frame m ρ, fun m ρ _ => Cert.Kernel6Ideal.Gen.frame m ρ, Cert.Kernel6Ideal.Value.frame_plain,
  fun m ρ _ => Cert.Kernel7.Gen.frame m ρ, fun m ρ _ => Cert.Kernel7Ideal.Gen.frame m ρ, Cert.Kernel7Ideal.Value.frame_plain,
  fun m ρ _ => Cert.Kernel8.Gen.frame m ρ, fun m ρ _ => Cert.Kernel8Ideal.Gen.frame m ρ, Cert.Kernel8Ideal.Value.frame_plain,
  fun m ρ _ => Cert.Kernel9.Gen.frame m ρ, fun m ρ _ => Cert.Kernel9Ideal.Gen.frame m ρ, Cert.Kernel9Ideal.Value.frame_plain,
  fun m ρ _ => Cert.Kernel10.Gen.frame m ρ, fun m ρ _ => Cert.Kernel10Ideal.Gen.frame m ρ, Cert.Kernel10Ideal.Value.frame_plain,
  fun m ρ _ => Cert.Kernel11.Gen.frame m ρ, fun m ρ _ => Cert.Kernel11Ideal.Gen.frame m ρ, Cert.Kernel11Ideal.Value.frame_plain,
  fun m ρ _ => Cert.Kernel12.Gen.frame m ρ, fun m ρ _ => Cert.Kernel12Ideal.Gen.frame m ρ, Cert.Kernel12Ideal.Value.frame_plain,
  fun m ρ _ => Cert.Kernel13.Gen.frame m ρ, fun m ρ _ => Cert.Kernel13Ideal.Gen.frame m ρ, Cert.Kernel13Ideal.Value.frame_plain,
  fun m ρ _ => Cert.Kernel14.Gen.frame m ρ, fun m ρ _ => Cert.Kernel14Ideal.Gen.frame m ρ, Cert.Kernel14Ideal.Value.frame_plain,
  fun m ρ _ => Cert.Kernel15.Gen.frame m ρ, fun m ρ _ => Cert.Kernel15Ideal.Gen.frame m ρ, Cert.Kernel15Ideal.Value.frame_plain,
  fun m ρ _ => Cert.Kernel16.Gen.frame m ρ, fun m ρ _ => Cert.Kernel16Ideal.Gen.frame m ρ, Cert.Kernel16Ideal.Value.frame_plain,
  fun m ρ _ => Cert.Kernel17.Gen.frame m ρ, fun m ρ _ => Cert.Kernel17Ideal.Gen.frame m ρ, Cert.Kernel17Ideal.Value.frame_plain,
  fun m ρ _ => Cert.Kernel18.Gen.frame m ρ, fun m ρ _ => Cert.Kernel18Ideal.Gen.frame m ρ, Cert.Kernel18Ideal.Value.frame_plain,
  fun m ρ _ => Cert.Kernel19.Gen.frame m ρ, fun m ρ _ => Cert.Kernel19Ideal.Gen.frame m ρ, Cert.Kernel19Ideal.Value.frame_plain,
  fun m ρ _ => Cert.Kernel20.Gen.frame m ρ, fun m ρ _ => Cert.Kernel20Ideal.Gen.frame m ρ, Cert.Kernel20Ideal.Value.frame_plain,
  fun m ρ _ => Cert.Kernel21.Gen.frame m ρ, fun m ρ _ => Cert.Kernel21Ideal.Gen.frame m ρ, Cert.Kernel21Ideal.Value.frame_plain,
  fun m ρ _ => Cert.Kernel22.Gen.frame m ρ, fun m ρ _ => Cert.Kernel22Ideal.Gen.frame m ρ, Cert.Kernel22Ideal.Value.frame_plain,
  fun m ρ _ => Cert.Kernel23.Gen.frame m ρ, fun m ρ _ => Cert.Kernel23Ideal.Gen.frame m ρ, Cert.Kernel23Ideal.Value.frame_plain,
  fun m ρ _ => Cert.Kernel24.Gen.frame m ρ, fun m ρ _ => Cert.Kernel24Ideal.Gen.frame m ρ, Cert.Kernel24Ideal.Value.frame_plain,
  fun m ρ _ => Cert.Kernel25.Gen.frame m ρ, fun m ρ _ => Cert.Kernel25Ideal.Gen.frame m ρ, Cert.Kernel25Ideal.Value.frame_plain,
  fun m ρ _ => Cert.Kernel26.Gen.frame m ρ, fun m ρ _ => Cert.Kernel26Ideal.Gen.frame m ρ, Cert.Kernel26Ideal.Value.frame_plain,
  fun m ρ _ => Cert.Kernel27.Gen.frame m ρ, fun m ρ _ => Cert.Kernel27Ideal.Gen.frame m ρ, Cert.Kernel27Ideal.Value.frame_plain,
  fun m ρ _ => Cert.Kernel28.Gen.frame m ρ, fun m ρ _ => Cert.Kernel28Ideal.Gen.frame m ρ, Cert.Kernel28Ideal.Value.frame_plain,
  fun m ρ _ => Cert.Kernel29.Gen.frame m ρ, fun m ρ _ => Cert.Kernel29Ideal.Gen.frame m ρ, Cert.Kernel29Ideal.Value.frame_plain,
  fun m ρ _ => Cert.Kernel30.Gen.frame m ρ, fun m ρ _ => Cert.Kernel30Ideal.Gen.frame m ρ, Cert.Kernel30Ideal.Value.frame_plain,
  fun m ρ _ => Cert.Kernel31.Gen.frame m ρ, fun m ρ _ => Cert.Kernel31Ideal.Gen.frame m ρ, Cert.Kernel31Ideal.Value.frame_plain,
  fun m ρ _ => Cert.Kernel32.Gen.frame m ρ, fun m ρ _ => Cert.Kernel32Ideal.Gen.frame m ρ, Cert.Kernel32Ideal.Value.frame_plain,
  trivial, gradients,
  trivial, Cert.Kernel2Ideal.Value.algebraic,
  trivial, Cert.Kernel3Ideal.Value.algebraic,
  trivial, Cert.Kernel4Ideal.Value.algebraic,
  trivial, Cert.Kernel5Ideal.Value.algebraic,
  trivial, Cert.Kernel6Ideal.Value.algebraic,
  trivial, Cert.Kernel7Ideal.Value.algebraic,
  trivial, Cert.Kernel8Ideal.Value.algebraic,
  trivial, Cert.Kernel9Ideal.Value.algebraic,
  trivial, Cert.Kernel10Ideal.Value.algebraic,
  trivial, Cert.Kernel11Ideal.Value.algebraic,
  trivial, Cert.Kernel12Ideal.Value.algebraic,
  trivial, Cert.Kernel13Ideal.Value.algebraic,
  trivial, Cert.Kernel14Ideal.Value.algebraic,
  trivial, Cert.Kernel15Ideal.Value.algebraic,
  trivial, Cert.Kernel16Ideal.Value.algebraic,
  trivial, Cert.Kernel17Ideal.Value.algebraic,
  trivial, Cert.Kernel18Ideal.Value.algebraic,
  trivial, Cert.Kernel19Ideal.Value.algebraic,
  trivial, Cert.Kernel20Ideal.Value.algebraic,
  trivial, Cert.Kernel21Ideal.Value.algebraic,
  trivial, Cert.Kernel22Ideal.Value.algebraic,
  trivial, Cert.Kernel23Ideal.Value.algebraic,
  trivial, Cert.Kernel24Ideal.Value.algebraic,
  trivial, Cert.Kernel25Ideal.Value.algebraic,
  trivial, Cert.Kernel26Ideal.Value.algebraic,
  trivial, Cert.Kernel27Ideal.Value.algebraic,
  trivial, Cert.Kernel28Ideal.Value.algebraic,
  trivial, Cert.Kernel29Ideal.Value.algebraic,
  trivial, Cert.Kernel30Ideal.Value.algebraic,
  trivial, Cert.Kernel31Ideal.Value.algebraic,
  trivial, Cert.Kernel32Ideal.Value.algebraic⟩

end Cert.Proof

end
